-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InSample (m : (ℓ : Loc Cert.InSample.nD Cert.InSample.τ Cert.InSample.sig) → Buf (Elt Bits) ℓ) : Prop :=
  True

def Pre_InSampleIdeal (m : (ℓ : Loc Cert.InSampleIdeal.nD Cert.InSampleIdeal.τ Cert.InSampleIdeal.sig) → Buf (Elt Ideal) ℓ) : Prop :=
  True

def Pre_InSampleRefIdeal (m : (ℓ : Loc Cert.InSampleRefIdeal.nD Cert.InSampleRefIdeal.τ Cert.InSampleRefIdeal.sig) → Buf (Elt Ideal) ℓ) : Prop :=
  True

def Pre_InPrompt (m : (ℓ : Loc Cert.InPrompt.nD Cert.InPrompt.τ Cert.InPrompt.sig) → Buf (Elt Bits) ℓ) : Prop :=
  True

def Pre_InPromptIdeal (m : (ℓ : Loc Cert.InPromptIdeal.nD Cert.InPromptIdeal.τ Cert.InPromptIdeal.sig) → Buf (Elt Ideal) ℓ) : Prop :=
  True

def Pre_InPromptRefIdeal (m : (ℓ : Loc Cert.InPromptRefIdeal.nD Cert.InPromptRefIdeal.τ Cert.InPromptRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Exp [hPre_experts_pre : Cert.Pre_experts_pre.Facts] (m : (ℓ : Loc Cert.Exp.nD Cert.Exp.τ Cert.Exp.sig) → Buf (Elt Bits) ℓ) : Prop :=
  ∀ c : Dev Cert.Exp.nD,
    (Cert.Pre_experts_pre.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_experts_pre : Cert.Pre_experts_pre.Facts] (m : (ℓ : Loc Cert.ExpIdeal.nD Cert.ExpIdeal.τ Cert.ExpIdeal.sig) → Buf (Elt Ideal) ℓ) : Prop :=
  ∀ c : Dev Cert.ExpIdeal.nD,
    (Cert.Pre_experts_pre.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_experts_pre [hPre_experts_pre : Cert.Pre_experts_pre.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_experts_pre.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def Pre_Plan (m : (ℓ : Loc Cert.Plan.nD Cert.Plan.τ Cert.Plan.sig) → Buf (Elt Bits) ℓ) : Prop :=
  True

def Pre_PlanIdeal (m : (ℓ : Loc Cert.PlanIdeal.nD Cert.PlanIdeal.τ Cert.PlanIdeal.sig) → Buf (Elt Ideal) ℓ) : Prop :=
  True

def Pre_PlanRefIdeal (m : (ℓ : Loc Cert.PlanRefIdeal.nD Cert.PlanRefIdeal.τ Cert.PlanRefIdeal.sig) → Buf (Elt Ideal) ℓ) : Prop :=
  True

def Pre_Dest (m : (ℓ : Loc Cert.Dest.nD Cert.Dest.τ Cert.Dest.sig) → Buf (Elt Bits) ℓ) : Prop :=
  True

def Pre_DestIdeal (m : (ℓ : Loc Cert.DestIdeal.nD Cert.DestIdeal.τ Cert.DestIdeal.sig) → Buf (Elt Ideal) ℓ) : Prop :=
  True

def Pre_DestRefIdeal (m : (ℓ : Loc Cert.DestRefIdeal.nD Cert.DestRefIdeal.τ Cert.DestRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InSample [hInSample : Cert.InSample.Facts] : Prop :=
  ∀ (m : (ℓ : Loc Cert.InSample.nD Cert.InSample.τ Cert.InSample.sig) → Buf (Elt Bits) ℓ) (g : Dev Cert.InSample.nD → PrngReg), Pre_InSample m →
    θ_run (Cert.InSample.defs (F := Bits)) (onTc (τ := Cert.InSample.τ) (Cert.InSample.main (F := Bits))) ⟨m, fun _ => 0, g⟩ (fun r => (∀ c : Dev Cert.InSample.nD,
      r.2.mem ((c.tc : Thread Cert.InSample.nD Cert.InSample.τ).loc Cert.InSample.main_arg0) = m ((c.tc : Thread Cert.InSample.nD Cert.InSample.τ).loc Cert.InSample.main_arg0)
      ∧ r.2.mem ((c.tc : Thread Cert.InSample.nD Cert.InSample.τ).loc Cert.InSample.main_arg1) = m ((c.tc : Thread Cert.InSample.nD Cert.InSample.τ).loc Cert.InSample.main_arg1)
      ∧ r.2.mem ((c.tc : Thread Cert.InSample.nD Cert.InSample.τ).loc Cert.InSample.main_arg2) = m ((c.tc : Thread Cert.InSample.nD Cert.InSample.τ).loc Cert.InSample.main_arg2)
      ∧ r.2.mem ((c.tc : Thread Cert.InSample.nD Cert.InSample.τ).loc Cert.InSample.main_arg3) = m ((c.tc : Thread Cert.InSample.nD Cert.InSample.τ).loc Cert.InSample.main_arg3)
      ∧ r.2.mem ((c.tc : Thread Cert.InSample.nD Cert.InSample.τ).loc Cert.InSample.main_arg4) = m ((c.tc : Thread Cert.InSample.nD Cert.InSample.τ).loc Cert.InSample.main_arg4)
      ∧ r.2.mem ((c.tc : Thread Cert.InSample.nD Cert.InSample.τ).loc Cert.InSample.main_arg5) = m ((c.tc : Thread Cert.InSample.nD Cert.InSample.τ).loc Cert.InSample.main_arg5)
      ∧ r.2.mem ((c.tc : Thread Cert.InSample.nD Cert.InSample.τ).loc Cert.InSample.main_arg6) = m ((c.tc : Thread Cert.InSample.nD Cert.InSample.τ).loc Cert.InSample.main_arg6)
      ∧ r.2.mem ((c.tc : Thread Cert.InSample.nD Cert.InSample.τ).loc Cert.InSample.main_arg7) = m ((c.tc : Thread Cert.InSample.nD Cert.InSample.τ).loc Cert.InSample.main_arg7))
      ∧ r.2.sem = fun _ => 0)

def quiescent_InSampleIdeal [hInSampleIdeal : Cert.InSampleIdeal.Facts] : Prop :=
  ∀ (m : (ℓ : Loc Cert.InSampleIdeal.nD Cert.InSampleIdeal.τ Cert.InSampleIdeal.sig) → Buf (Elt Ideal) ℓ) (g : Dev Cert.InSampleIdeal.nD → PrngReg), Pre_InSampleIdeal m →
    θ_run (Cert.InSampleIdeal.defs (F := Ideal)) (onTc (τ := Cert.InSampleIdeal.τ) (Cert.InSampleIdeal.main (F := Ideal))) ⟨m, fun _ => 0, g⟩ (fun r => (∀ c : Dev Cert.InSampleIdeal.nD,
      r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
      ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
      ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
      ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
      ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
      ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
      ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
      ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7))
      ∧ r.2.sem = fun _ => 0)

def quiescent_InSampleRefIdeal [hInSampleRefIdeal : Cert.InSampleRefIdeal.Facts] : Prop :=
  ∀ (m : (ℓ : Loc Cert.InSampleRefIdeal.nD Cert.InSampleRefIdeal.τ Cert.InSampleRefIdeal.sig) → Buf (Elt Ideal) ℓ) (g : Dev Cert.InSampleRefIdeal.nD → PrngReg), Pre_InSampleRefIdeal m →
    θ_run (Cert.InSampleRefIdeal.defs (F := Ideal)) (onTc (τ := Cert.InSampleRefIdeal.τ) (Cert.InSampleRefIdeal.main (F := Ideal))) ⟨m, fun _ => 0, g⟩ (fun r => (∀ c : Dev Cert.InSampleRefIdeal.nD,
      r.2.mem ((c.tc : Thread Cert.InSampleRefIdeal.nD Cert.InSampleRefIdeal.τ).loc Cert.InSampleRefIdeal.main_arg0) = m ((c.tc : Thread Cert.InSampleRefIdeal.nD Cert.InSampleRefIdeal.τ).loc Cert.InSampleRefIdeal.main_arg0)
      ∧ r.2.mem ((c.tc : Thread Cert.InSampleRefIdeal.nD Cert.InSampleRefIdeal.τ).loc Cert.InSampleRefIdeal.main_arg1) = m ((c.tc : Thread Cert.InSampleRefIdeal.nD Cert.InSampleRefIdeal.τ).loc Cert.InSampleRefIdeal.main_arg1)
      ∧ r.2.mem ((c.tc : Thread Cert.InSampleRefIdeal.nD Cert.InSampleRefIdeal.τ).loc Cert.InSampleRefIdeal.main_arg2) = m ((c.tc : Thread Cert.InSampleRefIdeal.nD Cert.InSampleRefIdeal.τ).loc Cert.InSampleRefIdeal.main_arg2)
      ∧ r.2.mem ((c.tc : Thread Cert.InSampleRefIdeal.nD Cert.InSampleRefIdeal.τ).loc Cert.InSampleRefIdeal.main_arg3) = m ((c.tc : Thread Cert.InSampleRefIdeal.nD Cert.InSampleRefIdeal.τ).loc Cert.InSampleRefIdeal.main_arg3)
      ∧ r.2.mem ((c.tc : Thread Cert.InSampleRefIdeal.nD Cert.InSampleRefIdeal.τ).loc Cert.InSampleRefIdeal.main_arg4) = m ((c.tc : Thread Cert.InSampleRefIdeal.nD Cert.InSampleRefIdeal.τ).loc Cert.InSampleRefIdeal.main_arg4)
      ∧ r.2.mem ((c.tc : Thread Cert.InSampleRefIdeal.nD Cert.InSampleRefIdeal.τ).loc Cert.InSampleRefIdeal.main_arg5) = m ((c.tc : Thread Cert.InSampleRefIdeal.nD Cert.InSampleRefIdeal.τ).loc Cert.InSampleRefIdeal.main_arg5)
      ∧ r.2.mem ((c.tc : Thread Cert.InSampleRefIdeal.nD Cert.InSampleRefIdeal.τ).loc Cert.InSampleRefIdeal.main_arg6) = m ((c.tc : Thread Cert.InSampleRefIdeal.nD Cert.InSampleRefIdeal.τ).loc Cert.InSampleRefIdeal.main_arg6)
      ∧ r.2.mem ((c.tc : Thread Cert.InSampleRefIdeal.nD Cert.InSampleRefIdeal.τ).loc Cert.InSampleRefIdeal.main_arg7) = m ((c.tc : Thread Cert.InSampleRefIdeal.nD Cert.InSampleRefIdeal.τ).loc Cert.InSampleRefIdeal.main_arg7))
      ∧ r.2.sem = fun _ => 0)

def quiescent_InPrompt [hInPrompt : Cert.InPrompt.Facts] : Prop :=
  ∀ (m : (ℓ : Loc Cert.InPrompt.nD Cert.InPrompt.τ Cert.InPrompt.sig) → Buf (Elt Bits) ℓ) (g : Dev Cert.InPrompt.nD → PrngReg), Pre_InPrompt m →
    θ_run (Cert.InPrompt.defs (F := Bits)) (onTc (τ := Cert.InPrompt.τ) (Cert.InPrompt.main (F := Bits))) ⟨m, fun _ => 0, g⟩ (fun r => (∀ c : Dev Cert.InPrompt.nD,
      r.2.mem ((c.tc : Thread Cert.InPrompt.nD Cert.InPrompt.τ).loc Cert.InPrompt.main_arg0) = m ((c.tc : Thread Cert.InPrompt.nD Cert.InPrompt.τ).loc Cert.InPrompt.main_arg0)
      ∧ r.2.mem ((c.tc : Thread Cert.InPrompt.nD Cert.InPrompt.τ).loc Cert.InPrompt.main_arg1) = m ((c.tc : Thread Cert.InPrompt.nD Cert.InPrompt.τ).loc Cert.InPrompt.main_arg1)
      ∧ r.2.mem ((c.tc : Thread Cert.InPrompt.nD Cert.InPrompt.τ).loc Cert.InPrompt.main_arg2) = m ((c.tc : Thread Cert.InPrompt.nD Cert.InPrompt.τ).loc Cert.InPrompt.main_arg2)
      ∧ r.2.mem ((c.tc : Thread Cert.InPrompt.nD Cert.InPrompt.τ).loc Cert.InPrompt.main_arg3) = m ((c.tc : Thread Cert.InPrompt.nD Cert.InPrompt.τ).loc Cert.InPrompt.main_arg3)
      ∧ r.2.mem ((c.tc : Thread Cert.InPrompt.nD Cert.InPrompt.τ).loc Cert.InPrompt.main_arg4) = m ((c.tc : Thread Cert.InPrompt.nD Cert.InPrompt.τ).loc Cert.InPrompt.main_arg4)
      ∧ r.2.mem ((c.tc : Thread Cert.InPrompt.nD Cert.InPrompt.τ).loc Cert.InPrompt.main_arg5) = m ((c.tc : Thread Cert.InPrompt.nD Cert.InPrompt.τ).loc Cert.InPrompt.main_arg5)
      ∧ r.2.mem ((c.tc : Thread Cert.InPrompt.nD Cert.InPrompt.τ).loc Cert.InPrompt.main_arg6) = m ((c.tc : Thread Cert.InPrompt.nD Cert.InPrompt.τ).loc Cert.InPrompt.main_arg6)
      ∧ r.2.mem ((c.tc : Thread Cert.InPrompt.nD Cert.InPrompt.τ).loc Cert.InPrompt.main_arg7) = m ((c.tc : Thread Cert.InPrompt.nD Cert.InPrompt.τ).loc Cert.InPrompt.main_arg7))
      ∧ r.2.sem = fun _ => 0)

def quiescent_InPromptIdeal [hInPromptIdeal : Cert.InPromptIdeal.Facts] : Prop :=
  ∀ (m : (ℓ : Loc Cert.InPromptIdeal.nD Cert.InPromptIdeal.τ Cert.InPromptIdeal.sig) → Buf (Elt Ideal) ℓ) (g : Dev Cert.InPromptIdeal.nD → PrngReg), Pre_InPromptIdeal m →
    θ_run (Cert.InPromptIdeal.defs (F := Ideal)) (onTc (τ := Cert.InPromptIdeal.τ) (Cert.InPromptIdeal.main (F := Ideal))) ⟨m, fun _ => 0, g⟩ (fun r => (∀ c : Dev Cert.InPromptIdeal.nD,
      r.2.mem ((c.tc : Thread Cert.InPromptIdeal.nD Cert.InPromptIdeal.τ).loc Cert.InPromptIdeal.main_arg0) = m ((c.tc : Thread Cert.InPromptIdeal.nD Cert.InPromptIdeal.τ).loc Cert.InPromptIdeal.main_arg0)
      ∧ r.2.mem ((c.tc : Thread Cert.InPromptIdeal.nD Cert.InPromptIdeal.τ).loc Cert.InPromptIdeal.main_arg1) = m ((c.tc : Thread Cert.InPromptIdeal.nD Cert.InPromptIdeal.τ).loc Cert.InPromptIdeal.main_arg1)
      ∧ r.2.mem ((c.tc : Thread Cert.InPromptIdeal.nD Cert.InPromptIdeal.τ).loc Cert.InPromptIdeal.main_arg2) = m ((c.tc : Thread Cert.InPromptIdeal.nD Cert.InPromptIdeal.τ).loc Cert.InPromptIdeal.main_arg2)
      ∧ r.2.mem ((c.tc : Thread Cert.InPromptIdeal.nD Cert.InPromptIdeal.τ).loc Cert.InPromptIdeal.main_arg3) = m ((c.tc : Thread Cert.InPromptIdeal.nD Cert.InPromptIdeal.τ).loc Cert.InPromptIdeal.main_arg3)
      ∧ r.2.mem ((c.tc : Thread Cert.InPromptIdeal.nD Cert.InPromptIdeal.τ).loc Cert.InPromptIdeal.main_arg4) = m ((c.tc : Thread Cert.InPromptIdeal.nD Cert.InPromptIdeal.τ).loc Cert.InPromptIdeal.main_arg4)
      ∧ r.2.mem ((c.tc : Thread Cert.InPromptIdeal.nD Cert.InPromptIdeal.τ).loc Cert.InPromptIdeal.main_arg5) = m ((c.tc : Thread Cert.InPromptIdeal.nD Cert.InPromptIdeal.τ).loc Cert.InPromptIdeal.main_arg5)
      ∧ r.2.mem ((c.tc : Thread Cert.InPromptIdeal.nD Cert.InPromptIdeal.τ).loc Cert.InPromptIdeal.main_arg6) = m ((c.tc : Thread Cert.InPromptIdeal.nD Cert.InPromptIdeal.τ).loc Cert.InPromptIdeal.main_arg6)
      ∧ r.2.mem ((c.tc : Thread Cert.InPromptIdeal.nD Cert.InPromptIdeal.τ).loc Cert.InPromptIdeal.main_arg7) = m ((c.tc : Thread Cert.InPromptIdeal.nD Cert.InPromptIdeal.τ).loc Cert.InPromptIdeal.main_arg7))
      ∧ r.2.sem = fun _ => 0)

def quiescent_InPromptRefIdeal [hInPromptRefIdeal : Cert.InPromptRefIdeal.Facts] : Prop :=
  ∀ (m : (ℓ : Loc Cert.InPromptRefIdeal.nD Cert.InPromptRefIdeal.τ Cert.InPromptRefIdeal.sig) → Buf (Elt Ideal) ℓ) (g : Dev Cert.InPromptRefIdeal.nD → PrngReg), Pre_InPromptRefIdeal m →
    θ_run (Cert.InPromptRefIdeal.defs (F := Ideal)) (onTc (τ := Cert.InPromptRefIdeal.τ) (Cert.InPromptRefIdeal.main (F := Ideal))) ⟨m, fun _ => 0, g⟩ (fun r => (∀ c : Dev Cert.InPromptRefIdeal.nD,
      r.2.mem ((c.tc : Thread Cert.InPromptRefIdeal.nD Cert.InPromptRefIdeal.τ).loc Cert.InPromptRefIdeal.main_arg0) = m ((c.tc : Thread Cert.InPromptRefIdeal.nD Cert.InPromptRefIdeal.τ).loc Cert.InPromptRefIdeal.main_arg0)
      ∧ r.2.mem ((c.tc : Thread Cert.InPromptRefIdeal.nD Cert.InPromptRefIdeal.τ).loc Cert.InPromptRefIdeal.main_arg1) = m ((c.tc : Thread Cert.InPromptRefIdeal.nD Cert.InPromptRefIdeal.τ).loc Cert.InPromptRefIdeal.main_arg1)
      ∧ r.2.mem ((c.tc : Thread Cert.InPromptRefIdeal.nD Cert.InPromptRefIdeal.τ).loc Cert.InPromptRefIdeal.main_arg2) = m ((c.tc : Thread Cert.InPromptRefIdeal.nD Cert.InPromptRefIdeal.τ).loc Cert.InPromptRefIdeal.main_arg2)
      ∧ r.2.mem ((c.tc : Thread Cert.InPromptRefIdeal.nD Cert.InPromptRefIdeal.τ).loc Cert.InPromptRefIdeal.main_arg3) = m ((c.tc : Thread Cert.InPromptRefIdeal.nD Cert.InPromptRefIdeal.τ).loc Cert.InPromptRefIdeal.main_arg3)
      ∧ r.2.mem ((c.tc : Thread Cert.InPromptRefIdeal.nD Cert.InPromptRefIdeal.τ).loc Cert.InPromptRefIdeal.main_arg4) = m ((c.tc : Thread Cert.InPromptRefIdeal.nD Cert.InPromptRefIdeal.τ).loc Cert.InPromptRefIdeal.main_arg4)
      ∧ r.2.mem ((c.tc : Thread Cert.InPromptRefIdeal.nD Cert.InPromptRefIdeal.τ).loc Cert.InPromptRefIdeal.main_arg5) = m ((c.tc : Thread Cert.InPromptRefIdeal.nD Cert.InPromptRefIdeal.τ).loc Cert.InPromptRefIdeal.main_arg5)
      ∧ r.2.mem ((c.tc : Thread Cert.InPromptRefIdeal.nD Cert.InPromptRefIdeal.τ).loc Cert.InPromptRefIdeal.main_arg6) = m ((c.tc : Thread Cert.InPromptRefIdeal.nD Cert.InPromptRefIdeal.τ).loc Cert.InPromptRefIdeal.main_arg6)
      ∧ r.2.mem ((c.tc : Thread Cert.InPromptRefIdeal.nD Cert.InPromptRefIdeal.τ).loc Cert.InPromptRefIdeal.main_arg7) = m ((c.tc : Thread Cert.InPromptRefIdeal.nD Cert.InPromptRefIdeal.τ).loc Cert.InPromptRefIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Exp [hExp : Cert.Exp.Facts] [hPre_experts_pre : Cert.Pre_experts_pre.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_experts_pre : Cert.Pre_experts_pre.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_experts_pre [hExpRefIdeal : Cert.ExpRefIdeal.Facts] [hPre_experts_pre : Cert.Pre_experts_pre.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_experts_pre m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_Plan [hPlan : Cert.Plan.Facts] : Prop :=
  ∀ (m : (ℓ : Loc Cert.Plan.nD Cert.Plan.τ Cert.Plan.sig) → Buf (Elt Bits) ℓ) (g : Dev Cert.Plan.nD → PrngReg), Pre_Plan m →
    θ_run (Cert.Plan.defs (F := Bits)) (onTc (τ := Cert.Plan.τ) (Cert.Plan.main (F := Bits))) ⟨m, fun _ => 0, g⟩ (fun r => (∀ c : Dev Cert.Plan.nD,
      r.2.mem ((c.tc : Thread Cert.Plan.nD Cert.Plan.τ).loc Cert.Plan.main_arg0) = m ((c.tc : Thread Cert.Plan.nD Cert.Plan.τ).loc Cert.Plan.main_arg0))
      ∧ r.2.sem = fun _ => 0)

def quiescent_PlanIdeal [hPlanIdeal : Cert.PlanIdeal.Facts] : Prop :=
  ∀ (m : (ℓ : Loc Cert.PlanIdeal.nD Cert.PlanIdeal.τ Cert.PlanIdeal.sig) → Buf (Elt Ideal) ℓ) (g : Dev Cert.PlanIdeal.nD → PrngReg), Pre_PlanIdeal m →
    θ_run (Cert.PlanIdeal.defs (F := Ideal)) (onTc (τ := Cert.PlanIdeal.τ) (Cert.PlanIdeal.main (F := Ideal))) ⟨m, fun _ => 0, g⟩ (fun r => (∀ c : Dev Cert.PlanIdeal.nD,
      r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0))
      ∧ r.2.sem = fun _ => 0)

def quiescent_PlanRefIdeal [hPlanRefIdeal : Cert.PlanRefIdeal.Facts] : Prop :=
  ∀ (m : (ℓ : Loc Cert.PlanRefIdeal.nD Cert.PlanRefIdeal.τ Cert.PlanRefIdeal.sig) → Buf (Elt Ideal) ℓ) (g : Dev Cert.PlanRefIdeal.nD → PrngReg), Pre_PlanRefIdeal m →
    θ_run (Cert.PlanRefIdeal.defs (F := Ideal)) (onTc (τ := Cert.PlanRefIdeal.τ) (Cert.PlanRefIdeal.main (F := Ideal))) ⟨m, fun _ => 0, g⟩ (fun r => (∀ c : Dev Cert.PlanRefIdeal.nD,
      r.2.mem ((c.tc : Thread Cert.PlanRefIdeal.nD Cert.PlanRefIdeal.τ).loc Cert.PlanRefIdeal.main_arg0) = m ((c.tc : Thread Cert.PlanRefIdeal.nD Cert.PlanRefIdeal.τ).loc Cert.PlanRefIdeal.main_arg0))
      ∧ r.2.sem = fun _ => 0)

def quiescent_Dest [hDest : Cert.Dest.Facts] : Prop :=
  ∀ (m : (ℓ : Loc Cert.Dest.nD Cert.Dest.τ Cert.Dest.sig) → Buf (Elt Bits) ℓ) (g : Dev Cert.Dest.nD → PrngReg), Pre_Dest m →
    θ_run (Cert.Dest.defs (F := Bits)) (onTc (τ := Cert.Dest.τ) (Cert.Dest.main (F := Bits))) ⟨m, fun _ => 0, g⟩ (fun r => (∀ c : Dev Cert.Dest.nD,
      r.2.mem ((c.tc : Thread Cert.Dest.nD Cert.Dest.τ).loc Cert.Dest.main_arg0) = m ((c.tc : Thread Cert.Dest.nD Cert.Dest.τ).loc Cert.Dest.main_arg0)
      ∧ r.2.mem ((c.tc : Thread Cert.Dest.nD Cert.Dest.τ).loc Cert.Dest.main_arg1) = m ((c.tc : Thread Cert.Dest.nD Cert.Dest.τ).loc Cert.Dest.main_arg1)
      ∧ r.2.mem ((c.tc : Thread Cert.Dest.nD Cert.Dest.τ).loc Cert.Dest.main_arg2) = m ((c.tc : Thread Cert.Dest.nD Cert.Dest.τ).loc Cert.Dest.main_arg2))
      ∧ r.2.sem = fun _ => 0)

def quiescent_DestIdeal [hDestIdeal : Cert.DestIdeal.Facts] : Prop :=
  ∀ (m : (ℓ : Loc Cert.DestIdeal.nD Cert.DestIdeal.τ Cert.DestIdeal.sig) → Buf (Elt Ideal) ℓ) (g : Dev Cert.DestIdeal.nD → PrngReg), Pre_DestIdeal m →
    θ_run (Cert.DestIdeal.defs (F := Ideal)) (onTc (τ := Cert.DestIdeal.τ) (Cert.DestIdeal.main (F := Ideal))) ⟨m, fun _ => 0, g⟩ (fun r => (∀ c : Dev Cert.DestIdeal.nD,
      r.2.mem ((c.tc : Thread Cert.DestIdeal.nD Cert.DestIdeal.τ).loc Cert.DestIdeal.main_arg0) = m ((c.tc : Thread Cert.DestIdeal.nD Cert.DestIdeal.τ).loc Cert.DestIdeal.main_arg0)
      ∧ r.2.mem ((c.tc : Thread Cert.DestIdeal.nD Cert.DestIdeal.τ).loc Cert.DestIdeal.main_arg1) = m ((c.tc : Thread Cert.DestIdeal.nD Cert.DestIdeal.τ).loc Cert.DestIdeal.main_arg1)
      ∧ r.2.mem ((c.tc : Thread Cert.DestIdeal.nD Cert.DestIdeal.τ).loc Cert.DestIdeal.main_arg2) = m ((c.tc : Thread Cert.DestIdeal.nD Cert.DestIdeal.τ).loc Cert.DestIdeal.main_arg2))
      ∧ r.2.sem = fun _ => 0)

def quiescent_DestRefIdeal [hDestRefIdeal : Cert.DestRefIdeal.Facts] : Prop :=
  ∀ (m : (ℓ : Loc Cert.DestRefIdeal.nD Cert.DestRefIdeal.τ Cert.DestRefIdeal.sig) → Buf (Elt Ideal) ℓ) (g : Dev Cert.DestRefIdeal.nD → PrngReg), Pre_DestRefIdeal m →
    θ_run (Cert.DestRefIdeal.defs (F := Ideal)) (onTc (τ := Cert.DestRefIdeal.τ) (Cert.DestRefIdeal.main (F := Ideal))) ⟨m, fun _ => 0, g⟩ (fun r => (∀ c : Dev Cert.DestRefIdeal.nD,
      r.2.mem ((c.tc : Thread Cert.DestRefIdeal.nD Cert.DestRefIdeal.τ).loc Cert.DestRefIdeal.main_arg0) = m ((c.tc : Thread Cert.DestRefIdeal.nD Cert.DestRefIdeal.τ).loc Cert.DestRefIdeal.main_arg0)
      ∧ r.2.mem ((c.tc : Thread Cert.DestRefIdeal.nD Cert.DestRefIdeal.τ).loc Cert.DestRefIdeal.main_arg1) = m ((c.tc : Thread Cert.DestRefIdeal.nD Cert.DestRefIdeal.τ).loc Cert.DestRefIdeal.main_arg1)
      ∧ r.2.mem ((c.tc : Thread Cert.DestRefIdeal.nD Cert.DestRefIdeal.τ).loc Cert.DestRefIdeal.main_arg2) = m ((c.tc : Thread Cert.DestRefIdeal.nD Cert.DestRefIdeal.τ).loc Cert.DestRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InSample_InSampleIdeal : Prop :=
  True

def algebraic_InSampleIdeal_InSampleRefIdeal [hInSampleIdeal : Cert.InSampleIdeal.Facts] [hInSampleRefIdeal : Cert.InSampleRefIdeal.Facts] : Prop :=
  ∀ (m : (ℓ : Loc Cert.InSampleIdeal.nD Cert.InSampleIdeal.τ Cert.InSampleIdeal.sig) → Buf (Elt Ideal) ℓ) (g : Dev Cert.InSampleIdeal.nD → PrngReg)
    (m' : (ℓ : Loc Cert.InSampleRefIdeal.nD Cert.InSampleRefIdeal.τ Cert.InSampleRefIdeal.sig) → Buf (Elt Ideal) ℓ) (g' : Dev Cert.InSampleRefIdeal.nD → PrngReg), Pre_InSampleIdeal m →
    (∀ c : Dev Cert.InSampleIdeal.nD,
      m' ((c.tc : Thread Cert.InSampleRefIdeal.nD Cert.InSampleRefIdeal.τ).loc Cert.InSampleRefIdeal.main_arg0) = m ((c.tc : Thread Cert.InSampleIdeal.nD Cert.InSampleIdeal.τ).loc Cert.InSampleIdeal.main_arg0)
      ∧ m' ((c.tc : Thread Cert.InSampleRefIdeal.nD Cert.InSampleRefIdeal.τ).loc Cert.InSampleRefIdeal.main_arg1) = m ((c.tc : Thread Cert.InSampleIdeal.nD Cert.InSampleIdeal.τ).loc Cert.InSampleIdeal.main_arg1)
      ∧ m' ((c.tc : Thread Cert.InSampleRefIdeal.nD Cert.InSampleRefIdeal.τ).loc Cert.InSampleRefIdeal.main_arg2) = m ((c.tc : Thread Cert.InSampleIdeal.nD Cert.InSampleIdeal.τ).loc Cert.InSampleIdeal.main_arg2)
      ∧ m' ((c.tc : Thread Cert.InSampleRefIdeal.nD Cert.InSampleRefIdeal.τ).loc Cert.InSampleRefIdeal.main_arg3) = m ((c.tc : Thread Cert.InSampleIdeal.nD Cert.InSampleIdeal.τ).loc Cert.InSampleIdeal.main_arg3)
      ∧ m' ((c.tc : Thread Cert.InSampleRefIdeal.nD Cert.InSampleRefIdeal.τ).loc Cert.InSampleRefIdeal.main_arg4) = m ((c.tc : Thread Cert.InSampleIdeal.nD Cert.InSampleIdeal.τ).loc Cert.InSampleIdeal.main_arg4)
      ∧ m' ((c.tc : Thread Cert.InSampleRefIdeal.nD Cert.InSampleRefIdeal.τ).loc Cert.InSampleRefIdeal.main_arg5) = m ((c.tc : Thread Cert.InSampleIdeal.nD Cert.InSampleIdeal.τ).loc Cert.InSampleIdeal.main_arg5)
      ∧ m' ((c.tc : Thread Cert.InSampleRefIdeal.nD Cert.InSampleRefIdeal.τ).loc Cert.InSampleRefIdeal.main_arg6) = m ((c.tc : Thread Cert.InSampleIdeal.nD Cert.InSampleIdeal.τ).loc Cert.InSampleIdeal.main_arg6)
      ∧ m' ((c.tc : Thread Cert.InSampleRefIdeal.nD Cert.InSampleRefIdeal.τ).loc Cert.InSampleRefIdeal.main_arg7) = m ((c.tc : Thread Cert.InSampleIdeal.nD Cert.InSampleIdeal.τ).loc Cert.InSampleIdeal.main_arg7)) →
    ∃ (v0 : (c : Dev Cert.InSampleIdeal.nD) → Buf (Elt Ideal) ((c.tc : Thread Cert.InSampleIdeal.nD Cert.InSampleIdeal.τ).loc Cert.InSampleIdeal.main_v28_0)) (v1 : (c : Dev Cert.InSampleIdeal.nD) → Buf (Elt Ideal) ((c.tc : Thread Cert.InSampleIdeal.nD Cert.InSampleIdeal.τ).loc Cert.InSampleIdeal.main_v28_1)) (v2 : (c : Dev Cert.InSampleIdeal.nD) → Buf (Elt Ideal) ((c.tc : Thread Cert.InSampleIdeal.nD Cert.InSampleIdeal.τ).loc Cert.InSampleIdeal.main_v28_2)) (v3 : (c : Dev Cert.InSampleIdeal.nD) → Buf (Elt Ideal) ((c.tc : Thread Cert.InSampleIdeal.nD Cert.InSampleIdeal.τ).loc Cert.InSampleIdeal.main_v28_3)) (v4 : (c : Dev Cert.InSampleIdeal.nD) → Buf (Elt Ideal) ((c.tc : Thread Cert.InSampleIdeal.nD Cert.InSampleIdeal.τ).loc Cert.InSampleIdeal.main_v28_4)) (v5 : (c : Dev Cert.InSampleIdeal.nD) → Buf (Elt Ideal) ((c.tc : Thread Cert.InSampleIdeal.nD Cert.InSampleIdeal.τ).loc Cert.InSampleIdeal.main_v28_5)) (v6 : (c : Dev Cert.InSampleIdeal.nD) → Buf (Elt Ideal) ((c.tc : Thread Cert.InSampleIdeal.nD Cert.InSampleIdeal.τ).loc Cert.InSampleIdeal.main_v28_6)) (v7 : (c : Dev Cert.InSampleIdeal.nD) → Buf (Elt Ideal) ((c.tc : Thread Cert.InSampleIdeal.nD Cert.InSampleIdeal.τ).loc Cert.InSampleIdeal.main_v28_7)),
      θ_run (Cert.InSampleIdeal.defs (F := Ideal)) (onTc (τ := Cert.InSampleIdeal.τ) (Cert.InSampleIdeal.main (F := Ideal))) ⟨m, fun _ => 0, g⟩ (fun r => ∀ c : Dev Cert.InSampleIdeal.nD,
          r.2.mem ((c.tc : Thread Cert.InSampleIdeal.nD Cert.InSampleIdeal.τ).loc Cert.InSampleIdeal.main_v28_0) = v0 c
          ∧ r.2.mem ((c.tc : Thread Cert.InSampleIdeal.nD Cert.InSampleIdeal.τ).loc Cert.InSampleIdeal.main_v28_1) = v1 c
          ∧ r.2.mem ((c.tc : Thread Cert.InSampleIdeal.nD Cert.InSampleIdeal.τ).loc Cert.InSampleIdeal.main_v28_2) = v2 c
          ∧ r.2.mem ((c.tc : Thread Cert.InSampleIdeal.nD Cert.InSampleIdeal.τ).loc Cert.InSampleIdeal.main_v28_3) = v3 c
          ∧ r.2.mem ((c.tc : Thread Cert.InSampleIdeal.nD Cert.InSampleIdeal.τ).loc Cert.InSampleIdeal.main_v28_4) = v4 c
          ∧ r.2.mem ((c.tc : Thread Cert.InSampleIdeal.nD Cert.InSampleIdeal.τ).loc Cert.InSampleIdeal.main_v28_5) = v5 c
          ∧ r.2.mem ((c.tc : Thread Cert.InSampleIdeal.nD Cert.InSampleIdeal.τ).loc Cert.InSampleIdeal.main_v28_6) = v6 c
          ∧ r.2.mem ((c.tc : Thread Cert.InSampleIdeal.nD Cert.InSampleIdeal.τ).loc Cert.InSampleIdeal.main_v28_7) = v7 c
          ∧ r.2.mem ((c.tc : Thread Cert.InSampleIdeal.nD Cert.InSampleIdeal.τ).loc Cert.InSampleIdeal.main_arg0) = m ((c.tc : Thread Cert.InSampleIdeal.nD Cert.InSampleIdeal.τ).loc Cert.InSampleIdeal.main_arg0)
          ∧ r.2.mem ((c.tc : Thread Cert.InSampleIdeal.nD Cert.InSampleIdeal.τ).loc Cert.InSampleIdeal.main_arg1) = m ((c.tc : Thread Cert.InSampleIdeal.nD Cert.InSampleIdeal.τ).loc Cert.InSampleIdeal.main_arg1)
          ∧ r.2.mem ((c.tc : Thread Cert.InSampleIdeal.nD Cert.InSampleIdeal.τ).loc Cert.InSampleIdeal.main_arg2) = m ((c.tc : Thread Cert.InSampleIdeal.nD Cert.InSampleIdeal.τ).loc Cert.InSampleIdeal.main_arg2)
          ∧ r.2.mem ((c.tc : Thread Cert.InSampleIdeal.nD Cert.InSampleIdeal.τ).loc Cert.InSampleIdeal.main_arg3) = m ((c.tc : Thread Cert.InSampleIdeal.nD Cert.InSampleIdeal.τ).loc Cert.InSampleIdeal.main_arg3)
          ∧ r.2.mem ((c.tc : Thread Cert.InSampleIdeal.nD Cert.InSampleIdeal.τ).loc Cert.InSampleIdeal.main_arg4) = m ((c.tc : Thread Cert.InSampleIdeal.nD Cert.InSampleIdeal.τ).loc Cert.InSampleIdeal.main_arg4)
          ∧ r.2.mem ((c.tc : Thread Cert.InSampleIdeal.nD Cert.InSampleIdeal.τ).loc Cert.InSampleIdeal.main_arg5) = m ((c.tc : Thread Cert.InSampleIdeal.nD Cert.InSampleIdeal.τ).loc Cert.InSampleIdeal.main_arg5)
          ∧ r.2.mem ((c.tc : Thread Cert.InSampleIdeal.nD Cert.InSampleIdeal.τ).loc Cert.InSampleIdeal.main_arg6) = m ((c.tc : Thread Cert.InSampleIdeal.nD Cert.InSampleIdeal.τ).loc Cert.InSampleIdeal.main_arg6)
          ∧ r.2.mem ((c.tc : Thread Cert.InSampleIdeal.nD Cert.InSampleIdeal.τ).loc Cert.InSampleIdeal.main_arg7) = m ((c.tc : Thread Cert.InSampleIdeal.nD Cert.InSampleIdeal.τ).loc Cert.InSampleIdeal.main_arg7))
      ∧ θ_run (Cert.InSampleRefIdeal.defs (F := Ideal)) (onTc (τ := Cert.InSampleRefIdeal.τ) (Cert.InSampleRefIdeal.main (F := Ideal))) ⟨m', fun _ => 0, g'⟩ (fun r => ∀ c : Dev Cert.InSampleRefIdeal.nD,
          r.2.mem ((c.tc : Thread Cert.InSampleRefIdeal.nD Cert.InSampleRefIdeal.τ).loc Cert.InSampleRefIdeal.main_v77) = v0 c
          ∧ r.2.mem ((c.tc : Thread Cert.InSampleRefIdeal.nD Cert.InSampleRefIdeal.τ).loc Cert.InSampleRefIdeal.main_v78) = v1 c
          ∧ r.2.mem ((c.tc : Thread Cert.InSampleRefIdeal.nD Cert.InSampleRefIdeal.τ).loc Cert.InSampleRefIdeal.main_v79) = v2 c
          ∧ r.2.mem ((c.tc : Thread Cert.InSampleRefIdeal.nD Cert.InSampleRefIdeal.τ).loc Cert.InSampleRefIdeal.main_v80) = v3 c
          ∧ r.2.mem ((c.tc : Thread Cert.InSampleRefIdeal.nD Cert.InSampleRefIdeal.τ).loc Cert.InSampleRefIdeal.main_v81) = v4 c
          ∧ r.2.mem ((c.tc : Thread Cert.InSampleRefIdeal.nD Cert.InSampleRefIdeal.τ).loc Cert.InSampleRefIdeal.main_v83) = v5 c
          ∧ r.2.mem ((c.tc : Thread Cert.InSampleRefIdeal.nD Cert.InSampleRefIdeal.τ).loc Cert.InSampleRefIdeal.main_v84) = v6 c
          ∧ r.2.mem ((c.tc : Thread Cert.InSampleRefIdeal.nD Cert.InSampleRefIdeal.τ).loc Cert.InSampleRefIdeal.main_v85) = v7 c
          ∧ r.2.mem ((c.tc : Thread Cert.InSampleRefIdeal.nD Cert.InSampleRefIdeal.τ).loc Cert.InSampleRefIdeal.main_arg0) = m' ((c.tc : Thread Cert.InSampleRefIdeal.nD Cert.InSampleRefIdeal.τ).loc Cert.InSampleRefIdeal.main_arg0)
          ∧ r.2.mem ((c.tc : Thread Cert.InSampleRefIdeal.nD Cert.InSampleRefIdeal.τ).loc Cert.InSampleRefIdeal.main_arg1) = m' ((c.tc : Thread Cert.InSampleRefIdeal.nD Cert.InSampleRefIdeal.τ).loc Cert.InSampleRefIdeal.main_arg1)
          ∧ r.2.mem ((c.tc : Thread Cert.InSampleRefIdeal.nD Cert.InSampleRefIdeal.τ).loc Cert.InSampleRefIdeal.main_arg2) = m' ((c.tc : Thread Cert.InSampleRefIdeal.nD Cert.InSampleRefIdeal.τ).loc Cert.InSampleRefIdeal.main_arg2)
          ∧ r.2.mem ((c.tc : Thread Cert.InSampleRefIdeal.nD Cert.InSampleRefIdeal.τ).loc Cert.InSampleRefIdeal.main_arg3) = m' ((c.tc : Thread Cert.InSampleRefIdeal.nD Cert.InSampleRefIdeal.τ).loc Cert.InSampleRefIdeal.main_arg3)
          ∧ r.2.mem ((c.tc : Thread Cert.InSampleRefIdeal.nD Cert.InSampleRefIdeal.τ).loc Cert.InSampleRefIdeal.main_arg4) = m' ((c.tc : Thread Cert.InSampleRefIdeal.nD Cert.InSampleRefIdeal.τ).loc Cert.InSampleRefIdeal.main_arg4)
          ∧ r.2.mem ((c.tc : Thread Cert.InSampleRefIdeal.nD Cert.InSampleRefIdeal.τ).loc Cert.InSampleRefIdeal.main_arg5) = m' ((c.tc : Thread Cert.InSampleRefIdeal.nD Cert.InSampleRefIdeal.τ).loc Cert.InSampleRefIdeal.main_arg5)
          ∧ r.2.mem ((c.tc : Thread Cert.InSampleRefIdeal.nD Cert.InSampleRefIdeal.τ).loc Cert.InSampleRefIdeal.main_arg6) = m' ((c.tc : Thread Cert.InSampleRefIdeal.nD Cert.InSampleRefIdeal.τ).loc Cert.InSampleRefIdeal.main_arg6)
          ∧ r.2.mem ((c.tc : Thread Cert.InSampleRefIdeal.nD Cert.InSampleRefIdeal.τ).loc Cert.InSampleRefIdeal.main_arg7) = m' ((c.tc : Thread Cert.InSampleRefIdeal.nD Cert.InSampleRefIdeal.τ).loc Cert.InSampleRefIdeal.main_arg7))

def preserves_InPrompt_InPromptIdeal : Prop :=
  True

def algebraic_InPromptIdeal_InPromptRefIdeal [hInPromptIdeal : Cert.InPromptIdeal.Facts] [hInPromptRefIdeal : Cert.InPromptRefIdeal.Facts] : Prop :=
  ∀ (m : (ℓ : Loc Cert.InPromptIdeal.nD Cert.InPromptIdeal.τ Cert.InPromptIdeal.sig) → Buf (Elt Ideal) ℓ) (g : Dev Cert.InPromptIdeal.nD → PrngReg)
    (m' : (ℓ : Loc Cert.InPromptRefIdeal.nD Cert.InPromptRefIdeal.τ Cert.InPromptRefIdeal.sig) → Buf (Elt Ideal) ℓ) (g' : Dev Cert.InPromptRefIdeal.nD → PrngReg), Pre_InPromptIdeal m →
    (∀ c : Dev Cert.InPromptIdeal.nD,
      m' ((c.tc : Thread Cert.InPromptRefIdeal.nD Cert.InPromptRefIdeal.τ).loc Cert.InPromptRefIdeal.main_arg0) = m ((c.tc : Thread Cert.InPromptIdeal.nD Cert.InPromptIdeal.τ).loc Cert.InPromptIdeal.main_arg0)
      ∧ m' ((c.tc : Thread Cert.InPromptRefIdeal.nD Cert.InPromptRefIdeal.τ).loc Cert.InPromptRefIdeal.main_arg1) = m ((c.tc : Thread Cert.InPromptIdeal.nD Cert.InPromptIdeal.τ).loc Cert.InPromptIdeal.main_arg1)
      ∧ m' ((c.tc : Thread Cert.InPromptRefIdeal.nD Cert.InPromptRefIdeal.τ).loc Cert.InPromptRefIdeal.main_arg2) = m ((c.tc : Thread Cert.InPromptIdeal.nD Cert.InPromptIdeal.τ).loc Cert.InPromptIdeal.main_arg2)
      ∧ m' ((c.tc : Thread Cert.InPromptRefIdeal.nD Cert.InPromptRefIdeal.τ).loc Cert.InPromptRefIdeal.main_arg3) = m ((c.tc : Thread Cert.InPromptIdeal.nD Cert.InPromptIdeal.τ).loc Cert.InPromptIdeal.main_arg3)
      ∧ m' ((c.tc : Thread Cert.InPromptRefIdeal.nD Cert.InPromptRefIdeal.τ).loc Cert.InPromptRefIdeal.main_arg4) = m ((c.tc : Thread Cert.InPromptIdeal.nD Cert.InPromptIdeal.τ).loc Cert.InPromptIdeal.main_arg4)
      ∧ m' ((c.tc : Thread Cert.InPromptRefIdeal.nD Cert.InPromptRefIdeal.τ).loc Cert.InPromptRefIdeal.main_arg5) = m ((c.tc : Thread Cert.InPromptIdeal.nD Cert.InPromptIdeal.τ).loc Cert.InPromptIdeal.main_arg5)
      ∧ m' ((c.tc : Thread Cert.InPromptRefIdeal.nD Cert.InPromptRefIdeal.τ).loc Cert.InPromptRefIdeal.main_arg6) = m ((c.tc : Thread Cert.InPromptIdeal.nD Cert.InPromptIdeal.τ).loc Cert.InPromptIdeal.main_arg6)
      ∧ m' ((c.tc : Thread Cert.InPromptRefIdeal.nD Cert.InPromptRefIdeal.τ).loc Cert.InPromptRefIdeal.main_arg7) = m ((c.tc : Thread Cert.InPromptIdeal.nD Cert.InPromptIdeal.τ).loc Cert.InPromptIdeal.main_arg7)) →
    ∃ (v0 : (c : Dev Cert.InPromptIdeal.nD) → Buf (Elt Ideal) ((c.tc : Thread Cert.InPromptIdeal.nD Cert.InPromptIdeal.τ).loc Cert.InPromptIdeal.main_v27_0)) (v1 : (c : Dev Cert.InPromptIdeal.nD) → Buf (Elt Ideal) ((c.tc : Thread Cert.InPromptIdeal.nD Cert.InPromptIdeal.τ).loc Cert.InPromptIdeal.main_v27_1)) (v2 : (c : Dev Cert.InPromptIdeal.nD) → Buf (Elt Ideal) ((c.tc : Thread Cert.InPromptIdeal.nD Cert.InPromptIdeal.τ).loc Cert.InPromptIdeal.main_v27_2)) (v3 : (c : Dev Cert.InPromptIdeal.nD) → Buf (Elt Ideal) ((c.tc : Thread Cert.InPromptIdeal.nD Cert.InPromptIdeal.τ).loc Cert.InPromptIdeal.main_v27_3)) (v4 : (c : Dev Cert.InPromptIdeal.nD) → Buf (Elt Ideal) ((c.tc : Thread Cert.InPromptIdeal.nD Cert.InPromptIdeal.τ).loc Cert.InPromptIdeal.main_v27_4)) (v5 : (c : Dev Cert.InPromptIdeal.nD) → Buf (Elt Ideal) ((c.tc : Thread Cert.InPromptIdeal.nD Cert.InPromptIdeal.τ).loc Cert.InPromptIdeal.main_v27_5)) (v6 : (c : Dev Cert.InPromptIdeal.nD) → Buf (Elt Ideal) ((c.tc : Thread Cert.InPromptIdeal.nD Cert.InPromptIdeal.τ).loc Cert.InPromptIdeal.main_v27_6)) (v7 : (c : Dev Cert.InPromptIdeal.nD) → Buf (Elt Ideal) ((c.tc : Thread Cert.InPromptIdeal.nD Cert.InPromptIdeal.τ).loc Cert.InPromptIdeal.main_v27_7)) (v8 : (c : Dev Cert.InPromptIdeal.nD) → Buf (Elt Ideal) ((c.tc : Thread Cert.InPromptIdeal.nD Cert.InPromptIdeal.τ).loc Cert.InPromptIdeal.main_v27_8)) (v9 : (c : Dev Cert.InPromptIdeal.nD) → Buf (Elt Ideal) ((c.tc : Thread Cert.InPromptIdeal.nD Cert.InPromptIdeal.τ).loc Cert.InPromptIdeal.main_v27_9)) (v10 : (c : Dev Cert.InPromptIdeal.nD) → Buf (Elt Ideal) ((c.tc : Thread Cert.InPromptIdeal.nD Cert.InPromptIdeal.τ).loc Cert.InPromptIdeal.main_v27_10)),
      θ_run (Cert.InPromptIdeal.defs (F := Ideal)) (onTc (τ := Cert.InPromptIdeal.τ) (Cert.InPromptIdeal.main (F := Ideal))) ⟨m, fun _ => 0, g⟩ (fun r => ∀ c : Dev Cert.InPromptIdeal.nD,
          r.2.mem ((c.tc : Thread Cert.InPromptIdeal.nD Cert.InPromptIdeal.τ).loc Cert.InPromptIdeal.main_v27_0) = v0 c
          ∧ r.2.mem ((c.tc : Thread Cert.InPromptIdeal.nD Cert.InPromptIdeal.τ).loc Cert.InPromptIdeal.main_v27_1) = v1 c
          ∧ r.2.mem ((c.tc : Thread Cert.InPromptIdeal.nD Cert.InPromptIdeal.τ).loc Cert.InPromptIdeal.main_v27_2) = v2 c
          ∧ r.2.mem ((c.tc : Thread Cert.InPromptIdeal.nD Cert.InPromptIdeal.τ).loc Cert.InPromptIdeal.main_v27_3) = v3 c
          ∧ r.2.mem ((c.tc : Thread Cert.InPromptIdeal.nD Cert.InPromptIdeal.τ).loc Cert.InPromptIdeal.main_v27_4) = v4 c
          ∧ r.2.mem ((c.tc : Thread Cert.InPromptIdeal.nD Cert.InPromptIdeal.τ).loc Cert.InPromptIdeal.main_v27_5) = v5 c
          ∧ r.2.mem ((c.tc : Thread Cert.InPromptIdeal.nD Cert.InPromptIdeal.τ).loc Cert.InPromptIdeal.main_v27_6) = v6 c
          ∧ r.2.mem ((c.tc : Thread Cert.InPromptIdeal.nD Cert.InPromptIdeal.τ).loc Cert.InPromptIdeal.main_v27_7) = v7 c
          ∧ r.2.mem ((c.tc : Thread Cert.InPromptIdeal.nD Cert.InPromptIdeal.τ).loc Cert.InPromptIdeal.main_v27_8) = v8 c
          ∧ r.2.mem ((c.tc : Thread Cert.InPromptIdeal.nD Cert.InPromptIdeal.τ).loc Cert.InPromptIdeal.main_v27_9) = v9 c
          ∧ r.2.mem ((c.tc : Thread Cert.InPromptIdeal.nD Cert.InPromptIdeal.τ).loc Cert.InPromptIdeal.main_v27_10) = v10 c
          ∧ r.2.mem ((c.tc : Thread Cert.InPromptIdeal.nD Cert.InPromptIdeal.τ).loc Cert.InPromptIdeal.main_arg0) = m ((c.tc : Thread Cert.InPromptIdeal.nD Cert.InPromptIdeal.τ).loc Cert.InPromptIdeal.main_arg0)
          ∧ r.2.mem ((c.tc : Thread Cert.InPromptIdeal.nD Cert.InPromptIdeal.τ).loc Cert.InPromptIdeal.main_arg1) = m ((c.tc : Thread Cert.InPromptIdeal.nD Cert.InPromptIdeal.τ).loc Cert.InPromptIdeal.main_arg1)
          ∧ r.2.mem ((c.tc : Thread Cert.InPromptIdeal.nD Cert.InPromptIdeal.τ).loc Cert.InPromptIdeal.main_arg2) = m ((c.tc : Thread Cert.InPromptIdeal.nD Cert.InPromptIdeal.τ).loc Cert.InPromptIdeal.main_arg2)
          ∧ r.2.mem ((c.tc : Thread Cert.InPromptIdeal.nD Cert.InPromptIdeal.τ).loc Cert.InPromptIdeal.main_arg3) = m ((c.tc : Thread Cert.InPromptIdeal.nD Cert.InPromptIdeal.τ).loc Cert.InPromptIdeal.main_arg3)
          ∧ r.2.mem ((c.tc : Thread Cert.InPromptIdeal.nD Cert.InPromptIdeal.τ).loc Cert.InPromptIdeal.main_arg4) = m ((c.tc : Thread Cert.InPromptIdeal.nD Cert.InPromptIdeal.τ).loc Cert.InPromptIdeal.main_arg4)
          ∧ r.2.mem ((c.tc : Thread Cert.InPromptIdeal.nD Cert.InPromptIdeal.τ).loc Cert.InPromptIdeal.main_arg5) = m ((c.tc : Thread Cert.InPromptIdeal.nD Cert.InPromptIdeal.τ).loc Cert.InPromptIdeal.main_arg5)
          ∧ r.2.mem ((c.tc : Thread Cert.InPromptIdeal.nD Cert.InPromptIdeal.τ).loc Cert.InPromptIdeal.main_arg6) = m ((c.tc : Thread Cert.InPromptIdeal.nD Cert.InPromptIdeal.τ).loc Cert.InPromptIdeal.main_arg6)
          ∧ r.2.mem ((c.tc : Thread Cert.InPromptIdeal.nD Cert.InPromptIdeal.τ).loc Cert.InPromptIdeal.main_arg7) = m ((c.tc : Thread Cert.InPromptIdeal.nD Cert.InPromptIdeal.τ).loc Cert.InPromptIdeal.main_arg7))
      ∧ θ_run (Cert.InPromptRefIdeal.defs (F := Ideal)) (onTc (τ := Cert.InPromptRefIdeal.τ) (Cert.InPromptRefIdeal.main (F := Ideal))) ⟨m', fun _ => 0, g'⟩ (fun r => ∀ c : Dev Cert.InPromptRefIdeal.nD,
          r.2.mem ((c.tc : Thread Cert.InPromptRefIdeal.nD Cert.InPromptRefIdeal.τ).loc Cert.InPromptRefIdeal.main_v83) = v0 c
          ∧ r.2.mem ((c.tc : Thread Cert.InPromptRefIdeal.nD Cert.InPromptRefIdeal.τ).loc Cert.InPromptRefIdeal.main_v86) = v1 c
          ∧ r.2.mem ((c.tc : Thread Cert.InPromptRefIdeal.nD Cert.InPromptRefIdeal.τ).loc Cert.InPromptRefIdeal.main_v89) = v2 c
          ∧ r.2.mem ((c.tc : Thread Cert.InPromptRefIdeal.nD Cert.InPromptRefIdeal.τ).loc Cert.InPromptRefIdeal.main_v90) = v3 c
          ∧ r.2.mem ((c.tc : Thread Cert.InPromptRefIdeal.nD Cert.InPromptRefIdeal.τ).loc Cert.InPromptRefIdeal.main_v92) = v4 c
          ∧ r.2.mem ((c.tc : Thread Cert.InPromptRefIdeal.nD Cert.InPromptRefIdeal.τ).loc Cert.InPromptRefIdeal.main_v94) = v5 c
          ∧ r.2.mem ((c.tc : Thread Cert.InPromptRefIdeal.nD Cert.InPromptRefIdeal.τ).loc Cert.InPromptRefIdeal.main_v95) = v6 c
          ∧ r.2.mem ((c.tc : Thread Cert.InPromptRefIdeal.nD Cert.InPromptRefIdeal.τ).loc Cert.InPromptRefIdeal.main_v96) = v7 c
          ∧ r.2.mem ((c.tc : Thread Cert.InPromptRefIdeal.nD Cert.InPromptRefIdeal.τ).loc Cert.InPromptRefIdeal.main_v98) = v8 c
          ∧ r.2.mem ((c.tc : Thread Cert.InPromptRefIdeal.nD Cert.InPromptRefIdeal.τ).loc Cert.InPromptRefIdeal.main_v99) = v9 c
          ∧ r.2.mem ((c.tc : Thread Cert.InPromptRefIdeal.nD Cert.InPromptRefIdeal.τ).loc Cert.InPromptRefIdeal.main_v100) = v10 c
          ∧ r.2.mem ((c.tc : Thread Cert.InPromptRefIdeal.nD Cert.InPromptRefIdeal.τ).loc Cert.InPromptRefIdeal.main_arg0) = m' ((c.tc : Thread Cert.InPromptRefIdeal.nD Cert.InPromptRefIdeal.τ).loc Cert.InPromptRefIdeal.main_arg0)
          ∧ r.2.mem ((c.tc : Thread Cert.InPromptRefIdeal.nD Cert.InPromptRefIdeal.τ).loc Cert.InPromptRefIdeal.main_arg1) = m' ((c.tc : Thread Cert.InPromptRefIdeal.nD Cert.InPromptRefIdeal.τ).loc Cert.InPromptRefIdeal.main_arg1)
          ∧ r.2.mem ((c.tc : Thread Cert.InPromptRefIdeal.nD Cert.InPromptRefIdeal.τ).loc Cert.InPromptRefIdeal.main_arg2) = m' ((c.tc : Thread Cert.InPromptRefIdeal.nD Cert.InPromptRefIdeal.τ).loc Cert.InPromptRefIdeal.main_arg2)
          ∧ r.2.mem ((c.tc : Thread Cert.InPromptRefIdeal.nD Cert.InPromptRefIdeal.τ).loc Cert.InPromptRefIdeal.main_arg3) = m' ((c.tc : Thread Cert.InPromptRefIdeal.nD Cert.InPromptRefIdeal.τ).loc Cert.InPromptRefIdeal.main_arg3)
          ∧ r.2.mem ((c.tc : Thread Cert.InPromptRefIdeal.nD Cert.InPromptRefIdeal.τ).loc Cert.InPromptRefIdeal.main_arg4) = m' ((c.tc : Thread Cert.InPromptRefIdeal.nD Cert.InPromptRefIdeal.τ).loc Cert.InPromptRefIdeal.main_arg4)
          ∧ r.2.mem ((c.tc : Thread Cert.InPromptRefIdeal.nD Cert.InPromptRefIdeal.τ).loc Cert.InPromptRefIdeal.main_arg5) = m' ((c.tc : Thread Cert.InPromptRefIdeal.nD Cert.InPromptRefIdeal.τ).loc Cert.InPromptRefIdeal.main_arg5)
          ∧ r.2.mem ((c.tc : Thread Cert.InPromptRefIdeal.nD Cert.InPromptRefIdeal.τ).loc Cert.InPromptRefIdeal.main_arg6) = m' ((c.tc : Thread Cert.InPromptRefIdeal.nD Cert.InPromptRefIdeal.τ).loc Cert.InPromptRefIdeal.main_arg6)
          ∧ r.2.mem ((c.tc : Thread Cert.InPromptRefIdeal.nD Cert.InPromptRefIdeal.τ).loc Cert.InPromptRefIdeal.main_arg7) = m' ((c.tc : Thread Cert.InPromptRefIdeal.nD Cert.InPromptRefIdeal.τ).loc Cert.InPromptRefIdeal.main_arg7))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)) →
    ∃ (v0 : (c : Dev Cert.PostIdeal.nD) → Buf (Elt Ideal) ((c.tc : Thread Cert.PostIdeal.nD Cert.PostIdeal.τ).loc Cert.PostIdeal.main_v15_0)) (v1 : (c : Dev Cert.PostIdeal.nD) → Buf (Elt Ideal) ((c.tc : Thread Cert.PostIdeal.nD Cert.PostIdeal.τ).loc Cert.PostIdeal.main_v15_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v15_0) = v0 c
          ∧ r.2.mem ((c.tc : Thread Cert.PostIdeal.nD Cert.PostIdeal.τ).loc Cert.PostIdeal.main_v15_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v81) = v0 c
          ∧ r.2.mem ((c.tc : Thread Cert.PostRefIdeal.nD Cert.PostRefIdeal.τ).loc Cert.PostRefIdeal.main_v82) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v4) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Exp_ExpIdeal : Prop :=
  True

def algebraic_ExpIdeal_ExpRefIdeal [hExpIdeal : Cert.ExpIdeal.Facts] [hExpRefIdeal : Cert.ExpRefIdeal.Facts] [hPre_experts_pre : Cert.Pre_experts_pre.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v15)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v15) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v32) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def preserves_Plan_PlanIdeal : Prop :=
  True

def algebraic_PlanIdeal_PlanRefIdeal [hPlanIdeal : Cert.PlanIdeal.Facts] [hPlanRefIdeal : Cert.PlanRefIdeal.Facts] : Prop :=
  ∀ (m : (ℓ : Loc Cert.PlanIdeal.nD Cert.PlanIdeal.τ Cert.PlanIdeal.sig) → Buf (Elt Ideal) ℓ) (g : Dev Cert.PlanIdeal.nD → PrngReg)
    (m' : (ℓ : Loc Cert.PlanRefIdeal.nD Cert.PlanRefIdeal.τ Cert.PlanRefIdeal.sig) → Buf (Elt Ideal) ℓ) (g' : Dev Cert.PlanRefIdeal.nD → PrngReg), Pre_PlanIdeal m →
    (∀ c : Dev Cert.PlanIdeal.nD,
      m' ((c.tc : Thread Cert.PlanRefIdeal.nD Cert.PlanRefIdeal.τ).loc Cert.PlanRefIdeal.main_arg0) = m ((c.tc : Thread Cert.PlanIdeal.nD Cert.PlanIdeal.τ).loc Cert.PlanIdeal.main_arg0)) →
    ∃ (v0 : (c : Dev Cert.PlanIdeal.nD) → Buf (Elt Ideal) ((c.tc : Thread Cert.PlanIdeal.nD Cert.PlanIdeal.τ).loc Cert.PlanIdeal.main_v0_0)) (v1 : (c : Dev Cert.PlanIdeal.nD) → Buf (Elt Ideal) ((c.tc : Thread Cert.PlanIdeal.nD Cert.PlanIdeal.τ).loc Cert.PlanIdeal.main_v0_1)),
      θ_run (Cert.PlanIdeal.defs (F := Ideal)) (onTc (τ := Cert.PlanIdeal.τ) (Cert.PlanIdeal.main (F := Ideal))) ⟨m, fun _ => 0, g⟩ (fun r => ∀ c : Dev Cert.PlanIdeal.nD,
          r.2.mem ((c.tc : Thread Cert.PlanIdeal.nD Cert.PlanIdeal.τ).loc Cert.PlanIdeal.main_v0_0) = v0 c
          ∧ r.2.mem ((c.tc : Thread Cert.PlanIdeal.nD Cert.PlanIdeal.τ).loc Cert.PlanIdeal.main_v0_1) = v1 c
          ∧ r.2.mem ((c.tc : Thread Cert.PlanIdeal.nD Cert.PlanIdeal.τ).loc Cert.PlanIdeal.main_arg0) = m ((c.tc : Thread Cert.PlanIdeal.nD Cert.PlanIdeal.τ).loc Cert.PlanIdeal.main_arg0))
      ∧ θ_run (Cert.PlanRefIdeal.defs (F := Ideal)) (onTc (τ := Cert.PlanRefIdeal.τ) (Cert.PlanRefIdeal.main (F := Ideal))) ⟨m', fun _ => 0, g'⟩ (fun r => ∀ c : Dev Cert.PlanRefIdeal.nD,
          r.2.mem ((c.tc : Thread Cert.PlanRefIdeal.nD Cert.PlanRefIdeal.τ).loc Cert.PlanRefIdeal.main_v24) = v0 c
          ∧ r.2.mem ((c.tc : Thread Cert.PlanRefIdeal.nD Cert.PlanRefIdeal.τ).loc Cert.PlanRefIdeal.main_v26) = v1 c
          ∧ r.2.mem ((c.tc : Thread Cert.PlanRefIdeal.nD Cert.PlanRefIdeal.τ).loc Cert.PlanRefIdeal.main_arg0) = m' ((c.tc : Thread Cert.PlanRefIdeal.nD Cert.PlanRefIdeal.τ).loc Cert.PlanRefIdeal.main_arg0))

def preserves_Dest_DestIdeal : Prop :=
  True

def algebraic_DestIdeal_DestRefIdeal [hDestIdeal : Cert.DestIdeal.Facts] [hDestRefIdeal : Cert.DestRefIdeal.Facts] : Prop :=
  ∀ (m : (ℓ : Loc Cert.DestIdeal.nD Cert.DestIdeal.τ Cert.DestIdeal.sig) → Buf (Elt Ideal) ℓ) (g : Dev Cert.DestIdeal.nD → PrngReg)
    (m' : (ℓ : Loc Cert.DestRefIdeal.nD Cert.DestRefIdeal.τ Cert.DestRefIdeal.sig) → Buf (Elt Ideal) ℓ) (g' : Dev Cert.DestRefIdeal.nD → PrngReg), Pre_DestIdeal m →
    (∀ c : Dev Cert.DestIdeal.nD,
      m' ((c.tc : Thread Cert.DestRefIdeal.nD Cert.DestRefIdeal.τ).loc Cert.DestRefIdeal.main_arg0) = m ((c.tc : Thread Cert.DestIdeal.nD Cert.DestIdeal.τ).loc Cert.DestIdeal.main_arg0)
      ∧ m' ((c.tc : Thread Cert.DestRefIdeal.nD Cert.DestRefIdeal.τ).loc Cert.DestRefIdeal.main_arg1) = m ((c.tc : Thread Cert.DestIdeal.nD Cert.DestIdeal.τ).loc Cert.DestIdeal.main_arg1)
      ∧ m' ((c.tc : Thread Cert.DestRefIdeal.nD Cert.DestRefIdeal.τ).loc Cert.DestRefIdeal.main_arg2) = m ((c.tc : Thread Cert.DestIdeal.nD Cert.DestIdeal.τ).loc Cert.DestIdeal.main_arg2)) →
    ∃ (v0 : (c : Dev Cert.DestIdeal.nD) → Buf (Elt Ideal) ((c.tc : Thread Cert.DestIdeal.nD Cert.DestIdeal.τ).loc Cert.DestIdeal.main_v25)) (v1 : (c : Dev Cert.DestIdeal.nD) → Buf (Elt Ideal) ((c.tc : Thread Cert.DestIdeal.nD Cert.DestIdeal.τ).loc Cert.DestIdeal.main_v2)) (v2 : (c : Dev Cert.DestIdeal.nD) → Buf (Elt Ideal) ((c.tc : Thread Cert.DestIdeal.nD Cert.DestIdeal.τ).loc Cert.DestIdeal.main_v11)) (v3 : (c : Dev Cert.DestIdeal.nD) → Buf (Elt Ideal) ((c.tc : Thread Cert.DestIdeal.nD Cert.DestIdeal.τ).loc Cert.DestIdeal.main_v20)) (v4 : (c : Dev Cert.DestIdeal.nD) → Buf (Elt Ideal) ((c.tc : Thread Cert.DestIdeal.nD Cert.DestIdeal.τ).loc Cert.DestIdeal.main_v24)),
      θ_run (Cert.DestIdeal.defs (F := Ideal)) (onTc (τ := Cert.DestIdeal.τ) (Cert.DestIdeal.main (F := Ideal))) ⟨m, fun _ => 0, g⟩ (fun r => ∀ c : Dev Cert.DestIdeal.nD,
          r.2.mem ((c.tc : Thread Cert.DestIdeal.nD Cert.DestIdeal.τ).loc Cert.DestIdeal.main_v25) = v0 c
          ∧ r.2.mem ((c.tc : Thread Cert.DestIdeal.nD Cert.DestIdeal.τ).loc Cert.DestIdeal.main_v2) = v1 c
          ∧ r.2.mem ((c.tc : Thread Cert.DestIdeal.nD Cert.DestIdeal.τ).loc Cert.DestIdeal.main_v11) = v2 c
          ∧ r.2.mem ((c.tc : Thread Cert.DestIdeal.nD Cert.DestIdeal.τ).loc Cert.DestIdeal.main_v20) = v3 c
          ∧ r.2.mem ((c.tc : Thread Cert.DestIdeal.nD Cert.DestIdeal.τ).loc Cert.DestIdeal.main_v24) = v4 c
          ∧ r.2.mem ((c.tc : Thread Cert.DestIdeal.nD Cert.DestIdeal.τ).loc Cert.DestIdeal.main_arg0) = m ((c.tc : Thread Cert.DestIdeal.nD Cert.DestIdeal.τ).loc Cert.DestIdeal.main_arg0)
          ∧ r.2.mem ((c.tc : Thread Cert.DestIdeal.nD Cert.DestIdeal.τ).loc Cert.DestIdeal.main_arg1) = m ((c.tc : Thread Cert.DestIdeal.nD Cert.DestIdeal.τ).loc Cert.DestIdeal.main_arg1)
          ∧ r.2.mem ((c.tc : Thread Cert.DestIdeal.nD Cert.DestIdeal.τ).loc Cert.DestIdeal.main_arg2) = m ((c.tc : Thread Cert.DestIdeal.nD Cert.DestIdeal.τ).loc Cert.DestIdeal.main_arg2))
      ∧ θ_run (Cert.DestRefIdeal.defs (F := Ideal)) (onTc (τ := Cert.DestRefIdeal.τ) (Cert.DestRefIdeal.main (F := Ideal))) ⟨m', fun _ => 0, g'⟩ (fun r => ∀ c : Dev Cert.DestRefIdeal.nD,
          r.2.mem ((c.tc : Thread Cert.DestRefIdeal.nD Cert.DestRefIdeal.τ).loc Cert.DestRefIdeal.main_v35) = v0 c
          ∧ r.2.mem ((c.tc : Thread Cert.DestRefIdeal.nD Cert.DestRefIdeal.τ).loc Cert.DestRefIdeal.main_v2) = v1 c
          ∧ r.2.mem ((c.tc : Thread Cert.DestRefIdeal.nD Cert.DestRefIdeal.τ).loc Cert.DestRefIdeal.main_v11) = v2 c
          ∧ r.2.mem ((c.tc : Thread Cert.DestRefIdeal.nD Cert.DestRefIdeal.τ).loc Cert.DestRefIdeal.main_v34) = v3 c
          ∧ r.2.mem ((c.tc : Thread Cert.DestRefIdeal.nD Cert.DestRefIdeal.τ).loc Cert.DestRefIdeal.main_v39) = v4 c
          ∧ r.2.mem ((c.tc : Thread Cert.DestRefIdeal.nD Cert.DestRefIdeal.τ).loc Cert.DestRefIdeal.main_arg0) = m' ((c.tc : Thread Cert.DestRefIdeal.nD Cert.DestRefIdeal.τ).loc Cert.DestRefIdeal.main_arg0)
          ∧ r.2.mem ((c.tc : Thread Cert.DestRefIdeal.nD Cert.DestRefIdeal.τ).loc Cert.DestRefIdeal.main_arg1) = m' ((c.tc : Thread Cert.DestRefIdeal.nD Cert.DestRefIdeal.τ).loc Cert.DestRefIdeal.main_arg1)
          ∧ r.2.mem ((c.tc : Thread Cert.DestRefIdeal.nD Cert.DestRefIdeal.τ).loc Cert.DestRefIdeal.main_arg2) = m' ((c.tc : Thread Cert.DestRefIdeal.nD Cert.DestRefIdeal.τ).loc Cert.DestRefIdeal.main_arg2))

def Claim : Prop :=
  ∃ (hKernel : Cert.Kernel.Facts) (hKernelIdeal : Cert.KernelIdeal.Facts) (hReferenceIdeal : Cert.ReferenceIdeal.Facts) (hInSample : Cert.InSample.Facts) (hInSampleIdeal : Cert.InSampleIdeal.Facts) (hInSampleRefIdeal : Cert.InSampleRefIdeal.Facts) (hInPrompt : Cert.InPrompt.Facts) (hInPromptIdeal : Cert.InPromptIdeal.Facts) (hInPromptRefIdeal : Cert.InPromptRefIdeal.Facts) (hPost : Cert.Post.Facts) (hPostIdeal : Cert.PostIdeal.Facts) (hPostRefIdeal : Cert.PostRefIdeal.Facts) (hMod : Cert.Mod.Facts) (hModIdeal : Cert.ModIdeal.Facts) (hModRefIdeal : Cert.ModRefIdeal.Facts) (hExp : Cert.Exp.Facts) (hExpIdeal : Cert.ExpIdeal.Facts) (hExpRefIdeal : Cert.ExpRefIdeal.Facts) (hPlan : Cert.Plan.Facts) (hPlanIdeal : Cert.PlanIdeal.Facts) (hPlanRefIdeal : Cert.PlanRefIdeal.Facts) (hDest : Cert.Dest.Facts) (hDestIdeal : Cert.DestIdeal.Facts) (hDestRefIdeal : Cert.DestRefIdeal.Facts) (hPre_experts_pre : Cert.Pre_experts_pre.Facts),
    quiescent_Kernel (hKernel := hKernel)
    ∧ quiescent_KernelIdeal (hKernelIdeal := hKernelIdeal)
    ∧ quiescent_ReferenceIdeal (hReferenceIdeal := hReferenceIdeal)
    ∧ quiescent_InSample (hInSample := hInSample)
    ∧ quiescent_InSampleIdeal (hInSampleIdeal := hInSampleIdeal)
    ∧ quiescent_InSampleRefIdeal (hInSampleRefIdeal := hInSampleRefIdeal)
    ∧ quiescent_InPrompt (hInPrompt := hInPrompt)
    ∧ quiescent_InPromptIdeal (hInPromptIdeal := hInPromptIdeal)
    ∧ quiescent_InPromptRefIdeal (hInPromptRefIdeal := hInPromptRefIdeal)
    ∧ quiescent_Post (hPost := hPost)
    ∧ quiescent_PostIdeal (hPostIdeal := hPostIdeal)
    ∧ quiescent_PostRefIdeal (hPostRefIdeal := hPostRefIdeal)
    ∧ quiescent_Mod (hMod := hMod)
    ∧ quiescent_ModIdeal (hModIdeal := hModIdeal)
    ∧ quiescent_ModRefIdeal (hModRefIdeal := hModRefIdeal)
    ∧ quiescent_Exp (hExp := hExp) (hPre_experts_pre := hPre_experts_pre)
    ∧ quiescent_ExpIdeal (hExpIdeal := hExpIdeal) (hPre_experts_pre := hPre_experts_pre)
    ∧ quiescent_ExpRefIdeal (hExpRefIdeal := hExpRefIdeal)
    ∧ quiescent_ExpRefIdeal_pre_experts_pre (hExpRefIdeal := hExpRefIdeal) (hPre_experts_pre := hPre_experts_pre)
    ∧ quiescent_Plan (hPlan := hPlan)
    ∧ quiescent_PlanIdeal (hPlanIdeal := hPlanIdeal)
    ∧ quiescent_PlanRefIdeal (hPlanRefIdeal := hPlanRefIdeal)
    ∧ quiescent_Dest (hDest := hDest)
    ∧ quiescent_DestIdeal (hDestIdeal := hDestIdeal)
    ∧ quiescent_DestRefIdeal (hDestRefIdeal := hDestRefIdeal)
    ∧ preserves_Kernel_KernelIdeal
    ∧ algebraic_KernelIdeal_ReferenceIdeal (hKernelIdeal := hKernelIdeal) (hReferenceIdeal := hReferenceIdeal)
    ∧ preserves_InSample_InSampleIdeal
    ∧ algebraic_InSampleIdeal_InSampleRefIdeal (hInSampleIdeal := hInSampleIdeal) (hInSampleRefIdeal := hInSampleRefIdeal)
    ∧ preserves_InPrompt_InPromptIdeal
    ∧ algebraic_InPromptIdeal_InPromptRefIdeal (hInPromptIdeal := hInPromptIdeal) (hInPromptRefIdeal := hInPromptRefIdeal)
    ∧ preserves_Post_PostIdeal
    ∧ algebraic_PostIdeal_PostRefIdeal (hPostIdeal := hPostIdeal) (hPostRefIdeal := hPostRefIdeal)
    ∧ preserves_Mod_ModIdeal
    ∧ algebraic_ModIdeal_ModRefIdeal (hModIdeal := hModIdeal) (hModRefIdeal := hModRefIdeal)
    ∧ preserves_Exp_ExpIdeal
    ∧ algebraic_ExpIdeal_ExpRefIdeal (hExpIdeal := hExpIdeal) (hExpRefIdeal := hExpRefIdeal) (hPre_experts_pre := hPre_experts_pre)
    ∧ preserves_Plan_PlanIdeal
    ∧ algebraic_PlanIdeal_PlanRefIdeal (hPlanIdeal := hPlanIdeal) (hPlanRefIdeal := hPlanRefIdeal)
    ∧ preserves_Dest_DestIdeal
    ∧ algebraic_DestIdeal_DestRefIdeal (hDestIdeal := hDestIdeal) (hDestRefIdeal := hDestRefIdeal)
-- ==== Pre_experts_pre.lean ====
abbrev S69632x1024 : Shape := ⟨2, ![69632, 1024]⟩
abbrev S544 : Shape := ⟨1, ![544]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S1_S544_0 : S1.BroadcastsInDim S544 (![0] : Fin 1 → Fin S544.rank)
  shapeCasts_S1_S_ : S1.ShapeCasts S_
  bcast_S_S544 : S_.BroadcastsInDim S544 (![] : Fin 0 → Fin S544.rank)
  reducesTo_S544_S_d0 : S544.ReducesTo [0] S_
  h_S_ : 0 < S_.numel

variable [Facts]

def fn {F : FTy → Type} [FloatOps F] (main_arg0 : FVec F S69632x1024 .f32) (main_arg1 : IVec S544 32) (main_arg2 : IVec S1 32) (main_arg3 : FVec F S32x1024x512 .f32) (main_arg4 : FVec F S32x1024x512 .f32) (main_arg5 : FVec F S32x512x1024 .f32) : IVec S_ 1 :=
  let main_v0 : IVec S544 32 := iotaInDim S544 32 0
  let main_v1 : IVec S544 32 := broadcastInDim S544 ![0] bcast_S1_S544_0 main_arg2
  let main_v2 : IVec S544 1 := cmpi .sge main_v0 main_v1
  let main_v3 : IVec S_ 32 := shapeCast S_ main_arg2 shapeCasts_S1_S_
  let main_c : IVec S_ 32 := constantI S_ 32 1#32
  let main_v4 : IVec S_ 1 := cmpi .sge main_v3 main_c
  let main_c_0 : IVec S_ 32 := constantI S_ 32 0#32
  let main_v5 : IVec S544 32 := broadcastInDim S544 ![] bcast_S_S544 main_c_0
  let main_v6 : IVec S544 1 := cmpi .sge main_arg1 main_v5
  let main_c_1 : IVec S_ 32 := constantI S_ 32 32#32
  let main_v7 : IVec S544 32 := broadcastInDim S544 ![] bcast_S_S544 main_c_1
  let main_v8 : IVec S544 1 := cmpi .slt main_arg1 main_v7
  let main_v9 : IVec S544 1 := andi main_v6 main_v8
  let main_v10 : IVec S544 1 := ori main_v2 main_v9
  let main_c_2 : IVec S_ 1 := constantI S_ 1 1#1
  let main_v11 : IVec S_ 1 := (fun x v => Host.reduce IntOp.andi x v reducesTo_S544_S_d0 h_S_) main_v10 main_c_2
  let main_v12 : IVec S_ 1 := andi main_v4 main_v11
  main_v12
-- ==== Kernel.lean ====
abbrev S128x512 : Shape := ⟨2, ![128, 512]⟩
abbrev S128x1024 : Shape := ⟨2, ![128, 1024]⟩
abbrev S256 : Shape := ⟨1, ![256]⟩
abbrev S32x4x128x256 : Shape := ⟨4, ![32, 4, 128, 256]⟩
abbrev S32x4x512 : Shape := ⟨3, ![32, 4, 512]⟩
abbrev S_ : Shape := ⟨0, ![]⟩
abbrev S32x16x512 : Shape := ⟨3, ![32, 16, 512]⟩
abbrev S512x512 : Shape := ⟨2, ![512, 512]⟩
abbrev S32x4x1024 : Shape := ⟨3, ![32, 4, 1024]⟩
abbrev S32x16x1024 : Shape := ⟨3, ![32, 16, 1024]⟩
abbrev S512x1024 : Shape := ⟨2, ![512, 1024]⟩
abbrev S1x256 : Shape := ⟨2, ![1, 256]⟩
abbrev S16x512 : Shape := ⟨2, ![16, 512]⟩
abbrev S16x1024 : Shape := ⟨2, ![16, 1024]⟩
abbrev S1x4x128x256 : Shape := ⟨4, ![1, 4, 128, 256]⟩
abbrev S4x128x256 : Shape := ⟨3, ![4, 128, 256]⟩
abbrev S16x16 : Shape := ⟨2, ![16, 16]⟩
abbrev S16x1 : Shape := ⟨2, ![16, 1]⟩
abbrev S1x512 : Shape := ⟨2, ![1, 512]⟩
abbrev S1x1x128x256 : Shape := ⟨4, ![1, 1, 128, 256]⟩
abbrev S128x256 : Shape := ⟨2, ![128, 256]⟩
abbrev S16x256 : Shape := ⟨2, ![16, 256]⟩
abbrev S16x128 : Shape := ⟨2, ![16, 128]⟩
abbrev S1x128 : Shape := ⟨2, ![1, 128]⟩
abbrev S128x128 : Shape := ⟨2, ![128, 128]⟩
abbrev S16 : Shape := ⟨1, ![16]⟩

abbrev nBuf : Space → Nat
  | .hbm => 35
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .bf16⟩
  | .hbm, ⟨4, _⟩ => ⟨S128x1024, .f32⟩
  | .hbm, ⟨5, _⟩ => ⟨S256, .f32⟩
  | .hbm, ⟨6, _⟩ => ⟨S32x4x128x256, .f32⟩
  | .hbm, ⟨7, _⟩ => ⟨S32x4x512, .f32⟩
  | .hbm, ⟨8, _⟩ => ⟨S_, .i32⟩
  | .hbm, ⟨9, _⟩ => ⟨S_, .f32⟩
  | .hbm, ⟨10, _⟩ => ⟨S32x16x512, .f32⟩
  | .hbm, ⟨11, _⟩ => ⟨S512x512, .f32⟩
  | .hbm, ⟨12, _⟩ => ⟨S32x4x512, .f32⟩
  | .hbm, ⟨13, _⟩ => ⟨S_, .i32⟩
  | .hbm, ⟨14, _⟩ => ⟨S_, .f32⟩
  | .hbm, ⟨15, _⟩ => ⟨S32x16x512, .f32⟩
  | .hbm, ⟨16, _⟩ => ⟨S512x512, .f32⟩
  | .hbm, ⟨17, _⟩ => ⟨S32x4x512, .f32⟩
  | .hbm, ⟨18, _⟩ => ⟨S_, .i32⟩
  | .hbm, ⟨19, _⟩ => ⟨S_, .f32⟩
  | .hbm, ⟨20, _⟩ => ⟨S32x16x512, .f32⟩
  | .hbm, ⟨21, _⟩ => ⟨S512x512, .f32⟩
  | .hbm, ⟨22, _⟩ => ⟨S32x4x1024, .bf16⟩
  | .hbm, ⟨23, _⟩ => ⟨S_, .i32⟩
  | .hbm, ⟨24, _⟩ => ⟨S_, .bf16⟩
  | .hbm, ⟨25, _⟩ => ⟨S32x16x1024, .bf16⟩
  | .hbm, ⟨26, _⟩ => ⟨S512x1024, .bf16⟩
  | .hbm, ⟨27, _⟩ => ⟨S32x4x1024, .f32⟩
  | .hbm, ⟨28, _⟩ => ⟨S_, .i32⟩
  | .hbm, ⟨29, _⟩ => ⟨S_, .f32⟩
  | .hbm, ⟨30, _⟩ => ⟨S32x16x1024, .f32⟩
  | .hbm, ⟨31, _⟩ => ⟨S512x1024, .f32⟩
  | .hbm, ⟨32, _⟩ => ⟨S1x256, .f32⟩
  | .hbm, ⟨33, _⟩ => ⟨S512x1024, .bf16⟩
  | .hbm, ⟨34, _⟩ => ⟨S32x4x128x256, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x1024, .bf16⟩
  | .local _ .vmem, ⟨7, _⟩ => ⟨S16x1024, .bf16⟩
  | .local _ .vmem, ⟨8, _⟩ => ⟨S16x1024, .f32⟩
  | .local _ .vmem, ⟨9, _⟩ => ⟨S16x1024, .f32⟩
  | .local _ .vmem, ⟨10, _⟩ => ⟨S1x256, .f32⟩
  | .local _ .vmem, ⟨11, _⟩ => ⟨S1x4x128x256, .f32⟩
  | .local _ .vmem, ⟨12, _⟩ => ⟨S1x4x128x256, .f32⟩
  | .local _ .vmem, ⟨13, _⟩ => ⟨S16x1024, .bf16⟩
  | .local _ .vmem, ⟨14, _⟩ => ⟨S16x1024, .bf16⟩
  | .local _ .vmem, ⟨15, _⟩ => ⟨S1x4x128x256, .f32⟩
  | .local _ .vmem, ⟨16, _⟩ => ⟨S1x4x128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_call3_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_call4_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_mult1 : BitVec 32 :=
  let c0_i32_3 : BitVec 32 := 0#32
  let c16_i32 : BitVec 32 := 16#32
  let v11 : BitVec 32 := Scalar.muli c0_i32_3 c16_i32
  v11
def k0_off1 : Fin 2 → Nat :=
  let c0_i32_3 : BitVec 32 := 0#32
  let c16_i32 : BitVec 32 := 16#32
  let v11 : BitVec 32 := Scalar.muli c0_i32_3 c16_i32
  let v12 : BitVec 32 := v11
  let v13 : Index := Scalar.indexCast v12
  let c0_4 : Index := 0#32
  ![v13.toNat, 0]
def k0_off2 : Fin 2 → Nat :=
  let c0_i32_3 : BitVec 32 := 0#32
  let c16_i32 : BitVec 32 := 16#32
  let v11 : BitVec 32 := Scalar.muli c0_i32_3 c16_i32
  let v12 : BitVec 32 := v11
  let v55 : Index := Scalar.indexCast v12
  let c0_16 : Index := 0#32
  ![v55.toNat, 0]
def k0_off3 : Fin 2 → Nat :=
  let c0_i32_3 : BitVec 32 := 0#32
  let c16_i32 : BitVec 32 := 16#32
  let v11 : BitVec 32 := Scalar.muli c0_i32_3 c16_i32
  let v12 : BitVec 32 := v11
  let v104 : Index := Scalar.indexCast v12
  let c256 : Index := 256#32
  ![v104.toNat, 256]
def k0_off4 : Fin 2 → Nat :=
  let c0_i32_3 : BitVec 32 := 0#32
  let c16_i32 : BitVec 32 := 16#32
  let v11 : BitVec 32 := Scalar.muli c0_i32_3 c16_i32
  let v12 : BitVec 32 := v11
  let v153 : Index := Scalar.indexCast v12
  let c512 : Index := 512#32
  ![v153.toNat, 512]
def k0_off5 : Fin 2 → Nat :=
  let c0_i32_3 : BitVec 32 := 0#32
  let c16_i32 : BitVec 32 := 16#32
  let v11 : BitVec 32 := Scalar.muli c0_i32_3 c16_i32
  let v12 : BitVec 32 := v11
  let v202 : Index := Scalar.indexCast v12
  let c768 : Index := 768#32
  ![v202.toNat, 768]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S128x512 : Shape := ⟨2, ![128, 512]⟩
abbrev S128x1024 : Shape := ⟨2, ![128, 1024]⟩
abbrev S256 : Shape := ⟨1, ![256]⟩
abbrev S32x4x128x256 : Shape := ⟨4, ![32, 4, 128, 256]⟩
abbrev S32x4x4x128 : Shape := ⟨4, ![32, 4, 4, 128]⟩
abbrev S32x4x4x256 : Shape := ⟨4, ![32, 4, 4, 256]⟩
abbrev S_ : Shape := ⟨0, ![]⟩
abbrev S4x4 : Shape := ⟨2, ![4, 4]⟩
abbrev S32x4x256x4 : Shape := ⟨4, ![32, 4, 256, 4]⟩
abbrev S32x4x4x4 : Shape := ⟨4, ![32, 4, 4, 4]⟩
abbrev S32x1x4x128 : Shape := ⟨4, ![32, 1, 4, 128]⟩
abbrev S32x4x128 : Shape := ⟨3, ![32, 4, 128]⟩
abbrev S32x4x128x1 : Shape := ⟨4, ![32, 4, 128, 1]⟩
abbrev S32x4x4 : Shape := ⟨3, ![32, 4, 4]⟩
abbrev S32x4x4x1 : Shape := ⟨4, ![32, 4, 4, 1]⟩
abbrev S1x1x1x256 : Shape := ⟨4, ![1, 1, 1, 256]⟩
abbrev S32x4x1024 : Shape := ⟨3, ![32, 4, 1024]⟩
abbrev S32x16x1024 : Shape := ⟨3, ![32, 16, 1024]⟩
abbrev S512x1024 : Shape := ⟨2, ![512, 1024]⟩

abbrev nBuf : Space → Nat
  | .hbm => 88
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x1024, .bf16⟩
  | .hbm, ⟨4, _⟩ => ⟨S128x1024, .f32⟩
  | .hbm, ⟨5, _⟩ => ⟨S256, .f32⟩
  | .hbm, ⟨6, _⟩ => ⟨S32x4x128x256, .f32⟩
  | .hbm, ⟨7, _⟩ => ⟨S32x4x4x128, .f32⟩
  | .hbm, ⟨8, _⟩ => ⟨S32x4x4x128, .f32⟩
  | .hbm, ⟨9, _⟩ => ⟨S128x1024, .f32⟩
  | .hbm, ⟨10, _⟩ => ⟨S32x4x4x256, .f32⟩
  | .hbm, ⟨11, _⟩ => ⟨S32x4x4x128, .f32⟩
  | .hbm, ⟨12, _⟩ => ⟨S_, .i1⟩
  | .hbm, ⟨13, _⟩ => ⟨S4x4, .i1⟩
  | .hbm, ⟨14, _⟩ => ⟨S4x4, .i32⟩
  | .hbm, ⟨15, _⟩ => ⟨S_, .i32⟩
  | .hbm, ⟨16, _⟩ => ⟨S4x4, .i32⟩
  | .hbm, ⟨17, _⟩ => ⟨S4x4, .i32⟩
  | .hbm, ⟨18, _⟩ => ⟨S4x4, .i32⟩
  | .hbm, ⟨19, _⟩ => ⟨S4x4, .i1⟩
  | .hbm, ⟨20, _⟩ => ⟨S_, .i1⟩
  | .hbm, ⟨21, _⟩ => ⟨S4x4, .i1⟩
  | .hbm, ⟨22, _⟩ => ⟨S4x4, .i1⟩
  | .hbm, ⟨23, _⟩ => ⟨S_, .f32⟩
  | .hbm, ⟨24, _⟩ => ⟨S_, .f32⟩
  | .hbm, ⟨25, _⟩ => ⟨S32x4x4x128, .f32⟩
  | .hbm, ⟨26, _⟩ => ⟨S32x4x4x128, .f32⟩
  | .hbm, ⟨27, _⟩ => ⟨S32x4x4x128, .f32⟩
  | .hbm, ⟨28, _⟩ => ⟨S32x4x4x128, .f32⟩
  | .hbm, ⟨29, _⟩ => ⟨S32x4x4x128, .f32⟩
  | .hbm, ⟨30, _⟩ => ⟨S32x4x4x128, .f32⟩
  | .hbm, ⟨31, _⟩ => ⟨S32x4x256x4, .f32⟩
  | .hbm, ⟨32, _⟩ => ⟨S32x4x4x256, .f32⟩
  | .hbm, ⟨33, _⟩ => ⟨S32x4x4x4, .f32⟩
  | .hbm, ⟨34, _⟩ => ⟨S_, .f32⟩
  | .hbm, ⟨35, _⟩ => ⟨S_, .f32⟩
  | .hbm, ⟨36, _⟩ => ⟨S32x4x4x4, .i1⟩
  | .hbm, ⟨37, _⟩ => ⟨S32x4x4x4, .f32⟩
  | .hbm, ⟨38, _⟩ => ⟨S32x4x4x4, .f32⟩
  | .hbm, ⟨39, _⟩ => ⟨S32x4x256x4, .f32⟩
  | .hbm, ⟨40, _⟩ => ⟨S32x4x4x256, .f32⟩
  | .hbm, ⟨41, _⟩ => ⟨S32x1x4x128, .f32⟩
  | .hbm, ⟨42, _⟩ => ⟨S32x4x128, .f32⟩
  | .hbm, ⟨43, _⟩ => ⟨S32x1x4x128, .f32⟩
  | .hbm, ⟨44, _⟩ => ⟨S32x4x4x128, .f32⟩
  | .hbm, ⟨45, _⟩ => ⟨S32x4x4x128, .f32⟩
  | .hbm, ⟨46, _⟩ => ⟨S32x4x4x128, .f32⟩
  | .hbm, ⟨47, _⟩ => ⟨S32x4x4x128, .f32⟩
  | .hbm, ⟨48, _⟩ => ⟨S32x4x128, .f32⟩
  | .hbm, ⟨49, _⟩ => ⟨S32x4x128x1, .f32⟩
  | .hbm, ⟨50, _⟩ => ⟨S32x4x128x256, .f32⟩
  | .hbm, ⟨51, _⟩ => ⟨S32x4x128x256, .f32⟩
  | .hbm, ⟨52, _⟩ => ⟨S32x4x128x256, .f32⟩
  | .hbm, ⟨53, _⟩ => ⟨S32x4x128x256, .f32⟩
  | .hbm, ⟨54, _⟩ => ⟨S32x4x4x256, .f32⟩
  | .hbm, ⟨55, _⟩ => ⟨S32x4x4x256, .f32⟩
  | .hbm, ⟨56, _⟩ => ⟨S_, .f32⟩
  | .hbm, ⟨57, _⟩ => ⟨S32x4x4, .f32⟩
  | .hbm, ⟨58, _⟩ => ⟨S32x4x4x1, .f32⟩
  | .hbm, ⟨59, _⟩ => ⟨S_, .f32⟩
  | .hbm, ⟨60, _⟩ => ⟨S32x4x4x1, .f32⟩
  | .hbm, ⟨61, _⟩ => ⟨S32x4x4x1, .f32⟩
  | .hbm, ⟨62, _⟩ => ⟨S_, .f32⟩
  | .hbm, ⟨63, _⟩ => ⟨S32x4x4x1, .f32⟩
  | .hbm, ⟨64, _⟩ => ⟨S32x4x4x1, .f32⟩
  | .hbm, ⟨65, _⟩ => ⟨S32x4x4x1, .f32⟩
  | .hbm, ⟨66, _⟩ => ⟨S32x4x4x256, .f32⟩
  | .hbm, ⟨67, _⟩ => ⟨S32x4x4x256, .f32⟩
  | .hbm, ⟨68, _⟩ => ⟨S1x1x1x256, .f32⟩
  | .hbm, ⟨69, _⟩ => ⟨S32x4x4x256, .f32⟩
  | .hbm, ⟨70, _⟩ => ⟨S32x4x4x256, .f32⟩
  | .hbm, ⟨71, _⟩ => ⟨S128x1024, .f32⟩
  | .hbm, ⟨72, _⟩ => ⟨S128x1024, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S32x4x4x256, .f32⟩
  | .hbm, ⟨81, _⟩ => ⟨S32x4x4x256, .f32⟩
  | .hbm, ⟨82, _⟩ => ⟨S32x4x1024, .f32⟩
  | .hbm, ⟨83, _⟩ => ⟨S_, .i32⟩
  | .hbm, ⟨84, _⟩ => ⟨S_, .f32⟩
  | .hbm, ⟨85, _⟩ => ⟨S32x16x1024, .f32⟩
  | .hbm, ⟨86, _⟩ => ⟨S512x1024, .f32⟩
  | .hbm, ⟨87, _⟩ => ⟨S512x1024, .bf16⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v6 : Ref sig .tc := ⟨.hbm, 22, rfl⟩
abbrev main_call1_call0_cst : Ref sig .tc := ⟨.hbm, 23, rfl⟩
abbrev main_call1_call0_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_0 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_cst_2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call3_v0 : Ref sig .tc := ⟨.hbm, 71, rfl⟩
abbrev main_call3_v1 : Ref sig .tc := ⟨.hbm, 72, rfl⟩
abbrev main_call3_cst : Ref sig .tc := ⟨.hbm, 73, rfl⟩
abbrev main_call3_v2 : Ref sig .tc := ⟨.hbm, 74, rfl⟩
abbrev main_call3_v3 : Ref sig .tc := ⟨.hbm, 75, rfl⟩
abbrev main_call3_cst_0 : Ref sig .tc := ⟨.hbm, 76, rfl⟩
abbrev main_call3_v4 : Ref sig .tc := ⟨.hbm, 77, rfl⟩
abbrev main_call3_v5 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_3 : Ref sig .tc := ⟨.hbm, 83, rfl⟩
abbrev main_call4_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩

abbrev nD : Nat := 1
abbrev τ : Topo := Topo.v7x

variable {F : FTy → Type} [FloatOps F]
-- ==== InSample.lean ====
abbrev S32x4x1024 : Shape := ⟨3, ![32, 4, 1024]⟩
abbrev S32x6144 : Shape := ⟨2, ![32, 6144]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S64 : Shape := ⟨1, ![64]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x4608 : Shape := ⟨2, ![1024, 4608]⟩
abbrev S1024x4736 : Shape := ⟨2, ![1024, 4736]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S128x512 : Shape := ⟨2, ![128, 512]⟩
abbrev S128x1024 : Shape := ⟨2, ![128, 1024]⟩
abbrev S32x4x6144 : Shape := ⟨3, ![32, 4, 6144]⟩
abbrev S128x6144 : Shape := ⟨2, ![128, 6144]⟩
abbrev S128 : Shape := ⟨1, ![128]⟩
abbrev S128x1 : Shape := ⟨2, ![128, 1]⟩
abbrev S1024x1536 : Shape := ⟨2, ![1024, 1536]⟩
abbrev S128x1536 : Shape := ⟨2, ![128, 1536]⟩
abbrev S1024x1024 : Shape := ⟨2, ![1024, 1024]⟩
abbrev S128x128 : Shape := ⟨2, ![128, 128]⟩

abbrev nBuf : Space → Nat
  | .hbm => 65
  | .vmem => 17
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x6672, .f32⟩
  | .hbm, ⟨4, _⟩ => ⟨S16x512, .f32⟩
  | .hbm, ⟨5, _⟩ => ⟨S512, .f32⟩
  | .hbm, ⟨6, _⟩ => ⟨S64, .f32⟩
  | .hbm, ⟨7, _⟩ => ⟨S64, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S1x1024, .f32⟩
  | .hbm, ⟨32, _⟩ => ⟨S1024x4608, .f32⟩
  | .hbm, ⟨33, _⟩ => ⟨S1024x4736, .f32⟩
  | .hbm, ⟨34, _⟩ => ⟨S1024x4736, .bf16⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S_, .i32⟩
  | .hbm, ⟨50, _⟩ => ⟨S_, .f32⟩
  | .hbm, ⟨51, _⟩ => ⟨S128x512, .f32⟩
  | .hbm, ⟨52, _⟩ => ⟨S128x512, .bf16⟩
  | .hbm, ⟨53, _⟩ => ⟨S1x512, .f32⟩
  | .hbm, ⟨54, _⟩ => ⟨S128x1024, .f32⟩
  | .hbm, ⟨55, _⟩ => ⟨S32x4x6144, .f32⟩
  | .hbm, ⟨56, _⟩ => ⟨S128x6144, .f32⟩
  | .hbm, ⟨57, _⟩ => ⟨S128x512, .f32⟩
  | .hbm, ⟨58, _⟩ => ⟨S128x512, .f32⟩
  | .hbm, ⟨59, _⟩ => ⟨S128x512, .f32⟩
  | .hbm, ⟨60, _⟩ => ⟨S128x512, .f32⟩
  | .hbm, ⟨61, _⟩ => ⟨S128x512, .f32⟩
  | .hbm, ⟨62, _⟩ => ⟨S128x1024, .bf16⟩
  | .hbm, ⟨63, _⟩ => ⟨S128x1024, .f32⟩
  | .hbm, ⟨64, _⟩ => ⟨S128x512, .f32⟩
  | .local _ .vmem, ⟨0, _⟩ => ⟨S128x1024, .f32⟩
  | .local _ .vmem, ⟨1, _⟩ => ⟨S128x6144, .f32⟩
  | .local _ .vmem, ⟨2, _⟩ => ⟨S1x1024, .f32⟩
  | .local _ .vmem, ⟨3, _⟩ => ⟨S1024x4736, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S128x512, .bf16⟩
  | .local _ .vmem, ⟨8, _⟩ => ⟨S1x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x1024, .bf16⟩
  | .local _ .vmem, ⟨15, _⟩ => ⟨S128x1024, .f32⟩
  | .local _ .vmem, ⟨16, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_call2_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28_0 : Ref sig .tc := ⟨.hbm, 57, rfl⟩
abbrev main_v28_1 : Ref sig .tc := ⟨.hbm, 58, rfl⟩
abbrev main_v28_2 : Ref sig .tc := ⟨.hbm, 59, rfl⟩
abbrev main_v28_3 : Ref sig .tc := ⟨.hbm, 60, rfl⟩
abbrev main_v28_4 : Ref sig .tc := ⟨.hbm, 61, rfl⟩
abbrev main_v28_5 : Ref sig .tc := ⟨.hbm, 62, rfl⟩
abbrev main_v28_6 : Ref sig .tc := ⟨.hbm, 63, rfl⟩
abbrev main_v28_7 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4736 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== InSampleRefIdeal.lean ====
abbrev S32x4x1024 : Shape := ⟨3, ![32, 4, 1024]⟩
abbrev S32x6144 : Shape := ⟨2, ![32, 6144]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S64 : Shape := ⟨1, ![64]⟩
abbrev S32x1x6144 : Shape := ⟨3, ![32, 1, 6144]⟩
abbrev S32x1x1024 : Shape := ⟨3, ![32, 1, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x6672 : Shape := ⟨3, ![32, 4, 6672]⟩
abbrev S32x4x512 : Shape := ⟨3, ![32, 4, 512]⟩
abbrev S32x4x16 : Shape := ⟨3, ![32, 4, 16]⟩
abbrev S32x4x8x64 : Shape := ⟨4, ![32, 4, 8, 64]⟩
abbrev S32x4x8 : Shape := ⟨3, ![32, 4, 8]⟩
abbrev S32x4x8x1 : Shape := ⟨4, ![32, 4, 8, 1]⟩
abbrev S1x1x1x64 : Shape := ⟨4, ![1, 1, 1, 64]⟩
abbrev S1x1x512 : Shape := ⟨3, ![1, 1, 512]⟩
abbrev S128x512 : Shape := ⟨2, ![128, 512]⟩
abbrev S128x1024 : Shape := ⟨2, ![128, 1024]⟩

abbrev nBuf : Space → Nat
  | .hbm => 122
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x6144, .f32⟩
  | .hbm, ⟨2, _⟩ => ⟨S1024, .f32⟩
  | .hbm, ⟨3, _⟩ => ⟨S1024x6672, .f32⟩
  | .hbm, ⟨4, _⟩ => ⟨S16x512, .f32⟩
  | .hbm, ⟨5, _⟩ => ⟨S512, .f32⟩
  | .hbm, ⟨6, _⟩ => ⟨S64, .f32⟩
  | .hbm, ⟨7, _⟩ => ⟨S64, .f32⟩
  | .hbm, ⟨8, _⟩ => ⟨S32x1x6144, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x1x1024, .f32⟩
  | .hbm, ⟨14, _⟩ => ⟨S32x1x1024, .f32⟩
  | .hbm, ⟨15, _⟩ => ⟨S32x4x1024, .f32⟩
  | .hbm, ⟨16, _⟩ => ⟨S_, .f32⟩
  | .hbm, ⟨17, _⟩ => ⟨S32x4, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S32x4x1, .f32⟩
  | .hbm, ⟨26, _⟩ => ⟨S32x4x1024, .f32⟩
  | .hbm, ⟨27, _⟩ => ⟨S32x4x1024, .f32⟩
  | .hbm, ⟨28, _⟩ => ⟨S1x1x1024, .f32⟩
  | .hbm, ⟨29, _⟩ => ⟨S32x4x1024, .f32⟩
  | .hbm, ⟨30, _⟩ => ⟨S32x4x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x4x1024, .f32⟩
  | .hbm, ⟨35, _⟩ => ⟨S32x4x1024, .f32⟩
  | .hbm, ⟨36, _⟩ => ⟨S32x4x1024, .f32⟩
  | .hbm, ⟨37, _⟩ => ⟨S32x4x1024, .f32⟩
  | .hbm, ⟨38, _⟩ => ⟨S32x4x6672, .f32⟩
  | .hbm, ⟨39, _⟩ => ⟨S32x4x512, .f32⟩
  | .hbm, ⟨40, _⟩ => ⟨S32x4x512, .f32⟩
  | .hbm, ⟨41, _⟩ => ⟨S32x4x512, .f32⟩
  | .hbm, ⟨42, _⟩ => ⟨S32x4x512, .f32⟩
  | .hbm, ⟨43, _⟩ => ⟨S32x4x512, .f32⟩
  | .hbm, ⟨44, _⟩ => ⟨S32x4x1024, .f32⟩
  | .hbm, ⟨45, _⟩ => ⟨S32x4x1024, .f32⟩
  | .hbm, ⟨46, _⟩ => ⟨S32x4x16, .f32⟩
  | .hbm, ⟨47, _⟩ => ⟨S32x4x1024, .f32⟩
  | .hbm, ⟨48, _⟩ => ⟨S32x4x1024, .f32⟩
  | .hbm, ⟨49, _⟩ => ⟨S32x4x8x64, .f32⟩
  | .hbm, ⟨50, _⟩ => ⟨S32x4x8x64, .f32⟩
  | .hbm, ⟨51, _⟩ => ⟨S_, .f32⟩
  | .hbm, ⟨52, _⟩ => ⟨S32x4x8, .f32⟩
  | .hbm, ⟨53, _⟩ => ⟨S32x4x8x1, .f32⟩
  | .hbm, ⟨54, _⟩ => ⟨S_, .f32⟩
  | .hbm, ⟨55, _⟩ => ⟨S32x4x8x1, .f32⟩
  | .hbm, ⟨56, _⟩ => ⟨S32x4x8x1, .f32⟩
  | .hbm, ⟨57, _⟩ => ⟨S_, .f32⟩
  | .hbm, ⟨58, _⟩ => ⟨S32x4x8x1, .f32⟩
  | .hbm, ⟨59, _⟩ => ⟨S32x4x8x1, .f32⟩
  | .hbm, ⟨60, _⟩ => ⟨S32x4x8x1, .f32⟩
  | .hbm, ⟨61, _⟩ => ⟨S32x4x8x64, .f32⟩
  | .hbm, ⟨62, _⟩ => ⟨S32x4x8x64, .f32⟩
  | .hbm, ⟨63, _⟩ => ⟨S1x1x1x64, .f32⟩
  | .hbm, ⟨64, _⟩ => ⟨S32x4x8x64, .f32⟩
  | .hbm, ⟨65, _⟩ => ⟨S32x4x8x64, .f32⟩
  | .hbm, ⟨66, _⟩ => ⟨S32x4x8x64, .f32⟩
  | .hbm, ⟨67, _⟩ => ⟨S32x4x8x64, .f32⟩
  | .hbm, ⟨68, _⟩ => ⟨S_, .f32⟩
  | .hbm, ⟨69, _⟩ => ⟨S32x4x8, .f32⟩
  | .hbm, ⟨70, _⟩ => ⟨S32x4x8x1, .f32⟩
  | .hbm, ⟨71, _⟩ => ⟨S_, .f32⟩
  | .hbm, ⟨72, _⟩ => ⟨S32x4x8x1, .f32⟩
  | .hbm, ⟨73, _⟩ => ⟨S32x4x8x1, .f32⟩
  | .hbm, ⟨74, _⟩ => ⟨S_, .f32⟩
  | .hbm, ⟨75, _⟩ => ⟨S32x4x8x1, .f32⟩
  | .hbm, ⟨76, _⟩ => ⟨S32x4x8x1, .f32⟩
  | .hbm, ⟨77, _⟩ => ⟨S32x4x8x1, .f32⟩
  | .hbm, ⟨78, _⟩ => ⟨S32x4x8x64, .f32⟩
  | .hbm, ⟨79, _⟩ => ⟨S32x4x8x64, .f32⟩
  | .hbm, ⟨80, _⟩ => ⟨S1x1x1x64, .f32⟩
  | .hbm, ⟨81, _⟩ => ⟨S32x4x8x64, .f32⟩
  | .hbm, ⟨82, _⟩ => ⟨S32x4x8x64, .f32⟩
  | .hbm, ⟨83, _⟩ => ⟨S32x4x8x64, .f32⟩
  | .hbm, ⟨84, _⟩ => ⟨S32x4x512, .f32⟩
  | .hbm, ⟨85, _⟩ => ⟨S1x1x512, .f32⟩
  | .hbm, ⟨86, _⟩ => ⟨S32x4x512, .f32⟩
  | .hbm, ⟨87, _⟩ => ⟨S32x4x512, .f32⟩
  | .hbm, ⟨88, _⟩ => ⟨S32x4x512, .f32⟩
  | .hbm, ⟨89, _⟩ => ⟨S_, .f32⟩
  | .hbm, ⟨90, _⟩ => ⟨S32x4x512, .f32⟩
  | .hbm, ⟨91, _⟩ => ⟨S32x4x512, .f32⟩
  | .hbm, ⟨92, _⟩ => ⟨S32x4x512, .f32⟩
  | .hbm, ⟨93, _⟩ => ⟨S32x4x512, .f32⟩
  | .hbm, ⟨94, _⟩ => ⟨S32x4x512, .i1⟩
  | .hbm, ⟨95, _⟩ => ⟨S32x4x512, .f32⟩
  | .hbm, ⟨96, _⟩ => ⟨S32x4x512, .f32⟩
  | .hbm, ⟨97, _⟩ => ⟨S32x4x512, .f32⟩
  | .hbm, ⟨98, _⟩ => ⟨S32x4x512, .f32⟩
  | .hbm, ⟨99, _⟩ => ⟨S32x4x512, .f32⟩
  | .hbm, ⟨100, _⟩ => ⟨S32x4x512, .f32⟩
  | .hbm, ⟨101, _⟩ => ⟨S32x4x512, .f32⟩
  | .hbm, ⟨102, _⟩ => ⟨S32x4x512, .f32⟩
  | .hbm, ⟨103, _⟩ => ⟨S32x4x512, .f32⟩
  | .hbm, ⟨104, _⟩ => ⟨S_, .f32⟩
  | .hbm, ⟨105, _⟩ => ⟨S32x4x512, .f32⟩
  | .hbm, ⟨106, _⟩ => ⟨S32x4x512, .f32⟩
  | .hbm, ⟨107, _⟩ => ⟨S_, .f32⟩
  | .hbm, ⟨108, _⟩ => ⟨S32x4x512, .f32⟩
  | .hbm, ⟨109, _⟩ => ⟨S32x4x512, .f32⟩
  | .hbm, ⟨110, _⟩ => ⟨S_, .f32⟩
  | .hbm, ⟨111, _⟩ => ⟨S32x4x8x64, .f32⟩
  | .hbm, ⟨112, _⟩ => ⟨S32x4x8x64, .f32⟩
  | .hbm, ⟨113, _⟩ => ⟨S128x512, .f32⟩
  | .hbm, ⟨114, _⟩ => ⟨S128x512, .f32⟩
  | .hbm, ⟨115, _⟩ => ⟨S128x512, .f32⟩
  | .hbm, ⟨116, _⟩ => ⟨S128x512, .f32⟩
  | .hbm, ⟨117, _⟩ => ⟨S128x512, .f32⟩
  | .hbm, ⟨118, _⟩ => ⟨S128x1024, .f32⟩
  | .hbm, ⟨119, _⟩ => ⟨S128x1024, .bf16⟩
  | .hbm, ⟨120, _⟩ => ⟨S128x1024, .f32⟩
  | .hbm, ⟨121, _⟩ => ⟨S128x512, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_cst_10 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== InPrompt.lean ====
abbrev S8x4096x1024 : Shape := ⟨3, ![8, 4096, 1024]⟩
abbrev S8x6144 : Shape := ⟨2, ![8, 6144]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S64 : Shape := ⟨1, ![64]⟩
abbrev S1024x16 : Shape := ⟨2, ![1024, 16]⟩
abbrev S_ : Shape := ⟨0, ![]⟩
abbrev S1024x128 : Shape := ⟨2, ![1024, 128]⟩
abbrev S1x1024 : Shape := ⟨2, ![1, 1024]⟩
abbrev S1024x4608 : Shape := ⟨2, ![1024, 4608]⟩
abbrev S1024x4736 : Shape := ⟨2, ![1024, 4736]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S128x512 : Shape := ⟨2, ![128, 512]⟩
abbrev S32768x1024 : Shape := ⟨2, ![32768, 1024]⟩
abbrev S8x1x6144 : Shape := ⟨3, ![8, 1, 6144]⟩
abbrev S512x32768 : Shape := ⟨2, ![512, 32768]⟩
abbrev S8x32768x64 : Shape := ⟨3, ![8, 32768, 64]⟩
abbrev S128x1x512 : Shape := ⟨3, ![128, 1, 512]⟩
abbrev S8x512x4096 : Shape := ⟨3, ![8, 512, 4096]⟩
abbrev S32768x512 : Shape := ⟨2, ![32768, 512]⟩
abbrev S256x1024 : Shape := ⟨2, ![256, 1024]⟩
abbrev S1x1x6144 : Shape := ⟨3, ![1, 1, 6144]⟩
abbrev S512x256 : Shape := ⟨2, ![512, 256]⟩
abbrev S8x256x64 : Shape := ⟨3, ![8, 256, 64]⟩
abbrev S1x1x512 : Shape := ⟨3, ![1, 1, 512]⟩
abbrev S1x512x256 : Shape := ⟨3, ![1, 512, 256]⟩
abbrev S256x512 : Shape := ⟨2, ![256, 512]⟩
abbrev S1x1x1024 : Shape := ⟨3, ![1, 1, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S256x64 : Shape := ⟨2, ![256, 64]⟩
abbrev S1x256x64 : Shape := ⟨3, ![1, 256, 64]⟩
abbrev S1024x1024 : Shape := ⟨2, ![1024, 1024]⟩
abbrev S256x128 : Shape := ⟨2, ![256, 128]⟩

abbrev nBuf : Space → Nat
  | .hbm => 67
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x6672, .f32⟩
  | .hbm, ⟨4, _⟩ => ⟨S16x512, .f32⟩
  | .hbm, ⟨5, _⟩ => ⟨S512, .f32⟩
  | .hbm, ⟨6, _⟩ => ⟨S64, .f32⟩
  | .hbm, ⟨7, _⟩ => ⟨S64, .f32⟩
  | .hbm, ⟨8, _⟩ => ⟨S1024x16, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S1x1024, .f32⟩
  | .hbm, ⟨32, _⟩ => ⟨S1024x4608, .f32⟩
  | .hbm, ⟨33, _⟩ => ⟨S1024x4736, .f32⟩
  | .hbm, ⟨34, _⟩ => ⟨S1024x4736, .bf16⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S_, .i32⟩
  | .hbm, ⟨50, _⟩ => ⟨S_, .f32⟩
  | .hbm, ⟨51, _⟩ => ⟨S128x512, .f32⟩
  | .hbm, ⟨52, _⟩ => ⟨S128x512, .bf16⟩
  | .hbm, ⟨53, _⟩ => ⟨S1x512, .f32⟩
  | .hbm, ⟨54, _⟩ => ⟨S32768x1024, .f32⟩
  | .hbm, ⟨55, _⟩ => ⟨S8x1x6144, .f32⟩
  | .hbm, ⟨56, _⟩ => ⟨S512x32768, .bf16⟩
  | .hbm, ⟨57, _⟩ => ⟨S8x32768x64, .bf16⟩
  | .hbm, ⟨58, _⟩ => ⟨S512x32768, .bf16⟩
  | .hbm, ⟨59, _⟩ => ⟨S128x1x512, .f32⟩
  | .hbm, ⟨60, _⟩ => ⟨S8x512x4096, .f32⟩
  | .hbm, ⟨61, _⟩ => ⟨S8x512x4096, .f32⟩
  | .hbm, ⟨62, _⟩ => ⟨S32768x512, .f32⟩
  | .hbm, ⟨63, _⟩ => ⟨S32768x512, .f32⟩
  | .hbm, ⟨64, _⟩ => ⟨S32768x1024, .bf16⟩
  | .hbm, ⟨65, _⟩ => ⟨S32768x1024, .f32⟩
  | .hbm, ⟨66, _⟩ => ⟨S32768x512, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4736, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S128x512, .bf16⟩
  | .local _ .vmem, ⟨10, _⟩ => ⟨S1x512, .f32⟩
  | .local _ .vmem, ⟨11, _⟩ => ⟨S512x256, .bf16⟩
  | .local _ .vmem, ⟨12, _⟩ => ⟨S512x256, .bf16⟩
  | .local _ .vmem, ⟨13, _⟩ => ⟨S8x256x64, .bf16⟩
  | .local _ .vmem, ⟨14, _⟩ => ⟨S8x256x64, .bf16⟩
  | .local _ .vmem, ⟨15, _⟩ => ⟨S512x256, .bf16⟩
  | .local _ .vmem, ⟨16, _⟩ => ⟨S512x256, .bf16⟩
  | .local _ .vmem, ⟨17, _⟩ => ⟨S1x1x512, .f32⟩
  | .local _ .vmem, ⟨18, _⟩ => ⟨S1x1x512, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S256x512, .f32⟩
  | .local _ .vmem, ⟨32, _⟩ => ⟨S256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_1 : Ref sig .tc := ⟨.hbm, 49, rfl⟩
abbrev main_call2_v0 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27_0 : Ref sig .tc := ⟨.hbm, 56, rfl⟩
abbrev main_v27_1 : Ref sig .tc := ⟨.hbm, 57, rfl⟩
abbrev main_v27_2 : Ref sig .tc := ⟨.hbm, 58, rfl⟩
abbrev main_v27_3 : Ref sig .tc := ⟨.hbm, 59, rfl⟩
abbrev main_v27_4 : Ref sig .tc := ⟨.hbm, 60, rfl⟩
abbrev main_v27_5 : Ref sig .tc := ⟨.hbm, 61, rfl⟩
abbrev main_v27_6 : Ref sig .tc := ⟨.hbm, 62, rfl⟩
abbrev main_v27_7 : Ref sig .tc := ⟨.hbm, 63, rfl⟩
abbrev main_v27_8 : Ref sig .tc := ⟨.hbm, 64, rfl⟩
abbrev main_v27_9 : Ref sig .tc := ⟨.hbm, 65, rfl⟩
abbrev main_v27_10 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4736 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InPromptRefIdeal.lean ====
abbrev S8x4096x1024 : Shape := ⟨3, ![8, 4096, 1024]⟩
abbrev S8x6144 : Shape := ⟨2, ![8, 6144]⟩
abbrev S1024 : Shape := ⟨1, ![1024]⟩
abbrev S1024x6672 : Shape := ⟨2, ![1024, 6672]⟩
abbrev S16x512 : Shape := ⟨2, ![16, 512]⟩
abbrev S512 : Shape := ⟨1, ![512]⟩
abbrev S64 : Shape := ⟨1, ![64]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6672 : Shape := ⟨3, ![8, 4096, 6672]⟩
abbrev S8x4096x512 : Shape := ⟨3, ![8, 4096, 512]⟩
abbrev S8x4096x16 : Shape := ⟨3, ![8, 4096, 16]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x1x512 : Shape := ⟨3, ![1, 1, 512]⟩
abbrev S128x256x8x64 : Shape := ⟨4, ![128, 256, 8, 64]⟩
abbrev S128x8x64 : Shape := ⟨3, ![128, 8, 64]⟩
abbrev S32768x512 : Shape := ⟨2, ![32768, 512]⟩
abbrev S512x32768 : Shape := ⟨2, ![512, 32768]⟩
abbrev S32768x8x64 : Shape := ⟨3, ![32768, 8, 64]⟩
abbrev S8x32768x64 : Shape := ⟨3, ![8, 32768, 64]⟩
abbrev S128x1x512 : Shape := ⟨3, ![128, 1, 512]⟩
abbrev S8x512x4096 : Shape := ⟨3, ![8, 512, 4096]⟩
abbrev S32768x1024 : Shape := ⟨2, ![32768, 1024]⟩

abbrev nBuf : Space → Nat
  | .hbm => 139
  | .vmem => 0
  | .smem => 0
  | _ => 0

abbrev hbmTy0_0 (i : Nat) : BufTy := match i % 128 with
  | 0 => ⟨S8x4096x1024, .f32⟩
  | 1 => ⟨S8x6144, .f32⟩
  | 2 => ⟨S1024, .f32⟩
  | 3 => ⟨S1024x6672, .f32⟩
  | 4 => ⟨S16x512, .f32⟩
  | 5 => ⟨S512, .f32⟩
  | 6 => ⟨S64, .f32⟩
  | 7 => ⟨S64, .f32⟩
  | 8 => ⟨S8x1x6144, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x4096x1024, .f32⟩
  | 37 => ⟨S8x4096x1024, .f32⟩
  | 38 => ⟨S8x4096x6672, .f32⟩
  | 39 => ⟨S8x4096x512, .f32⟩
  | 40 => ⟨S8x4096x512, .f32⟩
  | 41 => ⟨S8x4096x512, .f32⟩
  | 42 => ⟨S8x4096x512, .f32⟩
  | 43 => ⟨S8x4096x512, .f32⟩
  | 44 => ⟨S8x4096x1024, .f32⟩
  | 45 => ⟨S8x4096x1024, .f32⟩
  | 46 => ⟨S8x4096x16, .f32⟩
  | 47 => ⟨S8x4096x1024, .f32⟩
  | 48 => ⟨S8x4096x1024, .f32⟩
  | 49 => ⟨S8x4096x8x64, .f32⟩
  | 50 => ⟨S8x4096x8x64, .f32⟩
  | 51 => ⟨S_, .f32⟩
  | 52 => ⟨S8x4096x8, .f32⟩
  | 53 => ⟨S8x4096x8x1, .f32⟩
  | 54 => ⟨S_, .f32⟩
  | 55 => ⟨S8x4096x8x1, .f32⟩
  | 56 => ⟨S8x4096x8x1, .f32⟩
  | 57 => ⟨S_, .f32⟩
  | 58 => ⟨S8x4096x8x1, .f32⟩
  | 59 => ⟨S8x4096x8x1, .f32⟩
  | 60 => ⟨S8x4096x8x1, .f32⟩
  | 61 => ⟨S8x4096x8x64, .f32⟩
  | 62 => ⟨S8x4096x8x64, .f32⟩
  | 63 => ⟨S1x1x1x64, .f32⟩
  | 64 => ⟨S8x4096x8x64, .f32⟩
  | 65 => ⟨S8x4096x8x64, .f32⟩
  | 66 => ⟨S8x4096x8x64, .f32⟩
  | 67 => ⟨S8x4096x8x64, .f32⟩
  | 68 => ⟨S_, .f32⟩
  | 69 => ⟨S8x4096x8, .f32⟩
  | 70 => ⟨S8x4096x8x1, .f32⟩
  | 71 => ⟨S_, .f32⟩
  | 72 => ⟨S8x4096x8x1, .f32⟩
  | 73 => ⟨S8x4096x8x1, .f32⟩
  | 74 => ⟨S_, .f32⟩
  | 75 => ⟨S8x4096x8x1, .f32⟩
  | 76 => ⟨S8x4096x8x1, .f32⟩
  | 77 => ⟨S8x4096x8x1, .f32⟩
  | 78 => ⟨S8x4096x8x64, .f32⟩
  | 79 => ⟨S8x4096x8x64, .f32⟩
  | 80 => ⟨S1x1x1x64, .f32⟩
  | 81 => ⟨S8x4096x8x64, .f32⟩
  | 82 => ⟨S8x4096x8x64, .f32⟩
  | 83 => ⟨S8x4096x8x64, .f32⟩
  | 84 => ⟨S8x4096x512, .f32⟩
  | 85 => ⟨S1x1x512, .f32⟩
  | 86 => ⟨S8x4096x512, .f32⟩
  | 87 => ⟨S8x4096x512, .f32⟩
  | 88 => ⟨S8x4096x512, .f32⟩
  | 89 => ⟨S_, .f32⟩
  | 90 => ⟨S8x4096x512, .f32⟩
  | 91 => ⟨S8x4096x512, .f32⟩
  | 92 => ⟨S8x4096x512, .f32⟩
  | 93 => ⟨S8x4096x512, .f32⟩
  | 94 => ⟨S8x4096x512, .i1⟩
  | 95 => ⟨S8x4096x512, .f32⟩
  | 96 => ⟨S8x4096x512, .f32⟩
  | 97 => ⟨S8x4096x512, .f32⟩
  | 98 => ⟨S8x4096x512, .f32⟩
  | 99 => ⟨S8x4096x512, .f32⟩
  | 100 => ⟨S8x4096x512, .f32⟩
  | 101 => ⟨S8x4096x512, .f32⟩
  | 102 => ⟨S8x4096x512, .f32⟩
  | 103 => ⟨S8x4096x512, .f32⟩
  | 104 => ⟨S_, .f32⟩
  | 105 => ⟨S8x4096x512, .f32⟩
  | 106 => ⟨S8x4096x512, .f32⟩
  | 107 => ⟨S_, .f32⟩
  | 108 => ⟨S8x4096x512, .f32⟩
  | 109 => ⟨S8x4096x512, .f32⟩
  | 110 => ⟨S_, .f32⟩
  | 111 => ⟨S8x4096x8x64, .f32⟩
  | 112 => ⟨S8x4096x8x64, .f32⟩
  | 113 => ⟨S128x256x8x64, .f32⟩
  | 114 => ⟨S_, .f32⟩
  | 115 => ⟨S128x8x64, .f32⟩
  | 116 => ⟨S_, .f32⟩
  | 117 => ⟨S128x8x64, .f32⟩
  | 118 => ⟨S128x8x64, .f32⟩
  | 119 => ⟨S32768x512, .f32⟩
  | 120 => ⟨S512x32768, .f32⟩
  | 121 => ⟨S512x32768, .bf16⟩
  | 122 => ⟨S32768x8x64, .f32⟩
  | 123 => ⟨S8x32768x64, .f32⟩
  | 124 => ⟨S8x32768x64, .bf16⟩
  | 125 => ⟨S32768x512, .f32⟩
  | 126 => ⟨S512x32768, .f32⟩
  | 127 => ⟨S512x32768, .bf16⟩
  | _ => ⟨S8x4096x1024, .f32⟩

abbrev hbmTy0_1 (i : Nat) : BufTy := match i % 128 with
  | 0 => ⟨S128x1x512, .f32⟩
  | 1 => ⟨S8x4096x512, .f32⟩
  | 2 => ⟨S8x512x4096, .f32⟩
  | 3 => ⟨S8x4096x512, .f32⟩
  | 4 => ⟨S8x512x4096, .f32⟩
  | 5 => ⟨S32768x512, .f32⟩
  | 6 => ⟨S32768x512, .f32⟩
  | 7 => ⟨S32768x1024, .f32⟩
  | 8 => ⟨S32768x1024, .bf16⟩
  | 9 => ⟨S32768x1024, .f32⟩
  | 10 => ⟨S32768x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_call0_v0 : Ref sig .tc := ⟨.hbm, 88, rfl⟩
abbrev main_call0_call0_cst : Ref sig .tc := ⟨.hbm, 89, rfl⟩
abbrev main_call0_call0_v0 : Ref sig .tc := ⟨.hbm, 90, rfl⟩
abbrev main_call0_call0_v1 : Ref sig .tc := ⟨.hbm, 91, rfl⟩
abbrev main_call0_call0_v2 : Ref sig .tc := ⟨.hbm, 92, rfl⟩
abbrev main_call0_call0_v3 : Ref sig .tc := ⟨.hbm, 93, rfl⟩
abbrev main_call0_call0_v4 : Ref sig .tc := ⟨.hbm, 94, rfl⟩
abbrev main_call0_call0_v5 : Ref sig .tc := ⟨.hbm, 95, rfl⟩
abbrev main_call0_call0_v6 : Ref sig .tc := ⟨.hbm, 96, rfl⟩
abbrev main_call0_call0_v7 : Ref sig .tc := ⟨.hbm, 97, rfl⟩
abbrev main_call0_call0_v8 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_v1 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_cst_10 : Ref sig .tc := ⟨.hbm, 107, rfl⟩
abbrev main_v73 : Ref sig .tc := ⟨.hbm, 108, rfl⟩
abbrev main_v74 : Ref sig .tc := ⟨.hbm, 109, rfl⟩
abbrev main_cst_11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_12 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== Post.lean ====
abbrev S8x4096x1024 : Shape := ⟨3, ![8, 4096, 1024]⟩
abbrev S8x6144 : Shape := ⟨2, ![8, 6144]⟩
abbrev S32768x512 : Shape := ⟨2, ![32768, 512]⟩
abbrev S32768x1024 : Shape := ⟨2, ![32768, 1024]⟩
abbrev S1024 : Shape := ⟨1, ![1024]⟩
abbrev S1024x6672 : Shape := ⟨2, ![1024, 6672]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S1x1024 : Shape := ⟨2, ![1, 1024]⟩
abbrev S1024x2048 : Shape := ⟨2, ![1024, 2048]⟩
abbrev S1024x36 : Shape := ⟨2, ![1024, 36]⟩
abbrev S_ : Shape := ⟨0, ![]⟩
abbrev S1024x128 : Shape := ⟨2, ![1024, 128]⟩
abbrev S36 : Shape := ⟨1, ![36]⟩
abbrev S128 : Shape := ⟨1, ![128]⟩
abbrev S1x128 : Shape := ⟨2, ![1, 128]⟩
abbrev S8x1x6144 : Shape := ⟨3, ![8, 1, 6144]⟩
abbrev S32768x128 : Shape := ⟨2, ![32768, 128]⟩
abbrev S256x1024 : Shape := ⟨2, ![256, 1024]⟩
abbrev S1x1x6144 : Shape := ⟨3, ![1, 1, 6144]⟩
abbrev S256x512 : Shape := ⟨2, ![256, 512]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩

abbrev nBuf : Space → Nat
  | .hbm => 37
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S32768x512, .bf16⟩
  | .hbm, ⟨3, _⟩ => ⟨S32768x1024, .bf16⟩
  | .hbm, ⟨4, _⟩ => ⟨S1024, .f32⟩
  | .hbm, ⟨5, _⟩ => ⟨S1024, .f32⟩
  | .hbm, ⟨6, _⟩ => ⟨S1024x6672, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S1x1024, .f32⟩
  | .hbm, ⟨15, _⟩ => ⟨S1x1024, .f32⟩
  | .hbm, ⟨16, _⟩ => ⟨S1024x2048, .f32⟩
  | .hbm, ⟨17, _⟩ => ⟨S1024x2048, .bf16⟩
  | .hbm, ⟨18, _⟩ => ⟨S512x1024, .bf16⟩
  | .hbm, ⟨19, _⟩ => ⟨S1024x1024, .bf16⟩
  | .hbm, ⟨20, _⟩ => ⟨S1024x1024, .bf16⟩
  | .hbm, ⟨21, _⟩ => ⟨S1024x36, .f32⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x128, .bf16⟩
  | .hbm, ⟨26, _⟩ => ⟨S36, .f32⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S8x1x6144, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x128, .i32⟩
  | .hbm, ⟨36, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .bf16⟩
  | .local _ .vmem, ⟨15, _⟩ => ⟨S1x128, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_v0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== PostRefIdeal.lean ====
abbrev S8x4096x1024 : Shape := ⟨3, ![8, 4096, 1024]⟩
abbrev S8x6144 : Shape := ⟨2, ![8, 6144]⟩
abbrev S32768x512 : Shape := ⟨2, ![32768, 512]⟩
abbrev S32768x1024 : Shape := ⟨2, ![32768, 1024]⟩
abbrev S1024 : Shape := ⟨1, ![1024]⟩
abbrev S1024x6672 : Shape := ⟨2, ![1024, 6672]⟩
abbrev S512x1024 : Shape := ⟨2, ![512, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x4096x512 : Shape := ⟨3, ![8, 4096, 512]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x6672 : Shape := ⟨3, ![8, 4096, 6672]⟩
abbrev S8x4096x16 : Shape := ⟨3, ![8, 4096, 16]⟩

abbrev nBuf : Space → Nat
  | .hbm => 109
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S32768x512, .bf16⟩
  | .hbm, ⟨3, _⟩ => ⟨S32768x1024, .bf16⟩
  | .hbm, ⟨4, _⟩ => ⟨S1024, .f32⟩
  | .hbm, ⟨5, _⟩ => ⟨S1024, .f32⟩
  | .hbm, ⟨6, _⟩ => ⟨S1024x6672, .f32⟩
  | .hbm, ⟨7, _⟩ => ⟨S512x1024, .f32⟩
  | .hbm, ⟨8, _⟩ => ⟨S1024x1024, .f32⟩
  | .hbm, ⟨9, _⟩ => ⟨S1024x1024, .f32⟩
  | .hbm, ⟨10, _⟩ => ⟨S1024x4, .f32⟩
  | .hbm, ⟨11, _⟩ => ⟨S4, .f32⟩
  | .hbm, ⟨12, _⟩ => ⟨S1024x32, .f32⟩
  | .hbm, ⟨13, _⟩ => ⟨S32, .f32⟩
  | .hbm, ⟨14, _⟩ => ⟨S32768x512, .f32⟩
  | .hbm, ⟨15, _⟩ => ⟨S8x4096x512, .f32⟩
  | .hbm, ⟨16, _⟩ => ⟨S32768x1024, .f32⟩
  | .hbm, ⟨17, _⟩ => ⟨S8x4096x1024, .f32⟩
  | .hbm, ⟨18, _⟩ => ⟨S8x1x6144, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x4096x1024, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1, .f32⟩
  | .hbm, ⟨36, _⟩ => ⟨S8x4096x1024, .f32⟩
  | .hbm, ⟨37, _⟩ => ⟨S8x4096x1024, .f32⟩
  | .hbm, ⟨38, _⟩ => ⟨S1x1x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x1x1024, .f32⟩
  | .hbm, ⟨43, _⟩ => ⟨S8x1x1024, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x6672, .f32⟩
  | .hbm, ⟨49, _⟩ => ⟨S8x4096x512, .f32⟩
  | .hbm, ⟨50, _⟩ => ⟨S8x4096x512, .f32⟩
  | .hbm, ⟨51, _⟩ => ⟨S8x4096x512, .f32⟩
  | .hbm, ⟨52, _⟩ => ⟨S8x4096x512, .f32⟩
  | .hbm, ⟨53, _⟩ => ⟨S8x4096x512, .f32⟩
  | .hbm, ⟨54, _⟩ => ⟨S8x4096x1024, .f32⟩
  | .hbm, ⟨55, _⟩ => ⟨S8x4096x1024, .f32⟩
  | .hbm, ⟨56, _⟩ => ⟨S8x4096x16, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S_, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S_, .f32⟩
  | .hbm, ⟨72, _⟩ => ⟨S8x4096x1024, .f32⟩
  | .hbm, ⟨73, _⟩ => ⟨S8x4096x1024, .f32⟩
  | .hbm, ⟨74, _⟩ => ⟨S_, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096, .f32⟩
  | .hbm, ⟨87, _⟩ => ⟨S8x4096x1, .f32⟩
  | .hbm, ⟨88, _⟩ => ⟨S_, .f32⟩
  | .hbm, ⟨89, _⟩ => ⟨S8x4096x1, .f32⟩
  | .hbm, ⟨90, _⟩ => ⟨S8x4096x1, .f32⟩
  | .hbm, ⟨91, _⟩ => ⟨S_, .f32⟩
  | .hbm, ⟨92, _⟩ => ⟨S8x4096x1, .f32⟩
  | .hbm, ⟨93, _⟩ => ⟨S8x4096x1, .f32⟩
  | .hbm, ⟨94, _⟩ => ⟨S8x4096x1, .f32⟩
  | .hbm, ⟨95, _⟩ => ⟨S8x4096x1024, .f32⟩
  | .hbm, ⟨96, _⟩ => ⟨S8x4096x1024, .f32⟩
  | .hbm, ⟨97, _⟩ => ⟨S1x1x1024, .f32⟩
  | .hbm, ⟨98, _⟩ => ⟨S8x4096x1024, .f32⟩
  | .hbm, ⟨99, _⟩ => ⟨S8x4096x1024, .f32⟩
  | .hbm, ⟨100, _⟩ => ⟨S_, .f32⟩
  | .hbm, ⟨101, _⟩ => ⟨S8x1x1024, .f32⟩
  | .hbm, ⟨102, _⟩ => ⟨S8x1x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x4096x1024, .f32⟩
  | .hbm, ⟨107, _⟩ => ⟨S32768x1024, .f32⟩
  | .hbm, ⟨108, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_cst_8 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_10 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== Mod.lean ====
abbrev S40x1024 : Shape := ⟨2, ![40, 1024]⟩
abbrev S1024x6144 : Shape := ⟨2, ![1024, 6144]⟩
abbrev S6144 : Shape := ⟨1, ![6144]⟩
abbrev S1x6144 : Shape := ⟨2, ![1, 6144]⟩
abbrev S40x6144 : Shape := ⟨2, ![40, 6144]⟩
abbrev S1024x1024 : Shape := ⟨2, ![1024, 1024]⟩
abbrev S1x1024 : Shape := ⟨2, ![1, 1024]⟩

abbrev nBuf : Space → Nat
  | .hbm => 6
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S1024x6144, .bf16⟩
  | .hbm, ⟨4, _⟩ => ⟨S1x6144, .f32⟩
  | .hbm, ⟨5, _⟩ => ⟨S40x6144, .f32⟩
  | .local _ .vmem, ⟨0, _⟩ => ⟨S40x1024, .f32⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S40x1024, .f32⟩
  | .local _ .vmem, ⟨6, _⟩ => ⟨S40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S40x1024 : Shape := ⟨2, ![40, 1024]⟩
abbrev S1024x6144 : Shape := ⟨2, ![1024, 6144]⟩
abbrev S6144 : Shape := ⟨1, ![6144]⟩
abbrev S_ : Shape := ⟨0, ![]⟩
abbrev S40x6144 : Shape := ⟨2, ![40, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S1024x6144, .f32⟩
  | .hbm, ⟨2, _⟩ => ⟨S6144, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S40x6144, .f32⟩
  | .hbm, ⟨13, _⟩ => ⟨S1x6144, .f32⟩
  | .hbm, ⟨14, _⟩ => ⟨S40x6144, .f32⟩
  | .hbm, ⟨15, _⟩ => ⟨S40x6144, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Exp.lean ====
abbrev S69632x1024 : Shape := ⟨2, ![69632, 1024]⟩
abbrev S544 : Shape := ⟨1, ![544]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S544x1 : Shape := ⟨2, ![544, 1]⟩
abbrev S128x1024 : Shape := ⟨2, ![128, 1024]⟩
abbrev S1x1024x512 : Shape := ⟨3, ![1, 1024, 512]⟩
abbrev S1x512x1024 : Shape := ⟨3, ![1, 512, 1024]⟩
abbrev S1024x512 : Shape := ⟨2, ![1024, 512]⟩
abbrev S128x512 : Shape := ⟨2, ![128, 512]⟩
abbrev S512x1024 : Shape := ⟨2, ![512, 1024]⟩

abbrev nBuf : Space → Nat
  | .hbm => 23
  | .vmem => 10
  | .smem => 2
  | _ => 0

abbrev bufTy : (tb : Table) → Fin (tcTables nBuf tb) → BufTy
  | .hbm, ⟨0, _⟩ => ⟨S69632x1024, .f32⟩
  | .hbm, ⟨1, _⟩ => ⟨S544, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S544, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S544, .i32⟩
  | .hbm, ⟨10, _⟩ => ⟨S544, .i32⟩
  | .hbm, ⟨11, _⟩ => ⟨S_, .i32⟩
  | .hbm, ⟨12, _⟩ => ⟨S544, .i32⟩
  | .hbm, ⟨13, _⟩ => ⟨S544, .i1⟩
  | .hbm, ⟨14, _⟩ => ⟨S_, .i32⟩
  | .hbm, ⟨15, _⟩ => ⟨S544, .i32⟩
  | .hbm, ⟨16, _⟩ => ⟨S544, .i32⟩
  | .hbm, ⟨17, _⟩ => ⟨S544, .i32⟩
  | .hbm, ⟨18, _⟩ => ⟨S544x1, .i32⟩
  | .hbm, ⟨19, _⟩ => ⟨S32x1024x512, .bf16⟩
  | .hbm, ⟨20, _⟩ => ⟨S32x1024x512, .bf16⟩
  | .hbm, ⟨21, _⟩ => ⟨S32x512x1024, .bf16⟩
  | .hbm, ⟨22, _⟩ => ⟨S69632x1024, .f32⟩
  | .local _ .vmem, ⟨0, _⟩ => ⟨S128x1024, .f32⟩
  | .local _ .vmem, ⟨1, _⟩ => ⟨S128x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S128x1024, .f32⟩
  | .local _ .vmem, ⟨9, _⟩ => ⟨S128x1024, .f32⟩
  | .local _ .smem, ⟨0, _⟩ => ⟨S544, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v11 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_v11.idx, main_arg2.idx], fun | 0 => main_v11.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S69632x1024 : Shape := ⟨2, ![69632, 1024]⟩
abbrev S544 : Shape := ⟨1, ![544]⟩
abbrev S1 : Shape := ⟨1, ![1]⟩
abbrev S32x1024x512 : Shape := ⟨3, ![32, 1024, 512]⟩
abbrev S32x512x1024 : Shape := ⟨3, ![32, 512, 1024]⟩
abbrev S544x128x1024 : Shape := ⟨3, ![544, 128, 1024]⟩
abbrev S_ : Shape := ⟨0, ![]⟩
abbrev S544x1 : Shape := ⟨2, ![544, 1]⟩
abbrev S544x1024x512 : Shape := ⟨3, ![544, 1024, 512]⟩
abbrev S544x128x512 : Shape := ⟨3, ![544, 128, 512]⟩
abbrev S544x512x1024 : Shape := ⟨3, ![544, 512, 1024]⟩
abbrev S544x1x1 : Shape := ⟨3, ![544, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S69632x1024, .f32⟩
  | .hbm, ⟨1, _⟩ => ⟨S544, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S544x128x1024, .f32⟩
  | .hbm, ⟨7, _⟩ => ⟨S_, .i32⟩
  | .hbm, ⟨8, _⟩ => ⟨S544, .i32⟩
  | .hbm, ⟨9, _⟩ => ⟨S544, .i1⟩
  | .hbm, ⟨10, _⟩ => ⟨S_, .i32⟩
  | .hbm, ⟨11, _⟩ => ⟨S544, .i32⟩
  | .hbm, ⟨12, _⟩ => ⟨S544, .i32⟩
  | .hbm, ⟨13, _⟩ => ⟨S544, .i32⟩
  | .hbm, ⟨14, _⟩ => ⟨S544x1, .i32⟩
  | .hbm, ⟨15, _⟩ => ⟨S544x1024x512, .f32⟩
  | .hbm, ⟨16, _⟩ => ⟨S544x128x512, .f32⟩
  | .hbm, ⟨17, _⟩ => ⟨S_, .i32⟩
  | .hbm, ⟨18, _⟩ => ⟨S544, .i32⟩
  | .hbm, ⟨19, _⟩ => ⟨S544, .i1⟩
  | .hbm, ⟨20, _⟩ => ⟨S_, .i32⟩
  | .hbm, ⟨21, _⟩ => ⟨S544, .i32⟩
  | .hbm, ⟨22, _⟩ => ⟨S544, .i32⟩
  | .hbm, ⟨23, _⟩ => ⟨S544, .i32⟩
  | .hbm, ⟨24, _⟩ => ⟨S544x1, .i32⟩
  | .hbm, ⟨25, _⟩ => ⟨S544x1024x512, .f32⟩
  | .hbm, ⟨26, _⟩ => ⟨S544x128x512, .f32⟩
  | .hbm, ⟨27, _⟩ => ⟨S544x128x512, .f32⟩
  | .hbm, ⟨28, _⟩ => ⟨S544x128x512, .f32⟩
  | .hbm, ⟨29, _⟩ => ⟨S_, .f32⟩
  | .hbm, ⟨30, _⟩ => ⟨S544x128x512, .f32⟩
  | .hbm, ⟨31, _⟩ => ⟨S544x128x512, .f32⟩
  | .hbm, ⟨32, _⟩ => ⟨S_, .f32⟩
  | .hbm, ⟨33, _⟩ => ⟨S544x128x512, .f32⟩
  | .hbm, ⟨34, _⟩ => ⟨S544x128x512, .f32⟩
  | .hbm, ⟨35, _⟩ => ⟨S544x128x512, .f32⟩
  | .hbm, ⟨36, _⟩ => ⟨S544x128x512, .f32⟩
  | .hbm, ⟨37, _⟩ => ⟨S_, .i32⟩
  | .hbm, ⟨38, _⟩ => ⟨S544, .i32⟩
  | .hbm, ⟨39, _⟩ => ⟨S544, .i1⟩
  | .hbm, ⟨40, _⟩ => ⟨S_, .i32⟩
  | .hbm, ⟨41, _⟩ => ⟨S544, .i32⟩
  | .hbm, ⟨42, _⟩ => ⟨S544, .i32⟩
  | .hbm, ⟨43, _⟩ => ⟨S544, .i32⟩
  | .hbm, ⟨44, _⟩ => ⟨S544x1, .i32⟩
  | .hbm, ⟨45, _⟩ => ⟨S544x512x1024, .f32⟩
  | .hbm, ⟨46, _⟩ => ⟨S544x128x1024, .f32⟩
  | .hbm, ⟨47, _⟩ => ⟨S544, .i32⟩
  | .hbm, ⟨48, _⟩ => ⟨S544, .i32⟩
  | .hbm, ⟨49, _⟩ => ⟨S544, .i1⟩
  | .hbm, ⟨50, _⟩ => ⟨S544x1x1, .i1⟩
  | .hbm, ⟨51, _⟩ => ⟨S_, .f32⟩
  | .hbm, ⟨52, _⟩ => ⟨S_, .f32⟩
  | .hbm, ⟨53, _⟩ => ⟨S544x128x1024, .i1⟩
  | .hbm, ⟨54, _⟩ => ⟨S544x128x1024, .f32⟩
  | .hbm, ⟨55, _⟩ => ⟨S544x128x1024, .f32⟩
  | .hbm, ⟨56, _⟩ => ⟨S69632x1024, .f32⟩
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Plan.lean ====
abbrev S32768x128 : Shape := ⟨2, ![32768, 128]⟩
abbrev S1x128 : Shape := ⟨2, ![1, 128]⟩
abbrev S256x128 : Shape := ⟨2, ![256, 128]⟩
abbrev S8x128 : Shape := ⟨2, ![8, 128]⟩
abbrev S256x1 : Shape := ⟨2, ![256, 1]⟩
abbrev S256x256 : Shape := ⟨2, ![256, 256]⟩
abbrev S256 : Shape := ⟨1, ![256]⟩
abbrev S128 : Shape := ⟨1, ![128]⟩

abbrev nBuf : Space → Nat
  | .hbm => 3
  | .vmem => 6
  | .smem => 0
  | _ => 0

abbrev bufTy : (tb : Table) → Fin (tcTables nBuf tb) → BufTy
  | .hbm, ⟨0, _⟩ => ⟨S32768x128, .i32⟩
  | .hbm, ⟨1, _⟩ => ⟨S32768x128, .i32⟩
  | .hbm, ⟨2, _⟩ => ⟨S1x128, .f32⟩
  | .local _ .vmem, ⟨0, _⟩ => ⟨S256x128, .i32⟩
  | .local _ .vmem, ⟨1, _⟩ => ⟨S256x128, .i32⟩
  | .local _ .vmem, ⟨2, _⟩ => ⟨S256x128, .i32⟩
  | .local _ .vmem, ⟨3, _⟩ => ⟨S256x128, .i32⟩
  | .local _ .vmem, ⟨4, _⟩ => ⟨S1x128, .f32⟩
  | .local _ .vmem, ⟨5, _⟩ => ⟨S8x128, .f32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== PlanRefIdeal.lean ====
abbrev S32768x128 : Shape := ⟨2, ![32768, 128]⟩
abbrev S32768x1 : Shape := ⟨2, ![32768, 1]⟩
abbrev S128 : Shape := ⟨1, ![128]⟩
abbrev S1x128 : Shape := ⟨2, ![1, 128]⟩
abbrev S_ : Shape := ⟨0, ![]⟩
abbrev S32768 : Shape := ⟨1, ![32768]⟩
abbrev S32768x2 : Shape := ⟨2, ![32768, 2]⟩

abbrev nBuf : Space → Nat
  | .hbm => 34
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x1, .i32⟩
  | .hbm, ⟨2, _⟩ => ⟨S128, .i32⟩
  | .hbm, ⟨3, _⟩ => ⟨S1x128, .i32⟩
  | .hbm, ⟨4, _⟩ => ⟨S32768x128, .i32⟩
  | .hbm, ⟨5, _⟩ => ⟨S32768x128, .i32⟩
  | .hbm, ⟨6, _⟩ => ⟨S32768x128, .i1⟩
  | .hbm, ⟨7, _⟩ => ⟨S32768x128, .i32⟩
  | .hbm, ⟨8, _⟩ => ⟨S32768x1, .i32⟩
  | .hbm, ⟨9, _⟩ => ⟨S128, .i32⟩
  | .hbm, ⟨10, _⟩ => ⟨S1x128, .i32⟩
  | .hbm, ⟨11, _⟩ => ⟨S32768x128, .i32⟩
  | .hbm, ⟨12, _⟩ => ⟨S32768x128, .i32⟩
  | .hbm, ⟨13, _⟩ => ⟨S32768x128, .i1⟩
  | .hbm, ⟨14, _⟩ => ⟨S32768x128, .i32⟩
  | .hbm, ⟨15, _⟩ => ⟨S32768x128, .i32⟩
  | .hbm, ⟨16, _⟩ => ⟨S_, .i32⟩
  | .hbm, ⟨17, _⟩ => ⟨S_, .i32⟩
  | .hbm, ⟨18, _⟩ => ⟨S32768x128, .i32⟩
  | .hbm, ⟨19, _⟩ => ⟨S32768x128, .i32⟩
  | .hbm, ⟨20, _⟩ => ⟨S32768x128, .i32⟩
  | .hbm, ⟨21, _⟩ => ⟨S_, .i32⟩
  | .hbm, ⟨22, _⟩ => ⟨S32768, .i32⟩
  | .hbm, ⟨23, _⟩ => ⟨S32768x128, .i32⟩
  | .hbm, ⟨24, _⟩ => ⟨S_, .i32⟩
  | .hbm, ⟨25, _⟩ => ⟨S32768, .i32⟩
  | .hbm, ⟨26, _⟩ => ⟨S32768x1, .i32⟩
  | .hbm, ⟨27, _⟩ => ⟨S32768x1, .i32⟩
  | .hbm, ⟨28, _⟩ => ⟨S32768x2, .i32⟩
  | .hbm, ⟨29, _⟩ => ⟨S_, .i32⟩
  | .hbm, ⟨30, _⟩ => ⟨S_, .i32⟩
  | .hbm, ⟨31, _⟩ => ⟨S32768x128, .i32⟩
  | .hbm, ⟨32, _⟩ => ⟨S1x128, .i32⟩
  | .hbm, ⟨33, _⟩ => ⟨S1x128, .f32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_call0_call0_c : Ref sig .tc := ⟨.hbm, 16, rfl⟩
abbrev main_call0_call0_v0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_call1_v0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Dest.lean ====
abbrev S32768x128 : Shape := ⟨2, ![32768, 128]⟩
abbrev S1x128 : Shape := ⟨2, ![1, 128]⟩
abbrev S1x32 : Shape := ⟨2, ![1, 32]⟩
abbrev S32 : Shape := ⟨1, ![32]⟩
abbrev S_ : Shape := ⟨0, ![]⟩
abbrev S128 : Shape := ⟨1, ![128]⟩
abbrev S544 : Shape := ⟨1, ![544]⟩
abbrev S1x544 : Shape := ⟨2, ![1, 544]⟩
abbrev S32x1 : Shape := ⟨2, ![32, 1]⟩
abbrev S32x544 : Shape := ⟨2, ![32, 544]⟩
abbrev S1 : Shape := ⟨1, ![1]⟩
abbrev S256x128 : Shape := ⟨2, ![256, 128]⟩
abbrev S256x1 : Shape := ⟨2, ![256, 1]⟩
abbrev S256 : Shape := ⟨1, ![256]⟩

abbrev nBuf : Space → Nat
  | .hbm => 74
  | .vmem => 7
  | .smem => 0
  | _ => 0

abbrev bufTy : (tb : Table) → Fin (tcTables nBuf tb) → BufTy
  | .hbm, ⟨0, _⟩ => ⟨S32768x128, .i32⟩
  | .hbm, ⟨1, _⟩ => ⟨S32768x128, .i32⟩
  | .hbm, ⟨2, _⟩ => ⟨S1x128, .f32⟩
  | .hbm, ⟨3, _⟩ => ⟨S1x32, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S544, .i32⟩
  | .hbm, ⟨43, _⟩ => ⟨S_, .i32⟩
  | .hbm, ⟨44, _⟩ => ⟨S544, .i32⟩
  | .hbm, ⟨45, _⟩ => ⟨S544, .i32⟩
  | .hbm, ⟨46, _⟩ => ⟨S1x544, .i32⟩
  | .hbm, ⟨47, _⟩ => ⟨S32x1, .i32⟩
  | .hbm, ⟨48, _⟩ => ⟨S32x544, .i32⟩
  | .hbm, ⟨49, _⟩ => ⟨S32x544, .i32⟩
  | .hbm, ⟨50, _⟩ => ⟨S32x544, .i1⟩
  | .hbm, ⟨51, _⟩ => ⟨S32x544, .i32⟩
  | .hbm, ⟨52, _⟩ => ⟨S_, .i32⟩
  | .hbm, ⟨53, _⟩ => ⟨S544, .i32⟩
  | .hbm, ⟨54, _⟩ => ⟨S_, .i32⟩
  | .hbm, ⟨55, _⟩ => ⟨S544, .i32⟩
  | .hbm, ⟨56, _⟩ => ⟨S544, .i32⟩
  | .hbm, ⟨57, _⟩ => ⟨S1, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i1⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1, .i32⟩
  | .hbm, ⟨73, _⟩ => ⟨S32768x128, .i32⟩
  | .local _ .vmem, ⟨0, _⟩ => ⟨S256x128, .i32⟩
  | .local _ .vmem, ⟨1, _⟩ => ⟨S256x128, .i32⟩
  | .local _ .vmem, ⟨2, _⟩ => ⟨S256x128, .i32⟩
  | .local _ .vmem, ⟨3, _⟩ => ⟨S256x128, .i32⟩
  | .local _ .vmem, ⟨4, _⟩ => ⟨S1x128, .f32⟩
  | .local _ .vmem, ⟨5, _⟩ => ⟨S256x128, .i32⟩
  | .local _ .vmem, ⟨6, _⟩ => ⟨S256x128, .i32⟩
  | _, _ => ⟨S32768x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_call1_call0_c : Ref sig .tc := ⟨.hbm, 33, rfl⟩
abbrev main_call1_call0_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_call2_v0 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_call3_call0_v0 : Ref sig .tc := ⟨.hbm, 46, rfl⟩
abbrev main_call3_call0_v1 : Ref sig .tc := ⟨.hbm, 47, rfl⟩
abbrev main_call3_call0_v2 : Ref sig .tc := ⟨.hbm, 48, rfl⟩
abbrev main_call3_call0_v3 : Ref sig .tc := ⟨.hbm, 49, rfl⟩
abbrev main_call3_call0_v4 : Ref sig .tc := ⟨.hbm, 50, rfl⟩
abbrev main_call3_call0_v5 : Ref sig .tc := ⟨.hbm, 51, rfl⟩
abbrev main_call3_call0_c : Ref sig .tc := ⟨.hbm, 52, rfl⟩
abbrev main_v18 : Ref sig .tc := ⟨.hbm, 53, rfl⟩
abbrev main_c_5 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_6 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_call4_v5 : Ref sig .tc := ⟨.hbm, 65, rfl⟩
abbrev main_call4_c : Ref sig .tc := ⟨.hbm, 66, rfl⟩
abbrev main_call4_v6 : Ref sig .tc := ⟨.hbm, 67, rfl⟩
abbrev main_call4_v7 : Ref sig .tc := ⟨.hbm, 68, rfl⟩
abbrev main_call4_c_0 : Ref sig .tc := ⟨.hbm, 69, rfl⟩
abbrev main_call4_v8 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DestRefIdeal.lean ====
abbrev S32768x128 : Shape := ⟨2, ![32768, 128]⟩
abbrev S1x128 : Shape := ⟨2, ![1, 128]⟩
abbrev S1x32 : Shape := ⟨2, ![1, 32]⟩
abbrev S32 : Shape := ⟨1, ![32]⟩
abbrev S_ : Shape := ⟨0, ![]⟩
abbrev S32768x2 : Shape := ⟨2, ![32768, 2]⟩
abbrev S32768x2x1 : Shape := ⟨3, ![32768, 2, 1]⟩
abbrev S1x1x32 : Shape := ⟨3, ![1, 1, 32]⟩
abbrev S32768x2x32 : Shape := ⟨3, ![32768, 2, 32]⟩
abbrev S544 : Shape := ⟨1, ![544]⟩
abbrev S544x1 : Shape := ⟨2, ![544, 1]⟩
abbrev S544x32 : Shape := ⟨2, ![544, 32]⟩
abbrev S1 : Shape := ⟨1, ![1]⟩

abbrev nBuf : Space → Nat
  | .hbm => 87
  | .vmem => 0
  | .smem => 0
  | _ => 0

abbrev bufTy : (tb : Table) → Fin (tcTables nBuf tb) → BufTy
  | .hbm, ⟨0, _⟩ => ⟨S32768x128, .i32⟩
  | .hbm, ⟨1, _⟩ => ⟨S32768x128, .i32⟩
  | .hbm, ⟨2, _⟩ => ⟨S1x128, .f32⟩
  | .hbm, ⟨3, _⟩ => ⟨S1x32, .f32⟩
  | .hbm, ⟨4, _⟩ => ⟨S32, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32768x2, .i32⟩
  | .hbm, ⟨38, _⟩ => ⟨S32768x2x1, .i32⟩
  | .hbm, ⟨39, _⟩ => ⟨S32, .i32⟩
  | .hbm, ⟨40, _⟩ => ⟨S1x1x32, .i32⟩
  | .hbm, ⟨41, _⟩ => ⟨S32768x2x32, .i32⟩
  | .hbm, ⟨42, _⟩ => ⟨S32768x2x32, .i32⟩
  | .hbm, ⟨43, _⟩ => ⟨S32768x2x32, .i1⟩
  | .hbm, ⟨44, _⟩ => ⟨S32768x2, .i32⟩
  | .hbm, ⟨45, _⟩ => ⟨S_, .i32⟩
  | .hbm, ⟨46, _⟩ => ⟨S_, .i32⟩
  | .hbm, ⟨47, _⟩ => ⟨S32768x2x32, .i32⟩
  | .hbm, ⟨48, _⟩ => ⟨S32768x2x32, .i32⟩
  | .hbm, ⟨49, _⟩ => ⟨S32768x2x32, .i32⟩
  | .hbm, ⟨50, _⟩ => ⟨S_, .i32⟩
  | .hbm, ⟨51, _⟩ => ⟨S32768x2, .i32⟩
  | .hbm, ⟨52, _⟩ => ⟨S32768x2, .i32⟩
  | .hbm, ⟨53, _⟩ => ⟨S544, .i32⟩
  | .hbm, ⟨54, _⟩ => ⟨S_, .i32⟩
  | .hbm, ⟨55, _⟩ => ⟨S544, .i32⟩
  | .hbm, ⟨56, _⟩ => ⟨S544, .i32⟩
  | .hbm, ⟨57, _⟩ => ⟨S544x1, .i32⟩
  | .hbm, ⟨58, _⟩ => ⟨S1x32, .i32⟩
  | .hbm, ⟨59, _⟩ => ⟨S544x32, .i32⟩
  | .hbm, ⟨60, _⟩ => ⟨S544x32, .i32⟩
  | .hbm, ⟨61, _⟩ => ⟨S544x32, .i1⟩
  | .hbm, ⟨62, _⟩ => ⟨S544x32, .i32⟩
  | .hbm, ⟨63, _⟩ => ⟨S_, .i32⟩
  | .hbm, ⟨64, _⟩ => ⟨S544, .i32⟩
  | .hbm, ⟨65, _⟩ => ⟨S_, .i32⟩
  | .hbm, ⟨66, _⟩ => ⟨S544, .i32⟩
  | .hbm, ⟨67, _⟩ => ⟨S544, .i32⟩
  | .hbm, ⟨68, _⟩ => ⟨S_, .i32⟩
  | .hbm, ⟨69, _⟩ => ⟨S_, .i32⟩
  | .hbm, ⟨70, _⟩ => ⟨S32768x128, .i32⟩
  | .hbm, ⟨71, _⟩ => ⟨S1, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1, .i32⟩
  | _, _ => ⟨S32768x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_c_2 : Ref sig .tc := ⟨.hbm, 30, rfl⟩
abbrev main_v8 : Ref sig .tc := ⟨.hbm, 31, rfl⟩
abbrev main_v9 : Ref sig .tc := ⟨.hbm, 32, rfl⟩
abbrev main_call1_call0_c : Ref sig .tc := ⟨.hbm, 33, rfl⟩
abbrev main_call1_call0_v0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_c_6 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_c_8 : Ref sig .tc := ⟨.hbm, 68, rfl⟩
abbrev main_call3_v0 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_9 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_c : Ref sig .tc := ⟨.hbm, 80, rfl⟩
abbrev main_call4_v6 : Ref sig .tc := ⟨.hbm, 81, rfl⟩
abbrev main_call4_v7 : Ref sig .tc := ⟨.hbm, 82, rfl⟩
abbrev main_call4_c_0 : Ref sig .tc := ⟨.hbm, 83, rfl⟩
abbrev main_call4_v8 : Ref sig .tc := ⟨.hbm, 84, rfl⟩
abbrev main_v38 : Ref sig .tc := ⟨.hbm, 85, rfl⟩
abbrev main_v39 : Ref sig .tc := ⟨.hbm, 86, rfl⟩

abbrev nD : Nat := 1
abbrev τ : Topo := Topo.v7x

variable {F : FTy → Type} [FloatOps F]
-- ==== Proof.Blocks.lean ====
module

public import proofs.«01_k».proof.Proof.Gen.KernelIdeal.Frame
public import Idealize.ShloMosaic.Lib.Pipeline.ValueKit
public import Idealize.ShloMosaic.Lib.Pipeline.RowLoads
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![t.val, 0, 0, 0]
    ∧ win0_7.index t = ![t.val, 0] ∧ win0_8.index t = ![t.val, 0, 0, 0] :=
  (by decide +kernel : ∀ t : Fin grid0.N, _)

theorem coord1 : ∀ t : Fin cfg0.N, (grid0.coords t 1).val = 0 :=
  (by decide +kernel : ∀ t : Fin grid0.N, _)

theorem lt32 (t : Fin cfg0.N) : t.val < 32 := lt_of_lt_of_eq t.isLt (by decide)

/-- Reading one head of the state skips a later store to another head. -/
theorem readCov_head {v : View sig .tc .vmem S1x4x128x256 .f32} (h h' : ℕ)
    (inb : ∀ a, (![0, h, 0, 0] : Fin 4 → ℕ) a + (![1, 1, 128, 256] : Fin 4 → ℕ) a ≤ S1x4x128x256.size a)
    (inb' : ∀ a, (![0, h', 0, 0] : Fin 4 → ℕ) a + (![1, 1, 128, 256] : Fin 4 → ℕ) a ≤ S1x4x128x256.size a)
    (x : FVec Ideal S1x1x128x256 .f32) (L : List (View.Piece (Elt Ideal) S1x4x128x256 .f32))
    (hne : h + 1 ≤ h' ∨ h' + 1 ≤ h) :
    v.readCov ((⟨Rect.unit (s := S1x4x128x256) ![0, h, 0, 0] ![1, 1, 128, 256] inb, x⟩ : View.Piece (Elt Ideal) S1x4x128x256 .f32) :: L)
      (Rect.unit (s := S1x4x128x256) ![0, h', 0, 0] ![1, 1, 128, 256] inb').toLoadRect
    = v.readCov L (Rect.unit (s := S1x4x128x256) ![0, h', 0, 0] ![1, 1, 128, 256] inb').toLoadRect :=
  View.readCov_cons_of_disjoint v _ L _ (Rect.unit_disjoint (inb := inb) (inb' := inb') 1 hne)

/-- Reading one head of the state after one store of the whole reads the stored value. -/
theorem readCov_whole {v : View sig .tc .vmem S1x4x128x256 .f32} (h' : ℕ)
    (inb : ∀ a, (![0, 0, 0, 0] : Fin 4 → ℕ) a + (![1, 4, 128, 256] : Fin 4 → ℕ) a ≤ S1x4x128x256.size a)
    (inb' : ∀ a, (![0, h', 0, 0] : Fin 4 → ℕ) a + (![1, 1, 128, 256] : Fin 4 → ℕ) a ≤ S1x4x128x256.size a)
    (x : FVec Ideal S1x4x128x256 .f32) :
    v.readCov [(⟨Rect.unit (s := S1x4x128x256) ![0, 0, 0, 0] ![1, 4, 128, 256] inb, x⟩ : View.Piece (Elt Ideal) S1x4x128x256 .f32)]
      (Rect.unit (s := S1x4x128x256) ![0, h', 0, 0] ![1, 1, 128, 256] inb').toLoadRect
    = View.ld x (Rect.unit (s := S1x4x128x256) ![0, h', 0, 0] ![1, 1, 128, 256] inb') := by
  rw [View.readCov_eq_canon']
  have h := View.canon_cons_unit_zero (S := S1x4x128x256) (Val := Elt Ideal) (e := .f32) (off := ![0, 0, 0, 0]) (by funext a; fin_cases a <;> rfl) inb x []
  funext j
  exact congrFun h _

end Cert.KernelIdeal.Value

end
-- ==== Proof.Heads.lean ====
module

public import proofs.«01_k».proof.Proof.Blocks
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- Column `k` of head `h` in a row of four heads of 128 columns. -/
abbrev hk (h : Fin 4) (k : Fin 128) : Fin 512 := ⟨128 * h.val + k.val, by omega⟩

theorem hk0 (k : Fin 128) : hk 0 k = ⟨k.val, by omega⟩ := Fin.ext (by simp [hk])

/-- Column `w` of head `h` in a row of four heads of 256 columns. -/
abbrev hv (h : Fin 4) (w : Fin 256) : Fin 1024 := ⟨256 * h.val + w.val, by omega⟩

/-- The causal comparison of two row numbers, as a condition. -/
theorem sge_at (r x : Fin 16) : IntOp.cmpi CmpIPredicate.sge (BitVec.ofNat 32 r.val) (BitVec.ofNat 32 x.val)
    = if x.val ≤ r.val then 1#1 else 0#1 := by
  revert r x; decide +kernel

/-- The comparison "this row is one of the four new tokens", as a condition. -/
theorem live_at (r : Fin 16) : IntOp.cmpi CmpIPredicate.slt
      (IntOp.addi (BitVec.ofNat 32 r.val) (Scalar.addi (Scalar.muli 0#32 16#32) (Scalar.muli 0#32 16#32))) 4#32
    = if r.val < 4 then 1#1 else 0#1 := by
  revert r; decide +kernel

/-- A choice on a one-bit word that is itself a condition. -/
theorem sel_if {α : Type} (p : Prop) [Decidable p] (a b : α) :
    Scalar.select (if p then 1#1 else 0#1) a b = if p then a else b := by
  by_cases h : p <;> simp [h, Scalar.select]

/-- A choice on a condition, with the numeral zero as the other value, distributed over a product from the right. -/
theorem if_mul (p : Prop) [Decidable p] (a b : EReal) : (if p then a else 0) * b = if p then a * b else 0 := by
  by_cases h : p <;> simp [h]

/-- The running sum of four decays up to row `r`. -/
def runSum (a : Fin 4 → EReal) (r : ℕ) : EReal := ∑ j : Fin 4, if j.val ≤ r then a j else 0

/-- The place of one of the four new rows among the sixteen. -/
abbrev up (j : Fin 4) : Fin 16 := ⟨j.val, by omega⟩

/-- A sum over sixteen rows that vanishes from the fifth on is a sum over four. -/
theorem sum_new (f : Fin 16 → EReal) (h : ∀ x : Fin 16, ¬ x.val < 4 → f x = 0) : ∑ x : Fin 16, f x = ∑ j : Fin 4, f (up j) := by
  have := Fin.sum_univ_add (a := 4) (b := 12) f
  rw [this, Finset.sum_eq_zero (s := Finset.univ) (f := fun i : Fin 12 => f (Fin.natAdd 4 i)), add_zero]
  · rfl
  · intro i _; exact h _ (by simp)

/-- The running sum of the decays down the sixteen rows. -/
theorem cum_at (i : grid0.Coords) (hi : (i 1).val = 0) (A : FVec Ideal S16x512 .f32) (r : Fin 16) (k : Fin 512) :
    k0_pay8 (F := Ideal) i A (ix2 r k) = runSum (fun j => A (ix2 (up j) k)) r.val := by
  pointwise [k0_pay8, k0_pay4, k0_pay6, hi]
  simp only [sge_at, live_at, sel_if]
  rw [sum_new _ fun x hx => if_neg hx]
  exact Finset.sum_congr rfl fun j _ => if_pos j.isLt

/-- The keys of the new tokens, zero below. -/
theorem key_at (i : grid0.Coords) (hi : (i 1).val = 0) (K : FVec Ideal S16x512 .f32) (r : Fin 16) (k : Fin 512) :
    k0_pay7 (F := Ideal) i K (ix2 r k) = if r.val < 4 then K (ix2 r k) else 0 := by
  pointwise [k0_pay7, k0_pay6, hi]
  simp only [live_at, sel_if]

/-- The running sum at the last row. -/
theorem last_at (i : grid0.Coords) (A : FVec Ideal S16x512 .f32) (k : Fin 512) :
    k0_pay9 (F := Ideal) i A (ix2 0 k) = k0_pay8 (F := Ideal) i A (ix2 15 k) := by
  pointwise [k0_pay9]

/-- The queries, each scaled by the exponential of its running sum. -/
theorem query_at (i : grid0.Coords) (A Q : FVec Ideal S16x512 .f32) (r : Fin 16) (k : Fin 512) :
    k0_pay10 (F := Ideal) i A Q (ix2 r k) = Q (ix2 r k) * Ideal.exp (k0_pay8 (F := Ideal) i A (ix2 r k)) := by
  pointwise [k0_pay10]

/-- One head's state after the sixteen rows. -/
def headState (X7 X8 : Fin 16 → Fin 128 → EReal) (X9 : Fin 128 → EReal) (st : Fin 128 → Fin 256 → EReal)
    (v : Fin 16 → Fin 256 → EReal) (k : Fin 128) (w : Fin 256) : EReal :=
  st k w * Ideal.exp (X9 k) + ∑ r : Fin 16, X7 r k * Ideal.exp (X9 k - X8 r k) * v r w

/-- One head's output before the norm. -/
def headOut (X7 X8 X10 : Fin 16 → Fin 128 → EReal) (st : Fin 128 → Fin 256 → EReal)
    (v : Fin 16 → Fin 256 → EReal) (r : Fin 16) (w : Fin 256) : EReal :=
  ∑ k : Fin 128, X10 r k * st k w
    + ∑ s : Fin 16, if s.val ≤ r.val then (∑ k : Fin 128, X10 r k * (X7 s k * Ideal.exp (0 - X8 s k))) * v s w else 0

/-- The norm over a head's 256 columns, its gain and the gate. -/
def gate (o : Fin 256 → EReal) (g og : Fin 256 → EReal) (w : Fin 256) : EReal :=
  o w * Ideal.rsqrt (Ideal.div (∑ x : Fin 256, o x * o x) (Ideal.ofBits FTy.f32 1132462080#32) + Ideal.ofBits FTy.f32 897988541#32)
    * g w * (og w * Ideal.logistic (og w))

theorem st0 (X7 X8 : FVec Ideal S16x512 .f32) (X9 : FVec Ideal S1x512 .f32) (st : FVec Ideal S1x1x128x256 .f32)
    (v : FVec Ideal S16x256 .bf16) (k : Fin 128) (w : Fin 256) :
    k0_pay18 (F := Ideal) X7 X8 X9 st v (ix4 0 0 k w)
      = headState (fun r k => X7 (ix2 r (hk 0 k))) (fun r k => X8 (ix2 r (hk 0 k))) (fun k => X9 (ix2 0 (hk 0 k)))
          (fun k w => st (ix4 0 0 k w)) (fun r w => v (ix2 r w)) k w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, headState]
  simp only [dite_eq_ite, ite_self, hk0]

theorem st1 (X7 X8 : FVec Ideal S16x512 .f32) (X9 : FVec Ideal S1x512 .f32) (st : FVec Ideal S1x1x128x256 .f32)
    (v : FVec Ideal S16x256 .bf16) (k : Fin 128) (w : Fin 256) :
    k0_pay25 (F := Ideal) (k0_pay24 (k0_pay13 X7 X8 X9) (k0_pay14 X9) st v) (ix4 0 0 k w)
      = headState (fun r k => X7 (ix2 r (hk 1 k))) (fun r k => X8 (ix2 r (hk 1 k))) (fun k => X9 (ix2 0 (hk 1 k)))
          (fun k w => st (ix4 0 0 k w)) (fun r w => v (ix2 r w)) k w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, headState]
  simp only [dite_eq_ite, ite_self]
  rfl

theorem st2 (X7 X8 : FVec Ideal S16x512 .f32) (X9 : FVec Ideal S1x512 .f32) (st : FVec Ideal S1x1x128x256 .f32)
    (v : FVec Ideal S16x256 .bf16) (k : Fin 128) (w : Fin 256) :
    k0_pay31 (F := Ideal) (k0_pay13 X7 X8 X9) (k0_pay27 st) (k0_pay28 v) (k0_pay30 (k0_pay14 X9)) (ix4 0 0 k w)
      = headState (fun r k => X7 (ix2 r (hk 2 k))) (fun r k => X8 (ix2 r (hk 2 k))) (fun k => X9 (ix2 0 (hk 2 k)))
          (fun k w => st (ix4 0 0 k w)) (fun r w => v (ix2 r w)) k w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, headState]
  simp only [dite_eq_ite, ite_self]
  rfl

theorem st3 (X7 X8 : FVec Ideal S16x512 .f32) (X9 : FVec Ideal S1x512 .f32) (st : FVec Ideal S1x1x128x256 .f32)
    (v : FVec Ideal S16x256 .bf16) (k : Fin 128) (w : Fin 256) :
    k0_pay1 (F := Ideal) (k0_pay13 X7 X8 X9) (k0_pay14 X9) (k0_pay33 st) (k0_pay34 v) (ix4 0 0 k w)
      = headState (fun r k => X7 (ix2 r (hk 3 k))) (fun r k => X8 (ix2 r (hk 3 k))) (fun k => X9 (ix2 0 (hk 3 k)))
          (fun k w => st (ix4 0 0 k w)) (fun r w => v (ix2 r w)) k w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, headState]
  simp only [dite_eq_ite, ite_self]
  rfl

theorem o0 (X7 X8 X10 : FVec Ideal S16x512 .f32) (gn : FVec Ideal S1x256 .f32) (st : FVec Ideal S1x1x128x256 .f32)
    (v : FVec Ideal S16x256 .bf16) (og : FVec Ideal S16x256 .f32) (r : Fin 16) (w : Fin 256) :
    k0_pay20 (F := Ideal) (k0_pay5 gn) (k0_pay17 k0_pay4 X7 X8 X10 st v) (k0_pay19 k0_pay4 X7 X8 X10 st v) og (ix2 r w)
      = gate (headOut (fun r k => X7 (ix2 r (hk 0 k))) (fun r k => X8 (ix2 r (hk 0 k))) (fun r k => X10 (ix2 r (hk 0 k)))
          (fun k w => st (ix4 0 0 k w)) (fun r w => v (ix2 r w)) r) (fun w => gn (ix2 0 w)) (fun w => og (ix2 r w)) w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, gate, headOut]
  simp only [sge_at, sel_if, hk0]

theorem o1 (X7 X8 X10 : FVec Ideal S16x512 .f32) (gn : FVec Ideal S1x256 .f32) (st : FVec Ideal S1x1x128x256 .f32)
    (v : FVec Ideal S16x256 .bf16) (og : FVec Ideal S16x256 .f32) (r : Fin 16) (w : Fin 256) :
    k0_pay26 (F := Ideal) (k0_pay5 gn) (k0_pay23 k0_pay4 (k0_pay11 X10) (k0_pay12 X7 X8) st v) og (ix2 r w)
      = gate (headOut (fun r k => X7 (ix2 r (hk 1 k))) (fun r k => X8 (ix2 r (hk 1 k))) (fun r k => X10 (ix2 r (hk 1 k)))
          (fun k w => st (ix4 0 0 k w)) (fun r w => v (ix2 r w)) r) (fun w => gn (ix2 0 w)) (fun w => og (ix2 r w)) w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, gate, headOut]
  simp only [sge_at, sel_if]
  rfl

theorem o2 (X7 X8 X10 : FVec Ideal S16x512 .f32) (gn : FVec Ideal S1x256 .f32) (st : FVec Ideal S1x1x128x256 .f32)
    (v : FVec Ideal S16x256 .bf16) (og : FVec Ideal S16x256 .f32) (r : Fin 16) (w : Fin 256) :
    k0_pay32 (F := Ideal) (k0_pay5 gn) (k0_pay29 k0_pay4 (k0_pay11 X10) (k0_pay12 X7 X8) st v) og (ix2 r w)
      = gate (headOut (fun r k => X7 (ix2 r (hk 2 k))) (fun r k => X8 (ix2 r (hk 2 k))) (fun r k => X10 (ix2 r (hk 2 k)))
          (fun k w => st (ix4 0 0 k w)) (fun r w => v (ix2 r w)) r) (fun w => gn (ix2 0 w)) (fun w => og (ix2 r w)) w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, gate, headOut]
  simp only [sge_at, sel_if]
  rfl

theorem o3 (X7 X8 X10 : FVec Ideal S16x512 .f32) (gn : FVec Ideal S1x256 .f32) (st : FVec Ideal S1x1x128x256 .f32)
    (v : FVec Ideal S16x256 .bf16) (og : FVec Ideal S16x256 .f32) (r : Fin 16) (w : Fin 256) :
    k0_pay2 (F := Ideal) k0_pay4 (k0_pay5 gn) (k0_pay34 v) (k0_pay35 (k0_pay11 X10) st) (k0_pay36 (k0_pay11 X10))
      (k0_pay37 (k0_pay12 X7 X8)) (constant S16x16 FTy.f32 0#32) og (ix2 r w)
      = gate (headOut (fun r k => X7 (ix2 r (hk 3 k))) (fun r k => X8 (ix2 r (hk 3 k))) (fun r k => X10 (ix2 r (hk 3 k)))
          (fun k w => st (ix4 0 0 k w)) (fun r w => v (ix2 r w)) r) (fun w => gn (ix2 0 w)) (fun w => og (ix2 r w)) w := by
  pointwise [k0_pay1, k0_pay2, k0_pay3, k0_pay4, k0_pay5, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, gate, headOut]
  simp only [sge_at, sel_if]
  rfl

end Cert.KernelIdeal.Value

end
-- ==== Proof.Padded.lean ====
module

public import proofs.«01_k».proof.Proof.Heads
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

theorem sitofp_zero (φ : FTy) : (FloatOps.sitofp (F := Ideal) φ (0#32 : BitVec 32) : EReal) = 0 := by
  show (((0#32 : BitVec 32).toInt : ℝ) : EReal) = 0
  simp

variable (m : (ℓ : Loc nD τ sig) → Buf (Elt Ideal) ℓ)

/-- The new rows of one operand, four per sequence, followed by twelve rows of zeros. -/
def padRow {n : ℕ} {φ : FTy} (X : FVec Ideal ⟨2, ![128, n]⟩ φ) (b : ℕ) (hb : b < 32) (r : Fin 16) (k : Fin n) : EReal :=
  if h : r.val < 4 then X (ix2 ⟨b * 4 + r.val, by omega⟩ k) else 0

theorem entry0 (c : Dev nD) (r : Fin 512) (k : Fin 512) :
    (show FVec Ideal S512x512 .f32 from V m c main_v2) (ix2 r k)
      = padRow (φ := .f32) (m ((c : Thread nD τ).loc main_arg0)) (r.val / 16) (by omega) ⟨r.val % 16, by omega⟩ k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  change (shapeCast S512x512 (pad S32x16x512 ![0, 0, 0] ![0, 12, 0] ![0, 0, 0]
    (shapeCast S32x4x512 (show FVec Ideal S128x512 .f32 from m ((c : Thread nD τ).loc main_arg0)) shapeCasts_S128x512_S32x4x512) (sitofp .f32 (constantI S_ 32 0#32)) pads_S32x4x512_S32x16x512_000_0120_000 h_S_) shapeCasts_S32x16x512_S512x512) (ix2 r k) = _
  pointwise [padRow]
  have h1 : r.val / 16 < 32 := by omega
  by_cases h : r.val % 16 < 4
  · simp [h, h1]
  · simp only [h, and_false, dif_neg, not_false_eq_true]
    exact sitofp_zero _

/-- Window 0 at a grid point: the point's sequence, padded. -/
theorem blk0 (c : Dev nD) (t : Fin cfg0.N) (r : Fin 16) (k : Fin 512) :
    (show FVec Ideal S16x512 .f32 from iblk m c 0 t) (ix2 r k)
      = padRow (φ := .f32) (m ((c : Thread nD τ).loc main_arg0)) t.val (lt32 t) r k := by
  have h32 := lt32 t
  refine Eq.trans (b := (show FVec Ideal S512x512 .f32 from V m c main_v2) (ix2 ⟨t.val * 16 + r.val, by omega⟩ k)) ?_ ?_
  · blk_simp [iblk]
    refine congrArg _ ?_
    blk_ext [idx t]
  · rw [entry0]
    unfold padRow
    have e1 : (t.val * 16 + r.val) / 16 = t.val := by omega
    have e2 : (t.val * 16 + r.val) % 16 = r.val := by omega
    simp only [e1, e2]

theorem entry1 (c : Dev nD) (r : Fin 512) (k : Fin 512) :
    (show FVec Ideal S512x512 .f32 from V m c main_v5) (ix2 r k)
      = padRow (φ := .f32) (m ((c : Thread nD τ).loc main_arg1)) (r.val / 16) (by omega) ⟨r.val % 16, by omega⟩ k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  change (shapeCast S512x512 (pad S32x16x512 ![0, 0, 0] ![0, 12, 0] ![0, 0, 0]
    (shapeCast S32x4x512 (show FVec Ideal S128x512 .f32 from m ((c : Thread nD τ).loc main_arg1)) shapeCasts_S128x512_S32x4x512) (sitofp .f32 (constantI S_ 32 0#32)) pads_S32x4x512_S32x16x512_000_0120_000 h_S_) shapeCasts_S32x16x512_S512x512) (ix2 r k) = _
  pointwise [padRow]
  have h1 : r.val / 16 < 32 := by omega
  by_cases h : r.val % 16 < 4
  · simp [h, h1]
  · simp only [h, and_false, dif_neg, not_false_eq_true]
    exact sitofp_zero _

/-- Window 1 at a grid point: the point's sequence, padded. -/
theorem blk1 (c : Dev nD) (t : Fin cfg0.N) (r : Fin 16) (k : Fin 512) :
    (show FVec Ideal S16x512 .f32 from iblk m c 1 t) (ix2 r k)
      = padRow (φ := .f32) (m ((c : Thread nD τ).loc main_arg1)) t.val (lt32 t) r k := by
  have h32 := lt32 t
  refine Eq.trans (b := (show FVec Ideal S512x512 .f32 from V m c main_v5) (ix2 ⟨t.val * 16 + r.val, by omega⟩ k)) ?_ ?_
  · blk_simp [iblk]
    refine congrArg _ ?_
    blk_ext [idx t]
  · rw [entry1]
    unfold padRow
    have e1 : (t.val * 16 + r.val) / 16 = t.val := by omega
    have e2 : (t.val * 16 + r.val) % 16 = r.val := by omega
    simp only [e1, e2]

theorem entry2 (c : Dev nD) (r : Fin 512) (k : Fin 512) :
    (show FVec Ideal S512x512 .f32 from V m c main_v8) (ix2 r k)
      = padRow (φ := .f32) (m ((c : Thread nD τ).loc main_arg2)) (r.val / 16) (by omega) ⟨r.val % 16, by omega⟩ k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  change (shapeCast S512x512 (pad S32x16x512 ![0, 0, 0] ![0, 12, 0] ![0, 0, 0]
    (shapeCast S32x4x512 (show FVec Ideal S128x512 .f32 from m ((c : Thread nD τ).loc main_arg2)) shapeCasts_S128x512_S32x4x512) (sitofp .f32 (constantI S_ 32 0#32)) pads_S32x4x512_S32x16x512_000_0120_000 h_S_) shapeCasts_S32x16x512_S512x512) (ix2 r k) = _
  pointwise [padRow]
  have h1 : r.val / 16 < 32 := by omega
  by_cases h : r.val % 16 < 4
  · simp [h, h1]
  · simp only [h, and_false, dif_neg, not_false_eq_true]
    exact sitofp_zero _

/-- Window 2 at a grid point: the point's sequence, padded. -/
theorem blk2 (c : Dev nD) (t : Fin cfg0.N) (r : Fin 16) (k : Fin 512) :
    (show FVec Ideal S16x512 .f32 from iblk m c 2 t) (ix2 r k)
      = padRow (φ := .f32) (m ((c : Thread nD τ).loc main_arg2)) t.val (lt32 t) r k := by
  have h32 := lt32 t
  refine Eq.trans (b := (show FVec Ideal S512x512 .f32 from V m c main_v8) (ix2 ⟨t.val * 16 + r.val, by omega⟩ k)) ?_ ?_
  · blk_simp [iblk]
    refine congrArg _ ?_
    blk_ext [idx t]
  · rw [entry2]
    unfold padRow
    have e1 : (t.val * 16 + r.val) / 16 = t.val := by omega
    have e2 : (t.val * 16 + r.val) % 16 = r.val := by omega
    simp only [e1, e2]

theorem entry3 (c : Dev nD) (r : Fin 512) (k : Fin 1024) :
    (show FVec Ideal S512x1024 .bf16 from V m c main_v11) (ix2 r k)
      = padRow (φ := .bf16) (m ((c : Thread nD τ).loc main_arg3)) (r.val / 16) (by omega) ⟨r.val % 16, by omega⟩ k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  change (shapeCast S512x1024 (pad S32x16x1024 ![0, 0, 0] ![0, 12, 0] ![0, 0, 0]
    (shapeCast S32x4x1024 (show FVec Ideal S128x1024 .bf16 from m ((c : Thread nD τ).loc main_arg3)) shapeCasts_S128x1024_S32x4x1024) (sitofp .bf16 (constantI S_ 32 0#32)) pads_S32x4x1024_S32x16x1024_000_0120_000 h_S_) shapeCasts_S32x16x1024_S512x1024) (ix2 r k) = _
  pointwise [padRow]
  have h1 : r.val / 16 < 32 := by omega
  by_cases h : r.val % 16 < 4
  · simp [h, h1]
  · simp only [h, and_false, dif_neg, not_false_eq_true]
    exact sitofp_zero _

/-- Window 3 at a grid point: the point's sequence, padded. -/
theorem blk3 (c : Dev nD) (t : Fin cfg0.N) (r : Fin 16) (k : Fin 1024) :
    (show FVec Ideal S16x1024 .bf16 from iblk m c 3 t) (ix2 r k)
      = padRow (φ := .bf16) (m ((c : Thread nD τ).loc main_arg3)) t.val (lt32 t) r k := by
  have h32 := lt32 t
  refine Eq.trans (b := (show FVec Ideal S512x1024 .bf16 from V m c main_v11) (ix2 ⟨t.val * 16 + r.val, by omega⟩ k)) ?_ ?_
  · blk_simp [iblk]
    refine congrArg _ ?_
    blk_ext [idx t]
  · rw [entry3]
    unfold padRow
    have e1 : (t.val * 16 + r.val) / 16 = t.val := by omega
    have e2 : (t.val * 16 + r.val) % 16 = r.val := by omega
    simp only [e1, e2]

theorem entry4 (c : Dev nD) (r : Fin 512) (k : Fin 1024) :
    (show FVec Ideal S512x1024 .f32 from V m c main_v14) (ix2 r k)
      = padRow (φ := .f32) (m ((c : Thread nD τ).loc main_arg4)) (r.val / 16) (by omega) ⟨r.val % 16, by omega⟩ k := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  change (shapeCast S512x1024 (pad S32x16x1024 ![0, 0, 0] ![0, 12, 0] ![0, 0, 0]
    (shapeCast S32x4x1024 (show FVec Ideal S128x1024 .f32 from m ((c : Thread nD τ).loc main_arg4)) shapeCasts_S128x1024_S32x4x1024) (sitofp .f32 (constantI S_ 32 0#32)) pads_S32x4x1024_S32x16x1024_000_0120_000 h_S_) shapeCasts_S32x16x1024_S512x1024) (ix2 r k) = _
  pointwise [padRow]
  have h1 : r.val / 16 < 32 := by omega
  by_cases h : r.val % 16 < 4
  · simp [h, h1]
  · simp only [h, and_false, dif_neg, not_false_eq_true]
    exact sitofp_zero _

/-- Window 4 at a grid point: the point's sequence, padded. -/
theorem blk4 (c : Dev nD) (t : Fin cfg0.N) (r : Fin 16) (k : Fin 1024) :
    (show FVec Ideal S16x1024 .f32 from iblk m c 4 t) (ix2 r k)
      = padRow (φ := .f32) (m ((c : Thread nD τ).loc main_arg4)) t.val (lt32 t) r k := by
  have h32 := lt32 t
  refine Eq.trans (b := (show FVec Ideal S512x1024 .f32 from V m c main_v14) (ix2 ⟨t.val * 16 + r.val, by omega⟩ k)) ?_ ?_
  · blk_simp [iblk]
    refine congrArg _ ?_
    blk_ext [idx t]
  · rw [entry4]
    unfold padRow
    have e1 : (t.val * 16 + r.val) / 16 = t.val := by omega
    have e2 : (t.val * 16 + r.val) % 16 = r.val := by omega
    simp only [e1, e2]

theorem blk5 (c : Dev nD) (t : Fin cfg0.N) (w : Fin 256) :
    (show FVec Ideal S1x256 .f32 from iblk m c 5 t) (ix2 0 w) = (show FVec Ideal S256 .f32 from m ((c : Thread nD τ).loc main_arg5)) (ix1 w) := by
  refine Eq.trans (b := (show FVec Ideal S1x256 .f32 from V m c main_v15) (ix2 0 w)) ?_ ?_
  · blk_simp [iblk]
    refine congrArg _ ?_
    blk_ext [idx t]
  · simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
    entry_read
    change (shapeCast S1x256 (show FVec Ideal S256 .f32 from m ((c : Thread nD τ).loc main_arg5)) shapeCasts_S256_S1x256) (ix2 0 w) = _
    pointwise

theorem blk6 (c : Dev nD) (t : Fin cfg0.N) (h : Fin 4) (k : Fin 128) (w : Fin 256) :
    (show FVec Ideal S1x4x128x256 .f32 from iblk m c 6 t) (ix4 0 h k w)
      = (show FVec Ideal S32x4x128x256 .f32 from m ((c : Thread nD τ).loc main_arg6)) (ix4 ⟨t.val, lt32 t⟩ h k w) := by
  blk_ext [iblk, V_main_arg6, idx t]

end Cert.KernelIdeal.Value

end
-- ==== Proof.Spec.lean ====
module

public import proofs.«01_k».proof.Proof.Padded

@[expose] public section

set_option maxRecDepth 16384

noncomputable section

open Idealize.ShloMosaic Idealize.ShloMosaic.TcCoe Idealize.SL.Sem

namespace Cert.KernelIdeal.Value

open Cert.KernelIdeal Cert.KernelIdeal.Gen

/-- Row `r` of sequence `b` among the rows of all sequences. -/
abbrev row (b : Fin 32) (r : Fin 4) : Fin 128 := ⟨b.val * 4 + r.val, by omega⟩

/-- The running sum of the log decays of one sequence and head, up to row `r`. -/
def cum (A : FVec Ideal ⟨2, ![128, 512]⟩ .f32) (b : Fin 32) (h : Fin 4) (r : ℕ) (k : Fin 128) : EReal :=
  runSum (fun j => A (ix2 (row b j) (hk h k))) r

/-- The state of one sequence and head after its four tokens. -/
def newState (K A : FVec Ideal ⟨2, ![128, 512]⟩ .f32) (Vx : FVec Ideal ⟨2, ![128, 1024]⟩ .bf16)
    (S : FVec Ideal ⟨4, ![32, 4, 128, 256]⟩ .f32) (b : Fin 32) (h : Fin 4) (k : Fin 128) (w : Fin 256) : EReal :=
  S (ix4 b h k w) * Ideal.exp (cum A b h 3 k)
    + ∑ r : Fin 4, K (ix2 (row b r) (hk h k)) * Ideal.exp (cum A b h 3 k - cum A b h r.val k) * Vx (ix2 (row b r) (hv h w))

/-- One token's attention to the old state and to the tokens up to it. -/
def preOut (Q K A : FVec Ideal ⟨2, ![128, 512]⟩ .f32) (Vx : FVec Ideal ⟨2, ![128, 1024]⟩ .bf16)
    (S : FVec Ideal ⟨4, ![32, 4, 128, 256]⟩ .f32) (b : Fin 32) (h : Fin 4) (r : Fin 4) (w : Fin 256) : EReal :=
  ∑ k : Fin 128, Q (ix2 (row b r) (hk h k)) * Ideal.exp (cum A b h r.val k) * S (ix4 b h k w)
    + ∑ s : Fin 4, if s.val ≤ r.val then
        (∑ k : Fin 128, Q (ix2 (row b r) (hk h k)) * Ideal.exp (cum A b h r.val k)
          * (K (ix2 (row b s) (hk h k)) * Ideal.exp (-cum A b h s.val k))) * Vx (ix2 (row b s) (hv h w)) else 0

/-- The gated, normed output of one token; the twelve rows after the four tokens hold zero. -/
def newOut (Q K A : FVec Ideal ⟨2, ![128, 512]⟩ .f32) (Vx : FVec Ideal ⟨2, ![128, 1024]⟩ .bf16)
    (og : FVec Ideal ⟨2, ![128, 1024]⟩ .f32) (gn : FVec Ideal ⟨1, ![256]⟩ .f32)
    (S : FVec Ideal ⟨4, ![32, 4, 128, 256]⟩ .f32) (b : Fin 32) (h : Fin 4) (r : Fin 16) (w : Fin 256) : EReal :=
  if hr : r.val < 4 then
    gate (preOut Q K A Vx S b h ⟨r.val, hr⟩) (fun w => gn (ix1 w)) (fun w => og (ix2 (row b ⟨r.val, hr⟩) (hv h w))) w
  else 0

variable {n : ℕ} {φ : FTy}

theorem padRow_up (X : FVec Ideal ⟨2, ![128, n]⟩ φ) (b : Fin 32) (r : Fin 4) (k : Fin n) :
    padRow X b.val b.isLt (up r) k = X (ix2 (row b r) k) := by
  unfold padRow; rw [dif_pos (show (up r).val < 4 from r.isLt)]

theorem padRow_lt (X : FVec Ideal ⟨2, ![128, n]⟩ φ) (b : Fin 32) (r : Fin 16) (hr : r.val < 4) (k : Fin n) :
    padRow X b.val b.isLt r k = X (ix2 (row b ⟨r.val, hr⟩) k) := by
  unfold padRow; rw [dif_pos hr]

theorem padRow_ge (X : FVec Ideal ⟨2, ![128, n]⟩ φ) (b : Fin 32) (r : Fin 16) (hr : ¬ r.val < 4) (k : Fin n) :
    padRow X b.val b.isLt r k = 0 := by
  unfold padRow; rw [dif_neg hr]

/-- Past the last token the running sum stays. -/
theorem runSum_last (a : Fin 4 → EReal) : runSum a 15 = runSum a 3 := by
  unfold runSum
  exact Finset.sum_congr rfl fun j _ => by rw [if_pos (by omega), if_pos (by omega)]

/-- The state over sixteen rows of which twelve are empty. -/
theorem headState_pad (K A : FVec Ideal ⟨2, ![128, 512]⟩ .f32) (Vx : FVec Ideal ⟨2, ![128, 1024]⟩ .bf16)
    (S : FVec Ideal ⟨4, ![32, 4, 128, 256]⟩ .f32) (b : Fin 32) (h : Fin 4)
    (X7 X8 : Fin 16 → Fin 128 → EReal) (X9 : Fin 128 → EReal) (st : Fin 128 → Fin 256 → EReal) (v : Fin 16 → Fin 256 → EReal)
    (h7 : ∀ r k, X7 r k = padRow K b.val b.isLt r (hk h k)) (h8 : ∀ r k, X8 r k = cum A b h r.val k)
    (h9 : ∀ k, X9 k = cum A b h 3 k) (hst : ∀ k w, st k w = S (ix4 b h k w))
    (hvv : ∀ r w, v r w = padRow Vx b.val b.isLt r (hv h w)) (k : Fin 128) (w : Fin 256) :
    headState X7 X8 X9 st v k w = newState K A Vx S b h k w := by
  unfold headState newState
  rw [sum_new _ fun x hx => by rw [h7, padRow_ge _ _ _ hx, zero_mul, zero_mul], hst, h9]
  congr 1
  exact Finset.sum_congr rfl fun r _ => by rw [h7, padRow_up, h8, hvv, padRow_up]

/-- A live row of the output over sixteen rows of which twelve are empty. -/
theorem headOut_live (Q K A : FVec Ideal ⟨2, ![128, 512]⟩ .f32) (Vx : FVec Ideal ⟨2, ![128, 1024]⟩ .bf16)
    (S : FVec Ideal ⟨4, ![32, 4, 128, 256]⟩ .f32) (b : Fin 32) (h : Fin 4)
    (X7 X8 X10 : Fin 16 → Fin 128 → EReal) (st : Fin 128 → Fin 256 → EReal) (v : Fin 16 → Fin 256 → EReal)
    (h7 : ∀ r k, X7 r k = padRow K b.val b.isLt r (hk h k)) (h8 : ∀ r k, X8 r k = cum A b h r.val k)
    (h10 : ∀ r k, X10 r k = padRow Q b.val b.isLt r (hk h k) * Ideal.exp (cum A b h r.val k))
    (hst : ∀ k w, st k w = S (ix4 b h k w))
    (hvv : ∀ r w, v r w = padRow Vx b.val b.isLt r (hv h w)) (r : Fin 16) (hr : r.val < 4) (w : Fin 256) :
    headOut X7 X8 X10 st v r w = preOut Q K A Vx S b h ⟨r.val, hr⟩ w := by
  unfold headOut preOut
  rw [sum_new _ fun x hx => by rw [hvv, padRow_ge _ _ _ hx, mul_zero, ite_self]]
  congr 1
  · exact Finset.sum_congr rfl fun k _ => by rw [h10, padRow_lt _ _ _ hr, hst]
  · refine Finset.sum_congr rfl fun s _ => ?_
    rw [hvv, padRow_up]
    refine if_congr Iff.rfl ?_ rfl
    congr 1
    exact Finset.sum_congr rfl fun k _ => by rw [h10, padRow_lt _ _ _ hr, h7, padRow_up, h8, sub_eq_add_neg, zero_add]

/-- A row past the tokens has no output. -/
theorem headOut_dead (Q A : FVec Ideal ⟨2, ![128, 512]⟩ .f32) (b : Fin 32) (h : Fin 4)
    (X7 X8 X10 : Fin 16 → Fin 128 → EReal) (st : Fin 128 → Fin 256 → EReal) (v : Fin 16 → Fin 256 → EReal)
    (h10 : ∀ r k, X10 r k = padRow Q b.val b.isLt r (hk h k) * Ideal.exp (cum A b h r.val k))
    (r : Fin 16) (hr : ¬ r.val < 4) (w : Fin 256) :
    headOut X7 X8 X10 st v r w = 0 := by
  unfold headOut
  have hz : ∀ k, X10 r k = 0 := fun k => by rw [h10, padRow_ge _ _ _ hr, zero_mul]
  simp [hz]

/-- The output over sixteen rows. -/
theorem out_pad (Q K A : FVec Ideal ⟨2, ![128, 512]⟩ .f32) (Vx : FVec Ideal ⟨2, ![128, 1024]⟩ .bf16)
    (ogx : FVec Ideal ⟨2, ![128, 1024]⟩ .f32) (gnx : FVec Ideal ⟨1, ![256]⟩ .f32)
    (S : FVec Ideal ⟨4, ![32, 4, 128, 256]⟩ .f32) (b : Fin 32) (h : Fin 4)
    (X7 X8 X10 : Fin 16 → Fin 128 → EReal) (st : Fin 128 → Fin 256 → EReal) (v : Fin 16 → Fin 256 → EReal)
    (gn og : Fin 256 → EReal)
    (r : Fin 16)
    (h7 : ∀ r k, X7 r k = padRow K b.val b.isLt r (hk h k)) (h8 : ∀ r k, X8 r k = cum A b h r.val k)
    (h10 : ∀ r k, X10 r k = padRow Q b.val b.isLt r (hk h k) * Ideal.exp (cum A b h r.val k))
    (hst : ∀ k w, st k w = S (ix4 b h k w))
    (hvv : ∀ r w, v r w = padRow Vx b.val b.isLt r (hv h w))
    (hg : ∀ w, gn w = gnx (ix1 w)) (hog : ∀ w, og w = padRow ogx b.val b.isLt r (hv h w)) (w : Fin 256) :
    gate (headOut X7 X8 X10 st v r) gn og w = newOut Q K A Vx ogx gnx S b h r w := by
  unfold newOut
  by_cases hr : r.val < 4
  · rw [dif_pos hr, funext (headOut_live Q K A Vx S b h X7 X8 X10 st v h7 h8 h10 hst hvv r hr), funext hg, funext hog]
    congr 1
    funext w
    exact padRow_lt _ _ _ hr _
  · rw [dif_neg hr]
    unfold gate
    rw [headOut_dead Q A b h X7 X8 X10 st v h10 r hr, zero_mul, zero_mul, zero_mul]

variable (m : (ℓ : Loc nD τ sig) → Buf (Elt Ideal) ℓ)

/-- The sequence a grid point works on. -/
abbrev seqOf (t : Fin cfg0.N) : Fin 32 := ⟨t.val, lt32 t⟩

theorem key_blk (c : Dev nD) (t : Fin cfg0.N) (r : Fin 16) (k : Fin 512) :
    k0_pay7 (F := Ideal) (grid0.coords t) (show FVec Ideal S16x512 .f32 from iblk m c 1 t) (ix2 r k)
      = padRow (φ := .f32) (m ((c : Thread nD τ).loc main_arg1)) (seqOf t).val (seqOf t).isLt r k := by
  rw [key_at _ (coord1 t)]
  by_cases hr : r.val < 4
  · rw [if_pos hr]; exact blk1 m c t r k
  · rw [if_neg hr, padRow_ge _ _ _ hr]

theorem cum_blk (c : Dev nD) (t : Fin cfg0.N) (r : Fin 16) (h : Fin 4) (k : Fin 128) :
    k0_pay8 (F := Ideal) (grid0.coords t) (show FVec Ideal S16x512 .f32 from iblk m c 2 t) (ix2 r (hk h k))
      = cum (m ((c : Thread nD τ).loc main_arg2)) (seqOf t) h r.val k := by
  rw [cum_at _ (coord1 t)]
  unfold cum
  congr 1
  funext j
  exact (blk2 m c t (up j) (hk h k)).trans (padRow_up (φ := .f32) _ (seqOf t) j _)

theorem last_blk (c : Dev nD) (t : Fin cfg0.N) (h : Fin 4) (k : Fin 128) :
    k0_pay9 (F := Ideal) (grid0.coords t) (show FVec Ideal S16x512 .f32 from iblk m c 2 t) (ix2 0 (hk h k))
      = cum (m ((c : Thread nD τ).loc main_arg2)) (seqOf t) h 3 k := by
  rw [last_at, cum_blk]
  exact runSum_last _

theorem query_blk (c : Dev nD) (t : Fin cfg0.N) (r : Fin 16) (h : Fin 4) (k : Fin 128) :
    k0_pay10 (F := Ideal) (grid0.coords t) (show FVec Ideal S16x512 .f32 from iblk m c 2 t)
        (show FVec Ideal S16x512 .f32 from iblk m c 0 t) (ix2 r (hk h k))
      = padRow (φ := .f32) (m ((c : Thread nD τ).loc main_arg0)) (seqOf t).val (seqOf t).isLt r (hk h k)
        * Ideal.exp (cum (m ((c : Thread nD τ).loc main_arg2)) (seqOf t) h r.val k) := by
  rw [query_at, cum_blk]
  congr 1
  exact blk0 m c t r (hk h k)

end Cert.KernelIdeal.Value

end
-- ==== Proof.Points.lean ====
module

public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- A store under four later stores does not show where one of the four covers. -/
theorem drop_last {S : Shape} {e : EltTy} (p3 p2 p1 p0 q : View.Piece (Elt Ideal) S e) (y : S.Idx)
    (hc : ∃ p ∈ [p3, p2, p1, p0], y ∈ p.1.set) :
    View.canon [p3, p2, p1, p0, q] y = View.canon [p3, p2, p1, p0] y := by
  simp only [View.canon_cons]
  by_cases h3 : y ∈ p3.1.set
  · obtain ⟨x, rfl⟩ := p3.1.exists_idx_of_mem h3
    rw [show p3.1.idx x = p3.1.emb x from rfl, Rect.overlay_emb, Rect.overlay_emb]
  rw [Rect.overlay_of_not_mem _ _ _ h3, Rect.overlay_of_not_mem _ _ _ h3]
  by_cases h2 : y ∈ p2.1.set
  · obtain ⟨x, rfl⟩ := p2.1.exists_idx_of_mem h2
    rw [show p2.1.idx x = p2.1.emb x from rfl, Rect.overlay_emb, Rect.overlay_emb]
  rw [Rect.overlay_of_not_mem _ _ _ h2, Rect.overlay_of_not_mem _ _ _ h2]
  by_cases h1 : y ∈ p1.1.set
  · obtain ⟨x, rfl⟩ := p1.1.exists_idx_of_mem h1
    rw [show p1.1.idx x = p1.1.emb x from rfl, Rect.overlay_emb, Rect.overlay_emb]
  rw [Rect.overlay_of_not_mem _ _ _ h1, Rect.overlay_of_not_mem _ _ _ h1]
  by_cases h0 : y ∈ p0.1.set
  · obtain ⟨x, rfl⟩ := p0.1.exists_idx_of_mem h0
    rw [show p0.1.idx x = p0.1.emb x from rfl, Rect.overlay_emb, Rect.overlay_emb]
  simp_all

theorem zoff : BitVec.toNat (Scalar.indexCast (Scalar.muli 0#32 16#32)) = 0 := by decide

/-- The state the grid point writes, all four heads as one value. -/
def stVal (c : Dev nD) (t : Fin cfg0.N) (b : Fin 1) (h : Fin 4) (k : Fin 128) (w : Fin 256) : EReal :=
  newState (m ((c : Thread nD τ).loc main_arg1)) (m ((c : Thread nD τ).loc main_arg2)) (m ((c : Thread nD τ).loc main_arg3))
    (m ((c : Thread nD τ).loc main_arg6)) (seqOf t) h k w

/-- The old state of one head, read from the copy the body makes of it. -/
theorem st_ld (c : Dev nD) (t : Fin cfg0.N) (h : Fin 4) (k : Fin 128) (w : Fin 256)
    (inb : ∀ a, (![0, h.val, 0, 0] : Fin 4 → ℕ) a + (![1, 1, 128, 256] : Fin 4 → ℕ) a ≤ S1x4x128x256.size a) :
    (View.ld (Val := Elt Ideal) (e' := .f32) (k0_pay3 (F := Ideal) (iblk m c 6 t)) (Rect.unit (s := S1x4x128x256) ![0, h.val, 0, 0] ![1, 1, 128, 256] inb) :
      FVec Ideal S1x1x128x256 .f32) (ix4 0 0 k w)
      = (show FVec Ideal S32x4x128x256 .f32 from m ((c : Thread nD τ).loc main_arg6)) (ix4 (seqOf t) h k w) := by
  refine Eq.trans ?_ (blk6 m c t h k w)
  refine (View.ld_unit_apply_of _ _ _ _ _ (ix4 0 h k w) ?_).trans ?_
  · intro a; fin_cases a <;> simp
  · pointwise [k0_pay3]

/-- Head 0's values, gate and heads' rows read out of the point's windows. -/
theorem v_ld0 (c : Dev nD) (t : Fin cfg0.N) (r : Fin 16) (w : Fin 256) :
    (View.ld (Val := Elt Ideal) (S := S16x1024) (e' := .bf16) (iblk m c 3 t) (Rect.unit (s := S16x1024) k0_off2 ![16, 256] k0_off2_inb) : FVec Ideal S16x256 .bf16) (ix2 r w)
      = padRow (φ := .bf16) (m ((c : Thread nD τ).loc main_arg3)) (seqOf t).val (seqOf t).isLt r (hv 0 w) := by
  refine Eq.trans ?_ (blk3 m c t r (hv 0 w))
  refine View.ld_unit_apply_of _ _ _ _ _ _ ?_
  intro a; fin_cases a <;> simp [k0_off2, hv, zoff]

theorem og_ld0 (c : Dev nD) (t : Fin cfg0.N) (r : Fin 16) (w : Fin 256) :
    (View.ld (Val := Elt Ideal) (S := S16x1024) (e' := .f32) (iblk m c 4 t) (Rect.unit (s := S16x1024) k0_off2 ![16, 256] k0_off2_inb) : FVec Ideal S16x256 .f32) (ix2 r w)
      = padRow (φ := .f32) (m ((c : Thread nD τ).loc main_arg4)) (seqOf t).val (seqOf t).isLt r (hv 0 w) := by
  refine Eq.trans ?_ (blk4 m c t r (hv 0 w))
  refine View.ld_unit_apply_of _ _ _ _ _ _ ?_
  intro a; fin_cases a <;> simp [k0_off2, hv, zoff]

/-- Head 1's values, gate and heads' rows read out of the point's windows. -/
theorem v_ld1 (c : Dev nD) (t : Fin cfg0.N) (r : Fin 16) (w : Fin 256) :
    (View.ld (Val := Elt Ideal) (S := S16x1024) (e' := .bf16) (iblk m c 3 t) (Rect.unit (s := S16x1024) k0_off3 ![16, 256] k0_off3_inb) : FVec Ideal S16x256 .bf16) (ix2 r w)
      = padRow (φ := .bf16) (m ((c : Thread nD τ).loc main_arg3)) (seqOf t).val (seqOf t).isLt r (hv 1 w) := by
  refine Eq.trans ?_ (blk3 m c t r (hv 1 w))
  refine View.ld_unit_apply_of _ _ _ _ _ _ ?_
  intro a; fin_cases a <;> simp [k0_off3, hv, zoff]

theorem og_ld1 (c : Dev nD) (t : Fin cfg0.N) (r : Fin 16) (w : Fin 256) :
    (View.ld (Val := Elt Ideal) (S := S16x1024) (e' := .f32) (iblk m c 4 t) (Rect.unit (s := S16x1024) k0_off3 ![16, 256] k0_off3_inb) : FVec Ideal S16x256 .f32) (ix2 r w)
      = padRow (φ := .f32) (m ((c : Thread nD τ).loc main_arg4)) (seqOf t).val (seqOf t).isLt r (hv 1 w) := by
  refine Eq.trans ?_ (blk4 m c t r (hv 1 w))
  refine View.ld_unit_apply_of _ _ _ _ _ _ ?_
  intro a; fin_cases a <;> simp [k0_off3, hv, zoff]

/-- Head 2's values, gate and heads' rows read out of the point's windows. -/
theorem v_ld2 (c : Dev nD) (t : Fin cfg0.N) (r : Fin 16) (w : Fin 256) :
    (View.ld (Val := Elt Ideal) (S := S16x1024) (e' := .bf16) (iblk m c 3 t) (Rect.unit (s := S16x1024) k0_off4 ![16, 256] k0_off4_inb) : FVec Ideal S16x256 .bf16) (ix2 r w)
      = padRow (φ := .bf16) (m ((c : Thread nD τ).loc main_arg3)) (seqOf t).val (seqOf t).isLt r (hv 2 w) := by
  refine Eq.trans ?_ (blk3 m c t r (hv 2 w))
  refine View.ld_unit_apply_of _ _ _ _ _ _ ?_
  intro a; fin_cases a <;> simp [k0_off4, hv, zoff]

theorem og_ld2 (c : Dev nD) (t : Fin cfg0.N) (r : Fin 16) (w : Fin 256) :
    (View.ld (Val := Elt Ideal) (S := S16x1024) (e' := .f32) (iblk m c 4 t) (Rect.unit (s := S16x1024) k0_off4 ![16, 256] k0_off4_inb) : FVec Ideal S16x256 .f32) (ix2 r w)
      = padRow (φ := .f32) (m ((c : Thread nD τ).loc main_arg4)) (seqOf t).val (seqOf t).isLt r (hv 2 w) := by
  refine Eq.trans ?_ (blk4 m c t r (hv 2 w))
  refine View.ld_unit_apply_of _ _ _ _ _ _ ?_
  intro a; fin_cases a <;> simp [k0_off4, hv, zoff]

/-- Head 3's values, gate and heads' rows read out of the point's windows. -/
theorem v_ld3 (c : Dev nD) (t : Fin cfg0.N) (r : Fin 16) (w : Fin 256) :
    (View.ld (Val := Elt Ideal) (S := S16x1024) (e' := .bf16) (iblk m c 3 t) (Rect.unit (s := S16x1024) k0_off5 ![16, 256] k0_off5_inb) : FVec Ideal S16x256 .bf16) (ix2 r w)
      = padRow (φ := .bf16) (m ((c : Thread nD τ).loc main_arg3)) (seqOf t).val (seqOf t).isLt r (hv 3 w) := by
  refine Eq.trans ?_ (blk3 m c t r (hv 3 w))
  refine View.ld_unit_apply_of _ _ _ _ _ _ ?_
  intro a; fin_cases a <;> simp [k0_off5, hv, zoff]

theorem og_ld3 (c : Dev nD) (t : Fin cfg0.N) (r : Fin 16) (w : Fin 256) :
    (View.ld (Val := Elt Ideal) (S := S16x1024) (e' := .f32) (iblk m c 4 t) (Rect.unit (s := S16x1024) k0_off5 ![16, 256] k0_off5_inb) : FVec Ideal S16x256 .f32) (ix2 r w)
      = padRow (φ := .f32) (m ((c : Thread nD τ).loc main_arg4)) (seqOf t).val (seqOf t).isLt r (hv 3 w) := by
  refine Eq.trans ?_ (blk4 m c t r (hv 3 w))
  refine View.ld_unit_apply_of _ _ _ _ _ _ ?_
  intro a; fin_cases a <;> simp [k0_off5, hv, zoff]

theorem point8 (c : Dev nD) (t : Fin cfg0.N) (y : S1x4x128x256.Idx) :
    (outsAt0 m c t).2 y = stVal m c t (y 0) (y 1) (y 2) (y 3) := by
  unfold outsAt0; frame_out
  simp only [readCov_head, readCov_whole, Nat.reduceAdd, Nat.reduceLeDiff, or_true, true_or]
  rw [drop_last _ _ _ _ _ _ (View.cover_of_tiled _ ![1, 1, 128, 256] rfl y)]
  unfold stVal
  canon_tiles x hx
  case piece0 =>
    obtain ⟨k, w, rfl⟩ : ∃ (k : Fin 128) (w : Fin 256), x = ix4 0 0 k w :=
      ⟨x 2, x 3, by funext a; fin_cases a <;> first | rfl | exact Fin.ext (by simp)⟩
    have e1 : y 1 = (3 : Fin 4) := Fin.ext hx1
    have e2 : y 2 = k := Fin.ext hx2
    have e3 : y 3 = w := Fin.ext hx3
    rw [e1, e2, e3]
    refine (st3 _ _ _ _ _ _ _).trans ?_
    exact headState_pad _ _ _ _ (seqOf t) 3 _ _ _ _ _ (fun r k => key_blk m c t r _) (fun r k => cum_blk m c t r 3 k)
      (fun k => last_blk m c t 3 k) (fun k w => st_ld m c t 3 k w _) (fun r w => v_ld3 m c t r w) _ _
  case piece1 =>
    obtain ⟨k, w, rfl⟩ : ∃ (k : Fin 128) (w : Fin 256), x = ix4 0 0 k w :=
      ⟨x 2, x 3, by funext a; fin_cases a <;> first | rfl | exact Fin.ext (by simp)⟩
    have e1 : y 1 = (2 : Fin 4) := Fin.ext hx1
    have e2 : y 2 = k := Fin.ext hx2
    have e3 : y 3 = w := Fin.ext hx3
    rw [e1, e2, e3]
    refine (st2 _ _ _ _ _ _ _).trans ?_
    exact headState_pad _ _ _ _ (seqOf t) 2 _ _ _ _ _ (fun r k => key_blk m c t r _) (fun r k => cum_blk m c t r 2 k)
      (fun k => last_blk m c t 2 k) (fun k w => st_ld m c t 2 k w _) (fun r w => v_ld2 m c t r w) _ _
  case piece2 =>
    obtain ⟨k, w, rfl⟩ : ∃ (k : Fin 128) (w : Fin 256), x = ix4 0 0 k w :=
      ⟨x 2, x 3, by funext a; fin_cases a <;> first | rfl | exact Fin.ext (by simp)⟩
    have e1 : y 1 = (1 : Fin 4) := Fin.ext hx1
    have e2 : y 2 = k := Fin.ext hx2
    have e3 : y 3 = w := Fin.ext hx3
    rw [e1, e2, e3]
    refine (st1 _ _ _ _ _ _ _).trans ?_
    exact headState_pad _ _ _ _ (seqOf t) 1 _ _ _ _ _ (fun r k => key_blk m c t r _) (fun r k => cum_blk m c t r 1 k)
      (fun k => last_blk m c t 1 k) (fun k w => st_ld m c t 1 k w _) (fun r w => v_ld1 m c t r w) _ _
  case piece3 =>
    obtain ⟨k, w, rfl⟩ : ∃ (k : Fin 128) (w : Fin 256), x = ix4 0 0 k w :=
      ⟨x 2, x 3, by funext a; fin_cases a <;> first | rfl | exact Fin.ext (by simp)⟩
    have e1 : y 1 = (0 : Fin 4) := Fin.ext hx1
    have e2 : y 2 = k := Fin.ext hx2
    have e3 : y 3 = w := Fin.ext hx3
    rw [e1, e2, e3]
    refine (st0 _ _ _ _ _ _ _).trans ?_
    exact headState_pad _ _ _ _ (seqOf t) 0 _ _ _ _ _ (fun r k => key_blk m c t r _) (fun r k => cum_blk m c t r 0 k)
      (fun k => last_blk m c t 0 k) (fun k w => st_ld m c t 0 k w _) (fun r w => v_ld0 m c t r w) _ _

/-- The output the grid point writes, by its row and column. -/
def outVal (c : Dev nD) (t : Fin cfg0.N) (r : Fin 16) (h : Fin 4) (w : Fin 256) : EReal :=
  newOut (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (seqOf t) h r w

theorem point7 (c : Dev nD) (t : Fin cfg0.N) (y : S16x1024.Idx) :
    (outsAt0 m c t).1 y = outVal m c t (y 0) ⟨(y 1).val / 256, by have := (y 1).isLt; simp at this; omega⟩ ⟨(y 1).val % 256, by omega⟩ := by
  unfold outsAt0; frame_out
  simp only [readCov_head, readCov_whole, Nat.reduceAdd, Nat.reduceLeDiff, or_true, true_or]
  unfold outVal
  canon_tiles x hx
  case piece0 =>
    obtain ⟨r, w, rfl⟩ : ∃ (r : Fin 16) (w : Fin 256), x = ix2 r w :=
      ⟨x 0, x 1, by funext a; fin_cases a <;> rfl⟩
    have e0 : y 0 = r := Fin.ext hx0
    have hx1' : (y 1).val = 768 + w.val := by first | exact hx1 | (rw [Nat.zero_add]; exact hx1)
    rw [e0]
    refine (o3 _ _ _ _ _ _ _ _ _).trans ?_
    have hw := w.isLt
    have eh : (⟨(y 1).val / 256, by have := (y 1).isLt; simp at this; omega⟩ : Fin 4) = 3 := Fin.ext (by show (y 1).val / 256 = 3; omega)
    have ew : (⟨(y 1).val % 256, by omega⟩ : Fin 256) = w := Fin.ext (by show (y 1).val % 256 = w.val; omega)
    rw [eh, ew]
    exact out_pad _ _ _ _ _ _ _ (seqOf t) 3 _ _ _ _ _ _ _ r (fun r k => key_blk m c t r _) (fun r k => cum_blk m c t r 3 k)
      (fun r k => query_blk m c t r 3 k) (fun k w => st_ld m c t 3 k w _) (fun r w => v_ld3 m c t r w)
      (fun w => blk5 m c t w) (fun w => og_ld3 m c t r w) _
  case piece1 =>
    obtain ⟨r, w, rfl⟩ : ∃ (r : Fin 16) (w : Fin 256), x = ix2 r w :=
      ⟨x 0, x 1, by funext a; fin_cases a <;> rfl⟩
    have e0 : y 0 = r := Fin.ext hx0
    have hx1' : (y 1).val = 512 + w.val := by first | exact hx1 | (rw [Nat.zero_add]; exact hx1)
    rw [e0]
    refine (o2 _ _ _ _ _ _ _ _ _).trans ?_
    have hw := w.isLt
    have eh : (⟨(y 1).val / 256, by have := (y 1).isLt; simp at this; omega⟩ : Fin 4) = 2 := Fin.ext (by show (y 1).val / 256 = 2; omega)
    have ew : (⟨(y 1).val % 256, by omega⟩ : Fin 256) = w := Fin.ext (by show (y 1).val % 256 = w.val; omega)
    rw [eh, ew]
    exact out_pad _ _ _ _ _ _ _ (seqOf t) 2 _ _ _ _ _ _ _ r (fun r k => key_blk m c t r _) (fun r k => cum_blk m c t r 2 k)
      (fun r k => query_blk m c t r 2 k) (fun k w => st_ld m c t 2 k w _) (fun r w => v_ld2 m c t r w)
      (fun w => blk5 m c t w) (fun w => og_ld2 m c t r w) _
  case piece2 =>
    obtain ⟨r, w, rfl⟩ : ∃ (r : Fin 16) (w : Fin 256), x = ix2 r w :=
      ⟨x 0, x 1, by funext a; fin_cases a <;> rfl⟩
    have e0 : y 0 = r := Fin.ext hx0
    have hx1' : (y 1).val = 256 + w.val := by first | exact hx1 | (rw [Nat.zero_add]; exact hx1)
    rw [e0]
    refine (o1 _ _ _ _ _ _ _ _ _).trans ?_
    have hw := w.isLt
    have eh : (⟨(y 1).val / 256, by have := (y 1).isLt; simp at this; omega⟩ : Fin 4) = 1 := Fin.ext (by show (y 1).val / 256 = 1; omega)
    have ew : (⟨(y 1).val % 256, by omega⟩ : Fin 256) = w := Fin.ext (by show (y 1).val % 256 = w.val; omega)
    rw [eh, ew]
    exact out_pad _ _ _ _ _ _ _ (seqOf t) 1 _ _ _ _ _ _ _ r (fun r k => key_blk m c t r _) (fun r k => cum_blk m c t r 1 k)
      (fun r k => query_blk m c t r 1 k) (fun k w => st_ld m c t 1 k w _) (fun r w => v_ld1 m c t r w)
      (fun w => blk5 m c t w) (fun w => og_ld1 m c t r w) _
  case piece3 =>
    obtain ⟨r, w, rfl⟩ : ∃ (r : Fin 16) (w : Fin 256), x = ix2 r w :=
      ⟨x 0, x 1, by funext a; fin_cases a <;> rfl⟩
    have e0 : y 0 = r := Fin.ext hx0
    have hx1' : (y 1).val = 0 + w.val := by first | exact hx1 | (rw [Nat.zero_add]; exact hx1)
    rw [e0]
    refine (o0 _ _ _ _ _ _ _ _ _).trans ?_
    have hw := w.isLt
    have eh : (⟨(y 1).val / 256, by have := (y 1).isLt; simp at this; omega⟩ : Fin 4) = 0 := Fin.ext (by show (y 1).val / 256 = 0; omega)
    have ew : (⟨(y 1).val % 256, by omega⟩ : Fin 256) = w := Fin.ext (by show (y 1).val % 256 = w.val; omega)
    rw [eh, ew]
    exact out_pad _ _ _ _ _ _ _ (seqOf t) 0 _ _ _ _ _ _ _ r (fun r k => key_blk m c t r _) (fun r k => cum_blk m c t r 0 k)
      (fun r k => query_blk m c t r 0 k) (fun k w => st_ld m c t 0 k w _) (fun r w => v_ld0 m c t r w)
      (fun w => blk5 m c t w) (fun w => og_ld0 m c t r w) _

/-- The states of all sequences after the call. -/
theorem final8 (c : Dev nD) : (dats m 0 c).arrAt 8 cfg0.N = fun i =>
    newState (m ((c : Thread nD τ).loc main_arg1)) (m ((c : Thread nD τ).loc main_arg2)) (m ((c : Thread nD τ).loc main_arg3))
      (m ((c : Thread nD τ).loc main_arg6)) (i 0) (i 1) (i 2) (i 3) := by
  refine (dats m 0 c).arrAt_eq_of_covers 8 _ (by decide +kernel) fun t _ y => ?_
  blk_simp
  rw [after0_8]
  refine (point8 m c t y).trans ?_
  unfold stVal
  congr 1
  all_goals (apply Fin.ext; blk_simp [idx t]; try omega)

/-- The outputs of all sequences after the call, sixteen rows each. -/
theorem final7 (c : Dev nD) : (dats m 0 c).arrAt 7 cfg0.N = fun i =>
    newOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) ⟨(i 0).val / 16, by have := (i 0).isLt; simp at this; omega⟩
      ⟨(i 1).val / 256, by have := (i 1).isLt; simp at this; omega⟩ ⟨(i 0).val % 16, by omega⟩ ⟨(i 1).val % 256, by omega⟩ := by
  refine (dats m 0 c).arrAt_eq_of_covers 7 _ (by decide +kernel) fun t _ y => ?_
  blk_simp
  rw [after0_7]
  refine (point7 m c t y).trans ?_
  unfold outVal
  have hy := (y 0).isLt
  simp at hy
  congr 1
  all_goals (apply Fin.ext; blk_simp [idx t])
  · show t.val = (t.val * 16 + (y 0).val) / 16; omega
  · show (y 0).val = (t.val * 16 + (y 0).val) % 16; omega

end Cert.KernelIdeal.Value

end
-- ==== Proof.Ref.lean ====
module

public import proofs.«01_k».proof.Proof.Spec
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.ReferenceIdeal.Read
open Cert.KernelIdeal.Value (cum runSum hk hv row newState preOut gate newOut)

theorem win_numel : (⟨4, ![1, 4, 1, 1]⟩ : Shape).numel = 4 := by decide

theorem win_at : ∀ (n : Fin (⟨4, ![1, 4, 1, 1]⟩ : Shape).numel) (a : Fin 4),
    ((⟨4, ![1, 4, 1, 1]⟩ : Shape).rowMajor.symm n a).val = if a = 1 then n.val else 0 := by
  decide +kernel

theorem win_list : List.finRange (⟨4, ![1, 4, 1, 1]⟩ : Shape).numel
    = [⟨0, by decide⟩, ⟨1, by decide⟩, ⟨2, by decide⟩, ⟨3, by decide⟩] := by decide +kernel

/-- One position of a window. -/
theorem window_term (X : FVec Ideal S32x4x4x128 .f32) (p : Fin 4 → ℕ) (b : Fin 32) (h : Fin 4) (k : Fin 128) (q : ℕ)
    (hp : ∀ a, p a = (![b.val, q, h.val, k.val] : Fin 4 → ℕ) a) :
    (if hin : ∀ a : Fin 4, (![0, 3, 0, 0] : Fin 4 → ℕ) a ≤ p a ∧ p a - (![0, 3, 0, 0] : Fin 4 → ℕ) a < S32x4x4x128.size a then
      (X fun a => ⟨p a - (![0, 3, 0, 0] : Fin 4 → ℕ) a, (hin a).2⟩ : EReal) else 0)
    = if hq : 3 ≤ q ∧ q < 7 then X (ix4 b ⟨q - 3, by omega⟩ h k) else 0 := by
  obtain rfl : p = ![b.val, q, h.val, k.val] := funext hp
  by_cases hq : 3 ≤ q ∧ q < 7
  · rw [dif_pos hq, dif_pos]
    · refine congrArg X (funext fun a => ?_)
      fin_cases a <;> rfl
    · intro a
      have := b.isLt; have := h.isLt; have := k.isLt
      fin_cases a <;> simp <;> omega
  · rw [dif_neg hq, dif_neg]
    intro hin
    have := hin 1
    simp at this
    omega

/-- A running sum along the second axis, written as windows of four rows padded by three. -/
theorem window_sum (X : FVec Ideal S32x4x4x128 .f32) (init : FVec Ideal S_ .f32) (h0 : init (Shape.Idx.first h_S_) = (0 : EReal))
    (b : Fin 32) (r : Fin 4) (h : Fin 4) (k : Fin 128) :
    Host.reduceWindowAdd (F := Ideal) ![1, 4, 1, 1] ![1, 1, 1, 1] ![0, 3, 0, 0] ![0, 0, 0, 0] X init
        reduceWindows_S32x4x4x128_S32x4x4x128_w1s1p0_0_w4s1p3_0_w1s1p0_0_w1s1p0_0 h_S_ (ix4 b r h k)
      = runSum (fun j => X (ix4 b j h k)) r.val := by
  have hb := b.isLt
  have hh := h.isLt
  have hkk := k.isLt
  have hd : ∀ a : Fin 4, ((ix4 b r h k : S32x4x4x128.Idx) a).val = (![b.val, r.val, h.val, k.val] : Fin 4 → ℕ) a := by
    intro a; fin_cases a <;> rfl
  refine Eq.trans (b := Host.reduceWindow (t := S32x4x4x128) (fun (x y : EReal) => x + y) ![1, 4, 1, 1] ![1, 1, 1, 1] ![0, 3, 0, 0] ![0, 0, 0, 0] X
    (fun _ : S_.Idx => init (Shape.Idx.first h_S_)) reduceWindows_S32x4x4x128_S32x4x4x128_w1s1p0_0_w4s1p3_0_w1s1p0_0_w1s1p0_0 h_S_ (ix4 b r h k)) rfl ?_
  unfold Host.reduceWindow
  rw [h0]
  simp only [win_list, List.foldl_cons, List.foldl_nil]
  refine (congrArg₂ (· + ·) (congrArg₂ (· + ·) (congrArg₂ (· + ·) (congrArg₂ (· + ·) rfl
    (window_term X _ b h k (r.val + 0) ?_)) (window_term X _ b h k (r.val + 1) ?_)) (window_term X _ b h k (r.val + 2) ?_))
    (window_term X _ b h k (r.val + 3) ?_)).trans ?_
  iterate 4
    · intro a
      show ((ix4 b r h k : S32x4x4x128.Idx) a).val * (![1, 1, 1, 1] : Fin 4 → ℕ) a + _ = _
      rw [win_at, hd]
      fin_cases a <;> simp
  unfold runSum
  rw [Fin.sum_univ_four]
  fin_cases r <;> simp [add_assoc]

/-- The reference's running sum. -/
theorem cum_ref (x2 : FVec Ideal S128x512 .f32) (b : Fin 32) (r : Fin 4) (h : Fin 4) (k : Fin 128) :
    val_main_v7 (F := Ideal) x2 (ix4 b r h k) = cum x2 b h r.val k := by
  unfold val_main_v7
  rw [window_sum _ _ (by simp [val_main_call1_call0_v0_apply, val_main_call1_call0_cst_apply])]
  unfold cum
  congr 1
  funext j
  pointwise [val_main_v4]
  refine congrArg x2 ?_
  blk_ext

/-- The reference's new state. -/
theorem state_ref (x1 x2 : FVec Ideal S128x512 .f32) (x3 : FVec Ideal S128x1024 .bf16) (x6 : FVec Ideal S32x4x128x256 .f32)
    (b : Fin 32) (h : Fin 4) (k : Fin 128) (w : Fin 256) :
    val_main_v31 (F := Ideal) x1 x2 x3 x6 (ix4 b h k w) = newState x1 x2 x3 x6 b h k w := by
  pointwise [val_main_v0, val_main_v1, val_main_v2, val_main_v3, val_main_v4, val_main_v5, val_main_v6, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31]
  unfold newState
  simp only [cum_ref, hk, hv, Nat.mul_comm]
  rfl

/-- The causal choice of the reference. -/
theorem causal (r x : Fin 4) : Scalar.select
      (IntOp.cmpi CmpIPredicate.sge (IntOp.addi (BitVec.ofNat 32 r.val) 0#32) (BitVec.ofNat 32 x.val)) 1#1 0#1
    = if x.val ≤ r.val then 1#1 else 0#1 := by
  revert r x; decide +kernel

/-- The reference's output before the norm. -/
theorem pre_ref (x0 x1 x2 : FVec Ideal S128x512 .f32) (x3 : FVec Ideal S128x1024 .bf16) (x6 : FVec Ideal S32x4x128x256 .f32)
    (b : Fin 32) (h : Fin 4) (r : Fin 4) (w : Fin 256) :
    val_main_v32 (F := Ideal) x0 x1 x2 x3 x6 (ix4 b r h w) = preOut x0 x1 x2 x3 x6 b h r w := by
  pointwise [val_main_v0, val_main_v1, val_main_v2, val_main_v3, val_main_v4, val_main_c, val_main_v5, val_main_call0_v0, val_main_call0_c, val_main_call0_v1, val_main_call0_v2, val_main_call0_v3, val_main_call0_v4, val_main_call0_c_0, val_main_call0_v5, val_main_v6, val_main_call1_call0_cst, val_main_call1_call0_v0, val_main_v8, val_main_v9, val_main_v10, val_main_v11, val_main_v12, val_main_v13, val_main_v14, val_main_v15, val_main_cst, val_main_call2_v0, val_main_call2_v1, val_main_call2_v2, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst_0, val_main_cst_1, val_main_cst_2, val_main_call3_v0, val_main_call3_v1, val_main_call3_cst, val_main_call3_v2, val_main_call3_v3, val_main_call3_cst_0, val_main_call3_v4, val_main_call3_v5, val_main_c_3, val_main_call4_v0]
  have hz : id (constant (F := Ideal) S_ FTy.f32 0#32) ix0 = 0 := by
    show (constant (F := Ideal) S_ FTy.f32 0#32) ix0 = 0
    pointwise []
    all_goals trace_state
  simp only [causal, Cert.KernelIdeal.Value.sel_if, cum_ref, hz]
  unfold preOut
  congr 1
  · refine Finset.sum_congr rfl fun k _ => ?_
    rw [mul_comm]
    simp only [hk, Nat.mul_comm]
  · refine Finset.sum_congr rfl fun x _ => ?_
    rw [mul_comm, Cert.KernelIdeal.Value.if_mul]
    simp only [hk, hv, Nat.mul_comm]

/-- The reference's gated, normed output. -/
theorem out_ref (x0 x1 x2 : FVec Ideal S128x512 .f32) (x3 : FVec Ideal S128x1024 .bf16) (x4 : FVec Ideal S128x1024 .f32)
    (x5 : FVec Ideal S256 .f32) (x6 : FVec Ideal S32x4x128x256 .f32)
    (b : Fin 32) (h : Fin 4) (r : Fin 4) (w : Fin 256) :
    val_main_v48 (F := Ideal) x0 x1 x2 x3 x4 x5 x6 (ix4 b r h w)
      = gate (preOut x0 x1 x2 x3 x6 b h r) (fun w => x5 (ix1 w)) (fun w => x4 (ix2 (row b r) (hv h w))) w := by
  pointwise [val_main_cst, val_main_v33, val_main_cst_0, val_main_v34, val_main_v35, val_main_cst_1, val_main_v36, val_main_v37, val_main_cst_2, val_main_v38, val_main_v39, val_main_v40, val_main_v41, val_main_v42, val_main_v43, val_main_v44, val_main_v45, val_main_call3_v0, val_main_call3_v1, val_main_call3_cst, val_main_call3_v2, val_main_call3_v3, val_main_call3_cst_0, val_main_call3_v4, val_main_call3_v5, val_main_v46, val_main_v47, val_main_v48, gate]
  simp only [pre_ref]
  simp only [hk, hv, Nat.mul_comm, Ideal.logistic]

/-- The reference's first result, with the twelve empty rows of each sequence. -/
theorem res_ref (x0 x1 x2 : FVec Ideal S128x512 .f32) (x3 : FVec Ideal S128x1024 .bf16) (x4 : FVec Ideal S128x1024 .f32)
    (x5 : FVec Ideal S256 .f32) (x6 : FVec Ideal S32x4x128x256 .f32) (r : Fin 512) (w : Fin 1024) :
    val_main_v52 (F := Ideal) x0 x1 x2 x3 x4 x5 x6 (ix2 r w)
      = newOut x0 x1 x2 x3 x4 x5 x6 ⟨r.val / 16, by omega⟩ ⟨w.val / 256, by omega⟩ ⟨r.val % 16, by omega⟩ ⟨w.val % 256, by omega⟩ := by
  pointwise [val_main_c, val_main_call0_v0, val_main_call0_c, val_main_call0_v1, val_main_call0_v2, val_main_call0_v3, val_main_call0_v4, val_main_call0_c_0, val_main_call0_v5, val_main_call1_call0_cst, val_main_call1_call0_v0, val_main_cst, val_main_call2_v0, val_main_call2_v1, val_main_call2_v2, val_main_cst_0, val_main_cst_1, val_main_cst_2, val_main_call3_v0, val_main_call3_v1, val_main_call3_cst, val_main_call3_v2, val_main_call3_v3, val_main_call3_cst_0, val_main_call3_v4, val_main_call3_v5, val_main_v49, val_main_c_3, val_main_call4_v0, val_main_v50, val_main_v51, val_main_v52, newOut]
  have h1 : r.val / 16 < 32 := by omega
  by_cases h : r.val % 16 < 4
  · rw [dif_pos ⟨h1, h⟩, dif_pos h]
    exact out_ref x0 x1 x2 x3 x4 x5 x6 _ _ _ _
  · rw [dif_neg (fun q => h q.2), dif_neg h]
    exact Cert.KernelIdeal.Value.sitofp_zero _

end Cert.ReferenceIdeal.Value

end
-- ==== Proof.Algebra.lean ====
module

public import proofs.«01_k».proof.Defs
public import proofs.«01_k».proof.Proof.Points
public import proofs.«01_k».proof.Proof.Ref
public import proofs.«01_k».proof.Proof.Gen.KernelIdeal.Value

@[expose] public section

set_option maxRecDepth 16384

noncomputable section

open Idealize.ShloMosaic Idealize.ShloMosaic.TcCoe Idealize.SL.Sem

namespace Cert.Proof

/-- The step over the four new tokens: the kernel's padded outputs and its new states are the reference's. -/
theorem gla_sample : Cert.algebraic_KernelIdeal_ReferenceIdeal (hKernelIdeal := Cert.KernelIdeal.Gen.facts)
    (hReferenceIdeal := Cert.ReferenceIdeal.Gen.facts) := by
  intro m g m' g' hpre hagree
  refine ⟨fun c => (Cert.KernelIdeal.Gen.dats m 0 c).arrAt 7 Cert.KernelIdeal.cfg0.N,
    fun c => (Cert.KernelIdeal.Gen.dats m 0 c).arrAt 8 Cert.KernelIdeal.cfg0.N, Cert.KernelIdeal.Value.run_blocks m g, ?_⟩
  refine (θ_run _ _ _).mono (fun r h c => ?_) (Cert.ReferenceIdeal.Value.run m' g')
  obtain ⟨h0, h1, hrest⟩ := h c
  obtain ⟨a0, a1, a2, a3, a4, a5, a6⟩ := hagree c
  have e0 : Cert.ReferenceIdeal.Value.res_main_v52 m' c = (Cert.KernelIdeal.Gen.dats m 0 c).arrAt 7 Cert.KernelIdeal.cfg0.N := by
    rw [Cert.ReferenceIdeal.Read.val_main_v52_eq, a0, a1, a2, a3, a4, a5, a6, Cert.KernelIdeal.Value.final7]
    funext i
    obtain ⟨r, w, rfl⟩ : ∃ (r : Fin 512) (w : Fin 1024), i = ix2 r w := ⟨i 0, i 1, by funext a; fin_cases a <;> rfl⟩
    exact Cert.ReferenceIdeal.Value.res_ref _ _ _ _ _ _ _ r w
  have e1 : Cert.ReferenceIdeal.Read.val_main_v31 (F := Ideal) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg6)) = (Cert.KernelIdeal.Gen.dats m 0 c).arrAt 8 Cert.KernelIdeal.cfg0.N := by
    rw [a1, a2, a3, a6, Cert.KernelIdeal.Value.final8]
    funext i
    obtain ⟨b, h, k, w, rfl⟩ : ∃ (b : Fin 32) (h : Fin 4) (k : Fin 128) (w : Fin 256), i = ix4 b h k w :=
      ⟨i 0, i 1, i 2, i 3, by funext a; fin_cases a <;> rfl⟩
    exact Cert.ReferenceIdeal.Value.state_ref _ _ _ _ b h k w
  exact ⟨h0.trans e0, h1.trans ((Cert.ReferenceIdeal.Read.val_main_v31_eq _ _ _ _).trans e1), hrest⟩

/-- The reference runs to its end, keeps its arguments and has no semaphore. -/
theorem gla_sample_reference_frame : Cert.quiescent_ReferenceIdeal (hReferenceIdeal := Cert.ReferenceIdeal.Gen.facts) := by
  intro m g _
  exact (θ_run _ _ _).mono (fun r h => ⟨fun c => (h c).2.2, Idealize.ShloMosaic.sem_eq_zero_of_no_sems (by decide) r.2⟩)
    (Cert.ReferenceIdeal.Value.run m g)

end Cert.Proof

end
-- ==== Proof.InMath.lean ====
module

public import Idealize.ShloMosaic.Lib.Pointwise
public import Idealize.ShloMosaic.Lib.IdealHost
public import Idealize.ShloMosaic.Lib.ValueIdx

@[expose] public section

noncomputable section

open Idealize.ShloMosaic

namespace Cert.Layer

/-- A row of the modulated norm: `rms_norm(x, g) * (1 + scale) + shift`. -/
def normed (x g sc sh : Fin 1024 → EReal) (d : Fin 1024) : EReal :=
  x d * Ideal.rsqrt (Ideal.div (∑ j, x j * x j) (Ideal.ofBits .f32 1149239296#32) + Ideal.ofBits .f32 897988541#32) * g d
    * (1 + sc d) + sh d

/-- A row times one column of the weights. -/
def proj (h : Fin 1024 → EReal) (W : Fin 1024 → Fin 6672 → EReal) (n : Fin 6672) : EReal := ∑ d, h d * W d n

/-- The norm over each head of 64 of a row of 512. -/
def headNorm (z : Fin 512 → EReal) (g : Fin 64 → EReal) (d : Fin 512) : EReal :=
  z d * Ideal.rsqrt (Ideal.div (∑ j : Fin 64, z ⟨d.val / 64 * 64 + j.val, by omega⟩ * z ⟨d.val / 64 * 64 + j.val, by omega⟩)
    (Ideal.ofBits .f32 1115684864#32) + Ideal.ofBits .f32 897988541#32) * g ⟨d.val % 64, by omega⟩

/-- The log decay: a log sigmoid, over sixteen. -/
def logDecay (z : EReal) : EReal :=
  (min z 0 - Ideal.log1p (Ideal.exp (0 - max z (-z)))) * Ideal.ofBits .f32 1031798784#32

theorem lit_div64 (x : EReal) : Ideal.div x (Ideal.ofBits .f32 1115684864#32) = x * Ideal.ofBits .f32 1015021568#32 := by
  have e1 : Ideal.ofBits .f32 1115684864#32 = ((64 : ℝ) : EReal) := by
    simp [Ideal.ofBits, Ideal.ieee]; rw [← EReal.coe_mul]; norm_num
  have e2 : Ideal.ofBits .f32 1015021568#32 = ((64 : ℝ)⁻¹ : ℝ) := by
    simp [Ideal.ofBits, Ideal.ieee]; rw [← EReal.coe_mul]; norm_num
  rw [e1, e2, Ideal.div, if_neg (by simp), EReal.coe_inv]

theorem lit_div16 (x : EReal) : Ideal.div x (Ideal.ofBits .f32 1098907648#32) = x * Ideal.ofBits .f32 1031798784#32 := by
  have e1 : Ideal.ofBits .f32 1098907648#32 = ((16 : ℝ) : EReal) := by
    simp [Ideal.ofBits, Ideal.ieee]; rw [← EReal.coe_mul]; norm_num
  have e2 : Ideal.ofBits .f32 1031798784#32 = ((16 : ℝ)⁻¹ : ℝ) := by
    simp [Ideal.ofBits, Ideal.ieee]; rw [← EReal.coe_mul]; norm_num
  rw [e1, e2, Ideal.div, if_neg (by simp), EReal.coe_inv]

theorem lit_div256 (x : EReal) : Ideal.div x (Ideal.ofBits .f32 1132462080#32) = x * Ideal.ofBits .f32 998244352#32 := by
  have e1 : Ideal.ofBits .f32 1132462080#32 = ((256 : ℝ) : EReal) := by
    simp [Ideal.ofBits, Ideal.ieee]; rw [← EReal.coe_mul]; norm_num
  have e2 : Ideal.ofBits .f32 998244352#32 = ((256 : ℝ)⁻¹ : ℝ) := by
    simp [Ideal.ofBits, Ideal.ieee]; rw [← EReal.coe_mul]; norm_num
  rw [e1, e2, Ideal.div, if_neg (by simp), EReal.coe_inv]

/-- `log (1 + e^(-|z|))` is a real number. -/
theorem log1p_exp_real (z : EReal) : ∃ r : ℝ, Ideal.log1p (Ideal.exp (0 - max z (-z))) = (r : EReal) := by
  induction z with
  | bot =>
    refine ⟨Real.log 1, ?_⟩
    rw [show (0 : EReal) - max ⊥ (-⊥) = ⊥ by simp]
    show Ideal.log (1 + 0) = _
    rw [add_zero, ← EReal.coe_one]
    show (if (1 : ℝ) ≤ 0 then (⊥ : EReal) else _) = _
    rw [if_neg (by norm_num)]
  | top =>
    refine ⟨Real.log 1, ?_⟩
    rw [show (0 : EReal) - max ⊤ (-⊤) = ⊥ by simp]
    show Ideal.log (1 + 0) = _
    rw [add_zero, ← EReal.coe_one]
    show (if (1 : ℝ) ≤ 0 then (⊥ : EReal) else _) = _
    rw [if_neg (by norm_num)]
  | coe z =>
    have e : (0 : EReal) - max (z : EReal) (-(z : EReal)) = ((0 - max z (-z) : ℝ) : EReal) := by
      rw [← EReal.coe_neg, ← EReal.coe_zero, EReal.coe_sub, EReal.coe_strictMono.monotone.map_max]
    refine ⟨Real.log (1 + Real.exp (0 - max z (-z))), ?_⟩
    rw [e]
    show Ideal.log (1 + ((Real.exp (0 - max z (-z)) : ℝ) : EReal)) = _
    rw [← EReal.coe_one, ← EReal.coe_add]
    show (if 1 + Real.exp (0 - max z (-z)) ≤ 0 then (⊥ : EReal) else _) = _
    rw [if_neg (by have := Real.exp_pos (0 - max z (-z)); linarith)]

/-- The log sigmoid written as the negated softplus of the negated argument. -/
theorem neg_softplus (z : EReal) : -(max (-z) 0 + Ideal.log1p (Ideal.exp (0 - max z (-z))))
    = min z 0 - Ideal.log1p (Ideal.exp (0 - max z (-z))) := by
  obtain ⟨r, hr⟩ := log1p_exp_real z
  rw [hr, EReal.neg_add (.inr (EReal.coe_ne_top r)) (.inr (EReal.coe_ne_bot r)), sub_eq_add_neg, sub_eq_add_neg]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- A sum over 512 lanes against the ones of one head is the sum over the head. -/
theorem head_sum (f : Fin 512 → EReal) (d : Fin 512) :
    ∑ x : Fin 512, f x * (if x.val / 64 = d.val / 64 then 1 else 0)
      = ∑ e : Fin 64, f ⟨64 * (d.val / 64) + e.val, by have := d.isLt; have := e.isLt; omega⟩ := by
  have hd := d.isLt
  rw [← (finProdFinEquiv (m := 8) (n := 64)).sum_comp, Fintype.sum_prod_type]
  rw [Finset.sum_eq_single (⟨d.val / 64, by omega⟩ : Fin 8)]
  · refine Finset.sum_congr rfl fun e _ => ?_
    have he := e.isLt
    have h1 : ((finProdFinEquiv ((⟨d.val / 64, by omega⟩ : Fin 8), e) : Fin (8 * 64)) : ℕ) = e.val + 64 * (d.val / 64) := rfl
    rw [if_pos (by rw [h1]; omega), mul_one]
    exact congrArg f (Fin.ext (by rw [h1]; exact Nat.add_comm _ _))
  · intro h _ hne
    refine Finset.sum_eq_zero fun e _ => ?_
    have he := e.isLt
    have h1 : ((finProdFinEquiv (h, e) : Fin (8 * 64)) : ℕ) = e.val + 64 * h.val := rfl
    rw [if_neg, mul_zero]
    intro hc
    rw [h1] at hc
    apply hne
    apply Fin.ext
    show h.val = d.val / 64
    omega
  · intro h
    exact absurd (Finset.mem_univ _) h

/-- Rows and columns of zeros add nothing to a product of two matrices. -/
theorem rank_sum (f g : Fin 16 → EReal) :
    ∑ x : Fin 128, (if h : x.val < 16 then f ⟨x.val, h⟩ else 0) * (if h : x.val < 16 then g ⟨x.val, h⟩ else 0)
      = ∑ x : Fin 16, f x * g x := by
  refine (Fin.sum_univ_add (a := 16) (b := 112) (M := EReal) (fun x : Fin (16 + 112) =>
    (if h : x.val < 16 then f ⟨x.val, h⟩ else 0) * (if h : x.val < 16 then g ⟨x.val, h⟩ else 0))).trans ?_
  refine Eq.trans (congrArg₂ (fun a b : EReal => a + b) ?_ ?_) (add_zero (∑ x : Fin 16, f x * g x))
  · refine Finset.sum_congr rfl fun x _ => ?_
    have hx := x.isLt
    rw [dif_pos (by simp), dif_pos (by simp)]
    rfl
  · refine Finset.sum_eq_zero fun x _ => ?_
    rw [dif_neg (by simp), zero_mul]

/-- The norm over a head with its sum of squares taken against the ones of that head. -/
theorem headNorm_of_ones (z : Fin 512 → EReal) (s : Fin 512 → EReal) (g : Fin 64 → EReal) (g' : EReal) (d : Fin 512)
    (hs : ∀ x : Fin 512, s x = if x.val / 64 = d.val / 64 then 1 else 0) (hg : g' = g ⟨d.val % 64, by omega⟩) :
    z d * Ideal.rsqrt ((∑ x, z x * z x * s x) * Ideal.ofBits .f32 1015021568#32 + Ideal.ofBits .f32 897988541#32) * g' = headNorm z g d := by
  have e : ∀ x : Fin 512, z x * z x * s x = (fun x => z x * z x) x * (if x.val / 64 = d.val / 64 then 1 else 0) := fun x => by rw [hs x]
  rw [Finset.sum_congr rfl fun x _ => e x, head_sum, ← lit_div64, hg]
  unfold headNorm
  have e2 : ∀ j : Fin 64, (⟨64 * (d.val / 64) + j.val, by have := d.isLt; have := j.isLt; omega⟩ : Fin 512)
      = ⟨d.val / 64 * 64 + j.val, by have := d.isLt; have := j.isLt; omega⟩ := fun j => Fin.ext (by show 64 * (d.val / 64) + j.val = d.val / 64 * 64 + j.val; omega)
  simp only [e2]

/-- The log decay written with a softplus, its test for an undefined argument never true. -/
theorem logDecay_softplus (z : EReal) (p : Prop) [Decidable p] (hp : ¬p) :
    Ideal.div (-(if p then -z else max (-z) 0 + Ideal.log1p (Ideal.exp (-max (-z) (- -z))))) (Ideal.ofBits .f32 1098907648#32) = logDecay z := by
  rw [if_neg hp, lit_div16, neg_neg, max_comm (-z) z]
  have e : -max z (-z) = 0 - max z (-z) := by rw [sub_eq_add_neg, zero_add]
  rw [e, neg_softplus]
  rfl

end Cert.Layer

end
-- ==== Proof.InSampleEntry.lean ====
module

public import proofs.«01_k».proof.Proof.Gen.InSampleIdeal.Frame
public import proofs.«01_k».proof.Proof.InMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InSampleIdeal.Value

open Cert.InSampleIdeal Cert.InSampleIdeal.Gen Cert.Layer

variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, 0] ∧ win0_16.index t = ![0, 0] :=
  (by decide +kernel : ∀ t : Fin grid0.N, _)

theorem sitofp_zero (φ : FTy) : (FloatOps.sitofp (F := Ideal) φ (0#32 : BitVec 32) : EReal) = 0 := by
  show (((0#32 : BitVec 32).toInt : ℝ) : EReal) = 0
  simp

theorem entry0 (c : Dev nD) (r : Fin 128) (d : Fin 1024) : (show FVec Ideal S128x1024 .f32 from V m c main_v25) (ix2 r d)
    = (show FVec Ideal S32x4x1024 .f32 from m ((c : Thread nD τ).loc main_arg0)) (ix3 ⟨r.val / 4, by omega⟩ ⟨r.val % 4, by omega⟩ d) := by
  simp only [V, hostOps0, hostOps0_1, hostOps0_2, hostOps0_3, hostOps0_4, hostOps0_5, hostOps0_6, List.flatten_cons, List.flatten_nil, List.append_nil, List.cons_append, List.nil_append]
  entry_read
  change (shapeCast S128x1024 (show FVec Ideal S32x4x1024 .f32 from m ((c : Thread nD τ).loc main_arg0)) shapeCasts_S32x4x1024_S128x1024) (ix2 r d) = _
  pointwise

theorem entry1 (c : Dev nD) (r : Fin 128) (n : Fin 6144) : (show FVec Ideal S128x6144 .f32 from V m c main_v27) (ix2 r n)
    = (show FVec Ideal S32x6144 .f32 from m ((c : Thread nD τ).loc main_arg1)) (ix2 ⟨r.val / 4, by omega⟩ n) := by
  simp only [V, hostOps0, hostOps0_1, hostOps0_2, hostOps0_3, hostOps0_4, hostOps0_5, hostOps0_6, List.flatten_cons, List.flatten_nil, List.append_nil, List.cons_append, List.nil_append]
  entry_read
  change (shapeCast S128x6144 (broadcastInDim S32x4x6144 ![0, 2] bcast_S32x6144_S32x4x6144_0_2 (show FVec Ideal S32x6144 .f32 from m ((c : Thread nD τ).loc main_arg1))) shapeCasts_S32x4x6144_S128x6144) (ix2 r n) = _
  pointwise

theorem entry2 (c : Dev nD) (d : Fin 1024) : (show FVec Ideal S1x1024 .f32 from V m c main_v4) (ix2 0 d)
    = (show FVec Ideal S1024 .f32 from m ((c : Thread nD τ).loc main_arg2)) (ix1 d) := by
  simp only [V, hostOps0, hostOps0_1, hostOps0_2, hostOps0_3, hostOps0_4, hostOps0_5, hostOps0_6, List.flatten_cons, List.flatten_nil, List.append_nil, List.cons_append, List.nil_append]
  entry_read
  change (shapeCast S1x1024 (show FVec Ideal S1024 .f32 from m ((c : Thread nD τ).loc main_arg2)) shapeCasts_S1024_S1x1024) (ix2 0 d) = _
  pointwise

theorem entry3 (c : Dev nD) (d : Fin 1024) (n : Fin 4736) : (show FVec Ideal S1024x4736 .bf16 from V m c main_v7) (ix2 d n)
    = if h : n.val < 4624 then (show FVec Ideal S1024x6672 .f32 from m ((c : Thread nD τ).loc main_arg3)) (ix2 d ⟨n.val, by omega⟩) else 0 := by
  simp only [V, hostOps0, hostOps0_1, hostOps0_2, hostOps0_3, hostOps0_4, hostOps0_5, hostOps0_6, List.flatten_cons, List.flatten_nil, List.append_nil, List.cons_append, List.nil_append]
  entry_read
  change (truncf .bf16 (concatenate S1024x4736 1 [⟨S1024x4608, extractStridedSlice S1024x4608 ![0, 0] (show FVec Ideal S1024x6672 .f32 from m ((c : Thread nD τ).loc main_arg3)) slices_S1024x6672_S1024x4608_0_0⟩,
    ⟨S1024x128, pad S1024x128 ![0, 0] ![0, 112] ![0, 0] (extractStridedSlice S1024x16 ![0, 4608] (show FVec Ideal S1024x6672 .f32 from m ((c : Thread nD τ).loc main_arg3)) slices_S1024x6672_S1024x16_0_4608) (sitofp .f32 (constantI S_ 32 0#32)) pads_S1024x16_S1024x128_000_01120 h_S_⟩] concatenates_S1024x4608_S1024x128_S1024x4736_d1) bitsLt_bf16_f32) (ix2 d n) = _
  pointwise
  by_cases h1 : n.val < 4608
  · simp [h1, show n.val < 4624 by omega]
  · by_cases h2 : n.val - 4608 < 16
    · have e : 4608 + (n.val - 4608) = n.val := by omega
      simp [h1, h2, show n.val < 4624 by omega, e]
    · simp only [h1, h2, show ¬ n.val < 4624 by omega, dite_false]
      exact sitofp_zero _

def headOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

theorem headOf_eq : ∀ i : Fin 512, headOf (ix1 i) = BitVec.ofNat 32 (i.val / 64) := by decide +kernel

theorem entry4 (c : Dev nD) (a b : Fin 512) : (show FVec Ideal S512x512 .bf16 from V m c main_v13) (ix2 a b)
    = if a.val / 64 = b.val / 64 then 1 else 0 := by
  simp only [V, hostOps0, hostOps0_1, hostOps0_2, hostOps0_3, hostOps0_4, hostOps0_5, hostOps0_6, List.flatten_cons, List.flatten_nil, List.append_nil, List.cons_append, List.nil_append]
  entry_read
  change (uitofp (F := Ideal) .bf16 (cmpi .eq (broadcastInDim S512x512 ![0, 1] bcast_S512x1_S512x512_0_1 (broadcastInDim S512x1 ![0] bcast_S512_S512x1_0 headOf))
    (broadcastInDim S512x512 ![0, 1] bcast_S1x512_S512x512_0_1 (broadcastInDim S1x512 ![1] bcast_S512_S1x512_1 headOf)))) (ix2 a b) = _
  pointwise
  simp only [headOf_eq]
  have ha := a.isLt
  have hb := b.isLt
  by_cases h : a.val / 64 = b.val / 64
  · rw [h, if_pos rfl]
    show (((IntOp.cmpi .eq (BitVec.ofNat 32 (b.val / 64)) (BitVec.ofNat 32 (b.val / 64))).toNat : ℝ) : EReal) = 1
    simp [IntOp.cmpi]
  · rw [if_neg h]
    have hne : (BitVec.ofNat 32 (a.val / 64) == BitVec.ofNat 32 (b.val / 64)) = false := by
      rw [beq_eq_false_iff_ne]
      intro hc
      have := congrArg BitVec.toNat hc
      simp only [BitVec.toNat_ofNat] at this
      omega
    show (((IntOp.cmpi .eq (BitVec.ofNat 32 (a.val / 64)) (BitVec.ofNat 32 (b.val / 64))).toNat : ℝ) : EReal) = 0
    simp [IntOp.cmpi, hne]

theorem entry5 (c : Dev nD) (d : Fin 512) : (show FVec Ideal S1x512 .f32 from V m c main_v17) (ix2 0 d)
    = (show FVec Ideal S64 .f32 from m ((c : Thread nD τ).loc main_arg6)) (ix1 ⟨d.val % 64, by omega⟩) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (shapeCast S512 (broadcastInDim S8x64 ![0, 1] bcast_S1x64_S8x64_0_1 (shapeCast S1x64 (show FVec Ideal S64 .f32 from m ((c : Thread nD τ).loc main_arg6)) shapeCasts_S64_S1x64)) shapeCasts_S8x64_S512) shapeCasts_S512_S1x512) (ix2 0 d) = _
  pointwise

theorem entry6 (c : Dev nD) (d : Fin 512) : (show FVec Ideal S1x512 .f32 from V m c main_v21) (ix2 0 d)
    = (show FVec Ideal S64 .f32 from m ((c : Thread nD τ).loc main_arg7)) (ix1 ⟨d.val % 64, by omega⟩) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (shapeCast S512 (broadcastInDim S8x64 ![0, 1] bcast_S1x64_S8x64_0_1 (shapeCast S1x64 (show FVec Ideal S64 .f32 from m ((c : Thread nD τ).loc main_arg7)) shapeCasts_S64_S1x64)) shapeCasts_S8x64_S512) shapeCasts_S512_S1x512) (ix2 0 d) = _
  pointwise

theorem entry7 (c : Dev nD) (x : Fin 128) (d : Fin 512) : (show FVec Ideal S128x512 .bf16 from V m c main_v23) (ix2 x d)
    = if h : x.val < 16 then (show FVec Ideal S16x512 .f32 from m ((c : Thread nD τ).loc main_arg4)) (ix2 ⟨x.val, h⟩ d) else 0 := by
  simp only [V, hostOps0, hostOps0_1, hostOps0_2, hostOps0_3, hostOps0_4, hostOps0_5, hostOps0_6, List.flatten_cons, List.flatten_nil, List.append_nil, List.cons_append, List.nil_append]
  entry_read
  change (truncf .bf16 (pad S128x512 ![0, 0] ![112, 0] ![0, 0] (show FVec Ideal S16x512 .f32 from m ((c : Thread nD τ).loc main_arg4)) (sitofp .f32 (constantI S_ 32 0#32)) pads_S16x512_S128x512_01120_000 h_S_) bitsLt_bf16_f32) (ix2 x d) = _
  pointwise
  by_cases h : x.val < 16
  · simp [h]
  · simp only [h, dite_false]
    exact sitofp_zero _

theorem entry8 (c : Dev nD) (d : Fin 512) : (show FVec Ideal S1x512 .f32 from V m c main_v24) (ix2 0 d)
    = (show FVec Ideal S512 .f32 from m ((c : Thread nD τ).loc main_arg5)) (ix1 d) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (show FVec Ideal S512 .f32 from m ((c : Thread nD τ).loc main_arg5)) shapeCasts_S512_S1x512) (ix2 0 d) = _
  pointwise

end Cert.InSampleIdeal.Value
end
-- ==== Proof.InSampleSpec.lean ====
module

public import proofs.«01_k».proof.Proof.InMath
public import Idealize.ShloMosaic.Lib.Pipeline.ValueKit

@[expose] public section

noncomputable section

open Idealize.ShloMosaic

namespace Cert.Layer.Sample

variable (X : FVec Ideal ⟨3, ![32, 4, 1024]⟩ .f32) (M : FVec Ideal ⟨2, ![32, 6144]⟩ .f32) (G : FVec Ideal ⟨1, ![1024]⟩ .f32)
  (W : FVec Ideal ⟨2, ![1024, 6672]⟩ .f32) (K : FVec Ideal ⟨2, ![16, 512]⟩ .f32) (B : FVec Ideal ⟨1, ![512]⟩ .f32)
  (Q : FVec Ideal ⟨1, ![64]⟩ .f32)

/-- The normed and modulated row of one token, tokens numbered through the sequences of four. -/
def hid (r : Fin 128) : Fin 1024 → EReal :=
  normed (fun d => X (ix3 ⟨r.val / 4, by omega⟩ ⟨r.val % 4, by omega⟩ d)) (fun d => G (ix1 d))
    (fun d => M (ix2 ⟨r.val / 4, by omega⟩ ⟨1024 + d.val, by omega⟩)) (fun d => M (ix2 ⟨r.val / 4, by omega⟩ ⟨d.val, by omega⟩))

/-- The token's projection onto column `n` of the weights. -/
def pr (r : Fin 128) (n : Fin 6672) : EReal := proj (hid X M G r) (fun d n => W (ix2 d n)) n

/-- The attention query: its heads normed, then scaled. -/
def qa (r : Fin 128) (d : Fin 512) : EReal :=
  headNorm (fun x => pr X M G W r ⟨x.val, by omega⟩) (fun e => Q (ix1 e)) d * Ideal.ofBits .f32 1040187392#32

/-- The attention key: its heads normed. -/
def ka (r : Fin 128) (d : Fin 512) : EReal := headNorm (fun x => pr X M G W r ⟨512 + x.val, by omega⟩) (fun e => Q (ix1 e)) d

def va (r : Fin 128) (d : Fin 512) : EReal := pr X M G W r ⟨1024 + d.val, by omega⟩

/-- The recurrence's query, scaled. -/
def qg (r : Fin 128) (d : Fin 512) : EReal := pr X M G W r ⟨1536 + d.val, by omega⟩ * Ideal.ofBits .f32 1035273459#32

def kg (r : Fin 128) (d : Fin 512) : EReal := pr X M G W r ⟨2048 + d.val, by omega⟩

def vg (r : Fin 128) (d : Fin 1024) : EReal := pr X M G W r ⟨2560 + d.val, by omega⟩

def og (r : Fin 128) (d : Fin 1024) : EReal := pr X M G W r ⟨3584 + d.val, by omega⟩

/-- The recurrence's log decay, through the two low-rank products. -/
def la (r : Fin 128) (d : Fin 512) : EReal :=
  logDecay (∑ x : Fin 16, pr X M G W r ⟨4608 + x.val, by omega⟩ * K (ix2 x d) + B (ix1 d))

end Cert.Layer.Sample

end
-- ==== Proof.InSamplePoints.lean ====
module

public import proofs.«01_k».proof.Proof.InSampleEntry
public import proofs.«01_k».proof.Proof.InSampleSpec
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)

namespace Cert.InSampleIdeal.Value

open Cert.InSampleIdeal Cert.InSampleIdeal.Gen Cert.Layer

/-! ## The kernel's stages at an entry -/

theorem hid_pay (v0 : Vec Ideal S128x1024 .f32) (v2 : Vec Ideal S1x1024 .f32) (v4 v6 : Vec Ideal S128x1024 .f32) (r : Fin 128) (d : Fin 1024) :
    k0_pay1 v0 v2 v4 v6 (ix2 r d) = normed (fun d => v0 (ix2 r d)) (fun d => v2 (ix2 0 d)) (fun d => v6 (ix2 r d)) (fun d => v4 (ix2 r d)) d := by
  pointwise [k0_pay1]
  rfl

theorem proj_pay (v0 : Vec Ideal S128x1024 .f32) (v2 : Vec Ideal S1x1024 .f32) (v4 v6 : Vec Ideal S128x1024 .f32) (v25 : Vec Ideal S1024x1536 .bf16)
    (r : Fin 128) (n : Fin 1536) :
    k0_pay2 v0 v2 v4 v6 v25 (ix2 r n) = ∑ d, k0_pay1 v0 v2 v4 v6 (ix2 r d) * v25 (ix2 d n) := by
  pointwise [k0_pay2]

theorem q_pay (v0 : Vec Ideal S128x1024 .f32) (v2 : Vec Ideal S1x1024 .f32) (v4 v6 : Vec Ideal S128x1024 .f32) (v25 : Vec Ideal S1024x1536 .bf16)
    (v28 : Vec Ideal S512x512 .bf16) (v31 : Vec Ideal S1x512 .f32) (r : Fin 128) (d : Fin 512) (z : Fin 512 → EReal) (g : Fin 64 → EReal)
    (hz : ∀ x : Fin 512, k0_pay2 v0 v2 v4 v6 v25 (ix2 r ⟨x.val, by omega⟩) = z x)
    (hs : ∀ x : Fin 512, v28 (ix2 x d) = if x.val / 64 = d.val / 64 then 1 else 0) (hg : v31 (ix2 0 d) = g ⟨d.val % 64, by omega⟩) :
    k0_pay7 (k0_pay4 v0 v2 v4 v6 v25) (k0_pay5 v31) (k0_pay6 v0 v2 v4 v6 v25 v28) (ix2 r d)
      = headNorm z g d * Ideal.ofBits .f32 1040187392#32 := by
  rw [← headNorm_of_ones z (fun x => v28 (ix2 x d)) g (v31 (ix2 0 d)) d hs hg]
  pointwise [k0_pay7, k0_pay6, k0_pay5, k0_pay4, k0_pay3]
  simp only [hz]

theorem k_pay (v27 : FVec Ideal S128x1536 .f32) (v28 : Vec Ideal S512x512 .bf16) (v47 : Vec Ideal S1x512 .f32) (r : Fin 128) (d : Fin 512)
    (z : Fin 512 → EReal) (g : Fin 64 → EReal)
    (hz : ∀ x : Fin 512, v27 (ix2 r ⟨512 + x.val, by omega⟩) = z x)
    (hs : ∀ x : Fin 512, v28 (ix2 x d) = if x.val / 64 = d.val / 64 then 1 else 0) (hg : v47 (ix2 0 d) = g ⟨d.val % 64, by omega⟩) :
    k0_pay8 v27 (k0_pay3 v28) v47 (ix2 r d) = headNorm z g d := by
  rw [← headNorm_of_ones z (fun x => v28 (ix2 x d)) g (v47 (ix2 0 d)) d hs hg]
  pointwise [k0_pay8, k0_pay3]
  simp only [hz]

theorem v_pay (v27 : FVec Ideal S128x1536 .f32) (r : Fin 128) (d : Fin 512) : k0_pay9 v27 (ix2 r d) = v27 (ix2 r ⟨1024 + d.val, by omega⟩) := by
  pointwise [k0_pay9]

theorem qg_pay (v24 : FVec Ideal S128x1024 .bf16) (w : Vec Ideal S1024x1024 .bf16) (r : Fin 128) (d : Fin 512) :
    k0_pay11 v24 w (ix2 r d) = (∑ x, v24 (ix2 r x) * w (ix2 x ⟨d.val, by omega⟩)) * Ideal.ofBits .f32 1035273459#32 := by
  pointwise [k0_pay11, k0_pay10]

theorem kg_pay (v24 : FVec Ideal S128x1024 .bf16) (w : Vec Ideal S1024x1024 .bf16) (r : Fin 128) (d : Fin 512) :
    k0_pay12 v24 w (ix2 r d) = ∑ x, v24 (ix2 r x) * w (ix2 x ⟨512 + d.val, by omega⟩) := by
  pointwise [k0_pay12, k0_pay10]

theorem vg_pay (v24 : FVec Ideal S128x1024 .bf16) (w : Vec Ideal S1024x1024 .bf16) (r : Fin 128) (d : Fin 1024) :
    k0_pay13 v24 w (ix2 r d) = ∑ x, v24 (ix2 r x) * w (ix2 x d) := by
  pointwise [k0_pay13]

theorem og_pay (v24 : FVec Ideal S128x1024 .bf16) (w : Vec Ideal S1024x1024 .bf16) (r : Fin 128) (d : Fin 1024) :
    k0_pay14 v24 w (ix2 r d) = ∑ x, v24 (ix2 r x) * w (ix2 x d) := by
  pointwise [k0_pay14]

theorem la_pay (v24 : FVec Ideal S128x1024 .bf16) (w : Vec Ideal S1024x128 .bf16) (v86 : Vec Ideal S128x512 .bf16) (v89 : Vec Ideal S1x512 .f32)
    (r : Fin 128) (d : Fin 512) :
    k0_pay15 v24 w v86 v89 (ix2 r d)
      = logDecay (∑ x, (∑ y, v24 (ix2 r y) * w (ix2 y x)) * v86 (ix2 x d) + v89 (ix2 0 d)) := by
  pointwise [k0_pay15]
  rfl

variable (m : (ℓ : Loc nD τ sig) → Buf (Elt Ideal) ℓ)

/-! ## The call's arguments, and its windows at a grid point -/

def aX (c : Dev nD) : FVec Ideal S32x4x1024 .f32 := m ((c : Thread nD τ).loc main_arg0)
def aM (c : Dev nD) : FVec Ideal S32x6144 .f32 := m ((c : Thread nD τ).loc main_arg1)
def aG (c : Dev nD) : FVec Ideal S1024 .f32 := m ((c : Thread nD τ).loc main_arg2)
def aW (c : Dev nD) : FVec Ideal S1024x6672 .f32 := m ((c : Thread nD τ).loc main_arg3)
def aK (c : Dev nD) : FVec Ideal S16x512 .f32 := m ((c : Thread nD τ).loc main_arg4)
def aB (c : Dev nD) : FVec Ideal S512 .f32 := m ((c : Thread nD τ).loc main_arg5)
def aQ (c : Dev nD) : FVec Ideal S64 .f32 := m ((c : Thread nD τ).loc main_arg6)
def aR (c : Dev nD) : FVec Ideal S64 .f32 := m ((c : Thread nD τ).loc main_arg7)

theorem blk0 (c : Dev nD) (t : Fin cfg0.N) (r : Fin 128) (d : Fin 1024) :
    (show FVec Ideal S128x1024 .f32 from iblk m c 0 t) (ix2 r d) = (show FVec Ideal S128x1024 .f32 from V m c main_v25) (ix2 r d) := by
  blk_simp [iblk]
  refine congrArg _ ?_
  blk_ext [idx t]

theorem blk1 (c : Dev nD) (t : Fin cfg0.N) (r : Fin 128) (d : Fin 6144) :
    (show FVec Ideal S128x6144 .f32 from iblk m c 1 t) (ix2 r d) = (show FVec Ideal S128x6144 .f32 from V m c main_v27) (ix2 r d) := by
  blk_simp [iblk]
  refine congrArg _ ?_
  blk_ext [idx t]

theorem blk2 (c : Dev nD) (t : Fin cfg0.N) (d : Fin 1024) :
    (show FVec Ideal S1x1024 .f32 from iblk m c 2 t) (ix2 0 d) = (show FVec Ideal S1x1024 .f32 from V m c main_v4) (ix2 0 d) := by
  blk_simp [iblk]
  refine congrArg _ ?_
  blk_ext [idx t]

theorem blk3 (c : Dev nD) (t : Fin cfg0.N) (r : Fin 1024) (d : Fin 4736) :
    (show FVec Ideal S1024x4736 .bf16 from iblk m c 3 t) (ix2 r d) = (show FVec Ideal S1024x4736 .bf16 from V m c main_v7) (ix2 r d) := by
  blk_simp [iblk]
  refine congrArg _ ?_
  blk_ext [idx t]

theorem blk4 (c : Dev nD) (t : Fin cfg0.N) (r d : Fin 512) :
    (show FVec Ideal S512x512 .bf16 from iblk m c 4 t) (ix2 r d) = (show FVec Ideal S512x512 .bf16 from V m c main_v13) (ix2 r d) := by
  blk_simp [iblk]
  refine congrArg _ ?_
  blk_ext [idx t]

theorem blk5 (c : Dev nD) (t : Fin cfg0.N) (d : Fin 512) :
    (show FVec Ideal S1x512 .f32 from iblk m c 5 t) (ix2 0 d) = (show FVec Ideal S1x512 .f32 from V m c main_v17) (ix2 0 d) := by
  blk_simp [iblk]
  refine congrArg _ ?_
  blk_ext [idx t]

theorem blk6 (c : Dev nD) (t : Fin cfg0.N) (d : Fin 512) :
    (show FVec Ideal S1x512 .f32 from iblk m c 6 t) (ix2 0 d) = (show FVec Ideal S1x512 .f32 from V m c main_v21) (ix2 0 d) := by
  blk_simp [iblk]
  refine congrArg _ ?_
  blk_ext [idx t]

theorem blk7 (c : Dev nD) (t : Fin cfg0.N) (r : Fin 128) (d : Fin 512) :
    (show FVec Ideal S128x512 .bf16 from iblk m c 7 t) (ix2 r d) = (show FVec Ideal S128x512 .bf16 from V m c main_v23) (ix2 r d) := by
  blk_simp [iblk]
  refine congrArg _ ?_
  blk_ext [idx t]

theorem blk8 (c : Dev nD) (t : Fin cfg0.N) (d : Fin 512) :
    (show FVec Ideal S1x512 .f32 from iblk m c 8 t) (ix2 0 d) = (show FVec Ideal S1x512 .f32 from V m c main_v24) (ix2 0 d) := by
  blk_simp [iblk]
  refine congrArg _ ?_
  blk_ext [idx t]

/-! ## The rectangles the body reads out of its windows -/

theorem ldX (c : Dev nD) (t : Fin cfg0.N) (r : Fin 128) (d : Fin 1024) :
    (View.ld (Val := Elt Ideal) (S := S128x1024) (e' := .f32) (iblk m c 0 t) r0_0 : FVec Ideal S128x1024 .f32) (ix2 r d) = aX m c (ix3 ⟨r.val / 4, by omega⟩ ⟨r.val % 4, by omega⟩ d) := by
  refine Eq.trans ?_ ((blk0 m c t r d).trans (entry0 m c r d))
  refine View.ld_unit_apply_of _ _ _ _ _ _ ?_
  intro a; fin_cases a <;> simp

theorem ldSh (c : Dev nD) (t : Fin cfg0.N) (r : Fin 128) (d : Fin 1024) :
    (View.ld (Val := Elt Ideal) (S := S128x6144) (e' := .f32) (iblk m c 1 t) r0_2 : FVec Ideal S128x1024 .f32) (ix2 r d) = aM m c (ix2 ⟨r.val / 4, by omega⟩ ⟨d.val, by omega⟩) := by
  refine Eq.trans ?_ ((blk1 m c t r ⟨d.val, by omega⟩).trans (entry1 m c r ⟨d.val, by omega⟩))
  refine View.ld_unit_apply_of _ _ _ _ _ _ ?_
  intro a; fin_cases a <;> simp

theorem ldSc (c : Dev nD) (t : Fin cfg0.N) (r : Fin 128) (d : Fin 1024) :
    (View.ld (Val := Elt Ideal) (S := S128x6144) (e' := .f32) (iblk m c 1 t) r0_3 : FVec Ideal S128x1024 .f32) (ix2 r d) = aM m c (ix2 ⟨r.val / 4, by omega⟩ ⟨1024 + d.val, by omega⟩) := by
  refine Eq.trans ?_ ((blk1 m c t r ⟨1024 + d.val, by omega⟩).trans (entry1 m c r ⟨1024 + d.val, by omega⟩))
  refine View.ld_unit_apply_of _ _ _ _ _ _ ?_
  intro a; fin_cases a <;> simp

theorem ldG (c : Dev nD) (t : Fin cfg0.N) (d : Fin 1024) :
    (View.ld (Val := Elt Ideal) (S := S1x1024) (e' := .f32) (iblk m c 2 t) r0_1 : FVec Ideal S1x1024 .f32) (ix2 0 d) = aG m c (ix1 d) := by
  refine Eq.trans ?_ ((blk2 m c t d).trans (entry2 m c d))
  refine View.ld_unit_apply_of _ _ _ _ _ _ ?_
  intro a; fin_cases a <;> simp

theorem ldO (c : Dev nD) (t : Fin cfg0.N) (r d : Fin 512) :
    (View.ld (Val := Elt Ideal) (S := S512x512) (e' := .bf16) (iblk m c 4 t) r0_5 : FVec Ideal S512x512 .bf16) (ix2 r d) = if r.val / 64 = d.val / 64 then 1 else 0 := by
  refine Eq.trans ?_ ((blk4 m c t r d).trans (entry4 m c r d))
  refine View.ld_unit_apply_of _ _ _ _ _ _ ?_
  intro a; fin_cases a <;> simp

theorem ldQ (c : Dev nD) (t : Fin cfg0.N) (d : Fin 512) :
    (View.ld (Val := Elt Ideal) (S := S1x512) (e' := .f32) (iblk m c 5 t) r0_6 : FVec Ideal S1x512 .f32) (ix2 0 d) = aQ m c (ix1 ⟨d.val % 64, by omega⟩) := by
  refine Eq.trans ?_ ((blk5 m c t d).trans (entry5 m c d))
  refine View.ld_unit_apply_of _ _ _ _ _ _ ?_
  intro a; fin_cases a <;> simp

theorem ldR (c : Dev nD) (t : Fin cfg0.N) (d : Fin 512) :
    (View.ld (Val := Elt Ideal) (S := S1x512) (e' := .f32) (iblk m c 6 t) r0_6 : FVec Ideal S1x512 .f32) (ix2 0 d) = aR m c (ix1 ⟨d.val % 64, by omega⟩) := by
  refine Eq.trans ?_ ((blk6 m c t d).trans (entry6 m c d))
  refine View.ld_unit_apply_of _ _ _ _ _ _ ?_
  intro a; fin_cases a <;> simp

theorem ldK (c : Dev nD) (t : Fin cfg0.N) (r : Fin 128) (d : Fin 512) :
    (View.ld (Val := Elt Ideal) (S := S128x512) (e' := .bf16) (iblk m c 7 t) r0_7 : FVec Ideal S128x512 .bf16) (ix2 r d) = if h : r.val < 16 then aK m c (ix2 ⟨r.val, h⟩ d) else 0 := by
  refine Eq.trans ?_ ((blk7 m c t r d).trans (entry7 m c r d))
  refine View.ld_unit_apply_of _ _ _ _ _ _ ?_
  intro a; fin_cases a <;> simp

theorem ldB (c : Dev nD) (t : Fin cfg0.N) (d : Fin 512) :
    (View.ld (Val := Elt Ideal) (S := S1x512) (e' := .f32) (iblk m c 8 t) r0_6 : FVec Ideal S1x512 .f32) (ix2 0 d) = aB m c (ix1 d) := by
  refine Eq.trans ?_ ((blk8 m c t d).trans (entry8 m c d))
  refine View.ld_unit_apply_of _ _ _ _ _ _ ?_
  intro a; fin_cases a <;> simp

theorem ldW4 (c : Dev nD) (t : Fin cfg0.N) (d : Fin 1024) (n : Fin 1536) :
    (View.ld (Val := Elt Ideal) (S := S1024x4736) (e' := .bf16) (iblk m c 3 t) r0_4 : FVec Ideal S1024x1536 .bf16) (ix2 d n) = aW m c (ix2 d ⟨n.val, by omega⟩) := by
  refine Eq.trans (Eq.trans ?_ ((blk3 m c t d ⟨n.val, by omega⟩).trans (entry3 m c d ⟨n.val, by omega⟩))) (dif_pos (by simp only []; omega))
  refine View.ld_unit_apply_of _ _ _ _ _ _ ?_
  intro a; fin_cases a <;> simp

theorem ldW8 (c : Dev nD) (t : Fin cfg0.N) (d : Fin 1024) (n : Fin 1024) :
    (View.ld (Val := Elt Ideal) (S := S1024x4736) (e' := .bf16) (iblk m c 3 t) r0_8 : FVec Ideal S1024x1024 .bf16) (ix2 d n) = aW m c (ix2 d ⟨1536 + n.val, by omega⟩) := by
  refine Eq.trans (Eq.trans ?_ ((blk3 m c t d ⟨1536 + n.val, by omega⟩).trans (entry3 m c d ⟨1536 + n.val, by omega⟩))) (dif_pos (by simp only []; omega))
  refine View.ld_unit_apply_of _ _ _ _ _ _ ?_
  intro a; fin_cases a <;> simp

theorem ldW9 (c : Dev nD) (t : Fin cfg0.N) (d : Fin 1024) (n : Fin 1024) :
    (View.ld (Val := Elt Ideal) (S := S1024x4736) (e' := .bf16) (iblk m c 3 t) r0_9 : FVec Ideal S1024x1024 .bf16) (ix2 d n) = aW m c (ix2 d ⟨2560 + n.val, by omega⟩) := by
  refine Eq.trans (Eq.trans ?_ ((blk3 m c t d ⟨2560 + n.val, by omega⟩).trans (entry3 m c d ⟨2560 + n.val, by omega⟩))) (dif_pos (by simp only []; omega))
  refine View.ld_unit_apply_of _ _ _ _ _ _ ?_
  intro a; fin_cases a <;> simp

theorem ldW10 (c : Dev nD) (t : Fin cfg0.N) (d : Fin 1024) (n : Fin 1024) :
    (View.ld (Val := Elt Ideal) (S := S1024x4736) (e' := .bf16) (iblk m c 3 t) r0_10 : FVec Ideal S1024x1024 .bf16) (ix2 d n) = aW m c (ix2 d ⟨3584 + n.val, by omega⟩) := by
  refine Eq.trans (Eq.trans ?_ ((blk3 m c t d ⟨3584 + n.val, by omega⟩).trans (entry3 m c d ⟨3584 + n.val, by omega⟩))) (dif_pos (by simp only []; omega))
  refine View.ld_unit_apply_of _ _ _ _ _ _ ?_
  intro a; fin_cases a <;> simp

theorem ldW11 (c : Dev nD) (t : Fin cfg0.N) (d : Fin 1024) (n : Fin 128) :
    (View.ld (Val := Elt Ideal) (S := S1024x4736) (e' := .bf16) (iblk m c 3 t) r0_11 : FVec Ideal S1024x128 .bf16) (ix2 d n)
      = if h : n.val < 16 then aW m c (ix2 d ⟨4608 + n.val, by omega⟩) else 0 := by
  have e : (View.ld (Val := Elt Ideal) (S := S1024x4736) (e' := .bf16) (iblk m c 3 t) r0_11 : FVec Ideal S1024x128 .bf16) (ix2 d n)
      = if h : 4608 + n.val < 4624 then aW m c (ix2 d ⟨4608 + n.val, by omega⟩) else 0 := by
    refine Eq.trans ?_ ((blk3 m c t d ⟨4608 + n.val, by omega⟩).trans (entry3 m c d ⟨4608 + n.val, by omega⟩))
    refine View.ld_unit_apply_of _ _ _ _ _ _ ?_
    intro a; fin_cases a <;> simp
  rw [e]
  by_cases h : n.val < 16
  · rw [dif_pos h, dif_pos (by omega)]
  · rw [dif_neg h, dif_neg (by omega)]

/-! ## The stages over the windows -/

theorem hid_at (c : Dev nD) (t : Fin cfg0.N) (r : Fin 128) (d : Fin 1024) :
    k0_pay1 (F := Ideal) (View.ld (iblk m c 0 t) r0_0) (View.ld (iblk m c 2 t) r0_1) (View.ld (iblk m c 1 t) r0_2) (View.ld (iblk m c 1 t) r0_3) (ix2 r d)
      = Sample.hid (aX m c) (aM m c) (aG m c) r d := by
  refine (hid_pay _ _ _ _ r d).trans ?_
  unfold Sample.hid
  congr 1
  · funext d; exact ldX m c t r d
  · funext d; exact ldG m c t d
  · funext d; exact ldSc m c t r d
  · funext d; exact ldSh m c t r d

theorem proj_at (c : Dev nD) (t : Fin cfg0.N) (r : Fin 128) (n : Fin 1536) :
    k0_pay2 (F := Ideal) (View.ld (iblk m c 0 t) r0_0) (View.ld (iblk m c 2 t) r0_1) (View.ld (iblk m c 1 t) r0_2) (View.ld (iblk m c 1 t) r0_3)
      (View.ld (iblk m c 3 t) r0_4) (ix2 r n)
      = Sample.pr (aX m c) (aM m c) (aG m c) (aW m c) r ⟨n.val, by omega⟩ := by
  refine (proj_pay _ _ _ _ _ r n).trans ?_
  unfold Sample.pr proj
  refine Finset.sum_congr rfl fun d _ => ?_
  rw [hid_at m c t r d]
  exact congrArg _ (ldW4 m c t d n)

/-- A sum of the hidden row against loaded columns of the weights is the projection. -/
theorem sum_at (c : Dev nD) (t : Fin cfg0.N) (r : Fin 128) (n : Fin 6672) (w : Fin 1024 → EReal) (hw : ∀ d, w d = aW m c (ix2 d n)) :
    ∑ d, k0_pay16 (F := Ideal) (iblk m c 0 t) (iblk m c 1 t) (iblk m c 2 t) (iblk m c 3 t) (iblk m c 4 t) (iblk m c 5 t) (iblk m c 6 t) (iblk m c 7 t) (iblk m c 8 t) (ix2 r d) * w d
      = Sample.pr (aX m c) (aM m c) (aG m c) (aW m c) r n := by
  unfold Sample.pr proj
  refine Finset.sum_congr rfl fun d _ => ?_
  rw [hw d]
  exact congrArg (· * _) (hid_at m c t r d)

/-! ## The results at a grid point -/

theorem point9 (c : Dev nD) (t : Fin cfg0.N) (r : Fin 128) (d : Fin 512) :
    out0_9 (F := Ideal) (iblk m c 0 t) (iblk m c 1 t) (iblk m c 2 t) (iblk m c 3 t) (iblk m c 4 t) (iblk m c 5 t) (iblk m c 6 t) (iblk m c 7 t) (iblk m c 8 t) (ix2 r d)
      = Sample.qa (aX m c) (aM m c) (aG m c) (aW m c) (aQ m c) r d := by
  unfold out0_9
  refine (congrFun (View.canon_unit_zero (by funext a; fin_cases a <;> rfl) _ _) _).trans ?_
  exact q_pay _ _ _ _ _ _ _ r d _ _ (fun x => proj_at m c t r ⟨x.val, by omega⟩) (fun x => ldO m c t x d) (ldQ m c t d)

theorem point10 (c : Dev nD) (t : Fin cfg0.N) (r : Fin 128) (d : Fin 512) :
    out0_10 (F := Ideal) (iblk m c 0 t) (iblk m c 1 t) (iblk m c 2 t) (iblk m c 3 t) (iblk m c 4 t) (iblk m c 5 t) (iblk m c 6 t) (iblk m c 7 t) (iblk m c 8 t) (ix2 r d)
      = Sample.ka (aX m c) (aM m c) (aG m c) (aW m c) (aR m c) r d := by
  unfold out0_10
  refine (congrFun (View.canon_unit_zero (by funext a; fin_cases a <;> rfl) _ _) _).trans ?_
  exact k_pay _ _ _ r d _ _ (fun x => proj_at m c t r ⟨512 + x.val, by omega⟩) (fun x => ldO m c t x d) (ldR m c t d)

theorem point11 (c : Dev nD) (t : Fin cfg0.N) (r : Fin 128) (d : Fin 512) :
    out0_11 (F := Ideal) (iblk m c 0 t) (iblk m c 1 t) (iblk m c 2 t) (iblk m c 3 t) (iblk m c 4 t) (iblk m c 5 t) (iblk m c 6 t) (iblk m c 7 t) (iblk m c 8 t) (ix2 r d)
      = Sample.va (aX m c) (aM m c) (aG m c) (aW m c) r d := by
  unfold out0_11
  refine (congrFun (View.canon_unit_zero (by funext a; fin_cases a <;> rfl) _ _) _).trans ?_
  exact (v_pay _ r d).trans (proj_at m c t r ⟨1024 + d.val, by omega⟩)

theorem point12 (c : Dev nD) (t : Fin cfg0.N) (r : Fin 128) (d : Fin 512) :
    out0_12 (F := Ideal) (iblk m c 0 t) (iblk m c 1 t) (iblk m c 2 t) (iblk m c 3 t) (iblk m c 4 t) (iblk m c 5 t) (iblk m c 6 t) (iblk m c 7 t) (iblk m c 8 t) (ix2 r d)
      = Sample.qg (aX m c) (aM m c) (aG m c) (aW m c) r d := by
  unfold out0_12
  refine (congrFun (View.canon_unit_zero (by funext a; fin_cases a <;> rfl) _ _) _).trans ?_
  refine (qg_pay _ _ r d).trans (congrArg (· * _) ?_)
  exact sum_at m c t r ⟨1536 + d.val, by omega⟩ _ fun x => ldW8 m c t x ⟨d.val, by omega⟩

theorem point13 (c : Dev nD) (t : Fin cfg0.N) (r : Fin 128) (d : Fin 512) :
    out0_13 (F := Ideal) (iblk m c 0 t) (iblk m c 1 t) (iblk m c 2 t) (iblk m c 3 t) (iblk m c 4 t) (iblk m c 5 t) (iblk m c 6 t) (iblk m c 7 t) (iblk m c 8 t) (ix2 r d)
      = Sample.kg (aX m c) (aM m c) (aG m c) (aW m c) r d := by
  unfold out0_13
  refine (congrFun (View.canon_unit_zero (by funext a; fin_cases a <;> rfl) _ _) _).trans ?_
  refine (kg_pay _ _ r d).trans ?_
  refine sum_at m c t r ⟨2048 + d.val, by omega⟩ _ fun x => (ldW8 m c t x ⟨512 + d.val, by omega⟩).trans ?_
  exact congrArg (fun n => aW m c (ix2 x n)) (Fin.ext (by show 1536 + (512 + d.val) = 2048 + d.val; omega))

theorem point14 (c : Dev nD) (t : Fin cfg0.N) (r : Fin 128) (d : Fin 1024) :
    out0_14 (F := Ideal) (iblk m c 0 t) (iblk m c 1 t) (iblk m c 2 t) (iblk m c 3 t) (iblk m c 4 t) (iblk m c 5 t) (iblk m c 6 t) (iblk m c 7 t) (iblk m c 8 t) (ix2 r d)
      = Sample.vg (aX m c) (aM m c) (aG m c) (aW m c) r d := by
  unfold out0_14
  refine (congrFun (View.canon_unit_zero (by funext a; fin_cases a <;> rfl) _ _) _).trans ?_
  refine (vg_pay _ _ r d).trans ?_
  exact sum_at m c t r ⟨2560 + d.val, by omega⟩ _ fun x => ldW9 m c t x d

theorem point15 (c : Dev nD) (t : Fin cfg0.N) (r : Fin 128) (d : Fin 1024) :
    out0_15 (F := Ideal) (iblk m c 0 t) (iblk m c 1 t) (iblk m c 2 t) (iblk m c 3 t) (iblk m c 4 t) (iblk m c 5 t) (iblk m c 6 t) (iblk m c 7 t) (iblk m c 8 t) (ix2 r d)
      = Sample.og (aX m c) (aM m c) (aG m c) (aW m c) r d := by
  unfold out0_15
  refine (congrFun (View.canon_unit_zero (by funext a; fin_cases a <;> rfl) _ _) _).trans ?_
  refine (og_pay _ _ r d).trans ?_
  exact sum_at m c t r ⟨3584 + d.val, by omega⟩ _ fun x => ldW10 m c t x d

theorem point16 (c : Dev nD) (t : Fin cfg0.N) (r : Fin 128) (d : Fin 512) :
    out0_16 (F := Ideal) (iblk m c 0 t) (iblk m c 1 t) (iblk m c 2 t) (iblk m c 3 t) (iblk m c 4 t) (iblk m c 5 t) (iblk m c 6 t) (iblk m c 7 t) (iblk m c 8 t) (ix2 r d)
      = Sample.la (aX m c) (aM m c) (aG m c) (aW m c) (aK m c) (aB m c) r d := by
  unfold out0_16
  refine (congrFun (View.canon_unit_zero (by funext a; fin_cases a <;> rfl) _ _) _).trans ?_
  refine (la_pay _ _ _ _ r d).trans ?_
  unfold Sample.la
  rw [ldB m c t d]
  refine congrArg (fun s => logDecay (s + _)) ?_
  refine Eq.trans (Finset.sum_congr rfl fun x _ => ?_) (rank_sum (fun x => Sample.pr (aX m c) (aM m c) (aG m c) (aW m c) r ⟨4608 + x.val, by omega⟩) (fun x => aK m c (ix2 x d)))
  refine congrArg₂ (fun a b : EReal => a * b) ?_ (ldK m c t x d)
  by_cases h : x.val < 16
  · rw [dif_pos h]
    exact sum_at m c t r ⟨4608 + x.val, by omega⟩ _ fun y => (ldW11 m c t y x).trans (dif_pos h)
  · rw [dif_neg h]
    refine Finset.sum_eq_zero fun y _ => ?_
    rw [ldW11 m c t y x, dif_neg h, mul_zero]

theorem final9 (c : Dev nD) : (dats m 0 c).arrAt 9 cfg0.N = fun i => Sample.qa (aX m c) (aM m c) (aG m c) (aW m c) (aQ m c) (i 0) (i 1) := by
  refine (dats m 0 c).arrAt_eq_of_covers 9 _ (by decide +kernel) fun t _ y => ?_
  blk_simp
  rw [after0_9]
  obtain ⟨r, d, rfl⟩ : ∃ (r : Fin 128) (d : Fin 512), y = ix2 r d := ⟨y 0, y 1, by funext a; fin_cases a <;> rfl⟩
  refine (point9 m c t r d).trans ?_
  congr 1
  all_goals (apply Fin.ext; blk_simp [idx t])

theorem final10 (c : Dev nD) : (dats m 0 c).arrAt 10 cfg0.N = fun i => Sample.ka (aX m c) (aM m c) (aG m c) (aW m c) (aR m c) (i 0) (i 1) := by
  refine (dats m 0 c).arrAt_eq_of_covers 10 _ (by decide +kernel) fun t _ y => ?_
  blk_simp
  rw [after0_10]
  obtain ⟨r, d, rfl⟩ : ∃ (r : Fin 128) (d : Fin 512), y = ix2 r d := ⟨y 0, y 1, by funext a; fin_cases a <;> rfl⟩
  refine (point10 m c t r d).trans ?_
  congr 1
  all_goals (apply Fin.ext; blk_simp [idx t])

theorem final11 (c : Dev nD) : (dats m 0 c).arrAt 11 cfg0.N = fun i => Sample.va (aX m c) (aM m c) (aG m c) (aW m c) (i 0) (i 1) := by
  refine (dats m 0 c).arrAt_eq_of_covers 11 _ (by decide +kernel) fun t _ y => ?_
  blk_simp
  rw [after0_11]
  obtain ⟨r, d, rfl⟩ : ∃ (r : Fin 128) (d : Fin 512), y = ix2 r d := ⟨y 0, y 1, by funext a; fin_cases a <;> rfl⟩
  refine (point11 m c t r d).trans ?_
  congr 1
  all_goals (apply Fin.ext; blk_simp [idx t])

theorem final12 (c : Dev nD) : (dats m 0 c).arrAt 12 cfg0.N = fun i => Sample.qg (aX m c) (aM m c) (aG m c) (aW m c) (i 0) (i 1) := by
  refine (dats m 0 c).arrAt_eq_of_covers 12 _ (by decide +kernel) fun t _ y => ?_
  blk_simp
  rw [after0_12]
  obtain ⟨r, d, rfl⟩ : ∃ (r : Fin 128) (d : Fin 512), y = ix2 r d := ⟨y 0, y 1, by funext a; fin_cases a <;> rfl⟩
  refine (point12 m c t r d).trans ?_
  congr 1
  all_goals (apply Fin.ext; blk_simp [idx t])

theorem final13 (c : Dev nD) : (dats m 0 c).arrAt 13 cfg0.N = fun i => Sample.kg (aX m c) (aM m c) (aG m c) (aW m c) (i 0) (i 1) := by
  refine (dats m 0 c).arrAt_eq_of_covers 13 _ (by decide +kernel) fun t _ y => ?_
  blk_simp
  rw [after0_13]
  obtain ⟨r, d, rfl⟩ : ∃ (r : Fin 128) (d : Fin 512), y = ix2 r d := ⟨y 0, y 1, by funext a; fin_cases a <;> rfl⟩
  refine (point13 m c t r d).trans ?_
  congr 1
  all_goals (apply Fin.ext; blk_simp [idx t])

theorem final14 (c : Dev nD) : (dats m 0 c).arrAt 14 cfg0.N = fun i => Sample.vg (aX m c) (aM m c) (aG m c) (aW m c) (i 0) (i 1) := by
  refine (dats m 0 c).arrAt_eq_of_covers 14 _ (by decide +kernel) fun t _ y => ?_
  blk_simp
  rw [after0_14]
  obtain ⟨r, d, rfl⟩ : ∃ (r : Fin 128) (d : Fin 1024), y = ix2 r d := ⟨y 0, y 1, by funext a; fin_cases a <;> rfl⟩
  refine (point14 m c t r d).trans ?_
  congr 1
  all_goals (apply Fin.ext; blk_simp [idx t])

theorem final15 (c : Dev nD) : (dats m 0 c).arrAt 15 cfg0.N = fun i => Sample.og (aX m c) (aM m c) (aG m c) (aW m c) (i 0) (i 1) := by
  refine (dats m 0 c).arrAt_eq_of_covers 15 _ (by decide +kernel) fun t _ y => ?_
  blk_simp
  rw [after0_15]
  obtain ⟨r, d, rfl⟩ : ∃ (r : Fin 128) (d : Fin 1024), y = ix2 r d := ⟨y 0, y 1, by funext a; fin_cases a <;> rfl⟩
  refine (point15 m c t r d).trans ?_
  congr 1
  all_goals (apply Fin.ext; blk_simp [idx t])

theorem final16 (c : Dev nD) : (dats m 0 c).arrAt 16 cfg0.N = fun i => Sample.la (aX m c) (aM m c) (aG m c) (aW m c) (aK m c) (aB m c) (i 0) (i 1) := by
  refine (dats m 0 c).arrAt_eq_of_covers 16 _ (by decide +kernel) fun t _ y => ?_
  blk_simp
  rw [after0_16]
  obtain ⟨r, d, rfl⟩ : ∃ (r : Fin 128) (d : Fin 512), y = ix2 r d := ⟨y 0, y 1, by funext a; fin_cases a <;> rfl⟩
  refine (point16 m c t r d).trans ?_
  congr 1
  all_goals (apply Fin.ext; blk_simp [idx t])

end Cert.InSampleIdeal.Value

end
-- ==== Proof.InSampleRef.lean ====
module

public import proofs.«01_k».proof.Proof.Gen.InSampleRefIdeal.Read
public import proofs.«01_k».proof.Proof.InSampleSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InSampleRefIdeal.Value

open Cert.InSampleRefIdeal Cert.InSampleRefIdeal.Gen Cert.InSampleRefIdeal.Read Cert.Layer

variable (x0 : FVec Ideal S32x4x1024 .f32) (x1 : FVec Ideal S32x6144 .f32) (x2 : FVec Ideal S1024 .f32) (x3 : FVec Ideal S1024x6672 .f32)
  (x4 : FVec Ideal S16x512 .f32) (x5 : FVec Ideal S512 .f32) (x6 x7 : FVec Ideal S64 .f32)

theorem hid_ref (r : Fin 128) (d : Fin 1024) :
    val_main_v25 (F := Ideal) x0 x1 x2 (ix3 ⟨r.val / 4, by omega⟩ ⟨r.val % 4, by omega⟩ d) = Sample.hid x0 x1 x2 r d := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25]
  rfl

theorem pr_ref (r : Fin 128) (n : Fin 6672) :
    val_main_v26 (F := Ideal) x0 x1 x2 x3 (ix3 ⟨r.val / 4, by omega⟩ ⟨r.val % 4, by omega⟩ n) = Sample.pr x0 x1 x2 x3 r n := by
  pointwise [val_main_v26]
  unfold Sample.pr proj
  exact Finset.sum_congr rfl fun d _ => congrArg (· * _) (hid_ref x0 x1 x2 r d)

theorem q_ref (r : Fin 128) (d : Fin 512) : val_main_v77 (F := Ideal) x0 x1 x2 x3 x6 (ix2 r d) = Sample.qa x0 x1 x2 x3 x6 r d := by
  pointwise [val_main_v27, val_main_v37, val_main_v38, val_main_cst_3, val_main_v39, val_main_v40, val_main_cst_4, val_main_v41, val_main_v42, val_main_cst_5, val_main_v43, val_main_v44, val_main_v45, val_main_v46, val_main_v47, val_main_v48, val_main_v49, val_main_v50, val_main_cst_11, val_main_v75, val_main_v76, val_main_v77]
  simp only [pr_ref]
  rfl

theorem k_ref (r : Fin 128) (d : Fin 512) : val_main_v78 (F := Ideal) x0 x1 x2 x3 x7 (ix2 r d) = Sample.ka x0 x1 x2 x3 x7 r d := by
  pointwise [val_main_v28, val_main_v51, val_main_v52, val_main_cst_6, val_main_v53, val_main_v54, val_main_cst_7, val_main_v55, val_main_v56, val_main_cst_8, val_main_v57, val_main_v58, val_main_v59, val_main_v60, val_main_v61, val_main_v62, val_main_v63, val_main_v64, val_main_v78]
  simp only [pr_ref]
  rfl

theorem v_ref (r : Fin 128) (d : Fin 512) : val_main_v79 (F := Ideal) x0 x1 x2 x3 (ix2 r d) = Sample.va x0 x1 x2 x3 r d := by
  pointwise [val_main_v29, val_main_v65, val_main_v79]
  exact pr_ref _ _ _ _ _ _

theorem qg_ref (r : Fin 128) (d : Fin 512) : val_main_v80 (F := Ideal) x0 x1 x2 x3 (ix2 r d) = Sample.qg x0 x1 x2 x3 r d := by
  pointwise [val_main_v30, val_main_v73, val_main_cst_10, val_main_v74, val_main_v80]
  exact congrArg (· * _) (pr_ref _ _ _ _ _ _)

theorem kg_ref (r : Fin 128) (d : Fin 512) : val_main_v81 (F := Ideal) x0 x1 x2 x3 (ix2 r d) = Sample.kg x0 x1 x2 x3 r d := by
  pointwise [val_main_v31, val_main_v81]
  exact pr_ref _ _ _ _ _ _

theorem vg_ref (r : Fin 128) (d : Fin 1024) : val_main_v83 (F := Ideal) x0 x1 x2 x3 (ix2 r d) = Sample.vg x0 x1 x2 x3 r d := by
  pointwise [val_main_v32, val_main_v82, val_main_v83]
  exact pr_ref _ _ _ _ _ _

theorem og_ref (r : Fin 128) (d : Fin 1024) : val_main_v84 (F := Ideal) x0 x1 x2 x3 (ix2 r d) = Sample.og x0 x1 x2 x3 r d := by
  pointwise [val_main_v33, val_main_v84]
  exact pr_ref _ _ _ _ _ _

theorem la_ref (r : Fin 128) (d : Fin 512) : val_main_v85 (F := Ideal) x0 x1 x2 x3 x4 x5 (ix2 r d) = Sample.la x0 x1 x2 x3 x4 x5 r d := by
  pointwise [val_main_v34, val_main_v67, val_main_v66, val_main_v68, val_main_v69, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v70, val_main_cst_9, val_main_v71, val_main_v72, val_main_v85]
  simp only [pr_ref]
  exact logDecay_softplus _ _ (fun h => h rfl)

end Cert.InSampleRefIdeal.Value

end
-- ==== Proof.InSampleAlgebra.lean ====
module

public import proofs.«01_k».proof.Defs
public import proofs.«01_k».proof.Proof.InSamplePoints
public import proofs.«01_k».proof.Proof.InSampleRef
public import proofs.«01_k».proof.Proof.Gen.InSampleIdeal.Value

@[expose] public section

set_option maxRecDepth 16384

noncomputable section

open Idealize.ShloMosaic Idealize.ShloMosaic.TcCoe Idealize.SL.Sem

namespace Cert.Proof

theorem in_sample_qa (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32) (y6 : FVec Ideal Cert.InSampleIdeal.S64 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) (h6 : y6 = m ((c.tc : Thread _ _).loc Cert.InSampleIdeal.main_arg6)) :
    Cert.InSampleRefIdeal.Read.val_main_v77 (F := Ideal) y0 y1 y2 y3 y6
      = (Cert.InSampleIdeal.Gen.dats m 0 c).arrAt 9 Cert.InSampleIdeal.cfg0.N := by
  subst h0 h1 h2 h3 h6
  rw [Cert.InSampleIdeal.Value.final9]
  funext i
  obtain ⟨r, d, rfl⟩ : ∃ (r : Fin 128) (d : Fin 512), i = ix2 r d := ⟨i 0, i 1, by funext a; fin_cases a <;> rfl⟩
  exact Cert.InSampleRefIdeal.Value.q_ref _ _ _ _ _ r d

theorem in_sample_ka (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32) (y7 : FVec Ideal Cert.InSampleIdeal.S64 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) (h7 : y7 = m ((c.tc : Thread _ _).loc Cert.InSampleIdeal.main_arg7)) :
    Cert.InSampleRefIdeal.Read.val_main_v78 (F := Ideal) y0 y1 y2 y3 y7
      = (Cert.InSampleIdeal.Gen.dats m 0 c).arrAt 10 Cert.InSampleIdeal.cfg0.N := by
  subst h0 h1 h2 h3 h7
  rw [Cert.InSampleIdeal.Value.final10]
  funext i
  obtain ⟨r, d, rfl⟩ : ∃ (r : Fin 128) (d : Fin 512), i = ix2 r d := ⟨i 0, i 1, by funext a; fin_cases a <;> rfl⟩
  exact Cert.InSampleRefIdeal.Value.k_ref _ _ _ _ _ r d

theorem in_sample_va (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) :
    Cert.InSampleRefIdeal.Read.val_main_v79 (F := Ideal) y0 y1 y2 y3
      = (Cert.InSampleIdeal.Gen.dats m 0 c).arrAt 11 Cert.InSampleIdeal.cfg0.N := by
  subst h0 h1 h2 h3
  rw [Cert.InSampleIdeal.Value.final11]
  funext i
  obtain ⟨r, d, rfl⟩ : ∃ (r : Fin 128) (d : Fin 512), i = ix2 r d := ⟨i 0, i 1, by funext a; fin_cases a <;> rfl⟩
  exact Cert.InSampleRefIdeal.Value.v_ref _ _ _ _ r d

theorem in_sample_qg (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) :
    Cert.InSampleRefIdeal.Read.val_main_v80 (F := Ideal) y0 y1 y2 y3
      = (Cert.InSampleIdeal.Gen.dats m 0 c).arrAt 12 Cert.InSampleIdeal.cfg0.N := by
  subst h0 h1 h2 h3
  rw [Cert.InSampleIdeal.Value.final12]
  funext i
  obtain ⟨r, d, rfl⟩ : ∃ (r : Fin 128) (d : Fin 512), i = ix2 r d := ⟨i 0, i 1, by funext a; fin_cases a <;> rfl⟩
  exact Cert.InSampleRefIdeal.Value.qg_ref _ _ _ _ r d

theorem in_sample_kg (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) :
    Cert.InSampleRefIdeal.Read.val_main_v81 (F := Ideal) y0 y1 y2 y3
      = (Cert.InSampleIdeal.Gen.dats m 0 c).arrAt 13 Cert.InSampleIdeal.cfg0.N := by
  subst h0 h1 h2 h3
  rw [Cert.InSampleIdeal.Value.final13]
  funext i
  obtain ⟨r, d, rfl⟩ : ∃ (r : Fin 128) (d : Fin 512), i = ix2 r d := ⟨i 0, i 1, by funext a; fin_cases a <;> rfl⟩
  exact Cert.InSampleRefIdeal.Value.kg_ref _ _ _ _ r d

theorem in_sample_vg (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) :
    Cert.InSampleRefIdeal.Read.val_main_v83 (F := Ideal) y0 y1 y2 y3
      = (Cert.InSampleIdeal.Gen.dats m 0 c).arrAt 14 Cert.InSampleIdeal.cfg0.N := by
  subst h0 h1 h2 h3
  rw [Cert.InSampleIdeal.Value.final14]
  funext i
  obtain ⟨r, d, rfl⟩ : ∃ (r : Fin 128) (d : Fin 1024), i = ix2 r d := ⟨i 0, i 1, by funext a; fin_cases a <;> rfl⟩
  exact Cert.InSampleRefIdeal.Value.vg_ref _ _ _ _ r d

theorem in_sample_og (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) :
    Cert.InSampleRefIdeal.Read.val_main_v84 (F := Ideal) y0 y1 y2 y3
      = (Cert.InSampleIdeal.Gen.dats m 0 c).arrAt 15 Cert.InSampleIdeal.cfg0.N := by
  subst h0 h1 h2 h3
  rw [Cert.InSampleIdeal.Value.final15]
  funext i
  obtain ⟨r, d, rfl⟩ : ∃ (r : Fin 128) (d : Fin 1024), i = ix2 r d := ⟨i 0, i 1, by funext a; fin_cases a <;> rfl⟩
  exact Cert.InSampleRefIdeal.Value.og_ref _ _ _ _ r d

theorem in_sample_la (m : (ℓ : Loc Cert.InSampleIdeal.nD Cert.InSampleIdeal.τ Cert.InSampleIdeal.sig) → Buf (Elt Ideal) ℓ) (c : Dev Cert.InSampleIdeal.nD)
    (y0 : FVec Ideal Cert.InSampleIdeal.S32x4x1024 .f32) (y1 : FVec Ideal Cert.InSampleIdeal.S32x6144 .f32) (y2 : FVec Ideal Cert.InSampleIdeal.S1024 .f32) (y3 : FVec Ideal Cert.InSampleIdeal.S1024x6672 .f32) (y4 : FVec Ideal Cert.InSampleIdeal.S16x512 .f32) (y5 : FVec Ideal Cert.InSampleIdeal.S512 .f32)
    (h0 : y0 = m ((c.tc : Thread _ _).loc Cert.InSampleIdeal.main_arg0)) (h1 : y1 = m ((c.tc : Thread _ _).loc Cert.InSampleIdeal.main_arg1)) (h2 : y2 = m ((c.tc : Thread _ _).loc Cert.InSampleIdeal.main_arg2)) (h3 : y3 = m ((c.tc : Thread _ _).loc Cert.InSampleIdeal.main_arg3)) (h4 : y4 = m ((c.tc : Thread _ _).loc Cert.InSampleIdeal.main_arg4)) (h5 : y5 = m ((c.tc : Thread _ _).loc Cert.InSampleIdeal.main_arg5)) :
    Cert.InSampleRefIdeal.Read.val_main_v85 (F := Ideal) y0 y1 y2 y3 y4 y5
      = (Cert.InSampleIdeal.Gen.dats m 0 c).arrAt 16 Cert.InSampleIdeal.cfg0.N := by
  subst h0 h1 h2 h3 h4 h5
  rw [Cert.InSampleIdeal.Value.final16]
  funext i
  obtain ⟨r, d, rfl⟩ : ∃ (r : Fin 128) (d : Fin 512), i = ix2 r d := ⟨i 0, i 1, by funext a; fin_cases a <;> rfl⟩
  exact Cert.InSampleRefIdeal.Value.la_ref _ _ _ _ _ _ r d

set_option maxHeartbeats 2000000 in
/-- The in-projection over the sampled tokens: each of its eight results is the reference's. -/
theorem in_sample : Cert.algebraic_InSampleIdeal_InSampleRefIdeal (hInSampleIdeal := Cert.InSampleIdeal.Gen.facts)
    (hInSampleRefIdeal := Cert.InSampleRefIdeal.Gen.facts) := by
  intro m g m' g' hpre hagree
  refine ⟨fun c => (Cert.InSampleIdeal.Gen.dats m 0 c).arrAt 9 Cert.InSampleIdeal.cfg0.N, fun c => (Cert.InSampleIdeal.Gen.dats m 0 c).arrAt 10 Cert.InSampleIdeal.cfg0.N, fun c => (Cert.InSampleIdeal.Gen.dats m 0 c).arrAt 11 Cert.InSampleIdeal.cfg0.N, fun c => (Cert.InSampleIdeal.Gen.dats m 0 c).arrAt 12 Cert.InSampleIdeal.cfg0.N, fun c => (Cert.InSampleIdeal.Gen.dats m 0 c).arrAt 13 Cert.InSampleIdeal.cfg0.N, fun c => (Cert.InSampleIdeal.Gen.dats m 0 c).arrAt 14 Cert.InSampleIdeal.cfg0.N, fun c => (Cert.InSampleIdeal.Gen.dats m 0 c).arrAt 15 Cert.InSampleIdeal.cfg0.N, fun c => (Cert.InSampleIdeal.Gen.dats m 0 c).arrAt 16 Cert.InSampleIdeal.cfg0.N, Cert.InSampleIdeal.Value.run_blocks m g, ?_⟩
  refine (θ_run _ _ _).mono (fun r h c => ?_) (Cert.InSampleRefIdeal.Value.run m' g')
  obtain ⟨h0, h1, h2, h3, h4, h5, h6, h7, hrest⟩ := h c
  obtain ⟨a0, a1, a2, a3, a4, a5, a6, a7⟩ := hagree c
  exact ⟨h0.trans ((Cert.InSampleRefIdeal.Read.val_main_v77_eq _ _).trans (in_sample_qa m c _ _ _ _ _ a0 a1 a2 a3 a6)),
    h1.trans ((Cert.InSampleRefIdeal.Read.val_main_v78_eq _ _).trans (in_sample_ka m c _ _ _ _ _ a0 a1 a2 a3 a7)),
    h2.trans ((Cert.InSampleRefIdeal.Read.val_main_v79_eq _ _ _ _).trans (in_sample_va m c _ _ _ _ a0 a1 a2 a3)),
    h3.trans ((Cert.InSampleRefIdeal.Read.val_main_v80_eq _ _ _ _).trans (in_sample_qg m c _ _ _ _ a0 a1 a2 a3)),
    h4.trans ((Cert.InSampleRefIdeal.Read.val_main_v81_eq _ _ _ _).trans (in_sample_kg m c _ _ _ _ a0 a1 a2 a3)),
    h5.trans ((Cert.InSampleRefIdeal.Read.val_main_v83_eq _ _ _ _).trans (in_sample_vg m c _ _ _ _ a0 a1 a2 a3)),
    h6.trans ((Cert.InSampleRefIdeal.Read.val_main_v84_eq _ _ _ _).trans (in_sample_og m c _ _ _ _ a0 a1 a2 a3)),
    h7.trans ((Cert.InSampleRefIdeal.Read.val_main_v85_eq _ _).trans (in_sample_la m c _ _ _ _ _ _ a0 a1 a2 a3 a4 a5)), hrest⟩

/-- The reference runs to its end, keeps its arguments and has no semaphore. -/
theorem in_sample_reference_frame : Cert.quiescent_InSampleRefIdeal (hInSampleRefIdeal := Cert.InSampleRefIdeal.Gen.facts) := by
  intro m g _
  exact (θ_run _ _ _).mono (fun r h => ⟨fun c => (h c).2.2.2.2.2.2.2.2, Idealize.ShloMosaic.sem_eq_zero_of_no_sems (by decide) r.2⟩)
    (Cert.InSampleRefIdeal.Value.run m g)

end Cert.Proof

end
-- ==== Proof.InPromptEntry.lean ====
module

public import proofs.«01_k».proof.Proof.Gen.InPromptIdeal.Frame
public import proofs.«01_k».proof.Proof.InMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InPromptIdeal.Value

open Cert.InPromptIdeal Cert.InPromptIdeal.Gen Cert.Layer

variable (m : (ℓ : Loc nD τ sig) → Buf (Elt Ideal) ℓ)

theorem idx : ∀ t : Fin cfg0.N, win0_0.index t = ![t.val, 0] ∧ win0_1.index t = ![t.val / 16, 0, 0]
    ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, t.val] ∧ win0_10.index t = ![0, t.val, 0] ∧ win0_11.index t = ![0, t.val]
    ∧ win0_12.index t = ![t.val, 0, 0] ∧ win0_13.index t = ![t.val / 16, 0, t.val % 16] ∧ win0_14.index t = ![t.val / 16, 0, t.val % 16]
    ∧ win0_15.index t = ![t.val, 0] ∧ win0_16.index t = ![t.val, 0] ∧ win0_17.index t = ![t.val, 0]
    ∧ win0_18.index t = ![t.val, 0] ∧ win0_19.index t = ![t.val, 0] :=
  (by decide +kernel : ∀ t : Fin grid0.N, _)

theorem lt128 (t : Fin cfg0.N) : t.val < 128 := lt_of_lt_of_eq t.isLt (by decide)

theorem sitofp_zero (φ : FTy) : (FloatOps.sitofp (F := Ideal) φ (0#32 : BitVec 32) : EReal) = 0 := by
  show (((0#32 : BitVec 32).toInt : ℝ) : EReal) = 0
  simp

theorem entry0 (c : Dev nD) (r : Fin 32768) (d : Fin 1024) : (show FVec Ideal S32768x1024 .f32 from V m c main_v25) (ix2 r d)
    = (show FVec Ideal S8x4096x1024 .f32 from m ((c : Thread nD τ).loc main_arg0)) (ix3 ⟨r.val / 4096, by omega⟩ ⟨r.val % 4096, by omega⟩ d) := by
  simp only [V, hostOps0, hostOps0_1, hostOps0_2, hostOps0_3, hostOps0_4, hostOps0_5, hostOps0_6, List.flatten_cons, List.flatten_nil, List.append_nil, List.cons_append, List.nil_append]
  entry_read
  change (shapeCast S32768x1024 (show FVec Ideal S8x4096x1024 .f32 from m ((c : Thread nD τ).loc main_arg0)) shapeCasts_S8x4096x1024_S32768x1024) (ix2 r d) = _
  pointwise

theorem entry1 (c : Dev nD) (r : Fin 8) (n : Fin 6144) : (show FVec Ideal S8x1x6144 .f32 from V m c main_v26) (ix3 r 0 n)
    = (show FVec Ideal S8x6144 .f32 from m ((c : Thread nD τ).loc main_arg1)) (ix2 r n) := by
  simp only [V, hostOps0, hostOps0_1, hostOps0_2, hostOps0_3, hostOps0_4, hostOps0_5, hostOps0_6, List.flatten_cons, List.flatten_nil, List.append_nil, List.cons_append, List.nil_append]
  entry_read
  change (shapeCast S8x1x6144 (show FVec Ideal S8x6144 .f32 from m ((c : Thread nD τ).loc main_arg1)) shapeCasts_S8x6144_S8x1x6144) (ix3 r 0 n) = _
  pointwise

theorem entry2 (c : Dev nD) (d : Fin 1024) : (show FVec Ideal S1x1024 .f32 from V m c main_v4) (ix2 0 d)
    = (show FVec Ideal S1024 .f32 from m ((c : Thread nD τ).loc main_arg2)) (ix1 d) := by
  simp only [V, hostOps0, hostOps0_1, hostOps0_2, hostOps0_3, hostOps0_4, hostOps0_5, hostOps0_6, List.flatten_cons, List.flatten_nil, List.append_nil, List.cons_append, List.nil_append]
  entry_read
  change (shapeCast S1x1024 (show FVec Ideal S1024 .f32 from m ((c : Thread nD τ).loc main_arg2)) shapeCasts_S1024_S1x1024) (ix2 0 d) = _
  pointwise

theorem entry3 (c : Dev nD) (d : Fin 1024) (n : Fin 4736) : (show FVec Ideal S1024x4736 .bf16 from V m c main_v7) (ix2 d n)
    = if h : n.val < 4624 then (show FVec Ideal S1024x6672 .f32 from m ((c : Thread nD τ).loc main_arg3)) (ix2 d ⟨n.val, by omega⟩) else 0 := by
  simp only [V, hostOps0, hostOps0_1, hostOps0_2, hostOps0_3, hostOps0_4, hostOps0_5, hostOps0_6, List.flatten_cons, List.flatten_nil, List.append_nil, List.cons_append, List.nil_append]
  entry_read
  change (truncf .bf16 (concatenate S1024x4736 1 [⟨S1024x4608, extractStridedSlice S1024x4608 ![0, 0] (show FVec Ideal S1024x6672 .f32 from m ((c : Thread nD τ).loc main_arg3)) slices_S1024x6672_S1024x4608_0_0⟩,
    ⟨S1024x128, pad S1024x128 ![0, 0] ![0, 112] ![0, 0] (extractStridedSlice S1024x16 ![0, 4608] (show FVec Ideal S1024x6672 .f32 from m ((c : Thread nD τ).loc main_arg3)) slices_S1024x6672_S1024x16_0_4608) (sitofp .f32 (constantI S_ 32 0#32)) pads_S1024x16_S1024x128_000_01120 h_S_⟩] concatenates_S1024x4608_S1024x128_S1024x4736_d1) bitsLt_bf16_f32) (ix2 d n) = _
  pointwise
  by_cases h1 : n.val < 4608
  · simp [h1, show n.val < 4624 by omega]
  · by_cases h2 : n.val - 4608 < 16
    · have e : 4608 + (n.val - 4608) = n.val := by omega
      simp [h1, h2, show n.val < 4624 by omega, e]
    · simp only [h1, h2, show ¬ n.val < 4624 by omega, dite_false]
      exact sitofp_zero _

def headOf : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32))) (broadcastInDim S512 ![] bcast_S_S512 (constantI S_ 32 0#32))))
    (subi (Host.divsi (iotaInDim S512 32 0) (broadcastInDim S512 ![] bcast_S_S512 (constantI S_ 32 64#32))) (broadcastInDim S512 ![] bcast_S_S512 (constantI S_ 32 1#32)))
    (Host.divsi (iotaInDim S512 32 0) (broadcastInDim S512 ![] bcast_S_S512 (constantI S_ 32 64#32)))

theorem headOf_eq : ∀ i : Fin 512, headOf (ix1 i) = BitVec.ofNat 32 (i.val / 64) := by decide +kernel

theorem entry4 (c : Dev nD) (a b : Fin 512) : (show FVec Ideal S512x512 .bf16 from V m c main_v13) (ix2 a b)
    = if a.val / 64 = b.val / 64 then 1 else 0 := by
  simp only [V, hostOps0, hostOps0_1, hostOps0_2, hostOps0_3, hostOps0_4, hostOps0_5, hostOps0_6, List.flatten_cons, List.flatten_nil, List.append_nil, List.cons_append, List.nil_append]
  entry_read
  change (uitofp (F := Ideal) .bf16 (cmpi .eq (broadcastInDim S512x512 ![0, 1] bcast_S512x1_S512x512_0_1 (broadcastInDim S512x1 ![0] bcast_S512_S512x1_0 headOf))
    (broadcastInDim S512x512 ![0, 1] bcast_S1x512_S512x512_0_1 (broadcastInDim S1x512 ![1] bcast_S512_S1x512_1 headOf)))) (ix2 a b) = _
  pointwise
  simp only [headOf_eq]
  have ha := a.isLt
  have hb := b.isLt
  by_cases h : a.val / 64 = b.val / 64
  · rw [h, if_pos rfl]
    show (((IntOp.cmpi .eq (BitVec.ofNat 32 (b.val / 64)) (BitVec.ofNat 32 (b.val / 64))).toNat : ℝ) : EReal) = 1
    simp [IntOp.cmpi]
  · rw [if_neg h]
    have hne : (BitVec.ofNat 32 (a.val / 64) == BitVec.ofNat 32 (b.val / 64)) = false := by
      rw [beq_eq_false_iff_ne]
      intro hc
      have := congrArg BitVec.toNat hc
      simp only [BitVec.toNat_ofNat] at this
      omega
    show (((IntOp.cmpi .eq (BitVec.ofNat 32 (a.val / 64)) (BitVec.ofNat 32 (b.val / 64))).toNat : ℝ) : EReal) = 0
    simp [IntOp.cmpi, hne]

theorem entry5 (c : Dev nD) (d : Fin 512) : (show FVec Ideal S1x512 .f32 from V m c main_v17) (ix2 0 d)
    = (show FVec Ideal S64 .f32 from m ((c : Thread nD τ).loc main_arg6)) (ix1 ⟨d.val % 64, by omega⟩) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (shapeCast S512 (broadcastInDim S8x64 ![0, 1] bcast_S1x64_S8x64_0_1 (shapeCast S1x64 (show FVec Ideal S64 .f32 from m ((c : Thread nD τ).loc main_arg6)) shapeCasts_S64_S1x64)) shapeCasts_S8x64_S512) shapeCasts_S512_S1x512) (ix2 0 d) = _
  pointwise

theorem entry6 (c : Dev nD) (d : Fin 512) : (show FVec Ideal S1x512 .f32 from V m c main_v21) (ix2 0 d)
    = (show FVec Ideal S64 .f32 from m ((c : Thread nD τ).loc main_arg7)) (ix1 ⟨d.val % 64, by omega⟩) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (shapeCast S512 (broadcastInDim S8x64 ![0, 1] bcast_S1x64_S8x64_0_1 (shapeCast S1x64 (show FVec Ideal S64 .f32 from m ((c : Thread nD τ).loc main_arg7)) shapeCasts_S64_S1x64)) shapeCasts_S8x64_S512) shapeCasts_S512_S1x512) (ix2 0 d) = _
  pointwise

theorem entry7 (c : Dev nD) (x : Fin 128) (d : Fin 512) : (show FVec Ideal S128x512 .bf16 from V m c main_v23) (ix2 x d)
    = if h : x.val < 16 then (show FVec Ideal S16x512 .f32 from m ((c : Thread nD τ).loc main_arg4)) (ix2 ⟨x.val, h⟩ d) else 0 := by
  simp only [V, hostOps0, hostOps0_1, hostOps0_2, hostOps0_3, hostOps0_4, hostOps0_5, hostOps0_6, List.flatten_cons, List.flatten_nil, List.append_nil, List.cons_append, List.nil_append]
  entry_read
  change (truncf .bf16 (pad S128x512 ![0, 0] ![112, 0] ![0, 0] (show FVec Ideal S16x512 .f32 from m ((c : Thread nD τ).loc main_arg4)) (sitofp .f32 (constantI S_ 32 0#32)) pads_S16x512_S128x512_01120_000 h_S_) bitsLt_bf16_f32) (ix2 x d) = _
  pointwise
  by_cases h : x.val < 16
  · simp [h]
  · simp only [h, dite_false]
    exact sitofp_zero _

theorem entry8 (c : Dev nD) (d : Fin 512) : (show FVec Ideal S1x512 .f32 from V m c main_v24) (ix2 0 d)
    = (show FVec Ideal S512 .f32 from m ((c : Thread nD τ).loc main_arg5)) (ix1 d) := by
  simp only [V, hostOps0, hostOps0_1, hostOps0_2, hostOps0_3, hostOps0_4, hostOps0_5, hostOps0_6, List.flatten_cons, List.flatten_nil, List.append_nil, List.cons_append, List.nil_append]
  entry_read
  change (shapeCast S1x512 (show FVec Ideal S512 .f32 from m ((c : Thread nD τ).loc main_arg5)) shapeCasts_S512_S1x512) (ix2 0 d) = _
  pointwise

end Cert.InPromptIdeal.Value
end
-- ==== Proof.InPromptSpec.lean ====
module

public import proofs.«01_k».proof.Proof.InMath
public import Idealize.ShloMosaic.Lib.Pipeline.ValueKit

@[expose] public section

noncomputable section

open Idealize.ShloMosaic

namespace Cert.Layer.Prompt

/-- A function of sequence, position and column, by the token's number through all sequences. -/
def flat {n : Nat} (f : Fin 8 → Fin 4096 → Fin n → EReal) (r : Fin 32768) (d : Fin n) : EReal :=
  f ⟨r.val / 4096, by omega⟩ ⟨r.val % 4096, by omega⟩ d

/-- Column `e` of head `h` among the 512 columns. -/
def lane (h : Fin 8) (e : Fin 64) : Fin 512 := ⟨h.val * 64 + e.val, by omega⟩

variable (X : FVec Ideal ⟨3, ![8, 4096, 1024]⟩ .f32) (M : FVec Ideal ⟨2, ![8, 6144]⟩ .f32) (G : FVec Ideal ⟨1, ![1024]⟩ .f32)
  (W : FVec Ideal ⟨2, ![1024, 6672]⟩ .f32) (K : FVec Ideal ⟨2, ![16, 512]⟩ .f32) (B : FVec Ideal ⟨1, ![512]⟩ .f32)
  (Q : FVec Ideal ⟨1, ![64]⟩ .f32)

/-- The normed and modulated row of token `s` of sequence `b`. -/
def hid (b : Fin 8) (s : Fin 4096) : Fin 1024 → EReal :=
  normed (fun d => X (ix3 b s d)) (fun d => G (ix1 d))
    (fun d => M (ix2 b ⟨1024 + d.val, by omega⟩)) (fun d => M (ix2 b ⟨d.val, by omega⟩))

/-- The token's projection onto column `n` of the weights. -/
def pr (b : Fin 8) (s : Fin 4096) (n : Fin 6672) : EReal := proj (hid X M G b s) (fun d n => W (ix2 d n)) n

/-- The attention query: its heads normed, then scaled for a softmax in base 2. -/
def qa (b : Fin 8) (s : Fin 4096) (d : Fin 512) : EReal :=
  headNorm (fun x => pr X M G W b s ⟨x.val, by omega⟩) (fun e => Q (ix1 e)) d * Ideal.ofBits .f32 1043900987#32

/-- The attention key: its heads normed. -/
def ka (b : Fin 8) (s : Fin 4096) (d : Fin 512) : EReal := headNorm (fun x => pr X M G W b s ⟨512 + x.val, by omega⟩) (fun e => Q (ix1 e)) d

/-- The mean key of a block of 256 tokens. -/
def kmean (t : Fin 128) (d : Fin 512) : EReal :=
  (∑ x : Fin 256, ka X M G W Q ⟨(t.val * 256 + x.val) / 4096, by omega⟩ ⟨(t.val * 256 + x.val) % 4096, by omega⟩ d) * Ideal.ofBits .f32 998244352#32

def va (b : Fin 8) (s : Fin 4096) (d : Fin 512) : EReal := pr X M G W b s ⟨1024 + d.val, by omega⟩

/-- The recurrence's query, scaled. -/
def qg (b : Fin 8) (s : Fin 4096) (d : Fin 512) : EReal := pr X M G W b s ⟨1536 + d.val, by omega⟩ * Ideal.ofBits .f32 1035273459#32

def kg (b : Fin 8) (s : Fin 4096) (d : Fin 512) : EReal := pr X M G W b s ⟨2048 + d.val, by omega⟩

def vg (b : Fin 8) (s : Fin 4096) (d : Fin 1024) : EReal := pr X M G W b s ⟨2560 + d.val, by omega⟩

def og (b : Fin 8) (s : Fin 4096) (d : Fin 1024) : EReal := pr X M G W b s ⟨3584 + d.val, by omega⟩

/-- The recurrence's log decay, through the two low-rank products. -/
def la (b : Fin 8) (s : Fin 4096) (d : Fin 512) : EReal :=
  logDecay (∑ x : Fin 16, pr X M G W b s ⟨4608 + x.val, by omega⟩ * K (ix2 x d) + B (ix1 d))

end Cert.Layer.Prompt

end
-- ==== Proof.InPromptPoints.lean ====
module

public import proofs.«01_k».proof.Proof.InPromptEntry
public import proofs.«01_k».proof.Proof.InPromptSpec
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)

namespace Cert.InPromptIdeal.Value

open Cert.InPromptIdeal Cert.InPromptIdeal.Gen Cert.Layer

/-! ## The kernel's stages at an entry -/

theorem hid_pay (v0 : Vec Ideal S256x1024 .f32) (v2 : Vec Ideal S1x1024 .f32) (v4 v6 : Vec Ideal S1x1x1024 .f32) (r : Fin 256) (d : Fin 1024) :
    k0_pay2 v0 v2 v4 v6 (ix2 r d) = normed (fun d => v0 (ix2 r d)) (fun d => v2 (ix2 0 d)) (fun d => v6 (ix3 0 0 d)) (fun d => v4 (ix3 0 0 d)) d := by
  pointwise [k0_pay2]
  rfl

theorem proj_pay (v0 : Vec Ideal S256x1024 .f32) (v2 : Vec Ideal S1x1024 .f32) (v4 v6 : Vec Ideal S1x1x1024 .f32) (v27 : Vec Ideal S1024x1536 .bf16)
    (r : Fin 256) (n : Fin 1536) :
    k0_pay3 v0 v2 v4 v6 v27 (ix2 r n) = ∑ d, k0_pay2 v0 v2 v4 v6 (ix2 r d) * v27 (ix2 d n) := by
  pointwise [k0_pay3]

theorem q_pay (v0 : Vec Ideal S256x1024 .f32) (v2 : Vec Ideal S1x1024 .f32) (v4 v6 : Vec Ideal S1x1x1024 .f32) (v27 : Vec Ideal S1024x1536 .bf16)
    (v28 : Vec Ideal S512x512 .bf16) (v31 : Vec Ideal S1x512 .f32) (r : Fin 256) (d : Fin 512) (z : Fin 512 → EReal) (g : Fin 64 → EReal)
    (hz : ∀ x : Fin 512, k0_pay3 v0 v2 v4 v6 v27 (ix2 r ⟨x.val, by omega⟩) = z x)
    (hs : ∀ x : Fin 512, v28 (ix2 x d) = if x.val / 64 = d.val / 64 then 1 else 0) (hg : v31 (ix2 0 d) = g ⟨d.val % 64, by omega⟩) :
    k0_pay12 (k0_pay4 v28) (k0_pay5 v0 v2 v4 v6 v27) (k0_pay6 v31) (k0_pay7 v0 v2 v4 v6 v27) (constant S256x512 .f32 0x00000000#32) (ix2 d r)
      = headNorm z g d * Ideal.ofBits .f32 1043900987#32 := by
  rw [← headNorm_of_ones z (fun x => v28 (ix2 x d)) g (v31 (ix2 0 d)) d hs hg]
  pointwise [k0_pay12, k0_pay7, k0_pay6, k0_pay5, k0_pay4]
  simp only [hz]

theorem k_pay (v29 : FVec Ideal S256x1536 .f32) (v28 : Vec Ideal S512x512 .bf16) (v49 : Vec Ideal S1x512 .f32) (r : Fin 256) (d : Fin 512)
    (z : Fin 512 → EReal) (g : Fin 64 → EReal)
    (hz : ∀ x : Fin 512, v29 (ix2 r ⟨512 + x.val, by omega⟩) = z x)
    (hs : ∀ x : Fin 512, v28 (ix2 x d) = if x.val / 64 = d.val / 64 then 1 else 0) (hg : v49 (ix2 0 d) = g ⟨d.val % 64, by omega⟩) :
    k0_pay8 v29 (k0_pay4 v28) v49 (ix2 r d) = headNorm z g d := by
  rw [← headNorm_of_ones z (fun x => v28 (ix2 x d)) g (v49 (ix2 0 d)) d hs hg]
  pointwise [k0_pay8, k0_pay4]
  simp only [hz]

theorem kf_pay (v29 : FVec Ideal S256x1536 .f32) (v31 : FVec Ideal S512x512 .bf16) (v49 : Vec Ideal S1x512 .f32) (r : Fin 256) (d : Fin 512) :
    k0_pay10 v29 v31 v49 (ix3 0 d r) = k0_pay8 v29 v31 v49 (ix2 r d) := by
  pointwise [k0_pay10]

theorem vt_pay (v29 : FVec Ideal S256x1536 .f32) (r : Fin 256) (d : Fin 512) : k0_pay13 v29 (ix2 d r) = v29 (ix2 r ⟨1024 + d.val, by omega⟩) := by
  pointwise [k0_pay13, k0_pay9]

theorem vf_pay (v29 : FVec Ideal S256x1536 .f32) (r : Fin 256) (d : Fin 512) : k0_pay11 v29 (ix3 0 d r) = v29 (ix2 r ⟨1024 + d.val, by omega⟩) := by
  pointwise [k0_pay11, k0_pay9]

theorem mean_pay (v61 : FVec Ideal S256x512 .f32) (d : Fin 512) :
    k0_pay24 v61 (ix3 0 0 d) = (∑ x : Fin 256, v61 (ix2 x d)) * Ideal.ofBits .f32 998244352#32 := by
  pointwise [k0_pay24]

theorem head_pay0 (v61 : FVec Ideal S256x512 .f32) (r : Fin 256) (e : Fin 64) : k0_pay15 v61 (ix3 0 r e) = v61 (ix2 r ⟨e.val, by omega⟩) := by
  pointwise [k0_pay15, k0_pay14]

theorem head_pay1 (v61 : FVec Ideal S256x512 .f32) (r : Fin 256) (e : Fin 64) : k0_pay16 v61 (ix3 0 r e) = v61 (ix2 r ⟨64 + e.val, by omega⟩) := by
  pointwise [k0_pay16, k0_pay14]

theorem head_pay2 (v61 : FVec Ideal S256x512 .f32) (r : Fin 256) (e : Fin 64) : k0_pay17 v61 (ix3 0 r e) = v61 (ix2 r ⟨128 + e.val, by omega⟩) := by
  pointwise [k0_pay17, k0_pay14]

theorem head_pay3 (v61 : FVec Ideal S256x512 .f32) (r : Fin 256) (e : Fin 64) : k0_pay18 v61 (ix3 0 r e) = v61 (ix2 r ⟨192 + e.val, by omega⟩) := by
  pointwise [k0_pay18, k0_pay14]

theorem head_pay4 (v61 : FVec Ideal S256x512 .f32) (r : Fin 256) (e : Fin 64) : k0_pay19 v61 (ix3 0 r e) = v61 (ix2 r ⟨256 + e.val, by omega⟩) := by
  pointwise [k0_pay19, k0_pay14]

theorem head_pay5 (v61 : FVec Ideal S256x512 .f32) (r : Fin 256) (e : Fin 64) : k0_pay20 v61 (ix3 0 r e) = v61 (ix2 r ⟨320 + e.val, by omega⟩) := by
  pointwise [k0_pay20, k0_pay14]

theorem head_pay6 (v61 : FVec Ideal S256x512 .f32) (r : Fin 256) (e : Fin 64) : k0_pay21 v61 (ix3 0 r e) = v61 (ix2 r ⟨384 + e.val, by omega⟩) := by
  pointwise [k0_pay21, k0_pay14]

theorem head_pay7 (v61 : FVec Ideal S256x512 .f32) (r : Fin 256) (e : Fin 64) : k0_pay23 (k0_pay22 v61) (ix3 0 r e) = v61 (ix2 r ⟨448 + e.val, by omega⟩) := by
  pointwise [k0_pay23, k0_pay22, k0_pay14]

theorem qg_pay (v26 : FVec Ideal S256x1024 .bf16) (w : Vec Ideal S1024x1024 .bf16) (r : Fin 256) (d : Fin 512) :
    k0_pay26 v26 w (ix2 r d) = (∑ x, v26 (ix2 r x) * w (ix2 x ⟨d.val, by omega⟩)) * Ideal.ofBits .f32 1035273459#32 := by
  pointwise [k0_pay26, k0_pay25]

theorem kg_pay (v26 : FVec Ideal S256x1024 .bf16) (w : Vec Ideal S1024x1024 .bf16) (r : Fin 256) (d : Fin 512) :
    k0_pay27 v26 w (ix2 r d) = ∑ x, v26 (ix2 r x) * w (ix2 x ⟨512 + d.val, by omega⟩) := by
  pointwise [k0_pay27, k0_pay25]

theorem vg_pay (v26 : FVec Ideal S256x1024 .bf16) (w : Vec Ideal S1024x1024 .bf16) (r : Fin 256) (d : Fin 1024) :
    k0_pay28 v26 w (ix2 r d) = ∑ x, v26 (ix2 r x) * w (ix2 x d) := by
  pointwise [k0_pay28]

theorem og_pay (v26 : FVec Ideal S256x1024 .bf16) (w : Vec Ideal S1024x1024 .bf16) (r : Fin 256) (d : Fin 1024) :
    k0_pay29 v26 w (ix2 r d) = ∑ x, v26 (ix2 r x) * w (ix2 x d) := by
  pointwise [k0_pay29]

theorem la_pay (v26 : FVec Ideal S256x1024 .bf16) (w : Vec Ideal S1024x128 .bf16) (v138 : Vec Ideal S128x512 .bf16) (v141 : Vec Ideal S1x512 .f32)
    (r : Fin 256) (d : Fin 512) :
    k0_pay1 v26 w v138 v141 (ix2 r d)
      = logDecay (∑ x, (∑ y, v26 (ix2 r y) * w (ix2 y x)) * v138 (ix2 x d) + v141 (ix2 0 d)) := by
  pointwise [k0_pay1]
  rfl

variable (m : (ℓ : Loc nD τ sig) → Buf (Elt Ideal) ℓ)

/-! ## The call's arguments, and its windows at a grid point -/

/-- The sequence, and the position in it, of a grid point's row. -/
def rb (t : Fin cfg0.N) (r : Fin 256) : Fin 8 := ⟨(t.val * 256 + r.val) / 4096, by have := lt128 t; omega⟩
def rs (t : Fin cfg0.N) (r : Fin 256) : Fin 4096 := ⟨(t.val * 256 + r.val) % 4096, by omega⟩

def aX (c : Dev nD) : FVec Ideal S8x4096x1024 .f32 := m ((c : Thread nD τ).loc main_arg0)
def aM (c : Dev nD) : FVec Ideal S8x6144 .f32 := m ((c : Thread nD τ).loc main_arg1)
def aG (c : Dev nD) : FVec Ideal S1024 .f32 := m ((c : Thread nD τ).loc main_arg2)
def aW (c : Dev nD) : FVec Ideal S1024x6672 .f32 := m ((c : Thread nD τ).loc main_arg3)
def aK (c : Dev nD) : FVec Ideal S16x512 .f32 := m ((c : Thread nD τ).loc main_arg4)
def aB (c : Dev nD) : FVec Ideal S512 .f32 := m ((c : Thread nD τ).loc main_arg5)
def aQ (c : Dev nD) : FVec Ideal S64 .f32 := m ((c : Thread nD τ).loc main_arg6)
def aR (c : Dev nD) : FVec Ideal S64 .f32 := m ((c : Thread nD τ).loc main_arg7)

theorem blk0 (c : Dev nD) (t : Fin cfg0.N) (r : Fin 256) (d : Fin 1024) :
    (show FVec Ideal S256x1024 .f32 from iblk m c 0 t) (ix2 r d) = (show FVec Ideal S32768x1024 .f32 from V m c main_v25) (ix2 ⟨t.val * 256 + r.val, by have := lt128 t; omega⟩ d) := by
  blk_simp [iblk]
  refine congrArg _ ?_
  blk_ext [idx t]

theorem blk1 (c : Dev nD) (t : Fin cfg0.N) (n : Fin 6144) :
    (show FVec Ideal S1x1x6144 .f32 from iblk m c 1 t) (ix3 0 0 n) = (show FVec Ideal S8x1x6144 .f32 from V m c main_v26) (ix3 ⟨t.val / 16, by have := lt128 t; omega⟩ 0 n) := by
  blk_simp [iblk]
  refine congrArg _ ?_
  blk_ext [idx t]

theorem blk2 (c : Dev nD) (t : Fin cfg0.N) (d : Fin 1024) :
    (show FVec Ideal S1x1024 .f32 from iblk m c 2 t) (ix2 0 d) = (show FVec Ideal S1x1024 .f32 from V m c main_v4) (ix2 0 d) := by
  blk_simp [iblk]
  refine congrArg _ ?_
  blk_ext [idx t]

theorem blk3 (c : Dev nD) (t : Fin cfg0.N) (r : Fin 1024) (d : Fin 4736) :
    (show FVec Ideal S1024x4736 .bf16 from iblk m c 3 t) (ix2 r d) = (show FVec Ideal S1024x4736 .bf16 from V m c main_v7) (ix2 r d) := by
  blk_simp [iblk]
  refine congrArg _ ?_
  blk_ext [idx t]

theorem blk4 (c : Dev nD) (t : Fin cfg0.N) (r d : Fin 512) :
    (show FVec Ideal S512x512 .bf16 from iblk m c 4 t) (ix2 r d) = (show FVec Ideal S512x512 .bf16 from V m c main_v13) (ix2 r d) := by
  blk_simp [iblk]
  refine congrArg _ ?_
  blk_ext [idx t]

theorem blk5 (c : Dev nD) (t : Fin cfg0.N) (d : Fin 512) :
    (show FVec Ideal S1x512 .f32 from iblk m c 5 t) (ix2 0 d) = (show FVec Ideal S1x512 .f32 from V m c main_v17) (ix2 0 d) := by
  blk_simp [iblk]
  refine congrArg _ ?_
  blk_ext [idx t]

theorem blk6 (c : Dev nD) (t : Fin cfg0.N) (d : Fin 512) :
    (show FVec Ideal S1x512 .f32 from iblk m c 6 t) (ix2 0 d) = (show FVec Ideal S1x512 .f32 from V m c main_v21) (ix2 0 d) := by
  blk_simp [iblk]
  refine congrArg _ ?_
  blk_ext [idx t]

theorem blk7 (c : Dev nD) (t : Fin cfg0.N) (r : Fin 128) (d : Fin 512) :
    (show FVec Ideal S128x512 .bf16 from iblk m c 7 t) (ix2 r d) = (show FVec Ideal S128x512 .bf16 from V m c main_v23) (ix2 r d) := by
  blk_simp [iblk]
  refine congrArg _ ?_
  blk_ext [idx t]

theorem blk8 (c : Dev nD) (t : Fin cfg0.N) (d : Fin 512) :
    (show FVec Ideal S1x512 .f32 from iblk m c 8 t) (ix2 0 d) = (show FVec Ideal S1x512 .f32 from V m c main_v24) (ix2 0 d) := by
  blk_simp [iblk]
  refine congrArg _ ?_
  blk_ext [idx t]

/-! ## The rectangles the body reads out of its windows -/

theorem ldX (c : Dev nD) (t : Fin cfg0.N) (r : Fin 256) (d : Fin 1024) :
    (View.ld (Val := Elt Ideal) (S := S256x1024) (e' := .f32) (iblk m c 0 t) r0_0 : FVec Ideal S256x1024 .f32) (ix2 r d) = aX m c (ix3 (rb t r) (rs t r) d) := by
  refine Eq.trans ?_ ((blk0 m c t r d).trans (entry0 m c ⟨t.val * 256 + r.val, by have := lt128 t; omega⟩ d))
  refine View.ld_unit_apply_of _ _ _ _ _ _ ?_
  intro a; fin_cases a <;> simp

theorem ldSh (c : Dev nD) (t : Fin cfg0.N) (r : Fin 256) (d : Fin 1024) :
    (View.ld (Val := Elt Ideal) (S := S1x1x6144) (e' := .f32) (iblk m c 1 t) r0_2 : FVec Ideal S1x1x1024 .f32) (ix3 0 0 d) = aM m c (ix2 (rb t r) ⟨d.val, by omega⟩) := by
  refine Eq.trans (Eq.trans ?_ ((blk1 m c t ⟨d.val, by omega⟩).trans (entry1 m c ⟨t.val / 16, by have := lt128 t; omega⟩ ⟨d.val, by omega⟩))) ?_
  · refine View.ld_unit_apply_of _ _ _ _ _ _ ?_
    intro a; fin_cases a <;> simp
  · exact congrArg (fun b => aM m c (ix2 b ⟨d.val, by omega⟩)) (Fin.ext (by show t.val / 16 = (t.val * 256 + r.val) / 4096; omega))

theorem ldSc (c : Dev nD) (t : Fin cfg0.N) (r : Fin 256) (d : Fin 1024) :
    (View.ld (Val := Elt Ideal) (S := S1x1x6144) (e' := .f32) (iblk m c 1 t) r0_3 : FVec Ideal S1x1x1024 .f32) (ix3 0 0 d) = aM m c (ix2 (rb t r) ⟨1024 + d.val, by omega⟩) := by
  refine Eq.trans (Eq.trans ?_ ((blk1 m c t ⟨1024 + d.val, by omega⟩).trans (entry1 m c ⟨t.val / 16, by have := lt128 t; omega⟩ ⟨1024 + d.val, by omega⟩))) ?_
  · refine View.ld_unit_apply_of _ _ _ _ _ _ ?_
    intro a; fin_cases a <;> simp
  · exact congrArg (fun b => aM m c (ix2 b ⟨1024 + d.val, by omega⟩)) (Fin.ext (by show t.val / 16 = (t.val * 256 + r.val) / 4096; omega))

theorem ldG (c : Dev nD) (t : Fin cfg0.N) (d : Fin 1024) :
    (View.ld (Val := Elt Ideal) (S := S1x1024) (e' := .f32) (iblk m c 2 t) r0_1 : FVec Ideal S1x1024 .f32) (ix2 0 d) = aG m c (ix1 d) := by
  refine Eq.trans ?_ ((blk2 m c t d).trans (entry2 m c d))
  refine View.ld_unit_apply_of _ _ _ _ _ _ ?_
  intro a; fin_cases a <;> simp

theorem ldO (c : Dev nD) (t : Fin cfg0.N) (r d : Fin 512) :
    (View.ld (Val := Elt Ideal) (S := S512x512) (e' := .bf16) (iblk m c 4 t) r0_5 : FVec Ideal S512x512 .bf16) (ix2 r d) = if r.val / 64 = d.val / 64 then 1 else 0 := by
  refine Eq.trans ?_ ((blk4 m c t r d).trans (entry4 m c r d))
  refine View.ld_unit_apply_of _ _ _ _ _ _ ?_
  intro a; fin_cases a <;> simp

theorem ldQ (c : Dev nD) (t : Fin cfg0.N) (d : Fin 512) :
    (View.ld (Val := Elt Ideal) (S := S1x512) (e' := .f32) (iblk m c 5 t) r0_6 : FVec Ideal S1x512 .f32) (ix2 0 d) = aQ m c (ix1 ⟨d.val % 64, by omega⟩) := by
  refine Eq.trans ?_ ((blk5 m c t d).trans (entry5 m c d))
  refine View.ld_unit_apply_of _ _ _ _ _ _ ?_
  intro a; fin_cases a <;> simp

theorem ldR (c : Dev nD) (t : Fin cfg0.N) (d : Fin 512) :
    (View.ld (Val := Elt Ideal) (S := S1x512) (e' := .f32) (iblk m c 6 t) r0_6 : FVec Ideal S1x512 .f32) (ix2 0 d) = aR m c (ix1 ⟨d.val % 64, by omega⟩) := by
  refine Eq.trans ?_ ((blk6 m c t d).trans (entry6 m c d))
  refine View.ld_unit_apply_of _ _ _ _ _ _ ?_
  intro a; fin_cases a <;> simp

theorem ldK (c : Dev nD) (t : Fin cfg0.N) (r : Fin 128) (d : Fin 512) :
    (View.ld (Val := Elt Ideal) (S := S128x512) (e' := .bf16) (iblk m c 7 t) r0_23 : FVec Ideal S128x512 .bf16) (ix2 r d) = if h : r.val < 16 then aK m c (ix2 ⟨r.val, h⟩ d) else 0 := by
  refine Eq.trans ?_ ((blk7 m c t r d).trans (entry7 m c r d))
  refine View.ld_unit_apply_of _ _ _ _ _ _ ?_
  intro a; fin_cases a <;> simp

theorem ldB (c : Dev nD) (t : Fin cfg0.N) (d : Fin 512) :
    (View.ld (Val := Elt Ideal) (S := S1x512) (e' := .f32) (iblk m c 8 t) r0_6 : FVec Ideal S1x512 .f32) (ix2 0 d) = aB m c (ix1 d) := by
  refine Eq.trans ?_ ((blk8 m c t d).trans (entry8 m c d))
  refine View.ld_unit_apply_of _ _ _ _ _ _ ?_
  intro a; fin_cases a <;> simp

theorem ldW4 (c : Dev nD) (t : Fin cfg0.N) (d : Fin 1024) (n : Fin 1536) :
    (View.ld (Val := Elt Ideal) (S := S1024x4736) (e' := .bf16) (iblk m c 3 t) r0_4 : FVec Ideal S1024x1536 .bf16) (ix2 d n) = aW m c (ix2 d ⟨n.val, by omega⟩) := by
  refine Eq.trans (Eq.trans ?_ ((blk3 m c t d ⟨n.val, by omega⟩).trans (entry3 m c d ⟨n.val, by omega⟩))) (dif_pos (by simp only []; omega))
  refine View.ld_unit_apply_of _ _ _ _ _ _ ?_
  intro a; fin_cases a <;> simp

theorem ldW8 (c : Dev nD) (t : Fin cfg0.N) (d : Fin 1024) (n : Fin 1024) :
    (View.ld (Val := Elt Ideal) (S := S1024x4736) (e' := .bf16) (iblk m c 3 t) r0_18 : FVec Ideal S1024x1024 .bf16) (ix2 d n) = aW m c (ix2 d ⟨1536 + n.val, by omega⟩) := by
  refine Eq.trans (Eq.trans ?_ ((blk3 m c t d ⟨1536 + n.val, by omega⟩).trans (entry3 m c d ⟨1536 + n.val, by omega⟩))) (dif_pos (by simp only []; omega))
  refine View.ld_unit_apply_of _ _ _ _ _ _ ?_
  intro a; fin_cases a <;> simp

theorem ldW9 (c : Dev nD) (t : Fin cfg0.N) (d : Fin 1024) (n : Fin 1024) :
    (View.ld (Val := Elt Ideal) (S := S1024x4736) (e' := .bf16) (iblk m c 3 t) r0_20 : FVec Ideal S1024x1024 .bf16) (ix2 d n) = aW m c (ix2 d ⟨2560 + n.val, by omega⟩) := by
  refine Eq.trans (Eq.trans ?_ ((blk3 m c t d ⟨2560 + n.val, by omega⟩).trans (entry3 m c d ⟨2560 + n.val, by omega⟩))) (dif_pos (by simp only []; omega))
  refine View.ld_unit_apply_of _ _ _ _ _ _ ?_
  intro a; fin_cases a <;> simp

theorem ldW10 (c : Dev nD) (t : Fin cfg0.N) (d : Fin 1024) (n : Fin 1024) :
    (View.ld (Val := Elt Ideal) (S := S1024x4736) (e' := .bf16) (iblk m c 3 t) r0_21 : FVec Ideal S1024x1024 .bf16) (ix2 d n) = aW m c (ix2 d ⟨3584 + n.val, by omega⟩) := by
  refine Eq.trans (Eq.trans ?_ ((blk3 m c t d ⟨3584 + n.val, by omega⟩).trans (entry3 m c d ⟨3584 + n.val, by omega⟩))) (dif_pos (by simp only []; omega))
  refine View.ld_unit_apply_of _ _ _ _ _ _ ?_
  intro a; fin_cases a <;> simp

theorem ldW11 (c : Dev nD) (t : Fin cfg0.N) (d : Fin 1024) (n : Fin 128) :
    (View.ld (Val := Elt Ideal) (S := S1024x4736) (e' := .bf16) (iblk m c 3 t) r0_22 : FVec Ideal S1024x128 .bf16) (ix2 d n)
      = if h : n.val < 16 then aW m c (ix2 d ⟨4608 + n.val, by omega⟩) else 0 := by
  have e : (View.ld (Val := Elt Ideal) (S := S1024x4736) (e' := .bf16) (iblk m c 3 t) r0_22 : FVec Ideal S1024x128 .bf16) (ix2 d n)
      = if h : 4608 + n.val < 4624 then aW m c (ix2 d ⟨4608 + n.val, by omega⟩) else 0 := by
    refine Eq.trans ?_ ((blk3 m c t d ⟨4608 + n.val, by omega⟩).trans (entry3 m c d ⟨4608 + n.val, by omega⟩))
    refine View.ld_unit_apply_of _ _ _ _ _ _ ?_
    intro a; fin_cases a <;> simp
  rw [e]
  by_cases h : n.val < 16
  · rw [dif_pos h, dif_pos (by omega)]
  · rw [dif_neg h, dif_neg (by omega)]

/-! ## The stages over the windows -/

theorem hid_at (c : Dev nD) (t : Fin cfg0.N) (r : Fin 256) (d : Fin 1024) :
    k0_pay2 (F := Ideal) (View.ld (iblk m c 0 t) r0_0) (View.ld (iblk m c 2 t) r0_1) (View.ld (iblk m c 1 t) r0_2) (View.ld (iblk m c 1 t) r0_3) (ix2 r d)
      = Prompt.hid (aX m c) (aM m c) (aG m c) (rb t r) (rs t r) d := by
  refine (hid_pay _ _ _ _ r d).trans ?_
  unfold Prompt.hid
  congr 1
  · funext d; exact ldX m c t r d
  · funext d; exact ldG m c t d
  · funext d; exact ldSc m c t r d
  · funext d; exact ldSh m c t r d

theorem proj_at (c : Dev nD) (t : Fin cfg0.N) (r : Fin 256) (n : Fin 1536) :
    k0_pay3 (F := Ideal) (View.ld (iblk m c 0 t) r0_0) (View.ld (iblk m c 2 t) r0_1) (View.ld (iblk m c 1 t) r0_2) (View.ld (iblk m c 1 t) r0_3)
      (View.ld (iblk m c 3 t) r0_4) (ix2 r n)
      = Prompt.pr (aX m c) (aM m c) (aG m c) (aW m c) (rb t r) (rs t r) ⟨n.val, by omega⟩ := by
  refine (proj_pay _ _ _ _ _ r n).trans ?_
  unfold Prompt.pr proj
  refine Finset.sum_congr rfl fun d _ => ?_
  rw [hid_at m c t r d]
  exact congrArg _ (ldW4 m c t d n)

/-- A sum of the hidden row against loaded columns of the weights is the projection. -/
theorem sum_at (c : Dev nD) (t : Fin cfg0.N) (r : Fin 256) (n : Fin 6672) (w : Fin 1024 → EReal) (hw : ∀ d, w d = aW m c (ix2 d n)) :
    ∑ d, k0_pay30 (F := Ideal) (iblk m c 0 t) (iblk m c 1 t) (iblk m c 2 t) (iblk m c 3 t) (iblk m c 4 t) (iblk m c 5 t) (iblk m c 6 t) (iblk m c 7 t) (iblk m c 8 t) (ix2 r d) * w d
      = Prompt.pr (aX m c) (aM m c) (aG m c) (aW m c) (rb t r) (rs t r) n := by
  unfold Prompt.pr proj
  refine Finset.sum_congr rfl fun d _ => ?_
  rw [hw d]
  exact congrArg (· * _) (hid_at m c t r d)

theorem key_at (c : Dev nD) (t : Fin cfg0.N) (r : Fin 256) (d : Fin 512) :
    k0_pay33 (F := Ideal) (iblk m c 0 t) (iblk m c 1 t) (iblk m c 2 t) (iblk m c 3 t) (iblk m c 4 t) (iblk m c 5 t) (iblk m c 6 t) (iblk m c 7 t) (iblk m c 8 t) (ix2 r d) = Prompt.ka (aX m c) (aM m c) (aG m c) (aW m c) (aR m c) (rb t r) (rs t r) d := by
  exact k_pay _ _ _ r d _ _ (fun x => proj_at m c t r ⟨512 + x.val, by omega⟩) (fun x => ldO m c t x d) (ldR m c t d)

/-! ## The results at a grid point -/

theorem point9 (c : Dev nD) (t : Fin cfg0.N) (r : Fin 256) (d : Fin 512) :
    out0_9 (F := Ideal) (iblk m c 0 t) (iblk m c 1 t) (iblk m c 2 t) (iblk m c 3 t) (iblk m c 4 t) (iblk m c 5 t) (iblk m c 6 t) (iblk m c 7 t) (iblk m c 8 t) (ix2 d r)
      = Prompt.qa (aX m c) (aM m c) (aG m c) (aW m c) (aQ m c) (rb t r) (rs t r) d := by
  unfold out0_9
  refine (congrFun (View.canon_unit_zero (by funext a; fin_cases a <;> rfl) _ _) _).trans ?_
  exact q_pay _ _ _ _ _ _ _ r d _ _ (fun x => proj_at m c t r ⟨x.val, by omega⟩) (fun x => ldO m c t x d) (ldQ m c t d)

theorem point10 (c : Dev nD) (t : Fin cfg0.N) (y : S8x256x64.Idx) :
    out0_10 (F := Ideal) (iblk m c 0 t) (iblk m c 1 t) (iblk m c 2 t) (iblk m c 3 t) (iblk m c 4 t) (iblk m c 5 t) (iblk m c 6 t) (iblk m c 7 t) (iblk m c 8 t) y
      = Prompt.ka (aX m c) (aM m c) (aG m c) (aW m c) (aR m c) (rb t (y 1)) (rs t (y 1)) (Prompt.lane (y 0) (y 2)) := by
  unfold out0_10
  canon_tiles x hx
  case piece0 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (7 : Fin 8) := Fin.ext hx0
    refine (head_pay7 _ r e).trans ((key_at m c t r ⟨448 + e.val, by omega⟩).trans ?_)
    rw [e1]
    exact congrArg (fun n => Prompt.ka (aX m c) (aM m c) (aG m c) (aW m c) (aR m c) (rb t r) (rs t r) n) (Fin.ext (by show 448 + e.val = (y 0).val * 64 + (y 2).val; rw [e0, e2]; show 448 + e.val = 7 * 64 + e.val; omega))
  case piece1 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (6 : Fin 8) := Fin.ext hx0
    refine (head_pay6 _ r e).trans ((key_at m c t r ⟨384 + e.val, by omega⟩).trans ?_)
    rw [e1]
    exact congrArg (fun n => Prompt.ka (aX m c) (aM m c) (aG m c) (aW m c) (aR m c) (rb t r) (rs t r) n) (Fin.ext (by show 384 + e.val = (y 0).val * 64 + (y 2).val; rw [e0, e2]; show 384 + e.val = 6 * 64 + e.val; omega))
  case piece2 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (5 : Fin 8) := Fin.ext hx0
    refine (head_pay5 _ r e).trans ((key_at m c t r ⟨320 + e.val, by omega⟩).trans ?_)
    rw [e1]
    exact congrArg (fun n => Prompt.ka (aX m c) (aM m c) (aG m c) (aW m c) (aR m c) (rb t r) (rs t r) n) (Fin.ext (by show 320 + e.val = (y 0).val * 64 + (y 2).val; rw [e0, e2]; show 320 + e.val = 5 * 64 + e.val; omega))
  case piece3 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (4 : Fin 8) := Fin.ext hx0
    refine (head_pay4 _ r e).trans ((key_at m c t r ⟨256 + e.val, by omega⟩).trans ?_)
    rw [e1]
    exact congrArg (fun n => Prompt.ka (aX m c) (aM m c) (aG m c) (aW m c) (aR m c) (rb t r) (rs t r) n) (Fin.ext (by show 256 + e.val = (y 0).val * 64 + (y 2).val; rw [e0, e2]; show 256 + e.val = 4 * 64 + e.val; omega))
  case piece4 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (3 : Fin 8) := Fin.ext hx0
    refine (head_pay3 _ r e).trans ((key_at m c t r ⟨192 + e.val, by omega⟩).trans ?_)
    rw [e1]
    exact congrArg (fun n => Prompt.ka (aX m c) (aM m c) (aG m c) (aW m c) (aR m c) (rb t r) (rs t r) n) (Fin.ext (by show 192 + e.val = (y 0).val * 64 + (y 2).val; rw [e0, e2]; show 192 + e.val = 3 * 64 + e.val; omega))
  case piece5 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (2 : Fin 8) := Fin.ext hx0
    refine (head_pay2 _ r e).trans ((key_at m c t r ⟨128 + e.val, by omega⟩).trans ?_)
    rw [e1]
    exact congrArg (fun n => Prompt.ka (aX m c) (aM m c) (aG m c) (aW m c) (aR m c) (rb t r) (rs t r) n) (Fin.ext (by show 128 + e.val = (y 0).val * 64 + (y 2).val; rw [e0, e2]; show 128 + e.val = 2 * 64 + e.val; omega))
  case piece6 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (1 : Fin 8) := Fin.ext hx0
    refine (head_pay1 _ r e).trans ((key_at m c t r ⟨64 + e.val, by omega⟩).trans ?_)
    rw [e1]
    exact congrArg (fun n => Prompt.ka (aX m c) (aM m c) (aG m c) (aW m c) (aR m c) (rb t r) (rs t r) n) (Fin.ext (by show 64 + e.val = (y 0).val * 64 + (y 2).val; rw [e0, e2]; show 64 + e.val = 1 * 64 + e.val; omega))
  case piece7 =>
    obtain ⟨r, e, rfl⟩ : ∃ (r : Fin 256) (e : Fin 64), x = ix3 0 r e :=
      ⟨x 1, x 2, by funext a; fin_cases a <;> first | rfl | exact Fin.ext (by simp)⟩
    have e1 : y 1 = r := Fin.ext hx1
    have e2 : y 2 = e := Fin.ext hx2
    have e0 : y 0 = (0 : Fin 8) := Fin.ext hx0
    refine (head_pay0 _ r e).trans ((key_at m c t r ⟨e.val, by omega⟩).trans ?_)
    rw [e1]
    exact congrArg (fun n => Prompt.ka (aX m c) (aM m c) (aG m c) (aW m c) (aR m c) (rb t r) (rs t r) n) (Fin.ext (by show e.val = (y 0).val * 64 + (y 2).val; rw [e0, e2]; show e.val = 0 * 64 + e.val; omega))

theorem point11 (c : Dev nD) (t : Fin cfg0.N) (r : Fin 256) (d : Fin 512) :
    out0_11 (F := Ideal) (iblk m c 0 t) (iblk m c 1 t) (iblk m c 2 t) (iblk m c 3 t) (iblk m c 4 t) (iblk m c 5 t) (iblk m c 6 t) (iblk m c 7 t) (iblk m c 8 t) (ix2 d r)
      = Prompt.va (aX m c) (aM m c) (aG m c) (aW m c) (rb t r) (rs t r) d := by
  unfold out0_11
  refine (congrFun (View.canon_unit_zero (by funext a; fin_cases a <;> rfl) _ _) _).trans ?_
  exact (vt_pay _ r d).trans (proj_at m c t r ⟨1024 + d.val, by omega⟩)

theorem point12 (c : Dev nD) (t : Fin cfg0.N) (d : Fin 512) :
    out0_12 (F := Ideal) (iblk m c 0 t) (iblk m c 1 t) (iblk m c 2 t) (iblk m c 3 t) (iblk m c 4 t) (iblk m c 5 t) (iblk m c 6 t) (iblk m c 7 t) (iblk m c 8 t) (ix3 0 0 d)
      = Prompt.kmean (aX m c) (aM m c) (aG m c) (aW m c) (aR m c) ⟨t.val, lt128 t⟩ d := by
  unfold out0_12
  refine (congrFun (View.canon_unit_zero (by funext a; fin_cases a <;> rfl) _ _) _).trans ?_
  refine (mean_pay _ d).trans ?_
  unfold Prompt.kmean
  exact congrArg (· * _) (Finset.sum_congr rfl fun x _ => key_at m c t x d)

theorem point13 (c : Dev nD) (t : Fin cfg0.N) (r : Fin 256) (d : Fin 512) :
    out0_13 (F := Ideal) (iblk m c 0 t) (iblk m c 1 t) (iblk m c 2 t) (iblk m c 3 t) (iblk m c 4 t) (iblk m c 5 t) (iblk m c 6 t) (iblk m c 7 t) (iblk m c 8 t) (ix3 0 d r)
      = Prompt.ka (aX m c) (aM m c) (aG m c) (aW m c) (aR m c) (rb t r) (rs t r) d := by
  unfold out0_13
  refine (congrFun (View.canon_unit_zero (by funext a; fin_cases a <;> rfl) _ _) _).trans ?_
  exact (kf_pay _ _ _ r d).trans (key_at m c t r d)

theorem point14 (c : Dev nD) (t : Fin cfg0.N) (r : Fin 256) (d : Fin 512) :
    out0_14 (F := Ideal) (iblk m c 0 t) (iblk m c 1 t) (iblk m c 2 t) (iblk m c 3 t) (iblk m c 4 t) (iblk m c 5 t) (iblk m c 6 t) (iblk m c 7 t) (iblk m c 8 t) (ix3 0 d r)
      = Prompt.va (aX m c) (aM m c) (aG m c) (aW m c) (rb t r) (rs t r) d := by
  unfold out0_14
  refine (congrFun (View.canon_unit_zero (by funext a; fin_cases a <;> rfl) _ _) _).trans ?_
  exact (vf_pay _ r d).trans (proj_at m c t r ⟨1024 + d.val, by omega⟩)

theorem point15 (c : Dev nD) (t : Fin cfg0.N) (r : Fin 256) (d : Fin 512) :
    out0_15 (F := Ideal) (iblk m c 0 t) (iblk m c 1 t) (iblk m c 2 t) (iblk m c 3 t) (iblk m c 4 t) (iblk m c 5 t) (iblk m c 6 t) (iblk m c 7 t) (iblk m c 8 t) (ix2 r d)
      = Prompt.qg (aX m c) (aM m c) (aG m c) (aW m c) (rb t r) (rs t r) d := by
  unfold out0_15
  refine (congrFun (View.canon_unit_zero (by funext a; fin_cases a <;> rfl) _ _) _).trans ?_
  refine (qg_pay _ _ r d).trans (congrArg (· * _) ?_)
  exact sum_at m c t r ⟨1536 + d.val, by omega⟩ _ fun x => ldW8 m c t x ⟨d.val, by omega⟩

theorem point16 (c : Dev nD) (t : Fin cfg0.N) (r : Fin 256) (d : Fin 512) :
    out0_16 (F := Ideal) (iblk m c 0 t) (iblk m c 1 t) (iblk m c 2 t) (iblk m c 3 t) (iblk m c 4 t) (iblk m c 5 t) (iblk m c 6 t) (iblk m c 7 t) (iblk m c 8 t) (ix2 r d)
      = Prompt.kg (aX m c) (aM m c) (aG m c) (aW m c) (rb t r) (rs t r) d := by
  unfold out0_16
  refine (congrFun (View.canon_unit_zero (by funext a; fin_cases a <;> rfl) _ _) _).trans ?_
  refine (kg_pay _ _ r d).trans ?_
  refine sum_at m c t r ⟨2048 + d.val, by omega⟩ _ fun x => (ldW8 m c t x ⟨512 + d.val, by omega⟩).trans ?_
  exact congrArg (fun n => aW m c (ix2 x n)) (Fin.ext (by show 1536 + (512 + d.val) = 2048 + d.val; omega))

theorem point17 (c : Dev nD) (t : Fin cfg0.N) (r : Fin 256) (d : Fin 1024) :
    out0_17 (F := Ideal) (iblk m c 0 t) (iblk m c 1 t) (iblk m c 2 t) (iblk m c 3 t) (iblk m c 4 t) (iblk m c 5 t) (iblk m c 6 t) (iblk m c 7 t) (iblk m c 8 t) (ix2 r d)
      = Prompt.vg (aX m c) (aM m c) (aG m c) (aW m c) (rb t r) (rs t r) d := by
  unfold out0_17
  refine (congrFun (View.canon_unit_zero (by funext a; fin_cases a <;> rfl) _ _) _).trans ?_
  refine (vg_pay _ _ r d).trans ?_
  exact sum_at m c t r ⟨2560 + d.val, by omega⟩ _ fun x => ldW9 m c t x d

theorem point18 (c : Dev nD) (t : Fin cfg0.N) (r : Fin 256) (d : Fin 1024) :
    out0_18 (F := Ideal) (iblk m c 0 t) (iblk m c 1 t) (iblk m c 2 t) (iblk m c 3 t) (iblk m c 4 t) (iblk m c 5 t) (iblk m c 6 t) (iblk m c 7 t) (iblk m c 8 t) (ix2 r d)
      = Prompt.og (aX m c) (aM m c) (aG m c) (aW m c) (rb t r) (rs t r) d := by
  unfold out0_18
  refine (congrFun (View.canon_unit_zero (by funext a; fin_cases a <;> rfl) _ _) _).trans ?_
  refine (og_pay _ _ r d).trans ?_
  exact sum_at m c t r ⟨3584 + d.val, by omega⟩ _ fun x => ldW10 m c t x d

theorem point19 (c : Dev nD) (t : Fin cfg0.N) (r : Fin 256) (d : Fin 512) :
    out0_19 (F := Ideal) (iblk m c 0 t) (iblk m c 1 t) (iblk m c 2 t) (iblk m c 3 t) (iblk m c 4 t) (iblk m c 5 t) (iblk m c 6 t) (iblk m c 7 t) (iblk m c 8 t) (ix2 r d)
      = Prompt.la (aX m c) (aM m c) (aG m c) (aW m c) (aK m c) (aB m c) (rb t r) (rs t r) d := by
  unfold out0_19
  refine (congrFun (View.canon_unit_zero (by funext a; fin_cases a <;> rfl) _ _) _).trans ?_
  refine (la_pay _ _ _ _ r d).trans ?_
  unfold Prompt.la
  rw [ldB m c t d]
  refine congrArg (fun s => logDecay (s + _)) ?_
  refine Eq.trans (Finset.sum_congr rfl fun x _ => ?_) (rank_sum (fun x => Prompt.pr (aX m c) (aM m c) (aG m c) (aW m c) (rb t r) (rs t r) ⟨4608 + x.val, by omega⟩) (fun x => aK m c (ix2 x d)))
  refine congrArg₂ (fun a b : EReal => a * b) ?_ (ldK m c t x d)
  by_cases h : x.val < 16
  · rw [dif_pos h]
    exact sum_at m c t r ⟨4608 + x.val, by omega⟩ _ fun y => (ldW11 m c t y x).trans (dif_pos h)
  · rw [dif_neg h]
    refine Finset.sum_eq_zero fun y _ => ?_
    rw [ldW11 m c t y x, dif_neg h, mul_zero]

/-- A grid point's row among all the rows. -/
theorem flat_at {n : Nat} (f : Fin 8 → Fin 4096 → Fin n → EReal) (t : Fin cfg0.N) (r : Fin 256) (d : Fin n) (R : Fin 32768) (D : Fin n)
    (h : R.val = t.val * 256 + r.val) (hd : D.val = d.val) : f (rb t r) (rs t r) d = Prompt.flat f R D := by
  unfold Prompt.flat rb rs
  obtain rfl : D = d := Fin.ext hd
  simp only [h]

end Cert.InPromptIdeal.Value

end
-- ==== Proof.InPromptFinals.lean ====
module

public import proofs.«01_k».proof.Proof.InPromptPoints
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)

namespace Cert.InPromptIdeal.Value

open Cert.InPromptIdeal Cert.InPromptIdeal.Gen Cert.Layer

variable (m : (ℓ : Loc nD τ sig) → Buf (Elt Ideal) ℓ)

theorem final9 (c : Dev nD) : (dats m 0 c).arrAt 9 cfg0.N = fun i => Prompt.flat (Prompt.qa (aX m c) (aM m c) (aG m c) (aW m c) (aQ m c)) (i 1) (i 0) := by
  refine (dats m 0 c).arrAt_eq_of_covers 9 _ (by decide +kernel) fun t _ y => ?_
  blk_simp
  rw [after0_9]
  obtain ⟨r, d, rfl⟩ : ∃ (r : Fin 256) (d : Fin 512), y = ix2 d r := ⟨y 1, y 0, by funext a; fin_cases a <;> first | rfl | exact Fin.ext (by simp)⟩
  refine (point9 m c t r d).trans (flat_at _ t _ _ _ _ ?_ ?_)
  all_goals (blk_simp [idx t, Prompt.lane]; try omega)

theorem final10 (c : Dev nD) : (dats m 0 c).arrAt 10 cfg0.N = fun i => Prompt.flat (Prompt.ka (aX m c) (aM m c) (aG m c) (aW m c) (aR m c)) (i 1) (Prompt.lane (i 0) (i 2)) := by
  refine (dats m 0 c).arrAt_eq_of_covers 10 _ (by decide +kernel) fun t _ y => ?_
  blk_simp
  rw [after0_10]
  refine (point10 m c t y).trans (flat_at _ t _ _ _ _ ?_ ?_)
  all_goals (blk_simp [idx t, Prompt.lane]; try omega)

theorem final11 (c : Dev nD) : (dats m 0 c).arrAt 11 cfg0.N = fun i => Prompt.flat (Prompt.va (aX m c) (aM m c) (aG m c) (aW m c)) (i 1) (i 0) := by
  refine (dats m 0 c).arrAt_eq_of_covers 11 _ (by decide +kernel) fun t _ y => ?_
  blk_simp
  rw [after0_11]
  obtain ⟨r, d, rfl⟩ : ∃ (r : Fin 256) (d : Fin 512), y = ix2 d r := ⟨y 1, y 0, by funext a; fin_cases a <;> first | rfl | exact Fin.ext (by simp)⟩
  refine (point11 m c t r d).trans (flat_at _ t _ _ _ _ ?_ ?_)
  all_goals (blk_simp [idx t, Prompt.lane]; try omega)

theorem final12 (c : Dev nD) : (dats m 0 c).arrAt 12 cfg0.N = fun i => Prompt.kmean (aX m c) (aM m c) (aG m c) (aW m c) (aR m c) (i 0) (i 2) := by
  refine (dats m 0 c).arrAt_eq_of_covers 12 _ (by decide +kernel) fun t _ y => ?_
  blk_simp
  rw [after0_12]
  obtain ⟨d, rfl⟩ : ∃ (d : Fin 512), y = ix3 0 0 d := ⟨y 2, by funext a; fin_cases a <;> first | rfl | exact Fin.ext (by simp)⟩
  refine (point12 m c t d).trans ?_
  congr 1
  all_goals (apply Fin.ext; blk_simp [idx t]; try (simp only [rb, rs, Fin.val_zero]; try omega))

theorem final13 (c : Dev nD) : (dats m 0 c).arrAt 13 cfg0.N = fun i => Prompt.ka (aX m c) (aM m c) (aG m c) (aW m c) (aR m c) (i 0) (i 2) (i 1) := by
  refine (dats m 0 c).arrAt_eq_of_covers 13 _ (by decide +kernel) fun t _ y => ?_
  blk_simp
  rw [after0_13]
  obtain ⟨r, d, rfl⟩ : ∃ (r : Fin 256) (d : Fin 512), y = ix3 0 d r := ⟨y 2, y 1, by funext a; fin_cases a <;> first | rfl | exact Fin.ext (by simp)⟩
  refine (point13 m c t r d).trans ?_
  congr 1
  all_goals (apply Fin.ext; blk_simp [idx t]; try (simp only [rb, rs, Fin.val_zero]; try omega))

theorem final14 (c : Dev nD) : (dats m 0 c).arrAt 14 cfg0.N = fun i => Prompt.va (aX m c) (aM m c) (aG m c) (aW m c) (i 0) (i 2) (i 1) := by
  refine (dats m 0 c).arrAt_eq_of_covers 14 _ (by decide +kernel) fun t _ y => ?_
  blk_simp
  rw [after0_14]
  obtain ⟨r, d, rfl⟩ : ∃ (r : Fin 256) (d : Fin 512), y = ix3 0 d r := ⟨y 2, y 1, by funext a; fin_cases a <;> first | rfl | exact Fin.ext (by simp)⟩
  refine (point14 m c t r d).trans ?_
  congr 1
  all_goals (apply Fin.ext; blk_simp [idx t]; try (simp only [rb, rs, Fin.val_zero]; try omega))

theorem final15 (c : Dev nD) : (dats m 0 c).arrAt 15 cfg0.N = fun i => Prompt.flat (Prompt.qg (aX m c) (aM m c) (aG m c) (aW m c)) (i 0) (i 1) := by
  refine (dats m 0 c).arrAt_eq_of_covers 15 _ (by decide +kernel) fun t _ y => ?_
  blk_simp
  rw [after0_15]
  obtain ⟨r, d, rfl⟩ : ∃ (r : Fin 256) (d : Fin 512), y = ix2 r d := ⟨y 0, y 1, by funext a; fin_cases a <;> first | rfl | exact Fin.ext (by simp)⟩
  refine (point15 m c t r d).trans (flat_at _ t _ _ _ _ ?_ ?_)
  all_goals (blk_simp [idx t, Prompt.lane]; try omega)

theorem final16 (c : Dev nD) : (dats m 0 c).arrAt 16 cfg0.N = fun i => Prompt.flat (Prompt.kg (aX m c) (aM m c) (aG m c) (aW m c)) (i 0) (i 1) := by
  refine (dats m 0 c).arrAt_eq_of_covers 16 _ (by decide +kernel) fun t _ y => ?_
  blk_simp
  rw [after0_16]
  obtain ⟨r, d, rfl⟩ : ∃ (r : Fin 256) (d : Fin 512), y = ix2 r d := ⟨y 0, y 1, by funext a; fin_cases a <;> first | rfl | exact Fin.ext (by simp)⟩
  refine (point16 m c t r d).trans (flat_at _ t _ _ _ _ ?_ ?_)
  all_goals (blk_simp [idx t, Prompt.lane]; try omega)

theorem final17 (c : Dev nD) : (dats m 0 c).arrAt 17 cfg0.N = fun i => Prompt.flat (Prompt.vg (aX m c) (aM m c) (aG m c) (aW m c)) (i 0) (i 1) := by
  refine (dats m 0 c).arrAt_eq_of_covers 17 _ (by decide +kernel) fun t _ y => ?_
  blk_simp
  rw [after0_17]
  obtain ⟨r, d, rfl⟩ : ∃ (r : Fin 256) (d : Fin 1024), y = ix2 r d := ⟨y 0, y 1, by funext a; fin_cases a <;> first | rfl | exact Fin.ext (by simp)⟩
  refine (point17 m c t r d).trans (flat_at _ t _ _ _ _ ?_ ?_)
  all_goals (blk_simp [idx t, Prompt.lane]; try omega)

theorem final18 (c : Dev nD) : (dats m 0 c).arrAt 18 cfg0.N = fun i => Prompt.flat (Prompt.og (aX m c) (aM m c) (aG m c) (aW m c)) (i 0) (i 1) := by
  refine (dats m 0 c).arrAt_eq_of_covers 18 _ (by decide +kernel) fun t _ y => ?_
  blk_simp
  rw [after0_18]
  obtain ⟨r, d, rfl⟩ : ∃ (r : Fin 256) (d : Fin 1024), y = ix2 r d := ⟨y 0, y 1, by funext a; fin_cases a <;> first | rfl | exact Fin.ext (by simp)⟩
  refine (point18 m c t r d).trans (flat_at _ t _ _ _ _ ?_ ?_)
  all_goals (blk_simp [idx t, Prompt.lane]; try omega)

theorem final19 (c : Dev nD) : (dats m 0 c).arrAt 19 cfg0.N = fun i => Prompt.flat (Prompt.la (aX m c) (aM m c) (aG m c) (aW m c) (aK m c) (aB m c)) (i 0) (i 1) := by
  refine (dats m 0 c).arrAt_eq_of_covers 19 _ (by decide +kernel) fun t _ y => ?_
  blk_simp
  rw [after0_19]
  obtain ⟨r, d, rfl⟩ : ∃ (r : Fin 256) (d : Fin 512), y = ix2 r d := ⟨y 0, y 1, by funext a; fin_cases a <;> first | rfl | exact Fin.ext (by simp)⟩
  refine (point19 m c t r d).trans (flat_at _ t _ _ _ _ ?_ ?_)
  all_goals (blk_simp [idx t, Prompt.lane]; try omega)

end Cert.InPromptIdeal.Value

end
-- ==== Proof.InPromptRef.lean ====
module

public import proofs.«01_k».proof.Proof.Gen.InPromptRefIdeal.Read
public import proofs.«01_k».proof.Proof.InPromptSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InPromptRefIdeal.Value

open Cert.InPromptRefIdeal Cert.InPromptRefIdeal.Gen Cert.InPromptRefIdeal.Read Cert.Layer

variable (x0 : FVec Ideal S8x4096x1024 .f32) (x1 : FVec Ideal S8x6144 .f32) (x2 : FVec Ideal S1024 .f32) (x3 : FVec Ideal S1024x6672 .f32)
  (x4 : FVec Ideal S16x512 .f32) (x5 : FVec Ideal S512 .f32) (x6 x7 : FVec Ideal S64 .f32)

theorem hid_ref (b : Fin 8) (s : Fin 4096) (d : Fin 1024) :
    val_main_v25 (F := Ideal) x0 x1 x2 (ix3 b s d) = Prompt.hid x0 x1 x2 b s d := by
  pointwise [val_main_v0, val_main_v1, val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_cst_2, val_main_v20, val_main_v21, val_main_v22, val_main_v23, val_main_v24, val_main_v25]
  rfl

theorem pr_ref (b : Fin 8) (s : Fin 4096) (n : Fin 6672) :
    val_main_v26 (F := Ideal) x0 x1 x2 x3 (ix3 b s n) = Prompt.pr x0 x1 x2 x3 b s n := by
  pointwise [val_main_v26]
  unfold Prompt.pr proj
  exact Finset.sum_congr rfl fun d _ => congrArg (· * _) (hid_ref x0 x1 x2 b s d)

theorem qh_ref (b : Fin 8) (s : Fin 4096) (h : Fin 8) (e : Fin 64) :
    val_main_v50 (F := Ideal) x0 x1 x2 x3 x6 (ix4 b s h e) = headNorm (fun x => Prompt.pr x0 x1 x2 x3 b s ⟨x.val, by omega⟩) (fun e => x6 (ix1 e)) (Prompt.lane h e) := by
  pointwise [val_main_v27, val_main_v37, val_main_v38, val_main_cst_3, val_main_v39, val_main_v40, val_main_cst_4, val_main_v41, val_main_v42, val_main_cst_5, val_main_v43, val_main_v44, val_main_v45, val_main_v46, val_main_v47, val_main_v48, val_main_v49, val_main_v50]
  simp only [pr_ref]
  unfold headNorm Prompt.lane
  simp only [show (h.val * 64 + e.val) / 64 = h.val by omega, show (h.val * 64 + e.val) % 64 = e.val by omega]

theorem kh_ref (b : Fin 8) (s : Fin 4096) (h : Fin 8) (e : Fin 64) :
    val_main_v64 (F := Ideal) x0 x1 x2 x3 x7 (ix4 b s h e) = Prompt.ka x0 x1 x2 x3 x7 b s (Prompt.lane h e) := by
  pointwise [val_main_v28, val_main_v51, val_main_v52, val_main_cst_6, val_main_v53, val_main_v54, val_main_cst_7, val_main_v55, val_main_v56, val_main_cst_8, val_main_v57, val_main_v58, val_main_v59, val_main_v60, val_main_v61, val_main_v62, val_main_v63, val_main_v64]
  simp only [pr_ref]
  unfold Prompt.ka headNorm Prompt.lane
  simp only [show (h.val * 64 + e.val) / 64 = h.val by omega, show (h.val * 64 + e.val) % 64 = e.val by omega]

theorem lane_split (d : Fin 512) : Prompt.lane ⟨d.val / 64, by omega⟩ ⟨d.val % 64, by omega⟩ = d :=
  Fin.ext (by show d.val / 64 * 64 + d.val % 64 = d.val; omega)

theorem q_ref (r : Fin 32768) (d : Fin 512) : val_main_v83 (F := Ideal) x0 x1 x2 x3 x6 (ix2 d r) = Prompt.flat (Prompt.qa x0 x1 x2 x3 x6) r d := by
  pointwise [val_main_cst_11, val_main_v75, val_main_v76, val_main_v81, val_main_v82, val_main_v83]
  simp only [qh_ref, lane_split]
  rfl

theorem k_ref (h : Fin 8) (r : Fin 32768) (e : Fin 64) : val_main_v86 (F := Ideal) x0 x1 x2 x3 x7 (ix3 h r e) = Prompt.flat (Prompt.ka x0 x1 x2 x3 x7) r (Prompt.lane h e) := by
  pointwise [val_main_v84, val_main_v85, val_main_v86]
  simp only [kh_ref]
  rfl

theorem v_ref (r : Fin 32768) (d : Fin 512) : val_main_v89 (F := Ideal) x0 x1 x2 x3 (ix2 d r) = Prompt.flat (Prompt.va x0 x1 x2 x3) r d := by
  pointwise [val_main_v29, val_main_v65, val_main_v87, val_main_v88, val_main_v89]
  exact pr_ref _ _ _ _ _ _ _

theorem kmean_ref (t : Fin 128) (d : Fin 512) : val_main_v90 (F := Ideal) x0 x1 x2 x3 x7 (ix3 t 0 d) = Prompt.kmean x0 x1 x2 x3 x7 t d := by
  pointwise [val_main_v77, val_main_cst_12, val_main_v78, val_main_cst_13, val_main_v79, val_main_v80, val_main_v90]
  simp only [kh_ref, lane_split]
  refine (lit_div256 _).trans ?_
  unfold Prompt.kmean
  refine congrArg (· * _) (Finset.sum_congr rfl fun x _ => ?_)
  exact congrArg₂ (fun b s => Prompt.ka x0 x1 x2 x3 x7 b s d) (Fin.ext (by show t.val / 16 = (t.val * 256 + x.val) / 4096; omega))
    (Fin.ext (by show t.val % 16 * 256 + x.val = (t.val * 256 + x.val) % 4096; omega))

theorem kf_ref (b : Fin 8) (d : Fin 512) (s : Fin 4096) : val_main_v92 (F := Ideal) x0 x1 x2 x3 x7 (ix3 b d s) = Prompt.ka x0 x1 x2 x3 x7 b s d := by
  pointwise [val_main_v91, val_main_v92]
  simp only [kh_ref, lane_split]

theorem vf_ref (b : Fin 8) (d : Fin 512) (s : Fin 4096) : val_main_v94 (F := Ideal) x0 x1 x2 x3 (ix3 b d s) = Prompt.va x0 x1 x2 x3 b s d := by
  pointwise [val_main_v29, val_main_v65, val_main_v93, val_main_v94]
  exact pr_ref _ _ _ _ _ _ _

theorem qg_ref (r : Fin 32768) (d : Fin 512) : val_main_v95 (F := Ideal) x0 x1 x2 x3 (ix2 r d) = Prompt.flat (Prompt.qg x0 x1 x2 x3) r d := by
  pointwise [val_main_v30, val_main_v73, val_main_cst_10, val_main_v74, val_main_v95]
  exact congrArg (· * _) (pr_ref _ _ _ _ _ _ _)

theorem kg_ref (r : Fin 32768) (d : Fin 512) : val_main_v96 (F := Ideal) x0 x1 x2 x3 (ix2 r d) = Prompt.flat (Prompt.kg x0 x1 x2 x3) r d := by
  pointwise [val_main_v31, val_main_v96]
  exact pr_ref _ _ _ _ _ _ _

theorem vg_ref (r : Fin 32768) (d : Fin 1024) : val_main_v98 (F := Ideal) x0 x1 x2 x3 (ix2 r d) = Prompt.flat (Prompt.vg x0 x1 x2 x3) r d := by
  pointwise [val_main_v32, val_main_v97, val_main_v98]
  exact pr_ref _ _ _ _ _ _ _

theorem og_ref (r : Fin 32768) (d : Fin 1024) : val_main_v99 (F := Ideal) x0 x1 x2 x3 (ix2 r d) = Prompt.flat (Prompt.og x0 x1 x2 x3) r d := by
  pointwise [val_main_v33, val_main_v99]
  exact pr_ref _ _ _ _ _ _ _

theorem la_ref (r : Fin 32768) (d : Fin 512) : val_main_v100 (F := Ideal) x0 x1 x2 x3 x4 x5 (ix2 r d) = Prompt.flat (Prompt.la x0 x1 x2 x3 x4 x5) r d := by
  pointwise [val_main_v34, val_main_v67, val_main_v66, val_main_v68, val_main_v69, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v70, val_main_cst_9, val_main_v71, val_main_v72, val_main_v100]
  simp only [pr_ref]
  exact logDecay_softplus _ _ (fun h => h rfl)

end Cert.InPromptRefIdeal.Value

end
-- ==== Proof.InPromptAlgebra.lean ====
module

public import proofs.«01_k».proof.Defs
public import proofs.«01_k».proof.Proof.InPromptFinals
public import proofs.«01_k».proof.Proof.InPromptRef
public import proofs.«01_k».proof.Proof.Gen.InPromptIdeal.Value

@[expose] public section

set_option maxRecDepth 16384

noncomputable section

open Idealize.ShloMosaic Idealize.ShloMosaic.TcCoe Idealize.SL.Sem

namespace Cert.Proof

theorem in_prompt_q (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32) (y6 : FVec Ideal Cert.InPromptIdeal.S64 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) (h6 : y6 = m ((c.tc : Thread _ _).loc Cert.InPromptIdeal.main_arg6)) :
    Cert.InPromptRefIdeal.Read.val_main_v83 (F := Ideal) y0 y1 y2 y3 y6
      = (Cert.InPromptIdeal.Gen.dats m 0 c).arrAt 9 Cert.InPromptIdeal.cfg0.N := by
  subst h0 h1 h2 h3 h6
  rw [Cert.InPromptIdeal.Value.final9]
  funext i
  obtain ⟨r, d, rfl⟩ : ∃ (r : Fin 32768) (d : Fin 512), i = ix2 d r := ⟨i 1, i 0, by funext a; fin_cases a <;> first | rfl | exact Fin.ext (by simp)⟩
  exact Cert.InPromptRefIdeal.Value.q_ref _ _ _ _ _ r d

theorem in_prompt_k (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32) (y7 : FVec Ideal Cert.InPromptIdeal.S64 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) (h7 : y7 = m ((c.tc : Thread _ _).loc Cert.InPromptIdeal.main_arg7)) :
    Cert.InPromptRefIdeal.Read.val_main_v86 (F := Ideal) y0 y1 y2 y3 y7
      = (Cert.InPromptIdeal.Gen.dats m 0 c).arrAt 10 Cert.InPromptIdeal.cfg0.N := by
  subst h0 h1 h2 h3 h7
  rw [Cert.InPromptIdeal.Value.final10]
  funext i
  obtain ⟨h, r, e, rfl⟩ : ∃ (h : Fin 8) (r : Fin 32768) (e : Fin 64), i = ix3 h r e := ⟨i 0, i 1, i 2, by funext a; fin_cases a <;> first | rfl | exact Fin.ext (by simp)⟩
  exact Cert.InPromptRefIdeal.Value.k_ref _ _ _ _ _ h r e

theorem in_prompt_v (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v89 (F := Ideal) y0 y1 y2 y3
      = (Cert.InPromptIdeal.Gen.dats m 0 c).arrAt 11 Cert.InPromptIdeal.cfg0.N := by
  subst h0 h1 h2 h3
  rw [Cert.InPromptIdeal.Value.final11]
  funext i
  obtain ⟨r, d, rfl⟩ : ∃ (r : Fin 32768) (d : Fin 512), i = ix2 d r := ⟨i 1, i 0, by funext a; fin_cases a <;> first | rfl | exact Fin.ext (by simp)⟩
  exact Cert.InPromptRefIdeal.Value.v_ref _ _ _ _ r d

theorem in_prompt_kmean (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32) (y7 : FVec Ideal Cert.InPromptIdeal.S64 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) (h7 : y7 = m ((c.tc : Thread _ _).loc Cert.InPromptIdeal.main_arg7)) :
    Cert.InPromptRefIdeal.Read.val_main_v90 (F := Ideal) y0 y1 y2 y3 y7
      = (Cert.InPromptIdeal.Gen.dats m 0 c).arrAt 12 Cert.InPromptIdeal.cfg0.N := by
  subst h0 h1 h2 h3 h7
  rw [Cert.InPromptIdeal.Value.final12]
  funext i
  obtain ⟨t, d, rfl⟩ : ∃ (t : Fin 128) (d : Fin 512), i = ix3 t 0 d := ⟨i 0, i 2, by funext a; fin_cases a <;> first | rfl | exact Fin.ext (by simp)⟩
  exact Cert.InPromptRefIdeal.Value.kmean_ref _ _ _ _ _ t d

theorem in_prompt_kf (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32) (y7 : FVec Ideal Cert.InPromptIdeal.S64 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) (h7 : y7 = m ((c.tc : Thread _ _).loc Cert.InPromptIdeal.main_arg7)) :
    Cert.InPromptRefIdeal.Read.val_main_v92 (F := Ideal) y0 y1 y2 y3 y7
      = (Cert.InPromptIdeal.Gen.dats m 0 c).arrAt 13 Cert.InPromptIdeal.cfg0.N := by
  subst h0 h1 h2 h3 h7
  rw [Cert.InPromptIdeal.Value.final13]
  funext i
  obtain ⟨b, d, s, rfl⟩ : ∃ (b : Fin 8) (d : Fin 512) (s : Fin 4096), i = ix3 b d s := ⟨i 0, i 1, i 2, by funext a; fin_cases a <;> first | rfl | exact Fin.ext (by simp)⟩
  exact Cert.InPromptRefIdeal.Value.kf_ref _ _ _ _ _ b d s

theorem in_prompt_vf (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v94 (F := Ideal) y0 y1 y2 y3
      = (Cert.InPromptIdeal.Gen.dats m 0 c).arrAt 14 Cert.InPromptIdeal.cfg0.N := by
  subst h0 h1 h2 h3
  rw [Cert.InPromptIdeal.Value.final14]
  funext i
  obtain ⟨b, d, s, rfl⟩ : ∃ (b : Fin 8) (d : Fin 512) (s : Fin 4096), i = ix3 b d s := ⟨i 0, i 1, i 2, by funext a; fin_cases a <;> first | rfl | exact Fin.ext (by simp)⟩
  exact Cert.InPromptRefIdeal.Value.vf_ref _ _ _ _ b d s

theorem in_prompt_qg (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v95 (F := Ideal) y0 y1 y2 y3
      = (Cert.InPromptIdeal.Gen.dats m 0 c).arrAt 15 Cert.InPromptIdeal.cfg0.N := by
  subst h0 h1 h2 h3
  rw [Cert.InPromptIdeal.Value.final15]
  funext i
  obtain ⟨r, d, rfl⟩ : ∃ (r : Fin 32768) (d : Fin 512), i = ix2 r d := ⟨i 0, i 1, by funext a; fin_cases a <;> first | rfl | exact Fin.ext (by simp)⟩
  exact Cert.InPromptRefIdeal.Value.qg_ref _ _ _ _ r d

theorem in_prompt_kg (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v96 (F := Ideal) y0 y1 y2 y3
      = (Cert.InPromptIdeal.Gen.dats m 0 c).arrAt 16 Cert.InPromptIdeal.cfg0.N := by
  subst h0 h1 h2 h3
  rw [Cert.InPromptIdeal.Value.final16]
  funext i
  obtain ⟨r, d, rfl⟩ : ∃ (r : Fin 32768) (d : Fin 512), i = ix2 r d := ⟨i 0, i 1, by funext a; fin_cases a <;> first | rfl | exact Fin.ext (by simp)⟩
  exact Cert.InPromptRefIdeal.Value.kg_ref _ _ _ _ r d

theorem in_prompt_vg (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v98 (F := Ideal) y0 y1 y2 y3
      = (Cert.InPromptIdeal.Gen.dats m 0 c).arrAt 17 Cert.InPromptIdeal.cfg0.N := by
  subst h0 h1 h2 h3
  rw [Cert.InPromptIdeal.Value.final17]
  funext i
  obtain ⟨r, d, rfl⟩ : ∃ (r : Fin 32768) (d : Fin 1024), i = ix2 r d := ⟨i 0, i 1, by funext a; fin_cases a <;> first | rfl | exact Fin.ext (by simp)⟩
  exact Cert.InPromptRefIdeal.Value.vg_ref _ _ _ _ r d

theorem in_prompt_og (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) :
    Cert.InPromptRefIdeal.Read.val_main_v99 (F := Ideal) y0 y1 y2 y3
      = (Cert.InPromptIdeal.Gen.dats m 0 c).arrAt 18 Cert.InPromptIdeal.cfg0.N := by
  subst h0 h1 h2 h3
  rw [Cert.InPromptIdeal.Value.final18]
  funext i
  obtain ⟨r, d, rfl⟩ : ∃ (r : Fin 32768) (d : Fin 1024), i = ix2 r d := ⟨i 0, i 1, by funext a; fin_cases a <;> first | rfl | exact Fin.ext (by simp)⟩
  exact Cert.InPromptRefIdeal.Value.og_ref _ _ _ _ r d

theorem in_prompt_la (m : (ℓ : Loc Cert.InPromptIdeal.nD Cert.InPromptIdeal.τ Cert.InPromptIdeal.sig) → Buf (Elt Ideal) ℓ) (c : Dev Cert.InPromptIdeal.nD)
    (y0 : FVec Ideal Cert.InPromptIdeal.S8x4096x1024 .f32) (y1 : FVec Ideal Cert.InPromptIdeal.S8x6144 .f32) (y2 : FVec Ideal Cert.InPromptIdeal.S1024 .f32) (y3 : FVec Ideal Cert.InPromptIdeal.S1024x6672 .f32) (y4 : FVec Ideal Cert.InPromptIdeal.S16x512 .f32) (y5 : FVec Ideal Cert.InPromptIdeal.S512 .f32)
    (h0 : y0 = m ((c.tc : Thread _ _).loc Cert.InPromptIdeal.main_arg0)) (h1 : y1 = m ((c.tc : Thread _ _).loc Cert.InPromptIdeal.main_arg1)) (h2 : y2 = m ((c.tc : Thread _ _).loc Cert.InPromptIdeal.main_arg2)) (h3 : y3 = m ((c.tc : Thread _ _).loc Cert.InPromptIdeal.main_arg3)) (h4 : y4 = m ((c.tc : Thread _ _).loc Cert.InPromptIdeal.main_arg4)) (h5 : y5 = m ((c.tc : Thread _ _).loc Cert.InPromptIdeal.main_arg5)) :
    Cert.InPromptRefIdeal.Read.val_main_v100 (F := Ideal) y0 y1 y2 y3 y4 y5
      = (Cert.InPromptIdeal.Gen.dats m 0 c).arrAt 19 Cert.InPromptIdeal.cfg0.N := by
  subst h0 h1 h2 h3 h4 h5
  rw [Cert.InPromptIdeal.Value.final19]
  funext i
  obtain ⟨r, d, rfl⟩ : ∃ (r : Fin 32768) (d : Fin 512), i = ix2 r d := ⟨i 0, i 1, by funext a; fin_cases a <;> first | rfl | exact Fin.ext (by simp)⟩
  exact Cert.InPromptRefIdeal.Value.la_ref _ _ _ _ _ _ r d

set_option maxHeartbeats 2000000 in
/-- The in-projection over the prompts: each of its eleven results is the reference's. -/
theorem in_prompt : Cert.algebraic_InPromptIdeal_InPromptRefIdeal (hInPromptIdeal := Cert.InPromptIdeal.Gen.facts)
    (hInPromptRefIdeal := Cert.InPromptRefIdeal.Gen.facts) := by
  intro m g m' g' hpre hagree
  refine ⟨fun c => (Cert.InPromptIdeal.Gen.dats m 0 c).arrAt 9 Cert.InPromptIdeal.cfg0.N, fun c => (Cert.InPromptIdeal.Gen.dats m 0 c).arrAt 10 Cert.InPromptIdeal.cfg0.N, fun c => (Cert.InPromptIdeal.Gen.dats m 0 c).arrAt 11 Cert.InPromptIdeal.cfg0.N, fun c => (Cert.InPromptIdeal.Gen.dats m 0 c).arrAt 12 Cert.InPromptIdeal.cfg0.N, fun c => (Cert.InPromptIdeal.Gen.dats m 0 c).arrAt 13 Cert.InPromptIdeal.cfg0.N, fun c => (Cert.InPromptIdeal.Gen.dats m 0 c).arrAt 14 Cert.InPromptIdeal.cfg0.N, fun c => (Cert.InPromptIdeal.Gen.dats m 0 c).arrAt 15 Cert.InPromptIdeal.cfg0.N, fun c => (Cert.InPromptIdeal.Gen.dats m 0 c).arrAt 16 Cert.InPromptIdeal.cfg0.N, fun c => (Cert.InPromptIdeal.Gen.dats m 0 c).arrAt 17 Cert.InPromptIdeal.cfg0.N, fun c => (Cert.InPromptIdeal.Gen.dats m 0 c).arrAt 18 Cert.InPromptIdeal.cfg0.N, fun c => (Cert.InPromptIdeal.Gen.dats m 0 c).arrAt 19 Cert.InPromptIdeal.cfg0.N, Cert.InPromptIdeal.Value.run_blocks m g, ?_⟩
  refine (θ_run _ _ _).mono (fun r h c => ?_) (Cert.InPromptRefIdeal.Value.run m' g')
  obtain ⟨h0, h1, h2, h3, h4, h5, h6, h7, h8, h9, h10, hrest⟩ := h c
  obtain ⟨a0, a1, a2, a3, a4, a5, a6, a7⟩ := hagree c
  exact ⟨h0.trans ((Cert.InPromptRefIdeal.Read.val_main_v83_eq _ _).trans (in_prompt_q m c _ _ _ _ _ a0 a1 a2 a3 a6)),
    h1.trans ((Cert.InPromptRefIdeal.Read.val_main_v86_eq _ _).trans (in_prompt_k m c _ _ _ _ _ a0 a1 a2 a3 a7)),
    h2.trans ((Cert.InPromptRefIdeal.Read.val_main_v89_eq _ _ _ _).trans (in_prompt_v m c _ _ _ _ a0 a1 a2 a3)),
    h3.trans ((Cert.InPromptRefIdeal.Read.val_main_v90_eq _ _).trans (in_prompt_kmean m c _ _ _ _ _ a0 a1 a2 a3 a7)),
    h4.trans ((Cert.InPromptRefIdeal.Read.val_main_v92_eq _ _).trans (in_prompt_kf m c _ _ _ _ _ a0 a1 a2 a3 a7)),
    h5.trans ((Cert.InPromptRefIdeal.Read.val_main_v94_eq _ _ _ _).trans (in_prompt_vf m c _ _ _ _ a0 a1 a2 a3)),
    h6.trans ((Cert.InPromptRefIdeal.Read.val_main_v95_eq _ _ _ _).trans (in_prompt_qg m c _ _ _ _ a0 a1 a2 a3)),
    h7.trans ((Cert.InPromptRefIdeal.Read.val_main_v96_eq _ _ _ _).trans (in_prompt_kg m c _ _ _ _ a0 a1 a2 a3)),
    h8.trans ((Cert.InPromptRefIdeal.Read.val_main_v98_eq _ _ _ _).trans (in_prompt_vg m c _ _ _ _ a0 a1 a2 a3)),
    h9.trans ((Cert.InPromptRefIdeal.Read.val_main_v99_eq _ _ _ _).trans (in_prompt_og m c _ _ _ _ a0 a1 a2 a3)),
    h10.trans ((Cert.InPromptRefIdeal.Read.val_main_v100_eq _ _).trans (in_prompt_la m c _ _ _ _ _ _ a0 a1 a2 a3 a4 a5)), hrest⟩

/-- The reference runs to its end, keeps its arguments and has no semaphore. -/
theorem in_prompt_reference_frame : Cert.quiescent_InPromptRefIdeal (hInPromptRefIdeal := Cert.InPromptRefIdeal.Gen.facts) := by
  intro m g _
  exact (θ_run _ _ _).mono (fun r h => ⟨fun c => (h c).2.2.2.2.2.2.2.2.2.2.2, Idealize.ShloMosaic.sem_eq_zero_of_no_sems (by decide) r.2⟩)
    (Cert.InPromptRefIdeal.Value.run m g)

end Cert.Proof

end
-- ==== Proof.PostEntry.lean ====
module

public import proofs.«01_k».proof.Proof.Gen.PostIdeal.Frame
public import proofs.«01_k».proof.Proof.InMath
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.Layer

variable (m : (ℓ : Loc nD τ sig) → Buf (Elt Ideal) ℓ)

theorem idx : ∀ t : Fin cfg0.N, win0_0.index t = ![t.val, 0] ∧ win0_1.index t = ![t.val / 16, 0, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_12.index t = ![t.val, 0] ∧ win0_13.index t = ![t.val, 0] :=
  (by decide +kernel : ∀ t : Fin grid0.N, _)

theorem lt128 (t : Fin cfg0.N) : t.val < 128 := lt_of_lt_of_eq t.isLt (by decide)

theorem entry0 (c : Dev nD) (r : Fin 32768) (d : Fin 1024) : (show FVec Ideal S32768x1024 .f32 from V m c main_v14) (ix2 r d)
    = (show FVec Ideal S8x4096x1024 .f32 from m ((c : Thread nD τ).loc main_arg0)) (ix3 ⟨r.val / 4096, by omega⟩ ⟨r.val % 4096, by omega⟩ d) := by
  simp only [V, hostOps0, hostOps0_1, hostOps0_2, hostOps0_3, hostOps0_4, List.flatten_cons, List.flatten_nil, List.append_nil, List.cons_append, List.nil_append]
  entry_read
  change (shapeCast S32768x1024 (show FVec Ideal S8x4096x1024 .f32 from m ((c : Thread nD τ).loc main_arg0)) shapeCasts_S8x4096x1024_S32768x1024) (ix2 r d) = _
  pointwise

theorem entry1 (c : Dev nD) (r : Fin 8) (n : Fin 6144) : (show FVec Ideal S8x1x6144 .f32 from V m c main_v13) (ix3 r 0 n)
    = (show FVec Ideal S8x6144 .f32 from m ((c : Thread nD τ).loc main_arg1)) (ix2 r n) := by
  simp only [V, hostOps0, hostOps0_1, hostOps0_2, hostOps0_3, hostOps0_4, List.flatten_cons, List.flatten_nil, List.append_nil, List.cons_append, List.nil_append]
  entry_read
  change (shapeCast S8x1x6144 (show FVec Ideal S8x6144 .f32 from m ((c : Thread nD τ).loc main_arg1)) shapeCasts_S8x6144_S8x1x6144) (ix3 r 0 n) = _
  pointwise

theorem entry2 (c : Dev nD) (r : Fin 32768) (d : Fin 512) : (show FVec Ideal S32768x512 .bf16 from V m c main_arg2) (ix2 r d)
    = (show FVec Ideal S32768x512 .bf16 from m ((c : Thread nD τ).loc main_arg2)) (ix2 r d) := by
  simp only [V, hostOps0, hostOps0_1, hostOps0_2, hostOps0_3, hostOps0_4, List.flatten_cons, List.flatten_nil, List.append_nil, List.cons_append, List.nil_append]
  entry_read
  rfl

theorem entry3 (c : Dev nD) (r : Fin 32768) (d : Fin 1024) : (show FVec Ideal S32768x1024 .bf16 from V m c main_arg3) (ix2 r d)
    = (show FVec Ideal S32768x1024 .bf16 from m ((c : Thread nD τ).loc main_arg3)) (ix2 r d) := by
  simp only [V, hostOps0, hostOps0_1, hostOps0_2, hostOps0_3, hostOps0_4, List.flatten_cons, List.flatten_nil, List.append_nil, List.cons_append, List.nil_append]
  entry_read
  rfl

theorem entry4 (c : Dev nD) (d : Fin 1024) : (show FVec Ideal S1x1024 .f32 from V m c main_v0) (ix2 0 d)
    = (show FVec Ideal S1024 .f32 from m ((c : Thread nD τ).loc main_arg4)) (ix1 d) := by
  simp only [V, hostOps0, hostOps0_1, hostOps0_2, hostOps0_3, hostOps0_4, List.flatten_cons, List.flatten_nil, List.append_nil, List.cons_append, List.nil_append]
  entry_read
  change (shapeCast S1x1024 (show FVec Ideal S1024 .f32 from m ((c : Thread nD τ).loc main_arg4)) shapeCasts_S1024_S1x1024) (ix2 0 d) = _
  pointwise

theorem entry5 (c : Dev nD) (d : Fin 1024) : (show FVec Ideal S1x1024 .f32 from V m c main_v1) (ix2 0 d)
    = (show FVec Ideal S1024 .f32 from m ((c : Thread nD τ).loc main_arg5)) (ix1 d) := by
  simp only [V, hostOps0, hostOps0_1, hostOps0_2, hostOps0_3, hostOps0_4, List.flatten_cons, List.flatten_nil, List.append_nil, List.cons_append, List.nil_append]
  entry_read
  change (shapeCast S1x1024 (show FVec Ideal S1024 .f32 from m ((c : Thread nD τ).loc main_arg5)) shapeCasts_S1024_S1x1024) (ix2 0 d) = _
  pointwise

theorem entry6 (c : Dev nD) (d : Fin 1024) (n : Fin 2048) : (show FVec Ideal S1024x2048 .bf16 from V m c main_v3) (ix2 d n)
    = (show FVec Ideal S1024x6672 .f32 from m ((c : Thread nD τ).loc main_arg6)) (ix2 d ⟨4624 + n.val, by omega⟩) := by
  simp only [V, hostOps0, hostOps0_1, hostOps0_2, hostOps0_3, hostOps0_4, List.flatten_cons, List.flatten_nil, List.append_nil, List.cons_append, List.nil_append]
  entry_read
  change (truncf .bf16 (extractStridedSlice S1024x2048 ![0, 4624] (show FVec Ideal S1024x6672 .f32 from m ((c : Thread nD τ).loc main_arg6)) slices_S1024x6672_S1024x2048_0_4624) bitsLt_bf16_f32) (ix2 d n) = _
  pointwise

theorem entry7 (c : Dev nD) (x : Fin 512) (d : Fin 1024) : (show FVec Ideal S512x1024 .bf16 from V m c main_v4) (ix2 x d)
    = (show FVec Ideal S512x1024 .f32 from m ((c : Thread nD τ).loc main_arg7)) (ix2 x d) := by
  simp only [V, hostOps0, hostOps0_1, hostOps0_2, hostOps0_3, hostOps0_4, List.flatten_cons, List.flatten_nil, List.append_nil, List.cons_append, List.nil_append]
  entry_read
  change (truncf .bf16 (show FVec Ideal S512x1024 .f32 from m ((c : Thread nD τ).loc main_arg7)) bitsLt_bf16_f32) (ix2 x d) = _
  pointwise

theorem entry8 (c : Dev nD) (x d : Fin 1024) : (show FVec Ideal S1024x1024 .bf16 from V m c main_v5) (ix2 x d)
    = (show FVec Ideal S1024x1024 .f32 from m ((c : Thread nD τ).loc main_arg8)) (ix2 x d) := by
  simp only [V, hostOps0, hostOps0_1, hostOps0_2, hostOps0_3, hostOps0_4, List.flatten_cons, List.flatten_nil, List.append_nil, List.cons_append, List.nil_append]
  entry_read
  change (truncf .bf16 (show FVec Ideal S1024x1024 .f32 from m ((c : Thread nD τ).loc main_arg8)) bitsLt_bf16_f32) (ix2 x d) = _
  pointwise

theorem entry9 (c : Dev nD) (x d : Fin 1024) : (show FVec Ideal S1024x1024 .bf16 from V m c main_v6) (ix2 x d)
    = (show FVec Ideal S1024x1024 .f32 from m ((c : Thread nD τ).loc main_arg9)) (ix2 x d) := by
  simp only [V, hostOps0, hostOps0_1, hostOps0_2, hostOps0_3, hostOps0_4, List.flatten_cons, List.flatten_nil, List.append_nil, List.cons_append, List.nil_append]
  entry_read
  change (truncf .bf16 (show FVec Ideal S1024x1024 .f32 from m ((c : Thread nD τ).loc main_arg9)) bitsLt_bf16_f32) (ix2 x d) = _
  pointwise

end Cert.PostIdeal.Value
end
-- ==== Proof.PostSpec.lean ====
module

public import proofs.«01_k».proof.Proof.InPromptSpec

@[expose] public section

noncomputable section

open Idealize.ShloMosaic

namespace Cert.Layer.Post

/-- The number through all sequences of token `s` of sequence `b`. -/
def row (b : Fin 8) (s : Fin 4096) : Fin 32768 := ⟨b.val * 4096 + s.val, by omega⟩

variable (X : FVec Ideal ⟨3, ![8, 4096, 1024]⟩ .f32) (M : FVec Ideal ⟨2, ![8, 6144]⟩ .f32)
  (A : FVec Ideal ⟨2, ![32768, 512]⟩ .bf16) (O : FVec Ideal ⟨2, ![32768, 1024]⟩ .bf16)
  (G G' : FVec Ideal ⟨1, ![1024]⟩ .f32) (W : FVec Ideal ⟨2, ![1024, 6672]⟩ .f32)
  (U : FVec Ideal ⟨2, ![512, 1024]⟩ .f32) (V : FVec Ideal ⟨2, ![1024, 1024]⟩ .f32) (Z : FVec Ideal ⟨2, ![1024, 1024]⟩ .f32)

/-- The two branches' outputs through their weights, each under its gate, added. -/
def merged (b : Fin 8) (s : Fin 4096) (j : Fin 1024) : EReal :=
  Ideal.logistic (Prompt.pr X M G W b s ⟨4624 + j.val, by omega⟩) * (∑ x : Fin 512, A (ix2 (row b s) x) * U (ix2 x j))
    + Ideal.logistic (Prompt.pr X M G W b s ⟨5648 + j.val, by omega⟩) * (∑ x : Fin 1024, O (ix2 (row b s) x) * V (ix2 x j))

/-- The residual after the mixer. -/
def resid (b : Fin 8) (s : Fin 4096) (d : Fin 1024) : EReal :=
  X (ix3 b s d) + M (ix2 b ⟨2048 + d.val, by omega⟩) * ∑ j, merged X M A O G W U V b s j * Z (ix2 j d)

/-- The residual normed and modulated once more. -/
def second (b : Fin 8) (s : Fin 4096) (d : Fin 1024) : EReal :=
  normed (resid X M A O G W U V Z b s) (fun d => G' (ix1 d))
    (fun d => M (ix2 b ⟨4096 + d.val, by omega⟩)) (fun d => M (ix2 b ⟨3072 + d.val, by omega⟩)) d

end Cert.Layer.Post

end
-- ==== Proof.PostPoints.lean ====
module

public import proofs.«01_k».proof.Proof.PostEntry
public import proofs.«01_k».proof.Proof.PostSpec
public import Idealize.ShloMosaic.Lib.Pipeline.RowLoads

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.Layer

/-! ## The kernel's stages at an entry -/

theorem proj_pay (v0 : Vec Ideal S256x1024 .f32) (v2 : Vec Ideal S1x1024 .f32) (v4 v6 : Vec Ideal S1x1x1024 .f32) (v27 : Vec Ideal S1024x2048 .bf16)
    (r : Fin 256) (n : Fin 2048) :
    k0_pay4 v0 v2 v4 v6 v27 (ix2 r n)
      = ∑ d, normed (fun d => v0 (ix2 r d)) (fun d => v2 (ix2 0 d)) (fun d => v6 (ix3 0 0 d)) (fun d => v4 (ix3 0 0 d)) d * v27 (ix2 d n) := by
  pointwise [k0_pay4, k0_pay3]
  rfl

theorem branch_pay (v0 : Vec Ideal S256x1024 .f32) (v2 : Vec Ideal S1x1024 .f32) (v4 v6 : Vec Ideal S1x1x1024 .f32) (v27 : Vec Ideal S1024x2048 .bf16)
    (v32 : Vec Ideal S256x512 .bf16) (v33 : Vec Ideal S512x1024 .bf16) (r : Fin 256) (j : Fin 1024) :
    k0_pay5 v0 v2 v4 v6 v27 v32 v33 (ix2 r j)
      = Ideal.logistic (k0_pay4 v0 v2 v4 v6 v27 (ix2 r ⟨j.val, by omega⟩)) * ∑ x : Fin 512, v32 (ix2 r x) * v33 (ix2 x j) := by
  pointwise [k0_pay5]

theorem resid_pay (v1 : FVec Ideal S256x1024 .f32) (v29 : FVec Ideal S256x2048 .f32) (v36 : FVec Ideal S256x1024 .f32) (v39 : Vec Ideal S256x1024 .bf16)
    (v40 : Vec Ideal S1024x1024 .bf16) (v45 : Vec Ideal S1x1x1024 .f32) (v48 : Vec Ideal S1024x1024 .bf16) (r : Fin 256) (d : Fin 1024) :
    k0_pay6 v1 v29 v36 v39 v40 v45 v48 (ix2 r d)
      = v1 (ix2 r d) + v45 (ix3 0 0 d) * ∑ j : Fin 1024, (v36 (ix2 r j)
          + Ideal.logistic (v29 (ix2 r ⟨1024 + j.val, by omega⟩)) * ∑ x : Fin 1024, v39 (ix2 r x) * v40 (ix2 x j)) * v48 (ix2 j d) := by
  pointwise [k0_pay6]

theorem second_pay (v1 : FVec Ideal S256x1024 .f32) (v29 : FVec Ideal S256x2048 .f32) (v36 : FVec Ideal S256x1024 .f32) (v39 : Vec Ideal S256x1024 .bf16)
    (v40 : Vec Ideal S1024x1024 .bf16) (v45 : Vec Ideal S1x1x1024 .f32) (v48 : Vec Ideal S1024x1024 .bf16) (v57 v59 : Vec Ideal S1x1x1024 .f32)
    (v55 : Vec Ideal S1x1024 .f32) (r : Fin 256) (d : Fin 1024) :
    k0_pay11 (k0_pay7 v57) (k0_pay8 v59) (k0_pay9 v1 v29 v36 v39 v40 v45 v48) (k0_pay10 v55) (ix2 r d)
      = normed (fun d => k0_pay6 v1 v29 v36 v39 v40 v45 v48 (ix2 r d)) (fun d => v55 (ix2 0 d)) (fun d => v59 (ix3 0 0 d)) (fun d => v57 (ix3 0 0 d)) d := by
  pointwise [k0_pay11, k0_pay10, k0_pay9, k0_pay8, k0_pay7]
  rfl

variable (m : (ℓ : Loc nD τ sig) → Buf (Elt Ideal) ℓ)

/-! ## The call's arguments, and its windows at a grid point -/

/-- The sequence, and the position in it, of a grid point's row. -/
def rb (t : Fin cfg0.N) (r : Fin 256) : Fin 8 := ⟨(t.val * 256 + r.val) / 4096, by have := lt128 t; omega⟩
def rs (t : Fin cfg0.N) (r : Fin 256) : Fin 4096 := ⟨(t.val * 256 + r.val) % 4096, by omega⟩

def aX (c : Dev nD) : FVec Ideal S8x4096x1024 .f32 := m ((c : Thread nD τ).loc main_arg0)
def aM (c : Dev nD) : FVec Ideal S8x6144 .f32 := m ((c : Thread nD τ).loc main_arg1)
def aA (c : Dev nD) : FVec Ideal S32768x512 .bf16 := m ((c : Thread nD τ).loc main_arg2)
def aO (c : Dev nD) : FVec Ideal S32768x1024 .bf16 := m ((c : Thread nD τ).loc main_arg3)
def aG (c : Dev nD) : FVec Ideal S1024 .f32 := m ((c : Thread nD τ).loc main_arg4)
def aH (c : Dev nD) : FVec Ideal S1024 .f32 := m ((c : Thread nD τ).loc main_arg5)
def aW (c : Dev nD) : FVec Ideal S1024x6672 .f32 := m ((c : Thread nD τ).loc main_arg6)
def aU (c : Dev nD) : FVec Ideal S512x1024 .f32 := m ((c : Thread nD τ).loc main_arg7)
def aV (c : Dev nD) : FVec Ideal S1024x1024 .f32 := m ((c : Thread nD τ).loc main_arg8)
def aZ (c : Dev nD) : FVec Ideal S1024x1024 .f32 := m ((c : Thread nD τ).loc main_arg9)

theorem blk0 (c : Dev nD) (t : Fin cfg0.N) (r : Fin 256) (d : Fin 1024) :
    (show FVec Ideal S256x1024 .f32 from iblk m c 0 t) (ix2 r d) = (show FVec Ideal S32768x1024 .f32 from V m c main_v14) (ix2 ⟨t.val * 256 + r.val, by have := lt128 t; omega⟩ d) := by
  blk_simp [iblk]
  refine congrArg _ ?_
  blk_ext [idx t]

theorem blk1 (c : Dev nD) (t : Fin cfg0.N) (n : Fin 6144) :
    (show FVec Ideal S1x1x6144 .f32 from iblk m c 1 t) (ix3 0 0 n) = (show FVec Ideal S8x1x6144 .f32 from V m c main_v13) (ix3 ⟨t.val / 16, by have := lt128 t; omega⟩ 0 n) := by
  blk_simp [iblk]
  refine congrArg _ ?_
  blk_ext [idx t]

theorem blk2 (c : Dev nD) (t : Fin cfg0.N) (r : Fin 256) (d : Fin 512) :
    (show FVec Ideal S256x512 .bf16 from iblk m c 2 t) (ix2 r d) = (show FVec Ideal S32768x512 .bf16 from V m c main_arg2) (ix2 ⟨t.val * 256 + r.val, by have := lt128 t; omega⟩ d) := by
  blk_simp [iblk]
  refine congrArg _ ?_
  blk_ext [idx t]

theorem blk3 (c : Dev nD) (t : Fin cfg0.N) (r : Fin 256) (d : Fin 1024) :
    (show FVec Ideal S256x1024 .bf16 from iblk m c 3 t) (ix2 r d) = (show FVec Ideal S32768x1024 .bf16 from V m c main_arg3) (ix2 ⟨t.val * 256 + r.val, by have := lt128 t; omega⟩ d) := by
  blk_simp [iblk]
  refine congrArg _ ?_
  blk_ext [idx t]

theorem blk4 (c : Dev nD) (t : Fin cfg0.N) (d : Fin 1024) :
    (show FVec Ideal S1x1024 .f32 from iblk m c 4 t) (ix2 0 d) = (show FVec Ideal S1x1024 .f32 from V m c main_v0) (ix2 0 d) := by
  blk_simp [iblk]
  refine congrArg _ ?_
  blk_ext [idx t]

theorem blk5 (c : Dev nD) (t : Fin cfg0.N) (d : Fin 1024) :
    (show FVec Ideal S1x1024 .f32 from iblk m c 5 t) (ix2 0 d) = (show FVec Ideal S1x1024 .f32 from V m c main_v1) (ix2 0 d) := by
  blk_simp [iblk]
  refine congrArg _ ?_
  blk_ext [idx t]

theorem blk6 (c : Dev nD) (t : Fin cfg0.N) (r : Fin 1024) (d : Fin 2048) :
    (show FVec Ideal S1024x2048 .bf16 from iblk m c 6 t) (ix2 r d) = (show FVec Ideal S1024x2048 .bf16 from V m c main_v3) (ix2 r d) := by
  blk_simp [iblk]
  refine congrArg _ ?_
  blk_ext [idx t]

theorem blk7 (c : Dev nD) (t : Fin cfg0.N) (r : Fin 512) (d : Fin 1024) :
    (show FVec Ideal S512x1024 .bf16 from iblk m c 7 t) (ix2 r d) = (show FVec Ideal S512x1024 .bf16 from V m c main_v4) (ix2 r d) := by
  blk_simp [iblk]
  refine congrArg _ ?_
  blk_ext [idx t]

theorem blk8 (c : Dev nD) (t : Fin cfg0.N) (r d : Fin 1024) :
    (show FVec Ideal S1024x1024 .bf16 from iblk m c 8 t) (ix2 r d) = (show FVec Ideal S1024x1024 .bf16 from V m c main_v5) (ix2 r d) := by
  blk_simp [iblk]
  refine congrArg _ ?_
  blk_ext [idx t]

theorem blk9 (c : Dev nD) (t : Fin cfg0.N) (r d : Fin 1024) :
    (show FVec Ideal S1024x1024 .bf16 from iblk m c 9 t) (ix2 r d) = (show FVec Ideal S1024x1024 .bf16 from V m c main_v6) (ix2 r d) := by
  blk_simp [iblk]
  refine congrArg _ ?_
  blk_ext [idx t]

/-! ## The rectangles the body reads out of its windows -/

theorem ldX (c : Dev nD) (t : Fin cfg0.N) (r : Fin 256) (d : Fin 1024) :
    (View.ld (Val := Elt Ideal) (S := S256x1024) (e' := .f32) (iblk m c 0 t) r0_0 : FVec Ideal S256x1024 .f32) (ix2 r d) = aX m c (ix3 (rb t r) (rs t r) d) := by
  refine Eq.trans ?_ ((blk0 m c t r d).trans (entry0 m c ⟨t.val * 256 + r.val, by have := lt128 t; omega⟩ d))
  refine View.ld_unit_apply_of _ _ _ _ _ _ ?_
  intro a; fin_cases a <;> simp

theorem ldSh (c : Dev nD) (t : Fin cfg0.N) (r : Fin 256) (d : Fin 1024) :
    (View.ld (Val := Elt Ideal) (S := S1x1x6144) (e' := .f32) (iblk m c 1 t) r0_2 : FVec Ideal S1x1x1024 .f32) (ix3 0 0 d) = aM m c (ix2 (rb t r) ⟨d.val, by omega⟩) := by
  refine Eq.trans (Eq.trans ?_ ((blk1 m c t ⟨d.val, by omega⟩).trans (entry1 m c ⟨t.val / 16, by have := lt128 t; omega⟩ ⟨d.val, by omega⟩))) ?_
  · refine View.ld_unit_apply_of _ _ _ _ _ _ ?_
    intro a; fin_cases a <;> simp
  · exact congrArg (fun b => aM m c (ix2 b ⟨d.val, by omega⟩)) (Fin.ext (by show t.val / 16 = (t.val * 256 + r.val) / 4096; omega))

theorem ldSc (c : Dev nD) (t : Fin cfg0.N) (r : Fin 256) (d : Fin 1024) :
    (View.ld (Val := Elt Ideal) (S := S1x1x6144) (e' := .f32) (iblk m c 1 t) r0_3 : FVec Ideal S1x1x1024 .f32) (ix3 0 0 d) = aM m c (ix2 (rb t r) ⟨1024 + d.val, by omega⟩) := by
  refine Eq.trans (Eq.trans ?_ ((blk1 m c t ⟨1024 + d.val, by omega⟩).trans (entry1 m c ⟨t.val / 16, by have := lt128 t; omega⟩ ⟨1024 + d.val, by omega⟩))) ?_
  · refine View.ld_unit_apply_of _ _ _ _ _ _ ?_
    intro a; fin_cases a <;> simp
  · exact congrArg (fun b => aM m c (ix2 b ⟨1024 + d.val, by omega⟩)) (Fin.ext (by show t.val / 16 = (t.val * 256 + r.val) / 4096; omega))

theorem ldGate (c : Dev nD) (t : Fin cfg0.N) (r : Fin 256) (d : Fin 1024) :
    (View.ld (Val := Elt Ideal) (S := S1x1x6144) (e' := .f32) (iblk m c 1 t) r0_8 : FVec Ideal S1x1x1024 .f32) (ix3 0 0 d) = aM m c (ix2 (rb t r) ⟨2048 + d.val, by omega⟩) := by
  refine Eq.trans (Eq.trans ?_ ((blk1 m c t ⟨2048 + d.val, by omega⟩).trans (entry1 m c ⟨t.val / 16, by have := lt128 t; omega⟩ ⟨2048 + d.val, by omega⟩))) ?_
  · refine View.ld_unit_apply_of _ _ _ _ _ _ ?_
    intro a; fin_cases a <;> simp
  · exact congrArg (fun b => aM m c (ix2 b ⟨2048 + d.val, by omega⟩)) (Fin.ext (by show t.val / 16 = (t.val * 256 + r.val) / 4096; omega))

theorem ldSh2 (c : Dev nD) (t : Fin cfg0.N) (r : Fin 256) (d : Fin 1024) :
    (View.ld (Val := Elt Ideal) (S := S1x1x6144) (e' := .f32) (iblk m c 1 t) r0_9 : FVec Ideal S1x1x1024 .f32) (ix3 0 0 d) = aM m c (ix2 (rb t r) ⟨3072 + d.val, by omega⟩) := by
  refine Eq.trans (Eq.trans ?_ ((blk1 m c t ⟨3072 + d.val, by omega⟩).trans (entry1 m c ⟨t.val / 16, by have := lt128 t; omega⟩ ⟨3072 + d.val, by omega⟩))) ?_
  · refine View.ld_unit_apply_of _ _ _ _ _ _ ?_
    intro a; fin_cases a <;> simp
  · exact congrArg (fun b => aM m c (ix2 b ⟨3072 + d.val, by omega⟩)) (Fin.ext (by show t.val / 16 = (t.val * 256 + r.val) / 4096; omega))

theorem ldSc2 (c : Dev nD) (t : Fin cfg0.N) (r : Fin 256) (d : Fin 1024) :
    (View.ld (Val := Elt Ideal) (S := S1x1x6144) (e' := .f32) (iblk m c 1 t) r0_10 : FVec Ideal S1x1x1024 .f32) (ix3 0 0 d) = aM m c (ix2 (rb t r) ⟨4096 + d.val, by omega⟩) := by
  refine Eq.trans (Eq.trans ?_ ((blk1 m c t ⟨4096 + d.val, by omega⟩).trans (entry1 m c ⟨t.val / 16, by have := lt128 t; omega⟩ ⟨4096 + d.val, by omega⟩))) ?_
  · refine View.ld_unit_apply_of _ _ _ _ _ _ ?_
    intro a; fin_cases a <;> simp
  · exact congrArg (fun b => aM m c (ix2 b ⟨4096 + d.val, by omega⟩)) (Fin.ext (by show t.val / 16 = (t.val * 256 + r.val) / 4096; omega))

theorem ldA (c : Dev nD) (t : Fin cfg0.N) (r : Fin 256) (x : Fin 512) :
    (View.ld (Val := Elt Ideal) (S := S256x512) (e' := .bf16) (iblk m c 2 t) r0_5 : FVec Ideal S256x512 .bf16) (ix2 r x) = aA m c (ix2 (Post.row (rb t r) (rs t r)) x) := by
  refine Eq.trans (Eq.trans ?_ ((blk2 m c t r x).trans (entry2 m c ⟨t.val * 256 + r.val, by have := lt128 t; omega⟩ x))) ?_
  · refine View.ld_unit_apply_of _ _ _ _ _ _ ?_
    intro a; fin_cases a <;> simp
  · exact congrArg (fun n => aA m c (ix2 n x))
      (Fin.ext (by show t.val * 256 + r.val = (t.val * 256 + r.val) / 4096 * 4096 + (t.val * 256 + r.val) % 4096; omega))

theorem ldO (c : Dev nD) (t : Fin cfg0.N) (r : Fin 256) (x : Fin 1024) :
    (View.ld (Val := Elt Ideal) (S := S256x1024) (e' := .bf16) (iblk m c 3 t) r0_0 : FVec Ideal S256x1024 .bf16) (ix2 r x) = aO m c (ix2 (Post.row (rb t r) (rs t r)) x) := by
  refine Eq.trans (Eq.trans ?_ ((blk3 m c t r x).trans (entry3 m c ⟨t.val * 256 + r.val, by have := lt128 t; omega⟩ x))) ?_
  · refine View.ld_unit_apply_of _ _ _ _ _ _ ?_
    intro a; fin_cases a <;> simp
  · exact congrArg (fun n => aO m c (ix2 n x))
      (Fin.ext (by show t.val * 256 + r.val = (t.val * 256 + r.val) / 4096 * 4096 + (t.val * 256 + r.val) % 4096; omega))

theorem ldG (c : Dev nD) (t : Fin cfg0.N) (d : Fin 1024) :
    (View.ld (Val := Elt Ideal) (S := S1x1024) (e' := .f32) (iblk m c 4 t) r0_1 : FVec Ideal S1x1024 .f32) (ix2 0 d) = aG m c (ix1 d) := by
  refine Eq.trans ?_ ((blk4 m c t d).trans (entry4 m c d))
  refine View.ld_unit_apply_of _ _ _ _ _ _ ?_
  intro a; fin_cases a <;> simp

theorem ldH (c : Dev nD) (t : Fin cfg0.N) (d : Fin 1024) :
    (View.ld (Val := Elt Ideal) (S := S1x1024) (e' := .f32) (iblk m c 5 t) r0_1 : FVec Ideal S1x1024 .f32) (ix2 0 d) = aH m c (ix1 d) := by
  refine Eq.trans ?_ ((blk5 m c t d).trans (entry5 m c d))
  refine View.ld_unit_apply_of _ _ _ _ _ _ ?_
  intro a; fin_cases a <;> simp

theorem ldW (c : Dev nD) (t : Fin cfg0.N) (x : Fin 1024) (n : Fin 2048) :
    (View.ld (Val := Elt Ideal) (S := S1024x2048) (e' := .bf16) (iblk m c 6 t) r0_4 : FVec Ideal S1024x2048 .bf16) (ix2 x n) = aW m c (ix2 x ⟨4624 + n.val, by omega⟩) := by
  refine Eq.trans ?_ ((blk6 m c t x n).trans (entry6 m c x n))
  refine View.ld_unit_apply_of _ _ _ _ _ _ ?_
  intro a; fin_cases a <;> simp

theorem ldU (c : Dev nD) (t : Fin cfg0.N) (x : Fin 512) (n : Fin 1024) :
    (View.ld (Val := Elt Ideal) (S := S512x1024) (e' := .bf16) (iblk m c 7 t) r0_6 : FVec Ideal S512x1024 .bf16) (ix2 x n) = aU m c (ix2 x n) := by
  refine Eq.trans ?_ ((blk7 m c t x n).trans (entry7 m c x n))
  refine View.ld_unit_apply_of _ _ _ _ _ _ ?_
  intro a; fin_cases a <;> simp

theorem ldV (c : Dev nD) (t : Fin cfg0.N) (x : Fin 1024) (n : Fin 1024) :
    (View.ld (Val := Elt Ideal) (S := S1024x1024) (e' := .bf16) (iblk m c 8 t) r0_7 : FVec Ideal S1024x1024 .bf16) (ix2 x n) = aV m c (ix2 x n) := by
  refine Eq.trans ?_ ((blk8 m c t x n).trans (entry8 m c x n))
  refine View.ld_unit_apply_of _ _ _ _ _ _ ?_
  intro a; fin_cases a <;> simp

theorem ldZ (c : Dev nD) (t : Fin cfg0.N) (x : Fin 1024) (n : Fin 1024) :
    (View.ld (Val := Elt Ideal) (S := S1024x1024) (e' := .bf16) (iblk m c 9 t) r0_7 : FVec Ideal S1024x1024 .bf16) (ix2 x n) = aZ m c (ix2 x n) := by
  refine Eq.trans ?_ ((blk9 m c t x n).trans (entry9 m c x n))
  refine View.ld_unit_apply_of _ _ _ _ _ _ ?_
  intro a; fin_cases a <;> simp

/-! ## The stages over the windows -/

theorem gate_at (c : Dev nD) (t : Fin cfg0.N) (r : Fin 256) (n : Fin 2048) :
    k0_pay4 (F := Ideal) (View.ld (iblk m c 0 t) r0_0) (View.ld (iblk m c 4 t) r0_1) (View.ld (iblk m c 1 t) r0_2) (View.ld (iblk m c 1 t) r0_3)
      (View.ld (iblk m c 6 t) r0_4) (ix2 r n)
      = Prompt.pr (aX m c) (aM m c) (aG m c) (aW m c) (rb t r) (rs t r) ⟨4624 + n.val, by omega⟩ := by
  refine (proj_pay _ _ _ _ _ r n).trans ?_
  unfold Prompt.pr proj Prompt.hid
  refine Finset.sum_congr rfl fun d _ => congrArg₂ (· * ·) ?_ (ldW m c t d n)
  congr 1
  · funext d; exact ldX m c t r d
  · funext d; exact ldG m c t d
  · funext d; exact ldSc m c t r d
  · funext d; exact ldSh m c t r d

theorem branch_at (c : Dev nD) (t : Fin cfg0.N) (r : Fin 256) (j : Fin 1024) :
    k0_pay5 (F := Ideal) (View.ld (iblk m c 0 t) r0_0) (View.ld (iblk m c 4 t) r0_1) (View.ld (iblk m c 1 t) r0_2) (View.ld (iblk m c 1 t) r0_3)
      (View.ld (iblk m c 6 t) r0_4) (View.ld (iblk m c 2 t) r0_5) (View.ld (iblk m c 7 t) r0_6) (ix2 r j)
      = Ideal.logistic (Prompt.pr (aX m c) (aM m c) (aG m c) (aW m c) (rb t r) (rs t r) ⟨4624 + j.val, by omega⟩)
        * ∑ x : Fin 512, aA m c (ix2 (Post.row (rb t r) (rs t r)) x) * aU m c (ix2 x j) := by
  refine (branch_pay _ _ _ _ _ _ _ r j).trans ?_
  refine congrArg₂ (· * ·) (congrArg Ideal.logistic (gate_at m c t r ⟨j.val, by omega⟩)) ?_
  exact Finset.sum_congr rfl fun x _ => congrArg₂ (· * ·) (ldA m c t r x) (ldU m c t x j)

theorem resid_at (c : Dev nD) (t : Fin cfg0.N) (r : Fin 256) (d : Fin 1024) :
    k0_pay6 (F := Ideal) (k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (k0_pay32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (k0_pay33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))
      (View.ld (iblk m c 3 t) r0_0) (View.ld (iblk m c 8 t) r0_7) (View.ld (iblk m c 1 t) r0_8) (View.ld (iblk m c 9 t) r0_7) (ix2 r d)
      = Post.resid (aX m c) (aM m c) (aA m c) (aO m c) (aG m c) (aW m c) (aU m c) (aV m c) (aZ m c) (rb t r) (rs t r) d := by
  refine (resid_pay _ _ _ _ _ _ _ r d).trans ?_
  unfold Post.resid
  refine congrArg₂ (· + ·) ?_ (congrArg₂ (· * ·) (ldGate m c t r d) (Finset.sum_congr rfl fun j _ => congrArg₂ (· * ·) ?_ (ldZ m c t j d)))
  · refine Eq.trans ?_ (ldX m c t r d)
    unfold k0_pay31
    pointwise [k0_pay3]
  · unfold Post.merged
    refine congrArg₂ (· + ·) (branch_at m c t r j) (congrArg₂ (· * ·) (congrArg Ideal.logistic ((gate_at m c t r ⟨1024 + j.val, by omega⟩).trans ?_)) ?_)
    · exact congrArg (Prompt.pr (aX m c) (aM m c) (aG m c) (aW m c) (rb t r) (rs t r)) (Fin.ext (by show 4624 + (1024 + j.val) = 5648 + j.val; omega))
    · exact Finset.sum_congr rfl fun x _ => congrArg₂ (· * ·) (ldO m c t r x) (ldV m c t x j)

/-! ## The results at a grid point -/

theorem point12 (c : Dev nD) (t : Fin cfg0.N) (r : Fin 256) (d : Fin 1024) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = Post.resid (aX m c) (aM m c) (aA m c) (aO m c) (aG m c) (aW m c) (aU m c) (aV m c) (aZ m c) (rb t r) (rs t r) d := by
  unfold out0_12
  refine (congrFun (View.canon_unit_zero (by funext a; fin_cases a <;> rfl) _ _) _).trans ?_
  exact resid_at m c t r d

theorem point13 (c : Dev nD) (t : Fin cfg0.N) (r : Fin 256) (d : Fin 1024) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 r d)
      = Post.second (aX m c) (aM m c) (aA m c) (aO m c) (aG m c) (aH m c) (aW m c) (aU m c) (aV m c) (aZ m c) (rb t r) (rs t r) d := by
  unfold out0_13
  refine (congrFun (View.canon_unit_zero (by funext a; fin_cases a <;> rfl) _ _) _).trans ?_
  unfold k0_pay34 k0_pay35 k0_pay36 k0_pay37
  refine (second_pay _ _ _ _ _ _ _ _ _ _ r d).trans ?_
  unfold Post.second
  congr 1
  · funext d; exact resid_at m c t r d
  · funext d; exact ldH m c t d
  · funext d; exact ldSc2 m c t r d
  · funext d; exact ldSh2 m c t r d

theorem flat_at {n : Nat} (f : Fin 8 → Fin 4096 → Fin n → EReal) (t : Fin cfg0.N) (r : Fin 256) (d : Fin n) (R : Fin 32768) (D : Fin n)
    (h : R.val = t.val * 256 + r.val) (hd : D.val = d.val) : f (rb t r) (rs t r) d = Prompt.flat f R D := by
  unfold Prompt.flat rb rs
  obtain rfl : D = d := Fin.ext hd
  simp only [h]

/-! ## The results -/

theorem final12 (c : Dev nD) : (dats m 0 c).arrAt 12 cfg0.N = fun i => Prompt.flat (Post.resid (aX m c) (aM m c) (aA m c) (aO m c) (aG m c) (aW m c) (aU m c) (aV m c) (aZ m c)) (i 0) (i 1) := by
  refine (dats m 0 c).arrAt_eq_of_covers 12 _ (by decide +kernel) fun t _ y => ?_
  blk_simp
  rw [after0_12]
  obtain ⟨r, d, rfl⟩ : ∃ (r : Fin 256) (d : Fin 1024), y = ix2 r d := ⟨y 0, y 1, by funext a; fin_cases a <;> first | rfl | exact Fin.ext (by simp)⟩
  refine (point12 m c t r d).trans (flat_at _ t _ _ _ _ ?_ ?_)
  all_goals (blk_simp [idx t]; try omega)

theorem final13 (c : Dev nD) : (dats m 0 c).arrAt 13 cfg0.N
    = fun i => Prompt.flat (Post.second (aX m c) (aM m c) (aA m c) (aO m c) (aG m c) (aH m c) (aW m c) (aU m c) (aV m c) (aZ m c)) (i 0) (i 1) := by
  refine (dats m 0 c).arrAt_eq_of_covers 13 _ (by decide +kernel) fun t _ y => ?_
  blk_simp
  rw [after0_13]
  obtain ⟨r, d, rfl⟩ : ∃ (r : Fin 256) (d : Fin 1024), y = ix2 r d := ⟨y 0, y 1, by funext a; fin_cases a <;> first | rfl | exact Fin.ext (by simp)⟩
  refine (point13 m c t r d).trans (flat_at _ t _ _ _ _ ?_ ?_)
  all_goals (blk_simp [idx t]; try omega)

end Cert.PostIdeal.Value

end
-- ==== Proof.PostRef.lean ====
module

public import proofs.«01_k».proof.Proof.Gen.PostRefIdeal.Read
public import proofs.«01_k».proof.Proof.PostSpec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.PostRefIdeal.Value

open Cert.PostRefIdeal Cert.PostRefIdeal.Gen Cert.PostRefIdeal.Read Cert.Layer

variable (x0 : FVec Ideal S8x4096x1024 .f32) (x1 : FVec Ideal S8x6144 .f32) (x2 : FVec Ideal S32768x512 .bf16) (x3 : FVec Ideal S32768x1024 .bf16)
  (x4 x5 : FVec Ideal S1024 .f32) (x6 : FVec Ideal S1024x6672 .f32) (x7 : FVec Ideal S512x1024 .f32) (x8 x9 : FVec Ideal S1024x1024 .f32)

theorem hid_ref (b : Fin 8) (s : Fin 4096) (d : Fin 1024) :
    val_main_v29 (F := Ideal) x0 x1 x4 (ix3 b s d) = Prompt.hid x0 x1 x4 b s d := by
  pointwise [val_main_v4, val_main_v5, val_main_v6, val_main_v11, val_main_cst, val_main_v12, val_main_v13, val_main_cst_0, val_main_v14, val_main_v15, val_main_cst_1, val_main_v16, val_main_v17, val_main_v18, val_main_v19, val_main_v20, val_main_v21, val_main_v22, val_main_v23, val_main_cst_2, val_main_v24, val_main_v25, val_main_v26, val_main_v27, val_main_v28, val_main_v29]
  rfl

theorem pr_ref (b : Fin 8) (s : Fin 4096) (n : Fin 6672) :
    val_main_v30 (F := Ideal) x0 x1 x4 x6 (ix3 b s n) = Prompt.pr x0 x1 x4 x6 b s n := by
  pointwise [val_main_v30]
  unfold Prompt.pr proj
  exact Finset.sum_congr rfl fun d _ => congrArg (· * _) (hid_ref x0 x1 x4 b s d)

theorem gate_a (b : Fin 8) (s : Fin 4096) (j : Fin 1024) :
    val_main_v46 (F := Ideal) x0 x1 x4 x6 (ix3 b s j) = Ideal.logistic (Prompt.pr x0 x1 x4 x6 b s ⟨4624 + j.val, by omega⟩) := by
  pointwise [val_main_v39, val_main_v41, val_main_v42, val_main_cst_3, val_main_v43, val_main_v44, val_main_cst_4, val_main_v45, val_main_v46]
  simp only [pr_ref]
  rfl

theorem gate_b (b : Fin 8) (s : Fin 4096) (j : Fin 1024) :
    val_main_v54 (F := Ideal) x0 x1 x4 x6 (ix3 b s j) = Ideal.logistic (Prompt.pr x0 x1 x4 x6 b s ⟨5648 + j.val, by omega⟩) := by
  pointwise [val_main_v40, val_main_v49, val_main_v50, val_main_cst_5, val_main_v51, val_main_v52, val_main_cst_6, val_main_v53, val_main_v54]
  simp only [pr_ref]
  rfl

theorem branch_a (b : Fin 8) (s : Fin 4096) (j : Fin 1024) :
    val_main_v47 (F := Ideal) x2 x7 (ix3 b s j) = ∑ x : Fin 512, x2 (ix2 (Post.row b s) x) * x7 (ix2 x j) := by
  pointwise [val_main_v0, val_main_v1, val_main_v47]
  rfl

theorem branch_b (b : Fin 8) (s : Fin 4096) (j : Fin 1024) :
    val_main_v55 (F := Ideal) x3 x8 (ix3 b s j) = ∑ x : Fin 1024, x3 (ix2 (Post.row b s) x) * x8 (ix2 x j) := by
  pointwise [val_main_v2, val_main_v3, val_main_v55]
  rfl

theorem merged_ref (b : Fin 8) (s : Fin 4096) (j : Fin 1024) :
    val_main_v57 (F := Ideal) x0 x1 x2 x3 x4 x6 x7 x8 (ix3 b s j) = Post.merged x0 x1 x2 x3 x4 x6 x7 x8 b s j := by
  pointwise [val_main_v48, val_main_v56, val_main_v57]
  simp only [gate_a, gate_b, branch_a, branch_b]
  rfl

theorem resid_at (b : Fin 8) (s : Fin 4096) (d : Fin 1024) :
    val_main_v61 (F := Ideal) x0 x1 x2 x3 x4 x6 x7 x8 x9 (ix3 b s d) = Post.resid x0 x1 x2 x3 x4 x6 x7 x8 x9 b s d := by
  pointwise [val_main_v4, val_main_v7, val_main_v58, val_main_v59, val_main_v60, val_main_v61]
  simp only [merged_ref]
  rfl

theorem second_at (b : Fin 8) (s : Fin 4096) (d : Fin 1024) :
    val_main_v80 (F := Ideal) x0 x1 x2 x3 x4 x5 x6 x7 x8 x9 (ix3 b s d) = Post.second x0 x1 x2 x3 x4 x5 x6 x7 x8 x9 b s d := by
  pointwise [val_main_v4, val_main_v8, val_main_v9, val_main_v62, val_main_cst_7, val_main_v63, val_main_v64, val_main_cst_8, val_main_v65, val_main_v66, val_main_cst_9, val_main_v67, val_main_v68, val_main_v69, val_main_v70, val_main_v71, val_main_v72, val_main_v73, val_main_v74, val_main_cst_10, val_main_v75, val_main_v76, val_main_v77, val_main_v78, val_main_v79, val_main_v80]
  simp only [resid_at]
  rfl

theorem resid_ref (r : Fin 32768) (d : Fin 1024) :
    val_main_v81 (F := Ideal) x0 x1 x2 x3 x4 x6 x7 x8 x9 (ix2 r d) = Prompt.flat (Post.resid x0 x1 x2 x3 x4 x6 x7 x8 x9) r d := by
  pointwise [val_main_v81]
  exact resid_at _ _ _ _ _ _ _ _ _ _ _ _

theorem second_ref (r : Fin 32768) (d : Fin 1024) :
    val_main_v82 (F := Ideal) x0 x1 x2 x3 x4 x5 x6 x7 x8 x9 (ix2 r d) = Prompt.flat (Post.second x0 x1 x2 x3 x4 x5 x6 x7 x8 x9) r d := by
  pointwise [val_main_v82]
  exact second_at _ _ _ _ _ _ _ _ _ _ _ _ _

end Cert.PostRefIdeal.Value

end
-- ==== Proof.PostAlgebra.lean ====
module

public import proofs.«01_k».proof.Defs
public import proofs.«01_k».proof.Proof.PostPoints
public import proofs.«01_k».proof.Proof.PostRef
public import proofs.«01_k».proof.Proof.Gen.PostIdeal.Value

@[expose] public section

set_option maxRecDepth 16384

noncomputable section

open Idealize.ShloMosaic Idealize.ShloMosaic.TcCoe Idealize.SL.Sem

namespace Cert.Proof

theorem post_prompt_resid (m : (ℓ : Loc Cert.PostIdeal.nD Cert.PostIdeal.τ Cert.PostIdeal.sig) → Buf (Elt Ideal) ℓ) (c : Dev Cert.PostIdeal.nD)
    (y0 : FVec Ideal Cert.PostIdeal.S8x4096x1024 .f32) (y1 : FVec Ideal Cert.PostIdeal.S8x6144 .f32) (y2 : FVec Ideal Cert.PostIdeal.S32768x512 .bf16) (y3 : FVec Ideal Cert.PostIdeal.S32768x1024 .bf16) (y4 : FVec Ideal Cert.PostIdeal.S1024 .f32) (y6 : FVec Ideal Cert.PostIdeal.S1024x6672 .f32) (y7 : FVec Ideal Cert.PostIdeal.S512x1024 .f32) (y8 : FVec Ideal Cert.PostIdeal.S1024x1024 .f32) (y9 : FVec Ideal Cert.PostIdeal.S1024x1024 .f32)
    (h0 : y0 = m ((c.tc : Thread _ _).loc Cert.PostIdeal.main_arg0)) (h1 : y1 = m ((c.tc : Thread _ _).loc Cert.PostIdeal.main_arg1)) (h2 : y2 = m ((c.tc : Thread _ _).loc Cert.PostIdeal.main_arg2)) (h3 : y3 = m ((c.tc : Thread _ _).loc Cert.PostIdeal.main_arg3)) (h4 : y4 = m ((c.tc : Thread _ _).loc Cert.PostIdeal.main_arg4)) (h6 : y6 = m ((c.tc : Thread _ _).loc Cert.PostIdeal.main_arg6)) (h7 : y7 = m ((c.tc : Thread _ _).loc Cert.PostIdeal.main_arg7)) (h8 : y8 = m ((c.tc : Thread _ _).loc Cert.PostIdeal.main_arg8)) (h9 : y9 = m ((c.tc : Thread _ _).loc Cert.PostIdeal.main_arg9)) :
    Cert.PostRefIdeal.Read.val_main_v81 (F := Ideal) y0 y1 y2 y3 y4 y6 y7 y8 y9
      = (Cert.PostIdeal.Gen.dats m 0 c).arrAt 12 Cert.PostIdeal.cfg0.N := by
  subst h0 h1 h2 h3 h4 h6 h7 h8 h9
  rw [Cert.PostIdeal.Value.final12]
  funext i
  obtain ⟨r, d, rfl⟩ : ∃ (r : Fin 32768) (d : Fin 1024), i = ix2 r d := ⟨i 0, i 1, by funext a; fin_cases a <;> first | rfl | exact Fin.ext (by simp)⟩
  exact Cert.PostRefIdeal.Value.resid_ref _ _ _ _ _ _ _ _ _ r d

theorem post_prompt_second (m : (ℓ : Loc Cert.PostIdeal.nD Cert.PostIdeal.τ Cert.PostIdeal.sig) → Buf (Elt Ideal) ℓ) (c : Dev Cert.PostIdeal.nD)
    (y0 : FVec Ideal Cert.PostIdeal.S8x4096x1024 .f32) (y1 : FVec Ideal Cert.PostIdeal.S8x6144 .f32) (y2 : FVec Ideal Cert.PostIdeal.S32768x512 .bf16) (y3 : FVec Ideal Cert.PostIdeal.S32768x1024 .bf16) (y4 : FVec Ideal Cert.PostIdeal.S1024 .f32) (y5 : FVec Ideal Cert.PostIdeal.S1024 .f32) (y6 : FVec Ideal Cert.PostIdeal.S1024x6672 .f32) (y7 : FVec Ideal Cert.PostIdeal.S512x1024 .f32) (y8 : FVec Ideal Cert.PostIdeal.S1024x1024 .f32) (y9 : FVec Ideal Cert.PostIdeal.S1024x1024 .f32)
    (h0 : y0 = m ((c.tc : Thread _ _).loc Cert.PostIdeal.main_arg0)) (h1 : y1 = m ((c.tc : Thread _ _).loc Cert.PostIdeal.main_arg1)) (h2 : y2 = m ((c.tc : Thread _ _).loc Cert.PostIdeal.main_arg2)) (h3 : y3 = m ((c.tc : Thread _ _).loc Cert.PostIdeal.main_arg3)) (h4 : y4 = m ((c.tc : Thread _ _).loc Cert.PostIdeal.main_arg4)) (h5 : y5 = m ((c.tc : Thread _ _).loc Cert.PostIdeal.main_arg5)) (h6 : y6 = m ((c.tc : Thread _ _).loc Cert.PostIdeal.main_arg6)) (h7 : y7 = m ((c.tc : Thread _ _).loc Cert.PostIdeal.main_arg7)) (h8 : y8 = m ((c.tc : Thread _ _).loc Cert.PostIdeal.main_arg8)) (h9 : y9 = m ((c.tc : Thread _ _).loc Cert.PostIdeal.main_arg9)) :
    Cert.PostRefIdeal.Read.val_main_v82 (F := Ideal) y0 y1 y2 y3 y4 y5 y6 y7 y8 y9
      = (Cert.PostIdeal.Gen.dats m 0 c).arrAt 13 Cert.PostIdeal.cfg0.N := by
  subst h0 h1 h2 h3 h4 h5 h6 h7 h8 h9
  rw [Cert.PostIdeal.Value.final13]
  funext i
  obtain ⟨r, d, rfl⟩ : ∃ (r : Fin 32768) (d : Fin 1024), i = ix2 r d := ⟨i 0, i 1, by funext a; fin_cases a <;> first | rfl | exact Fin.ext (by simp)⟩
  exact Cert.PostRefIdeal.Value.second_ref _ _ _ _ _ _ _ _ _ _ r d

set_option maxHeartbeats 2000000 in
/-- The mixer's merge over the prompts: the residual and its second norm are the reference's. -/
theorem post_prompt : Cert.algebraic_PostIdeal_PostRefIdeal (hPostIdeal := Cert.PostIdeal.Gen.facts)
    (hPostRefIdeal := Cert.PostRefIdeal.Gen.facts) := by
  intro m g m' g' hpre hagree
  refine ⟨fun c => (Cert.PostIdeal.Gen.dats m 0 c).arrAt 12 Cert.PostIdeal.cfg0.N, fun c => (Cert.PostIdeal.Gen.dats m 0 c).arrAt 13 Cert.PostIdeal.cfg0.N,
    (θ_run _ _ _).mono (fun r h c => ⟨(h c).1, (h c).2.1, (h c).2.2.2.2⟩) (Cert.PostIdeal.Value.run_blocks m g), ?_⟩
  refine (θ_run _ _ _).mono (fun r h c => ?_) (Cert.PostRefIdeal.Value.run m' g')
  obtain ⟨h0, h1, hrest⟩ := h c
  obtain ⟨a0, a1, a2, a3, a4, a5, a6, a7, a8, a9, arest⟩ := hagree c
  exact ⟨h0.trans ((Cert.PostRefIdeal.Read.val_main_v81_eq _ _).trans (post_prompt_resid m c _ _ _ _ _ _ _ _ _ a0 a1 a2 a3 a4 a6 a7 a8 a9)),
    h1.trans ((Cert.PostRefIdeal.Read.val_main_v82_eq _ _).trans (post_prompt_second m c _ _ _ _ _ _ _ _ _ _ a0 a1 a2 a3 a4 a5 a6 a7 a8 a9)), hrest⟩

/-- The reference runs to its end, keeps its arguments and has no semaphore. -/
theorem post_prompt_reference_frame : Cert.quiescent_PostRefIdeal (hPostRefIdeal := Cert.PostRefIdeal.Gen.facts) := by
  intro m g _
  exact (θ_run _ _ _).mono (fun r h => ⟨fun c => (h c).2.2, Idealize.ShloMosaic.sem_eq_zero_of_no_sems (by decide) r.2⟩)
    (Cert.PostRefIdeal.Value.run m g)

end Cert.Proof

end
-- ==== Proof.Modulation.lean ====
module

public import proofs.«01_k».proof.Proof.Gen.ModIdeal.Frame
public import proofs.«01_k».proof.Proof.Gen.ModRefIdeal.Read
public import proofs.«01_k».proof.Proof.InMath
public import Idealize.ShloMosaic.Lib.Pipeline.ValueKit
public import Idealize.ShloMosaic.Lib.Pipeline.RowLoads
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer

/-- The modulation vectors: `silu(c) @ w + b`, for the 40 sequences of both batches. -/
def modvec (C : FVec Ideal ⟨2, ![40, 1024]⟩ .f32) (W : FVec Ideal ⟨2, ![1024, 6144]⟩ .f32) (B : FVec Ideal ⟨1, ![6144]⟩ .f32)
    (r : Fin 40) (n : Fin 6144) : EReal :=
  (∑ d : Fin 1024, C (ix2 r d) * Ideal.logistic (C (ix2 r d)) * W (ix2 d n)) + B (ix1 n)

end Cert.Layer

namespace Cert.ModRefIdeal.Value

open Cert.ModRefIdeal Cert.ModRefIdeal.Gen Cert.ModRefIdeal.Read Cert.Layer

variable (x0 : FVec Ideal S40x1024 .f32) (x1 : FVec Ideal S1024x6144 .f32) (x2 : FVec Ideal S6144 .f32)

theorem silu_ref (r : Fin 40) (d : Fin 1024) :
    val_main_v0 (F := Ideal) x0 (ix2 r d) = x0 (ix2 r d) * Ideal.logistic (x0 (ix2 r d)) := by
  pointwise [val_main_call0_v0, val_main_call0_v1, val_main_call0_cst, val_main_call0_v2, val_main_call0_v3, val_main_call0_cst_0, val_main_call0_v4, val_main_call0_v5, val_main_v0]
  rfl

theorem modvec_ref (r : Fin 40) (n : Fin 6144) :
    val_main_v4 (F := Ideal) x0 x1 x2 (ix2 r n) = modvec x0 x1 x2 r n := by
  pointwise [val_main_v1, val_main_v2, val_main_v3, val_main_v4]
  simp only [silu_ref]
  rfl

end Cert.ModRefIdeal.Value

namespace Cert.ModIdeal.Value

open Cert.ModIdeal Cert.ModIdeal.Gen Cert.Layer

theorem modvec_pay (v0 : Vec Ideal S40x1024 .f32) (v4 : Vec Ideal S1024x1024 .bf16) (v7 : Vec Ideal S1x1024 .f32) (r : Fin 40) (n : Fin 1024) :
    k0_pay1 v0 v4 v7 (ix2 r n) = (∑ d : Fin 1024, v0 (ix2 r d) * Ideal.logistic (v0 (ix2 r d)) * v4 (ix2 d n)) + v7 (ix2 0 n) := by
  pointwise [k0_pay1]

variable (m : (ℓ : Loc nD τ sig) → Buf (Elt Ideal) ℓ)

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem lt6 (t : Fin cfg0.N) : t.val < 6 := lt_of_lt_of_eq t.isLt (by decide)

/-- The column through all six vectors of column `n` of a grid point's block. -/
def col (t : Fin cfg0.N) (n : Fin 1024) : Fin 6144 := ⟨t.val * 1024 + n.val, by have := lt6 t; omega⟩

def aC (c : Dev nD) : FVec Ideal S40x1024 .f32 := m ((c : Thread nD τ).loc main_arg0)
def aW (c : Dev nD) : FVec Ideal S1024x6144 .f32 := m ((c : Thread nD τ).loc main_arg1)
def aB (c : Dev nD) : FVec Ideal S6144 .f32 := m ((c : Thread nD τ).loc main_arg2)

theorem entry0 (c : Dev nD) (r : Fin 40) (d : Fin 1024) : (show FVec Ideal S40x1024 .f32 from V m c main_arg0) (ix2 r d) = aC m c (ix2 r d) := by
  rw [V_main_arg0]
  rfl

theorem entry1 (c : Dev nD) (d : Fin 1024) (n : Fin 6144) : (show FVec Ideal S1024x6144 .bf16 from V m c main_v0) (ix2 d n) = aW m c (ix2 d n) := by
  simp only [V, hostOps0]
  entry_read
  change (truncf .bf16 (show FVec Ideal S1024x6144 .f32 from m ((c : Thread nD τ).loc main_arg1)) bitsLt_bf16_f32) (ix2 d n) = _
  pointwise
  rfl

theorem entry2 (c : Dev nD) (n : Fin 6144) : (show FVec Ideal S1x6144 .f32 from V m c main_v1) (ix2 0 n) = aB m c (ix1 n) := by
  simp only [V, hostOps0]
  entry_read
  change (shapeCast S1x6144 (show FVec Ideal S6144 .f32 from m ((c : Thread nD τ).loc main_arg2)) shapeCasts_S6144_S1x6144) (ix2 0 n) = _
  pointwise
  rfl

theorem blk0 (c : Dev nD) (t : Fin cfg0.N) (r : Fin 40) (d : Fin 1024) :
    (show FVec Ideal S40x1024 .f32 from iblk m c 0 t) (ix2 r d) = (show FVec Ideal S40x1024 .f32 from V m c main_arg0) (ix2 r d) := by
  blk_simp [iblk]
  refine congrArg _ ?_
  blk_ext [idx t]

theorem blk1 (c : Dev nD) (t : Fin cfg0.N) (d n : Fin 1024) :
    (show FVec Ideal S1024x1024 .bf16 from iblk m c 1 t) (ix2 d n) = (show FVec Ideal S1024x6144 .bf16 from V m c main_v0) (ix2 d ⟨t.val * 1024 + n.val, by have := lt6 t; omega⟩) := by
  blk_simp [iblk]
  refine congrArg _ ?_
  blk_ext [idx t]

theorem blk2 (c : Dev nD) (t : Fin cfg0.N) (n : Fin 1024) :
    (show FVec Ideal S1x1024 .f32 from iblk m c 2 t) (ix2 0 n) = (show FVec Ideal S1x6144 .f32 from V m c main_v1) (ix2 0 ⟨t.val * 1024 + n.val, by have := lt6 t; omega⟩) := by
  blk_simp [iblk]
  refine congrArg _ ?_
  blk_ext [idx t]

theorem ldC (c : Dev nD) (t : Fin cfg0.N) (r : Fin 40) (d : Fin 1024) :
    (View.ld (Val := Elt Ideal) (S := S40x1024) (e' := .f32) (iblk m c 0 t) r0_0 : FVec Ideal S40x1024 .f32) (ix2 r d) = aC m c (ix2 r d) := by
  refine Eq.trans ?_ ((blk0 m c t r d).trans (entry0 m c r d))
  refine View.ld_unit_apply_of _ _ _ _ _ _ ?_
  intro a; fin_cases a <;> simp

theorem ldW (c : Dev nD) (t : Fin cfg0.N) (d n : Fin 1024) :
    (View.ld (Val := Elt Ideal) (S := S1024x1024) (e' := .bf16) (iblk m c 1 t) r0_1 : FVec Ideal S1024x1024 .bf16) (ix2 d n) = aW m c (ix2 d (col t n)) := by
  refine Eq.trans ?_ ((blk1 m c t d n).trans (entry1 m c d (col t n)))
  refine View.ld_unit_apply_of _ _ _ _ _ _ ?_
  intro a; fin_cases a <;> simp

theorem ldB (c : Dev nD) (t : Fin cfg0.N) (n : Fin 1024) :
    (View.ld (Val := Elt Ideal) (S := S1x1024) (e' := .f32) (iblk m c 2 t) r0_2 : FVec Ideal S1x1024 .f32) (ix2 0 n) = aB m c (ix1 (col t n)) := by
  refine Eq.trans ?_ ((blk2 m c t n).trans (entry2 m c (col t n)))
  refine View.ld_unit_apply_of _ _ _ _ _ _ ?_
  intro a; fin_cases a <;> simp

theorem point3 (c : Dev nD) (t : Fin cfg0.N) (r : Fin 40) (n : Fin 1024) :
    out0_3 (F := Ideal) (iblk m c 0 t) (iblk m c 1 t) (iblk m c 2 t) (ix2 r n) = modvec (aC m c) (aW m c) (aB m c) r (col t n) := by
  unfold out0_3
  refine (congrFun (View.canon_unit_zero (by funext a; fin_cases a <;> rfl) _ _) _).trans ?_
  refine (modvec_pay _ _ _ r n).trans ?_
  unfold modvec
  refine congrArg₂ (· + ·) (Finset.sum_congr rfl fun d _ => ?_) (ldB m c t n)
  exact congrArg₂ (· * ·) (congrArg (fun z => z * Ideal.logistic z) (ldC m c t r d)) (ldW m c t d n)

theorem modvec_at (f : Fin 40 → Fin 6144 → EReal) (t : Fin cfg0.N) (r : Fin 40) (n : Fin 1024) (R : Fin 40) (N : Fin 6144)
    (h : R.val = r.val) (hn : N.val = t.val * 1024 + n.val) : f r (col t n) = f R N := by
  obtain rfl : R = r := Fin.ext h
  exact congrArg _ (Fin.ext hn.symm)

theorem final3 (c : Dev nD) : (dats m 0 c).arrAt 3 cfg0.N = fun i => modvec (aC m c) (aW m c) (aB m c) (i 0) (i 1) := by
  refine (dats m 0 c).arrAt_eq_of_covers 3 _ (by decide +kernel) fun t _ y => ?_
  blk_simp
  rw [after0_3]
  obtain ⟨r, n, rfl⟩ : ∃ (r : Fin 40) (n : Fin 1024), y = ix2 r n := ⟨y 0, y 1, by funext a; fin_cases a <;> first | rfl | exact Fin.ext (by simp)⟩
  refine (point3 m c t r n).trans (modvec_at _ t _ _ _ _ ?_ ?_)
  all_goals (blk_simp [idx t]; try omega)

end Cert.ModIdeal.Value

end
-- ==== Proof.ModulationAlgebra.lean ====
module

public import proofs.«01_k».proof.Defs
public import proofs.«01_k».proof.Proof.Modulation
public import proofs.«01_k».proof.Proof.Gen.ModIdeal.Value
public import proofs.«01_k».proof.Proof.Gen.ModRefIdeal.Run

@[expose] public section

set_option maxRecDepth 16384

noncomputable section

open Idealize.ShloMosaic Idealize.ShloMosaic.TcCoe Idealize.SL.Sem

namespace Cert.Proof

theorem modulation_vectors (m : (ℓ : Loc Cert.ModIdeal.nD Cert.ModIdeal.τ Cert.ModIdeal.sig) → Buf (Elt Ideal) ℓ) (c : Dev Cert.ModIdeal.nD)
    (y0 : FVec Ideal Cert.ModIdeal.S40x1024 .f32) (y1 : FVec Ideal Cert.ModIdeal.S1024x6144 .f32) (y2 : FVec Ideal Cert.ModIdeal.S6144 .f32)
    (h0 : y0 = m ((c.tc : Thread _ _).loc Cert.ModIdeal.main_arg0)) (h1 : y1 = m ((c.tc : Thread _ _).loc Cert.ModIdeal.main_arg1))
    (h2 : y2 = m ((c.tc : Thread _ _).loc Cert.ModIdeal.main_arg2)) :
    Cert.ModRefIdeal.Read.val_main_v4 (F := Ideal) y0 y1 y2 = (Cert.ModIdeal.Gen.dats m 0 c).arrAt 3 Cert.ModIdeal.cfg0.N := by
  subst h0 h1 h2
  rw [Cert.ModIdeal.Value.final3]
  funext i
  obtain ⟨r, n, rfl⟩ : ∃ (r : Fin 40) (n : Fin 6144), i = ix2 r n := ⟨i 0, i 1, by funext a; fin_cases a <;> first | rfl | exact Fin.ext (by simp)⟩
  exact Cert.ModRefIdeal.Value.modvec_ref _ _ _ r n

set_option maxHeartbeats 2000000 in
/-- The modulation vectors are the reference's. -/
theorem modulation : Cert.algebraic_ModIdeal_ModRefIdeal (hModIdeal := Cert.ModIdeal.Gen.facts) (hModRefIdeal := Cert.ModRefIdeal.Gen.facts) := by
  intro m g m' g' hpre hagree
  refine ⟨fun c => (Cert.ModIdeal.Gen.dats m 0 c).arrAt 3 Cert.ModIdeal.cfg0.N, Cert.ModIdeal.Value.run_blocks m g, ?_⟩
  refine (θ_run _ _ _).mono (fun r h c => ?_) (Cert.ModRefIdeal.Value.run m' g')
  obtain ⟨h0, hrest⟩ := h c
  obtain ⟨a0, a1, a2⟩ := hagree c
  exact ⟨h0.trans ((Cert.ModRefIdeal.Read.val_main_v4_eq _ _ _).trans (modulation_vectors m c _ _ _ a0 a1 a2)), hrest⟩

/-- The reference runs to its end, keeps its arguments and has no semaphore. -/
theorem modulation_reference_frame : Cert.quiescent_ModRefIdeal (hModRefIdeal := Cert.ModRefIdeal.Gen.facts) := by
  intro m g _
  exact (θ_run _ _ _).mono (fun r h => ⟨fun c => (h c).2, Idealize.ShloMosaic.sem_eq_zero_of_no_sems (by decide) r.2⟩)
    (Cert.ModRefIdeal.Value.run m g)

end Cert.Proof

end
-- ==== Proof.PlanMath.lean ====
module

public import Idealize.ShloMosaic.Lib.Routing.Ops
public import Idealize.ShloMosaic.Lib.Routing.BitFacts
public import Idealize.ShloMosaic.Lib.Pointwise
public import Idealize.ShloMosaic.Lib.Claim

@[expose] public section

noncomputable section

open Idealize.ShloMosaic

namespace Cert.Route

/-- One where word `e` names expert `l`, else zero. -/
def hit (e : BitVec 32) (l : Fin 128) : ℕ := if BitVec.ofNat 32 l.val = e then 1 else 0

theorem hit_le (e : BitVec 32) (l : Fin 128) : hit e l ≤ 1 := by unfold hit; split <;> omega

/-- How many of token `n`'s two experts are `l`. -/
def chosen (ids : IVec ⟨2, ![32768, 128]⟩ 32) (n : ℕ) (l : Fin 128) : ℕ :=
  if h : n < 32768 then hit (ids (ix2 (⟨n, h⟩ : Fin 32768) (0 : Fin 128))) l + hit (ids (ix2 (⟨n, h⟩ : Fin 32768) (1 : Fin 128))) l else 0

theorem chosen_le (ids : IVec ⟨2, ![32768, 128]⟩ 32) (n : ℕ) (l : Fin 128) : chosen ids n l ≤ 2 := by
  unfold chosen
  split
  · exact Nat.add_le_add (hit_le _ l) (hit_le _ l)
  · omega

/-- How many choices of the tokens before `n` are `l`. -/
def before (ids : IVec ⟨2, ![32768, 128]⟩ 32) (n : ℕ) (l : Fin 128) : ℕ := ∑ s ∈ Finset.range n, chosen ids s l

theorem before_le (ids : IVec ⟨2, ![32768, 128]⟩ 32) (n : ℕ) (l : Fin 128) : before ids n l ≤ n * 2 :=
  (Finset.sum_le_card_nsmul _ _ 2 fun s _ => chosen_le ids s l).trans (by simp)

theorem before_succ (ids : IVec ⟨2, ![32768, 128]⟩ 32) (n : ℕ) (l : Fin 128) : before ids (n + 1) l = before ids n l + chosen ids n l :=
  Finset.sum_range_succ _ _

/-- The choices before row `r` of a block that starts at token `b`. -/
theorem before_block (ids : IVec ⟨2, ![32768, 128]⟩ 32) (b : ℕ) (r : Fin 256) (l : Fin 128) :
    (∑ j : Fin 256, if j.val < r.val then chosen ids (b + j.val) l else 0) + before ids b l = before ids (b + r.val) l := by
  rw [Fin.sum_univ_eq_sum_range (fun j => if j < r.val then chosen ids (b + j) l else 0) 256, ← Finset.sum_filter]
  have e : (Finset.range 256).filter (fun j => j < r.val) = Finset.range r.val := by
    ext j; have := r.isLt; simp only [Finset.mem_filter, Finset.mem_range]; omega
  rw [e, add_comm]
  unfold before
  rw [Finset.sum_range_add]

theorem before_whole (ids : IVec ⟨2, ![32768, 128]⟩ 32) (b : ℕ) (l : Fin 128) :
    before ids b l + (∑ j : Fin 256, chosen ids (b + j.val) l) = before ids (b + 256) l := by
  rw [Fin.sum_univ_eq_sum_range (fun j => chosen ids (b + j) l) 256]
  unfold before
  rw [Finset.sum_range_add]

/-- The rank of token `n` with its expert `e`: the choices of that expert before it. -/
def rank (ids : IVec ⟨2, ![32768, 128]⟩ 32) (n : ℕ) (e : BitVec 32) : ℕ := ∑ l : Fin 128, if BitVec.ofNat 32 l.val = e then before ids n l else 0

theorem rank_lt (ids : IVec ⟨2, ![32768, 128]⟩ 32) (n : ℕ) (hn : n < 32768) (e : BitVec 32) : rank ids n e < 2 ^ 31 := by
  have h : rank ids n e ≤ ∑ _l : Fin 128, 65536 := Finset.sum_le_sum fun l _ => by
    split
    · exact (before_le ids n l).trans (by omega)
    · omega
  refine h.trans_lt ?_
  simp

/-- What the plan writes for token `n`: the two ranks in the first two lanes, then zeros. -/
def rankWord (ids : IVec ⟨2, ![32768, 128]⟩ 32) (n : Fin 32768) (l : Fin 128) : BitVec 32 :=
  if l.val = 0 then BitVec.ofNat 32 (rank ids n.val (ids (ix2 n (0 : Fin 128))))
  else if l.val = 1 then BitVec.ofNat 32 (rank ids n.val (ids (ix2 n (1 : Fin 128)))) else 0#32

/-- A natural below `2 ^ 31` becomes the word that holds it. -/
theorem fptosi_nat (n : ℕ) (hn : n < 2 ^ 31) : Ideal.fptosi 32 ((n : ℕ) : EReal) = BitVec.ofNat 32 n := by
  have e : ((n : ℕ) : EReal) = (((n : ℕ) : ℝ) : EReal) := rfl
  rw [e, Ideal.fptosi, Ideal.toIntClamped_coe, if_pos (Nat.cast_nonneg n), Int.floor_natCast]
  have h : max (-((2 ^ (32 - 1) : ℕ) : Int)) (min (((2 ^ (32 - 1) : ℕ) : Int) - 1) (n : Int)) = (n : Int) := by
    norm_num at hn ⊢; omega
  rw [h]
  exact BitVec.ofInt_natCast 32 n

/-- A word that holds a natural below `2 ^ 31` reads as that natural. -/
theorem sitofp_nat (n : ℕ) (hn : n < 2 ^ 31) : (((BitVec.ofNat 32 n).toInt : ℝ) : EReal) = ((n : ℕ) : EReal) := by
  have h : (BitVec.ofNat 32 n).toInt = (n : Int) := by
    rw [BitVec.toInt_eq_toNat_of_lt (by rw [BitVec.toNat_ofNat]; omega), BitVec.toNat_ofNat, Nat.mod_eq_of_lt (by omega)]
  rw [h]
  rfl

/-- A choice between two values by equality of two words. -/
theorem select_eq {α : Type} (a b : BitVec 32) (x y : α) : Scalar.select (IntOp.cmpi .eq a b) x y = if a = b then x else y := by
  unfold Scalar.select IntOp.cmpi
  by_cases h : a = b
  · simp [h]
  · simp [h, beq_eq_false_iff_ne.2 h]

/-- A choice between two values by the order of two numbers of rows. -/
theorem select_sgt {α : Type} (a b : Fin 256) (x y : α) :
    Scalar.select (IntOp.cmpi .sgt (BitVec.ofNat 32 a.val) (BitVec.ofNat 32 b.val)) x y = if b.val < a.val then x else y := by
  have ha := a.isLt
  have hb := b.isLt
  have h : (BitVec.ofNat 32 b.val).slt (BitVec.ofNat 32 a.val) = decide (b.val < a.val) := Routing.slt_ofNat32 (by omega) (by omega)
  unfold Scalar.select IntOp.cmpi
  by_cases hh : b.val < a.val <;> simp [h, hh]

end Cert.Route

end
-- ==== Proof.PlanPoints.lean ====
module

public import proofs.«01_k».proof.Proof.Gen.PlanIdeal.Frame
public import proofs.«01_k».proof.Proof.Gen.PlanIdeal.Value
public import proofs.«01_k».proof.Proof.PlanMath
public import Idealize.ShloMosaic.Lib.Pipeline.ValueKit
public import Idealize.ShloMosaic.Lib.Pipeline.RowLoads
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PlanIdeal.Value

open Cert.PlanIdeal Cert.PlanIdeal.Gen Cert.Route

variable (m : (ℓ : Loc nD τ sig) → Buf (Elt Ideal) ℓ)

/-! ## One point's arithmetic: `v3` its block of choices, `b` the number of its first token, `v` the counts before it. -/

/-- Block `v3` holds the choices of the 256 tokens from `b` on. -/
def Holds (ids : IVec S32768x128 32) (b : ℕ) (v3 : Vec Ideal S256x128 .i32) : Prop :=
  b + 256 ≤ 32768 ∧ ∀ (r : Fin 256) (l : Fin 128) (n : Fin 32768), n.val = b + r.val → v3 (ix2 r l) = ids (ix2 n l)

/-- Row `v` holds how many tokens before `b` chose each expert. -/
def Counted (ids : IVec S32768x128 32) (b : ℕ) (v : Vec Ideal S1x128 .f32) : Prop :=
  ∀ l : Fin 128, v (ix2 0 l) = ((before ids b l : ℕ) : EReal)

variable {ids : IVec S32768x128 32} {b : ℕ} {v3 : Vec Ideal S256x128 .i32} {v : Vec Ideal S1x128 .f32}

theorem chosen_pay (h : Holds ids b v3) (r : Fin 256) (l : Fin 128) :
    k0_pay7 (F := Ideal) v3 (ix2 r l) = ((chosen ids (b + r.val) l : ℕ) : EReal) := by
  pointwise [k0_pay7, k0_pay5, k0_pay6]
  have hb := h.1
  have hr := r.isLt
  have e0 := h.2 r 0 ⟨b + r.val, by omega⟩ rfl
  have e1 := h.2 r 1 ⟨b + r.val, by omega⟩ rfl
  unfold chosen hit
  rw [dif_pos (by omega), select_eq, select_eq, e0, e1, Nat.cast_add]
  refine congrArg₂ (· + ·) ?_ ?_ <;> split <;> simp

theorem before_pay (h : Holds ids b v3) (hv : Counted ids b v) (r : Fin 256) (l : Fin 128) :
    k0_pay8 (F := Ideal) v3 v (ix2 r l) = ((before ids (b + r.val) l : ℕ) : EReal) := by
  pointwise [k0_pay8]
  rw [hv l, ← before_block, Nat.cast_add, Nat.cast_sum]
  refine congrArg (· + _) (Finset.sum_congr rfl fun j _ => ?_)
  rw [select_sgt, chosen_pay h]
  split <;> simp

theorem rank0_pay (h : Holds ids b v3) (hv : Counted ids b v) (r : Fin 256) (n : Fin 32768) (hn : n.val = b + r.val) :
    k0_pay9 (F := Ideal) v3 v (ix2 r 0) = ((rank ids n.val (ids (ix2 n 0)) : ℕ) : EReal) := by
  pointwise [k0_pay9, k0_pay5]
  unfold rank
  rw [Nat.cast_sum]
  refine Finset.sum_congr rfl fun l _ => ?_
  rw [select_eq, before_pay h hv, h.2 r 0 n hn, hn]
  split <;> simp

theorem rank1_pay (h : Holds ids b v3) (hv : Counted ids b v) (r : Fin 256) (n : Fin 32768) (hn : n.val = b + r.val) :
    k0_pay10 (F := Ideal) v3 v (ix2 r 0) = ((rank ids n.val (ids (ix2 n 1)) : ℕ) : EReal) := by
  pointwise [k0_pay10, k0_pay6]
  unfold rank
  rw [Nat.cast_sum]
  refine Finset.sum_congr rfl fun l _ => ?_
  rw [select_eq, before_pay h hv, h.2 r 1 n hn, hn]
  split <;> simp

theorem ranks_pay (h : Holds ids b v3) (hv : Counted ids b v) (r : Fin 256) (l : Fin 128) (n : Fin 32768) (hn : n.val = b + r.val) :
    k0_pay1 (F := Ideal) (iota .tc S256x128 32 [1] iota_S256x128_d1_w32) (k0_pay9 v3 v) (k0_pay10 v3 v) k0_pay11 (ix2 r l)
      = rankWord ids n l := by
  pointwise [k0_pay1, k0_pay11]
  rw [select_eq, select_eq, rank0_pay h hv r n hn, rank1_pay h hv r n hn]
  have e0 : BitVec.ofNat 32 l.val = 0#32 ↔ l.val = 0 := by
    have := l.isLt
    rw [← BitVec.toNat_inj, BitVec.toNat_ofNat, BitVec.toNat_ofNat]; omega
  have e1 : BitVec.ofNat 32 l.val = 1#32 ↔ l.val = 1 := by
    have := l.isLt
    rw [← BitVec.toNat_inj, BitVec.toNat_ofNat, BitVec.toNat_ofNat]; omega
  simp only [e0, e1]
  unfold rankWord
  split
  · exact fptosi_nat _ (rank_lt _ _ n.isLt _)
  split
  · exact fptosi_nat _ (rank_lt _ _ n.isLt _)
  · exact (congrArg (Ideal.fptosi 32) Nat.cast_zero.symm).trans (fptosi_nat 0 (by decide))

theorem counts_pay (h : Holds ids b v3) (hv : Counted ids b v) : Counted ids (b + 256) (k0_pay2 (F := Ideal) (k0_pay7 v3) v) := by
  intro l
  pointwise [k0_pay2]
  rw [hv l, ← before_whole, Nat.cast_add, Nat.cast_sum]
  exact congrArg (_ + ·) (Finset.sum_congr rfl fun j _ => chosen_pay h j l)

theorem scratch_pay (h : Holds ids b v3) (hv : Counted ids b v) (r : Fin 8) (l : Fin 128) :
    k0_pay3 (F := Ideal) (k0_pay7 v3) v (ix2 r l) = ((before ids (b + 256) l : ℕ) : EReal) := by
  pointwise [k0_pay3]
  exact counts_pay h hv l

/-! ## The points in order -/

/-- One row of a vector stored whole reads as a row of the vector. -/
theorem readCov_row {v : View sig .tc .vmem S8x128 .f32}
    (inb : ∀ a, (![0, 0] : Fin 2 → ℕ) a + (![8, 128] : Fin 2 → ℕ) a ≤ S8x128.size a)
    (inb' : ∀ a, (![0, 0] : Fin 2 → ℕ) a + (![1, 128] : Fin 2 → ℕ) a ≤ S8x128.size a) (x : FVec Ideal S8x128 .f32) :
    v.readCov [(⟨Rect.unit (s := S8x128) ![0, 0] ![8, 128] inb, x⟩ : View.Piece (Elt Ideal) S8x128 .f32)]
      (Rect.unit (s := S8x128) ![0, 0] ![1, 128] inb').toLoadRect
    = View.ld x (Rect.unit (s := S8x128) ![0, 0] ![1, 128] inb') := by
  rw [View.readCov_eq_canon']
  have h := View.canon_cons_unit_zero (S := S8x128) (Val := Elt Ideal) (e := .f32) (off := ![0, 0]) (by funext a; fin_cases a <;> rfl) inb x []
  funext j
  exact congrFun h _

theorem row_ld (x : FVec Ideal S8x128 .f32) (inb : ∀ a, (![0, 0] : Fin 2 → ℕ) a + (![1, 128] : Fin 2 → ℕ) a ≤ S8x128.size a) (l : Fin 128) :
    (View.ld (Val := Elt Ideal) (e' := .f32) x (Rect.unit (s := S8x128) ![0, 0] ![1, 128] inb) : FVec Ideal S1x128 .f32) (ix2 0 l) = x (ix2 0 l) := by
  refine View.ld_unit_apply_of _ _ _ _ _ _ ?_
  intro a; fin_cases a <;> simp

theorem idx : ∀ t : Fin cfg0.N, win0_0.index t = ![t.val, 0] ∧ win0_1.index t = ![t.val, 0] ∧ win0_2.index t = ![0, 0] :=
  (by decide +kernel : ∀ t : Fin grid0.N, _)

theorem lt128 (t : Fin cfg0.N) : t.val < 128 := lt_of_lt_of_eq t.isLt (by decide)

def aIds (c : Dev nD) : IVec S32768x128 32 := m ((c : Thread nD τ).loc main_arg0)

theorem block_holds (c : Dev nD) (t : Fin cfg0.N) : Holds (aIds m c) (t.val * 256) (iblk m c 0 t) := by
  refine ⟨by have := lt128 t; omega, fun r l n hn => ?_⟩
  have e : (show IVec S32768x128 32 from V m c main_arg0) (ix2 n l) = aIds m c (ix2 n l) := by
    rw [V_main_arg0]
    rfl
  refine Eq.trans ?_ e
  have ht := lt128 t
  have hn' : n = ⟨t.val * 256 + r.val, by omega⟩ := Fin.ext hn
  rw [hn']
  blk_simp [iblk]
  refine congrArg _ ?_
  blk_ext [idx t]

/-- What a point leaves: the ranks of its tokens, the counts up to its last token, and the same counts in each row of the carried array. -/
def Left (ids : IVec S32768x128 32) (b : ℕ) (o : Vec Ideal S256x128 .i32 × Vec Ideal S1x128 .f32 × Vec Ideal S8x128 .f32) : Prop :=
  (∀ (r : Fin 256) (l : Fin 128) (n : Fin 32768), n.val = b + r.val → o.1 (ix2 r l) = rankWord ids n l)
    ∧ (∀ l : Fin 128, o.2.1 (ix2 0 l) = ((before ids (b + 256) l : ℕ) : EReal))
    ∧ ∀ (r : Fin 8) (l : Fin 128), o.2.2 (ix2 r l) = ((before ids (b + 256) l : ℕ) : EReal)

theorem left_A (c : Dev nD) (t : Fin cfg0.N) (h0 : t.val % 128 = 0) : Left (aIds m c) (t.val * 256) (outsAt0 m c t.val t.isLt) := by
  have hb := block_holds m c t
  have h00 : t.val = 0 := by have := lt128 t; omega
  have hv : Counted (aIds m c) (t.val * 256) (View.ld (Val := Elt Ideal) (e' := .f32) (k0_pay4 (F := Ideal)) (Rect.unit (s := S8x128) ![0, 0] ![1, 128] inb_S8x128_S1x128_0_0)) := by
    intro l
    refine (row_ld _ _ l).trans ?_
    rw [h00]
    pointwise [k0_pay4]
    simp [before]
  rw [outsAt0_A m c t h0]
  refine ⟨fun r l n hn => ?_, fun l => ?_, fun r l => ?_⟩
  · dsimp only
    unfold out0_A_1; frame_out
    rw [readCov_row]
    exact ranks_pay hb hv r l n hn
  · dsimp only
    unfold out0_A_2; frame_out
    rw [readCov_row]
    exact counts_pay hb hv l
  · dsimp only
    unfold sout0_A_0; frame_out
    rw [readCov_row]
    exact scratch_pay hb hv r l

theorem left_B (c : Dev nD) (t : Fin cfg0.N) (h0 : ¬t.val % 128 = 0)
    (ih : ∀ (r : Fin 8) (l : Fin 128), (outsAt0 m c (t.val - 1) (Nat.lt_of_le_of_lt (Nat.sub_le _ _) t.isLt)).2.2 (ix2 r l)
      = ((before (aIds m c) (t.val * 256) l : ℕ) : EReal)) : Left (aIds m c) (t.val * 256) (outsAt0 m c t.val t.isLt) := by
  have hb := block_holds m c t
  have hv : Counted (aIds m c) (t.val * 256) (View.ld (Val := Elt Ideal) (e' := .f32)
      (outsAt0 m c (t.val - 1) (Nat.lt_of_le_of_lt (Nat.sub_le _ _) t.isLt)).2.2 (Rect.unit (s := S8x128) ![0, 0] ![1, 128] inb_S8x128_S1x128_0_0)) := by
    intro l
    exact (row_ld _ _ l).trans (ih 0 l)
  rw [outsAt0_B m c t h0]
  refine ⟨fun r l n hn => ?_, fun l => ?_, fun r l => ?_⟩
  · dsimp only
    unfold out0_B_1; frame_out
    simp only [read_unread_whole]
    exact ranks_pay hb hv r l n hn
  · dsimp only
    unfold out0_B_2; frame_out
    simp only [read_unread_whole]
    exact counts_pay hb hv l
  · dsimp only
    unfold sout0_B_0; frame_out
    simp only [read_unread_whole]
    exact scratch_pay hb hv r l

theorem left (c : Dev nD) : ∀ (n : ℕ) (hn : n < cfg0.N), Left (aIds m c) (n * 256) (outsAt0 m c n hn)
  | 0, hn => left_A m c ⟨0, hn⟩ rfl
  | n + 1, hn => by
    have hlt := lt128 ⟨n + 1, hn⟩
    refine left_B m c ⟨n + 1, hn⟩ (by dsimp only at hlt ⊢; omega) fun r l => ?_
    have h := (left c n (by omega)).2.2 r l
    rw [show (n + 1) * 256 = n * 256 + 256 by omega]
    exact h

/-! ## The two results -/

theorem final_ranks (c : Dev nD) : (dats m 0 c).arrAt 1 cfg0.N = fun i => rankWord (aIds m c) (i 0) (i 1) := by
  refine (dats m 0 c).arrAt_eq_of_covers 1 _ (by decide +kernel) fun t _ y => ?_
  blk_simp
  rw [after0_1]
  obtain ⟨r, l, rfl⟩ : ∃ (r : Fin 256) (l : Fin 128), y = ix2 r l := ⟨y 0, y 1, by funext a; fin_cases a <;> first | rfl | exact Fin.ext (by simp)⟩
  have hlt := lt128 t
  refine ((left m c t.val t.isLt).1 r l ⟨t.val * 256 + r.val, by omega⟩ rfl).trans ?_
  refine congrArg₂ (rankWord (aIds m c)) (Fin.ext ?_) (Fin.ext ?_)
  all_goals (blk_simp [idx t]; try omega)

theorem final_counts (c : Dev nD) : (dats m 0 c).arrAt 2 cfg0.N = fun i => ((before (aIds m c) 32768 (i 1) : ℕ) : EReal) := by
  refine (dats m 0 c).arrAt_eq_of_covers 2 _ (by decide +kernel) fun t hf y => ?_
  have ht : t.val % 128 = 127 := (flush0_2 t).mp hf
  have hlt := lt128 t
  blk_simp
  rw [after0_2]
  obtain ⟨r, l, rfl⟩ : ∃ (r : Fin 1) (l : Fin 128), y = ix2 r l := ⟨y 0, y 1, by funext a; fin_cases a <;> first | rfl | exact Fin.ext (by simp)⟩
  obtain rfl : r = 0 := Subsingleton.elim _ _
  refine ((left m c t.val t.isLt).2.1 l).trans ?_
  rw [show t.val * 256 + 256 = 32768 by omega]
  refine congrArg (fun k => ((before (aIds m c) 32768 k : ℕ) : EReal)) (Fin.ext ?_)
  blk_simp [idx t]

end Cert.PlanIdeal.Value
end
-- ==== Proof.PlanRefMath.lean ====
module

public import proofs.«01_k».proof.Proof.Gen.PlanRefIdeal.Read
public import proofs.«01_k».proof.Proof.PlanMath
public import Idealize.ShloMosaic.Lib.Pointwise

@[expose] public section

set_option maxRecDepth 16384

noncomputable section

open Idealize.ShloMosaic Idealize.ShloMosaic.TcCoe Idealize.SL.Sem Idealize.ShloMosaic.Routing

namespace Cert.Route

theorem numelc (N : ℕ) : (⟨2, ![N, 1]⟩ : Shape).numel = N := by
  show ∏ a : Fin 2, (![N, 1] : Fin 2 → ℕ) a = N
  rw [Fin.prod_univ_two]
  exact Nat.mul_one N

theorem symmc {N : ℕ} (n : Fin (⟨2, ![N, 1]⟩ : Shape).numel) :
    (⟨2, ![N, 1]⟩ : Shape).rowMajor.symm n = ix2 (n.cast (numelc N)) (0 : Fin 1) :=
  ((⟨2, ![N, 1]⟩ : Shape).rowMajor.symm_apply_eq).2 (Fin.ext (by
    rw [Shape.rowMajor_val_two]
    show n.val = n.val * 1 + 0
    omega))

/-- jnp's `cumsum` down the columns of a matrix of words that hold naturals. -/
theorem cumsum_cols {N M Nm1 : ℕ} (hN : Nm1 + 1 = N) (x : IVec ⟨2, ![N, M]⟩ 32) (f : ℕ → ℕ) (k : Fin M)
    (hx : ∀ i : Fin N, x (ix2 i k) = BitVec.ofNat 32 (f i.val)) (init : IVec ⟨0, ![]⟩ 32) (hinit : ∀ i, init i = 0#32)
    (h : (⟨2, ![N, M]⟩ : Shape).ReduceWindows (![N, 1] : Fin 2 → ℕ) ![1, 1] ![Nm1, 0] ![0, 0] ⟨2, ![N, M]⟩)
    (hu : 0 < (⟨0, ![]⟩ : Shape).numel) (j : Fin N) :
    Host.reduceWindow IntOp.addi ![N, 1] ![1, 1] ![Nm1, 0] ![0, 0] x init h hu (ix2 j k)
      = BitVec.ofNat 32 (∑ s ∈ Finset.range (j.val + 1), f s) := by
  subst hN
  have hv : init (Shape.Idx.first hu) = BitVec.ofNat 32 0 := hinit _
  have hj := j.isLt
  have hk := k.isLt
  unfold Host.reduceWindow
  refine (foldl_addi_ofNat _ _ (fun n => if Nm1 ≤ j.val + n.val then f (j.val + n.val - Nm1) else 0) (fun n _ => ?_) _ 0 hv).trans ?_
  · have hw0 : ((⟨2, ![Nm1 + 1, 1]⟩ : Shape).rowMajor.symm n 1).val = 0 := by rw [symmc]; rfl
    have hw : ((⟨2, ![Nm1 + 1, 1]⟩ : Shape).rowMajor.symm n 0).val = n.val := by rw [symmc]; rfl
    have hn : n.val < Nm1 + 1 := (n.cast (numelc _)).isLt
    dsimp only
    split
    · next hin =>
      have h1 := hin 0
      change Nm1 ≤ j.val * 1 + ((⟨2, ![Nm1 + 1, 1]⟩ : Shape).rowMajor.symm n 0).val
        ∧ j.val * 1 + ((⟨2, ![Nm1 + 1, 1]⟩ : Shape).rowMajor.symm n 0).val - Nm1 < Nm1 + 1 at h1
      rw [hw] at h1
      rw [if_pos (by omega)]
      refine (congrArg x (funext fun a => Fin.ext ?_)).trans (hx ⟨j.val + n.val - Nm1, by omega⟩)
      match a with
      | ⟨1, _⟩ =>
        show k.val * 1 + ((⟨2, ![Nm1 + 1, 1]⟩ : Shape).rowMajor.symm n 1).val - 0 = k.val
        rw [hw0]; omega
      | ⟨0, _⟩ =>
        show j.val * 1 + ((⟨2, ![Nm1 + 1, 1]⟩ : Shape).rowMajor.symm n 0).val - Nm1 = j.val + n.val - Nm1
        rw [hw, Nat.mul_one]
    · next hin =>
      rw [if_neg fun hle => hin fun a => by
        match a with
        | ⟨1, _⟩ =>
          show 0 ≤ k.val * 1 + ((⟨2, ![Nm1 + 1, 1]⟩ : Shape).rowMajor.symm n 1).val ∧ k.val * 1 + ((⟨2, ![Nm1 + 1, 1]⟩ : Shape).rowMajor.symm n 1).val - 0 < M
          rw [hw0]
          omega
        | ⟨0, _⟩ =>
          show Nm1 ≤ j.val * 1 + ((⟨2, ![Nm1 + 1, 1]⟩ : Shape).rowMajor.symm n 0).val
            ∧ j.val * 1 + ((⟨2, ![Nm1 + 1, 1]⟩ : Shape).rowMajor.symm n 0).val - Nm1 < Nm1 + 1
          rw [hw]
          omega]
      exact hv
  · rw [Nat.zero_add, map_finRange_val _ (fun w => if Nm1 ≤ j.val + w then f (j.val + w - Nm1) else 0)]
    refine congrArg (BitVec.ofNat 32) ((congrArg (fun M => ((List.range M).map fun w => if Nm1 ≤ j.val + w then f (j.val + w - Nm1) else 0).sum)
      (numelc (Nm1 + 1))).trans ((sum_window f Nm1 j.val (by omega)).trans ?_))
    rfl

end Cert.Route

namespace Cert.PlanRefIdeal.Value

open Cert.PlanRefIdeal Cert.PlanRefIdeal.Gen Cert.PlanRefIdeal.Read Cert.Route

variable (x0 : IVec S32768x128 32)

theorem first_ref (n : Fin 32768) (l : Fin 128) :
    val_main_v6 (F := Ideal) x0 (ix2 n l) = BitVec.ofNat 32 (hit (x0 (ix2 n 0)) l) := by
  pointwise [val_main_v0, val_main_v1, val_main_v2, val_main_v3, val_main_v4, val_main_v5, val_main_v6]
  unfold hit IntOp.cmpi
  by_cases h : x0 (ix2 n 0) = BitVec.ofNat 32 l.val
  · simp [h]
  · rw [if_neg fun e => h e.symm]
    simp [beq_eq_false_iff_ne.2 h]

theorem second_ref (n : Fin 32768) (l : Fin 128) :
    val_main_v13 (F := Ideal) x0 (ix2 n l) = BitVec.ofNat 32 (hit (x0 (ix2 n 1)) l) := by
  pointwise [val_main_v7, val_main_v8, val_main_v9, val_main_v10, val_main_v11, val_main_v12, val_main_v13]
  unfold hit IntOp.cmpi
  by_cases h : x0 (ix2 n 1) = BitVec.ofNat 32 l.val
  · simp [h]
  · rw [if_neg fun e => h e.symm]
    simp [beq_eq_false_iff_ne.2 h]

theorem chosen_ref (n : Fin 32768) (l : Fin 128) :
    val_main_v14 (F := Ideal) x0 (ix2 n l) = BitVec.ofNat 32 (chosen x0 n.val l) := by
  refine (congrArg₂ IntOp.addi (first_ref x0 n l) (second_ref x0 n l)).trans ?_
  unfold chosen
  rw [dif_pos n.isLt]
  exact (BitVec.ofNat_add _ _).symm

theorem upto_ref (n : Fin 32768) (l : Fin 128) :
    val_main_v15 (F := Ideal) x0 (ix2 n l) = BitVec.ofNat 32 (before x0 (n.val + 1) l) :=
  cumsum_cols (N := 32768) (M := 128) (Nm1 := 32767) rfl _ (fun s => chosen x0 s l) l (fun i => chosen_ref x0 i l) _ (fun _ => rfl) _ _ n

theorem before_ref (n : Fin 32768) (l : Fin 128) :
    val_main_v16 (F := Ideal) x0 (ix2 n l) = BitVec.ofNat 32 (before x0 n.val l) := by
  refine (congrArg₂ IntOp.subi (upto_ref x0 n l) (chosen_ref x0 n l)).trans ?_
  rw [before_succ, BitVec.ofNat_add]
  exact BitVec.add_sub_cancel _ _

theorem mul_hit (e : BitVec 32) (l : Fin 128) (a : ℕ) :
    IntOp.muli (BitVec.ofNat 32 (hit e l)) (BitVec.ofNat 32 a) = BitVec.ofNat 32 (if BitVec.ofNat 32 l.val = e then a else 0) := by
  unfold hit IntOp.muli
  split <;> simp

theorem fold_nat (s : Finset (Fin 128)) (g : Fin 128 → BitVec 32) (f : Fin 128 → ℕ) (h : ∀ l, g l = BitVec.ofNat 32 (f l)) :
    Finset.fold IntOp.addi (0#32) g s = BitVec.ofNat 32 (∑ l ∈ s, f l) := by
  induction s using Finset.induction_on with
  | empty => rfl
  | insert a s ha ih =>
    rw [Finset.fold_insert ha, Finset.sum_insert ha, ih, h a, BitVec.ofNat_add]
    rfl

theorem rank0_ref (n : Fin 32768) :
    val_main_v18 (F := Ideal) x0 (ix1 n) = BitVec.ofNat 32 (rank x0 n.val (x0 (ix2 n 0))) := by
  pointwise [val_main_v18, val_main_c]
  refine fold_nat _ _ _ fun l => ?_
  exact (congrArg₂ IntOp.muli (first_ref x0 n l) (before_ref x0 n l)).trans (mul_hit _ l _)

theorem rank1_ref (n : Fin 32768) :
    val_main_v20 (F := Ideal) x0 (ix1 n) = BitVec.ofNat 32 (rank x0 n.val (x0 (ix2 n 1))) := by
  pointwise [val_main_v20, val_main_c_0]
  refine fold_nat _ _ _ fun l => ?_
  exact (congrArg₂ IntOp.muli (second_ref x0 n l) (before_ref x0 n l)).trans (mul_hit _ l _)

theorem rank_ref (n : Fin 32768) (l : Fin 128) : val_main_v24 (F := Ideal) x0 (ix2 n l) = rankWord x0 n l := by
  pointwise [val_main_v24, val_main_v23, val_main_v22, val_main_v21]
  unfold rankWord
  by_cases h0 : l.val = 0
  · rw [dif_pos (by omega), dif_pos (by omega), if_pos h0, rank0_ref]
  by_cases h1 : l.val = 1
  · rw [dif_pos (by omega), dif_neg (by omega), if_neg h0, if_pos h1, rank1_ref]
  · rw [dif_neg (by omega), if_neg h0, if_neg h1]
    rfl

theorem counts_ref (l : Fin 128) : val_main_v26 (F := Ideal) x0 (ix2 0 l) = ((before x0 32768 l : ℕ) : EReal) := by
  pointwise [val_main_v26, val_main_v25]
  rw [upto_ref]
  exact sitofp_nat _ ((before_le x0 _ l).trans_lt (by decide))

end Cert.PlanRefIdeal.Value

end
-- ==== Proof.PlanAlgebra.lean ====
module

public import proofs.«01_k».proof.Defs
public import proofs.«01_k».proof.Proof.PlanPoints
public import proofs.«01_k».proof.Proof.PlanRefMath
public import proofs.«01_k».proof.Proof.Gen.PlanIdeal.Value
public import proofs.«01_k».proof.Proof.Gen.PlanRefIdeal.Run

@[expose] public section

set_option maxRecDepth 16384

noncomputable section

open Idealize.ShloMosaic Idealize.ShloMosaic.TcCoe Idealize.SL.Sem

namespace Cert.Proof

theorem plan_ranks (m : (ℓ : Loc Cert.PlanIdeal.nD Cert.PlanIdeal.τ Cert.PlanIdeal.sig) → Buf (Elt Ideal) ℓ) (c : Dev Cert.PlanIdeal.nD)
    (y0 : IVec Cert.PlanIdeal.S32768x128 32) (h0 : y0 = m ((c.tc : Thread _ _).loc Cert.PlanIdeal.main_arg0)) :
    Cert.PlanRefIdeal.Read.val_main_v24 (F := Ideal) y0 = (Cert.PlanIdeal.Gen.dats m 0 c).arrAt 1 Cert.PlanIdeal.cfg0.N := by
  subst h0
  rw [Cert.PlanIdeal.Value.final_ranks]
  funext i
  obtain ⟨n, l, rfl⟩ : ∃ (n : Fin 32768) (l : Fin 128), i = ix2 n l := ⟨i 0, i 1, by funext a; fin_cases a <;> first | rfl | exact Fin.ext (by simp)⟩
  exact Cert.PlanRefIdeal.Value.rank_ref _ n l

theorem plan_counts (m : (ℓ : Loc Cert.PlanIdeal.nD Cert.PlanIdeal.τ Cert.PlanIdeal.sig) → Buf (Elt Ideal) ℓ) (c : Dev Cert.PlanIdeal.nD)
    (y0 : IVec Cert.PlanIdeal.S32768x128 32) (h0 : y0 = m ((c.tc : Thread _ _).loc Cert.PlanIdeal.main_arg0)) :
    Cert.PlanRefIdeal.Read.val_main_v26 (F := Ideal) y0 = (Cert.PlanIdeal.Gen.dats m 0 c).arrAt 2 Cert.PlanIdeal.cfg0.N := by
  subst h0
  rw [Cert.PlanIdeal.Value.final_counts]
  funext i
  obtain ⟨r, l, rfl⟩ : ∃ (r : Fin 1) (l : Fin 128), i = ix2 r l := ⟨i 0, i 1, by funext a; fin_cases a <;> first | rfl | exact Fin.ext (by simp)⟩
  obtain rfl : r = 0 := Subsingleton.elim _ _
  exact Cert.PlanRefIdeal.Value.counts_ref _ l

set_option maxHeartbeats 2000000 in
/-- The ranks and the counts are the reference's. -/
theorem route_plan : Cert.algebraic_PlanIdeal_PlanRefIdeal (hPlanIdeal := Cert.PlanIdeal.Gen.facts) (hPlanRefIdeal := Cert.PlanRefIdeal.Gen.facts) := by
  intro m g m' g' hpre hagree
  refine ⟨fun c => (Cert.PlanIdeal.Gen.dats m 0 c).arrAt 1 Cert.PlanIdeal.cfg0.N, fun c => (Cert.PlanIdeal.Gen.dats m 0 c).arrAt 2 Cert.PlanIdeal.cfg0.N,
    Cert.PlanIdeal.Value.run_blocks m g, ?_⟩
  refine (θ_run _ _ _).mono (fun r h c => ?_) (Cert.PlanRefIdeal.Value.run m' g')
  obtain ⟨h0, h1, hrest⟩ := h c
  have a0 := hagree c
  exact ⟨h0.trans ((Cert.PlanRefIdeal.Read.val_main_v24_eq _ _).trans (plan_ranks m c _ a0)),
    h1.trans ((Cert.PlanRefIdeal.Read.val_main_v26_eq _).trans (plan_counts m c _ a0)), hrest⟩

/-- The reference runs to its end, keeps its argument and has no semaphore. -/
theorem route_plan_reference_frame : Cert.quiescent_PlanRefIdeal (hPlanRefIdeal := Cert.PlanRefIdeal.Gen.facts) := by
  intro m g _
  exact (θ_run _ _ _).mono (fun r h => ⟨fun c => (h c).2.2, Idealize.ShloMosaic.sem_eq_zero_of_no_sems (by decide) r.2⟩)
    (Cert.PlanRefIdeal.Value.run m g)

end Cert.Proof

end
-- ==== Proof.DestMath.lean ====
module

public import proofs.«01_k».proof.Proof.PlanMath

@[expose] public section

noncomputable section

open Idealize.ShloMosaic

namespace Cert.Route

/-- The first row of expert `e`; zero where `e` names none of the 32 experts. -/
def startOf (st : IVec ⟨1, ![32]⟩ 32) (e : BitVec 32) : BitVec 32 := if h : e.toNat < 32 then st (ix1 ⟨e.toNat, h⟩) else 0#32

/-- The first rows as numbers in 128 lanes, zeros after the 32 experts. -/
def startLane (st : IVec ⟨1, ![32]⟩ 32) (l : Fin 128) : EReal := if h : l.val < 32 then (((st (ix1 ⟨l.val, h⟩)).toInt : ℝ) : EReal) else 0

/-- What the call writes for token `n`: the row of its first choice, the row of its second, then zeros. -/
def destWord (ids rk : IVec ⟨2, ![32768, 128]⟩ 32) (st : IVec ⟨1, ![32]⟩ 32) (n : Fin 32768) (l : Fin 128) : BitVec 32 :=
  if l.val = 0 then IntOp.addi (rk (ix2 n (0 : Fin 128))) (startOf st (ids (ix2 n (0 : Fin 128))))
  else if l.val = 1 then IntOp.addi (rk (ix2 n (1 : Fin 128))) (startOf st (ids (ix2 n (1 : Fin 128)))) else 0#32

/-- A word's own value becomes the word again. -/
theorem fptosi_word (w : BitVec 32) : Ideal.fptosi 32 ((w.toInt : ℝ) : EReal) = w := by
  have e : (if (0 : ℝ) ≤ ((w.toInt : ℤ) : ℝ) then ⌊((w.toInt : ℤ) : ℝ)⌋ else ⌈((w.toInt : ℤ) : ℝ)⌉) = w.toInt := by
    split
    · exact Int.floor_intCast _
    · exact Int.ceil_intCast _
  rw [Ideal.fptosi, Ideal.toIntClamped_coe, e]
  have h1 := w.toInt_lt
  have h2 := w.le_toInt
  have h : max (-((2 ^ (32 - 1) : ℕ) : Int)) (min (((2 ^ (32 - 1) : ℕ) : Int) - 1) w.toInt) = w.toInt := by
    norm_num at h1 h2 ⊢; omega
  rw [h]
  exact BitVec.ofInt_toInt

theorem ofNat_eq_iff {x : ℕ} (hx : x < 2 ^ 32) (e : BitVec 32) : BitVec.ofNat 32 x = e ↔ x = e.toNat := by
  rw [← BitVec.toNat_inj, BitVec.toNat_ofNat, Nat.mod_eq_of_lt hx]

/-- The lanes' sum that picks lane `e`. -/
theorem pick_lanes (st : IVec ⟨1, ![32]⟩ 32) (e : BitVec 32) :
    Ideal.fptosi 32 (∑ l : Fin 128, if BitVec.ofNat 32 l.val = e then startLane st l else 0) = startOf st e := by
  by_cases h : e.toNat < 32
  · rw [Finset.sum_eq_single (⟨e.toNat, by omega⟩ : Fin 128)]
    · rw [if_pos ((ofNat_eq_iff (by omega) e).2 rfl)]
      unfold startLane startOf
      rw [dif_pos h, dif_pos h]
      exact fptosi_word _
    · intro l _ hl
      have hlt := l.isLt
      exact if_neg fun hh => hl (Fin.ext ((ofNat_eq_iff (by omega) e).1 hh))
    · exact fun hh => absurd (Finset.mem_univ _) hh
  · rw [Finset.sum_eq_zero]
    · unfold startOf
      rw [dif_neg h]
      exact (congrArg (Ideal.fptosi 32) Nat.cast_zero.symm).trans (fptosi_nat 0 (by decide))
    · intro l _
      have hlt := l.isLt
      split
      · next hh =>
        have := (ofNat_eq_iff (by omega) e).1 hh
        unfold startLane
        exact dif_neg (by omega)
      · rfl

/-- The experts' sum of words that picks expert `e`. -/
theorem pick_fold (st : IVec ⟨1, ![32]⟩ 32) (e : BitVec 32) (s : Finset (Fin 32)) :
    Finset.fold IntOp.addi (0#32) (fun x : Fin 32 => if e = BitVec.ofNat 32 x.val then st (ix1 x) else 0#32) s
      = if h : e.toNat < 32 then (if (⟨e.toNat, h⟩ : Fin 32) ∈ s then st (ix1 ⟨e.toNat, h⟩) else 0#32) else 0#32 := by
  induction s using Finset.induction_on with
  | empty => simp
  | insert a s ha ih =>
    rw [Finset.fold_insert ha, ih]
    have hlt := a.isLt
    by_cases h : e.toNat < 32
    · rw [dif_pos h, dif_pos h]
      by_cases hh : a = ⟨e.toNat, h⟩
      · subst hh
        rw [if_pos ((ofNat_eq_iff (by omega) e).2 rfl).symm, if_neg ha, if_pos (Finset.mem_insert_self _ _)]
        exact BitVec.add_zero _
      · rw [if_neg fun q => hh (Fin.ext ((ofNat_eq_iff (by omega) e).1 q.symm))]
        refine (BitVec.zero_add _).trans ?_
        have : ((⟨e.toNat, h⟩ : Fin 32) ∈ insert a s) ↔ (⟨e.toNat, h⟩ : Fin 32) ∈ s := by
          rw [Finset.mem_insert]
          exact ⟨fun q => q.resolve_left fun r => hh r.symm, Or.inr⟩
        simp only [this]
    · rw [dif_neg h, dif_neg h, if_neg fun q => h (by rw [← (ofNat_eq_iff (by omega) e).1 q.symm]; exact hlt)]
      exact BitVec.add_zero _

theorem pick_experts (st : IVec ⟨1, ![32]⟩ 32) (e : BitVec 32) :
    Finset.fold IntOp.addi (0#32) (fun x : Fin 32 => if e = BitVec.ofNat 32 x.val then st (ix1 x) else 0#32) Finset.univ = startOf st e := by
  rw [pick_fold]
  unfold startOf
  simp only [Finset.mem_univ, if_true]

end Cert.Route

end
-- ==== Proof.DestHost.lean ====
module

public import proofs.«01_k».proof.Proof.Gen.DestIdeal.Frame
public import proofs.«01_k».proof.Proof.Gen.DestRefIdeal.Read
public import proofs.«01_k».proof.Proof.DestMath
public import Idealize.ShloMosaic.Lib.Pipeline.ValueKit
public import Idealize.ShloMosaic.Lib.Pipeline.RowLoads
public import Idealize.ShloMosaic.Lib.Pointwise
public import Idealize.ShloMosaic.Lib.Claim

@[expose] public section

set_option maxRecDepth 16384

noncomputable section

open Idealize.ShloMosaic Idealize.ShloMosaic.TcCoe Idealize.SL.Sem

/-! What the call's lines before its region leave, in the reference's own lines. -/

namespace Cert.DestIdeal.Value

open Cert.DestIdeal Cert.DestIdeal.Gen Cert.Route Idealize.ShloMosaic.StableHlo

variable (m : (ℓ : Loc nD τ sig) → Buf (Elt Ideal) ℓ)

def aIds (c : Dev nD) : IVec S32768x128 32 := m ((c : Thread nD τ).loc main_arg0)
def aRank (c : Dev nD) : IVec S32768x128 32 := m ((c : Thread nD τ).loc main_arg1)
def aCnt (c : Dev nD) : FVec Ideal S1x128 .f32 := m ((c : Thread nD τ).loc main_arg2)

theorem host_counts (c : Dev nD) : (show IVec S32 32 from V m c main_v2) = Cert.DestRefIdeal.Read.val_main_v2 (F := Ideal) (aCnt m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

theorem host_ends (c : Dev nD) : (show IVec S32 32 from V m c main_v10) = Cert.DestRefIdeal.Read.val_main_v10 (F := Ideal) (aCnt m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

theorem host_starts (c : Dev nD) : (show IVec S32 32 from V m c main_v11) = Cert.DestRefIdeal.Read.val_main_v11 (F := Ideal) (aCnt m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

/-- The operand of the region: the starts as numbers, padded to 128 lanes, as one row. -/
def lanes (st : IVec S32 32) : FVec Ideal S1x128 .f32 :=
  shapeCast S1x128 (pad S128 ![0] ![96] ![0] (sitofp .f32 st : FVec Ideal S32 .f32) (sitofp .f32 (constantI S_ 32 0#32) : FVec Ideal S_ .f32) pads_S32_S128_0960 h_S_) shapeCasts_S128_S1x128

theorem host_lanes (c : Dev nD) : (show FVec Ideal S1x128 .f32 from V m c main_v14) = lanes (Cert.DestRefIdeal.Read.val_main_v11 (F := Ideal) (aCnt m c)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

theorem lanes_apply (st : IVec S32 32) (l : Fin 128) : lanes st (ix2 0 l) = startLane st l := by
  pointwise [lanes]
  unfold startLane
  split
  · rfl
  · exact (sitofp_nat 0 (by decide)).trans Nat.cast_zero

/-- How many experts' rows end at or before each block's first row, at most 31. -/
def owners (ends : IVec S32 32) : IVec S544 32 :=
  minsi (Host.reduce IntOp.addi
    (extui 32 (cmpi .sle (broadcastInDim S32x544 ![0, 1] bcast_S32x1_S32x544_0_1 (broadcastInDim S32x1 ![0] bcast_S32_S32x1_0 ends))
      (broadcastInDim S32x544 ![0, 1] bcast_S1x544_S32x544_0_1 (broadcastInDim S1x544 ![1] bcast_S544_S1x544_1
        (muli (iotaInDim S544 32 0) (broadcastInDim S544 ![] bcast_S_S544 (constantI S_ 32 128#32)))))) natLt_1_32)
    (constantI S_ 32 0#32) reducesTo_S32x544_S544_d0 h_S_) (broadcastInDim S544 ![] bcast_S_S544 (constantI S_ 32 31#32))

theorem host_owners (c : Dev nD) : (show IVec S544 32 from V m c main_v20) = owners (Cert.DestRefIdeal.Read.val_main_v10 (F := Ideal) (aCnt m c)) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

open Cert.DestRefIdeal.Read in
theorem owners_ref (x2 : FVec Ideal S1x128 .f32) : owners (val_main_v10 (F := Ideal) x2) = val_main_v34 (F := Ideal) x2 := by
  funext i
  obtain ⟨b, rfl⟩ : ∃ b : Fin 544, i = ix1 b := ⟨i 0, by funext a; fin_cases a; rfl⟩
  pointwise [owners, val_main_v34, val_main_v33, val_main_c_7, val_main_v32, val_main_c_6, val_main_v31, val_main_v30, val_main_v29, val_main_v28,
    val_main_v27, val_main_v26, val_main_v25, val_main_v24, val_main_c_5, val_main_v23]

theorem host_used (c : Dev nD) : (show IVec S1 32 from V m c main_v24) = Cert.DestRefIdeal.Read.val_main_v39 (F := Ideal) (aCnt m c) := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, TRef.binary, TRef.nullary, TRef.ternary, TRef.unary, TRef.toBuf, TRef.ofBuf, cast_eq]
  after_results_simp
  rfl

end Cert.DestIdeal.Value

end
-- ==== Proof.DestPoints.lean ====
module

public import proofs.«01_k».proof.Proof.Gen.DestIdeal.Frame
public import proofs.«01_k».proof.Proof.Gen.DestIdeal.Value
public import proofs.«01_k».proof.Proof.DestHost
public import Idealize.ShloMosaic.Lib.Pipeline.ValueKit
public import Idealize.ShloMosaic.Lib.Pipeline.RowLoads
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DestIdeal.Value

open Cert.DestIdeal Cert.DestIdeal.Gen Cert.Route

/-! ## One point's arithmetic: `v0` its block of choices, `v10` its block of ranks, `v8` the row of starts. -/

theorem dest_pay (ids rk : IVec S32768x128 32) (st : IVec S32 32) (v0 v10 : Vec Ideal S256x128 .i32) (v8 : Vec Ideal S1x128 .f32)
    (h8 : ∀ l : Fin 128, v8 (ix2 0 l) = startLane st l) (r : Fin 256) (n : Fin 32768)
    (h0 : ∀ l : Fin 128, v0 (ix2 r l) = ids (ix2 n l)) (h10 : ∀ l : Fin 128, v10 (ix2 r l) = rk (ix2 n l)) (l : Fin 128) :
    k0_pay1 (F := Ideal) v0 v8 v10 (ix2 r l) = destWord ids rk st n l := by
  pointwise [k0_pay1]
  simp only [select_eq, h8]
  have e0 : BitVec.ofNat 32 l.val = 0#32 ↔ l.val = 0 := ofNat_eq_iff (by have := l.isLt; omega) _
  have e1 : BitVec.ofNat 32 l.val = 1#32 ↔ l.val = 1 := ofNat_eq_iff (by have := l.isLt; omega) _
  simp only [e0, e1]
  unfold destWord
  rw [← h0 0, ← h0 1, ← h10 0, ← h10 1, ← pick_lanes, ← pick_lanes]
  rfl

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem lt128 (t : Fin cfg0.N) : t.val < 128 := lt_of_lt_of_eq t.isLt (by decide)

/-- The token of row `r` of a grid point's block. -/
def token (t : Fin cfg0.N) (r : Fin 256) : Fin 32768 := ⟨t.val * 256 + r.val, by have := lt128 t; omega⟩

theorem blk0 (c : Dev nD) (t : Fin cfg0.N) (r : Fin 256) (l : Fin 128) :
    (show IVec S256x128 32 from iblk m c 0 t) (ix2 r l) = aIds m c (ix2 (token t r) l) := by
  have e : (show IVec S32768x128 32 from V m c main_arg0) (ix2 (token t r) l) = aIds m c (ix2 (token t r) l) := by
    rw [V_main_arg0]
    rfl
  refine Eq.trans ?_ e
  unfold token
  blk_simp [iblk]
  refine congrArg _ ?_
  blk_ext [idx t]

theorem blk1 (c : Dev nD) (t : Fin cfg0.N) (r : Fin 256) (l : Fin 128) :
    (show IVec S256x128 32 from iblk m c 1 t) (ix2 r l) = aRank m c (ix2 (token t r) l) := by
  have e : (show IVec S32768x128 32 from V m c main_arg1) (ix2 (token t r) l) = aRank m c (ix2 (token t r) l) := by
    rw [V_main_arg1]
    rfl
  refine Eq.trans ?_ e
  unfold token
  blk_simp [iblk]
  refine congrArg _ ?_
  blk_ext [idx t]

def aStarts (c : Dev nD) : IVec S32 32 := Cert.DestRefIdeal.Read.val_main_v11 (F := Ideal) (aCnt m c)

theorem blk2 (c : Dev nD) (t : Fin cfg0.N) (l : Fin 128) :
    (show FVec Ideal S1x128 .f32 from iblk m c 2 t) (ix2 0 l) = startLane (aStarts m c) l := by
  have e : (show FVec Ideal S1x128 .f32 from V m c main_v14) (ix2 0 l) = startLane (aStarts m c) l :=
    (congrFun (host_lanes m c) (ix2 0 l)).trans (lanes_apply _ l)
  refine Eq.trans ?_ e
  blk_simp [iblk]
  refine congrArg _ ?_
  blk_ext [idx t]

theorem final3 (c : Dev nD) : (dats m 0 c).arrAt 3 cfg0.N = fun i => destWord (aIds m c) (aRank m c) (aStarts m c) (i 0) (i 1) := by
  refine (dats m 0 c).arrAt_eq_of_covers 3 _ (by decide +kernel) fun t _ y => ?_
  blk_simp
  rw [after0_3]
  obtain ⟨r, l, rfl⟩ : ∃ (r : Fin 256) (l : Fin 128), y = ix2 r l := ⟨y 0, y 1, by funext a; fin_cases a <;> first | rfl | exact Fin.ext (by simp)⟩
  have hlt := lt128 t
  unfold out0_3
  frame_out
  refine (dest_pay (aIds m c) (aRank m c) (aStarts m c) _ _ _ (blk2 m c t) r (token t r) (blk0 m c t r) (blk1 m c t r) l).trans ?_
  refine congrArg₂ (destWord (aIds m c) (aRank m c) (aStarts m c)) (Fin.ext ?_) (Fin.ext ?_)
  all_goals ((try unfold token); blk_simp [idx t]; try omega)

end Cert.DestIdeal.Value

end
-- ==== Proof.DestRefMath.lean ====
module

public import proofs.«01_k».proof.Proof.Gen.DestRefIdeal.Read
public import proofs.«01_k».proof.Proof.DestMath
public import Idealize.ShloMosaic.Lib.Pointwise

@[expose] public section

set_option maxRecDepth 16384

noncomputable section

open Idealize.ShloMosaic Idealize.ShloMosaic.TcCoe Idealize.SL.Sem

namespace Cert.DestRefIdeal.Value

open Cert.DestRefIdeal Cert.DestRefIdeal.Gen Cert.DestRefIdeal.Read Cert.Route

variable (x0 x1 : IVec S32768x128 32) (x2 : FVec Ideal S1x128 .f32)

theorem start_ref (n : Fin 32768) (k : Fin 2) :
    val_main_v21 (F := Ideal) x0 x2 (ix2 n k) = startOf (val_main_v11 (F := Ideal) x2) (x0 (ix2 n ⟨k.val, by omega⟩)) := by
  rw [← pick_experts]
  pointwise [val_main_v21, val_main_c_4, val_main_v20, val_main_call2_v2, val_main_call2_v1, val_main_call2_v0, val_main_c_3, val_main_v18, val_main_v17, val_main_v16,
    val_main_v15, val_main_v14, val_main_v13, val_main_v12]
  simp only [select_eq]
  rfl

theorem dest_ref (n : Fin 32768) (l : Fin 128) :
    val_main_v35 (F := Ideal) x0 x1 x2 (ix2 n l) = destWord x0 x1 (val_main_v11 (F := Ideal) x2) n l := by
  pointwise [val_main_v35, val_main_v22, val_main_v19, val_main_call3_v0, val_main_c_8]
  unfold destWord
  by_cases h0 : l.val = 0
  · rw [dif_pos (by omega), if_pos h0, start_ref]
    obtain rfl : l = 0 := Fin.ext h0
    rfl
  by_cases h1 : l.val = 1
  · rw [dif_pos (by omega), if_neg h0, if_pos h1, start_ref]
    obtain rfl : l = 1 := Fin.ext h1
    rfl
  · rw [dif_neg (by omega), if_neg h0, if_neg h1]
    rfl

end Cert.DestRefIdeal.Value

end
-- ==== Proof.DestAlgebra.lean ====
module

public import proofs.«01_k».proof.Defs
public import proofs.«01_k».proof.Proof.DestPoints
public import proofs.«01_k».proof.Proof.DestRefMath
public import proofs.«01_k».proof.Proof.Gen.DestIdeal.Value
public import proofs.«01_k».proof.Proof.Gen.DestRefIdeal.Run

@[expose] public section

set_option maxRecDepth 16384

noncomputable section

open Idealize.ShloMosaic Idealize.ShloMosaic.TcCoe Idealize.SL.Sem

namespace Cert.DestIdeal.Value

open Cert.DestIdeal Cert.DestIdeal.Gen

variable (m : (ℓ : Loc nD τ sig) → Buf (Elt Ideal) ℓ) (ρ : Dev nD → PrngReg)

/-- The run with all five results named. -/
theorem run_results : θ_run (defs (F := Ideal)) (onTc (τ := τ) (main (F := Ideal))) ⟨m, fun _ => 0, ρ⟩ fun r => ∀ c : Dev nD,
      r.2.mem ((c : Thread nD τ).loc main_v25) = (dats m 0 c).arrAt 3 cfg0.N
      ∧ r.2.mem ((c : Thread nD τ).loc main_v2) = V m c main_v2
      ∧ r.2.mem ((c : Thread nD τ).loc main_v11) = V m c main_v11
      ∧ r.2.mem ((c : Thread nD τ).loc main_v20) = V m c main_v20
      ∧ r.2.mem ((c : Thread nD τ).loc main_v24) = V m c main_v24
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      (h c).2 main_v2 (Pipeline.mem_restRefs_of main_v2 (by decide) (by decide)),
      (h c).2 main_v11 (Pipeline.mem_restRefs_of main_v11 (by decide) (by decide)),
      (h c).2 main_v20 (Pipeline.mem_restRefs_of main_v20 (by decide) (by decide)),
      (h c).2 main_v24 (Pipeline.mem_restRefs_of main_v24 (by decide) (by decide)),
      kept_main_arg0 m r h c, kept_main_arg1 m r h c, kept_main_arg2 m r h c⟩)
    (run_main m ρ)

end Cert.DestIdeal.Value

namespace Cert.Proof

open Cert.DestRefIdeal.Read in
theorem dest_rows (m : (ℓ : Loc Cert.DestIdeal.nD Cert.DestIdeal.τ Cert.DestIdeal.sig) → Buf (Elt Ideal) ℓ) (c : Dev Cert.DestIdeal.nD)
    (y0 y1 : IVec Cert.DestIdeal.S32768x128 32) (y2 : FVec Ideal Cert.DestIdeal.S1x128 .f32)
    (h0 : y0 = m ((c.tc : Thread _ _).loc Cert.DestIdeal.main_arg0)) (h1 : y1 = m ((c.tc : Thread _ _).loc Cert.DestIdeal.main_arg1))
    (h2 : y2 = m ((c.tc : Thread _ _).loc Cert.DestIdeal.main_arg2)) :
    val_main_v35 (F := Ideal) y0 y1 y2 = (Cert.DestIdeal.Gen.dats m 0 c).arrAt 3 Cert.DestIdeal.cfg0.N := by
  subst h0 h1 h2
  rw [Cert.DestIdeal.Value.final3]
  funext i
  obtain ⟨n, l, rfl⟩ : ∃ (n : Fin 32768) (l : Fin 128), i = ix2 n l := ⟨i 0, i 1, by funext a; fin_cases a <;> first | rfl | exact Fin.ext (by simp)⟩
  exact Cert.DestRefIdeal.Value.dest_ref _ _ _ n l

open Cert.DestRefIdeal.Read in
set_option maxHeartbeats 2000000 in
/-- The rows, the counts, the starts, the blocks' experts and the number of used blocks are the reference's. -/
theorem route_dest : Cert.algebraic_DestIdeal_DestRefIdeal (hDestIdeal := Cert.DestIdeal.Gen.facts) (hDestRefIdeal := Cert.DestRefIdeal.Gen.facts) := by
  intro m g m' g' hpre hagree
  refine ⟨fun c => (Cert.DestIdeal.Gen.dats m 0 c).arrAt 3 Cert.DestIdeal.cfg0.N, fun c => Cert.DestIdeal.Gen.V m c Cert.DestIdeal.main_v2,
    fun c => Cert.DestIdeal.Gen.V m c Cert.DestIdeal.main_v11, fun c => Cert.DestIdeal.Gen.V m c Cert.DestIdeal.main_v20,
    fun c => Cert.DestIdeal.Gen.V m c Cert.DestIdeal.main_v24, Cert.DestIdeal.Value.run_results m g, ?_⟩
  refine (θ_run _ _ _).mono (fun r h c => ?_) (Cert.DestRefIdeal.Value.run m' g')
  obtain ⟨h0, h1, h2, h3, h4, hrest⟩ := h c
  obtain ⟨a0, a1, a2⟩ := hagree c
  have e1 : val_main_v2 (F := Ideal) (m' ((c.tc : Thread Cert.DestRefIdeal.nD Cert.DestRefIdeal.τ).loc Cert.DestRefIdeal.main_arg2)) = Cert.DestIdeal.Gen.V m c Cert.DestIdeal.main_v2 :=
    (congrArg (val_main_v2 (F := Ideal)) a2).trans (Cert.DestIdeal.Value.host_counts m c).symm
  have e2 : val_main_v11 (F := Ideal) (m' ((c.tc : Thread Cert.DestRefIdeal.nD Cert.DestRefIdeal.τ).loc Cert.DestRefIdeal.main_arg2)) = Cert.DestIdeal.Gen.V m c Cert.DestIdeal.main_v11 :=
    (congrArg (val_main_v11 (F := Ideal)) a2).trans (Cert.DestIdeal.Value.host_starts m c).symm
  have e3 : val_main_v34 (F := Ideal) (m' ((c.tc : Thread Cert.DestRefIdeal.nD Cert.DestRefIdeal.τ).loc Cert.DestRefIdeal.main_arg2)) = Cert.DestIdeal.Gen.V m c Cert.DestIdeal.main_v20 :=
    (congrArg (val_main_v34 (F := Ideal)) a2).trans ((Cert.DestIdeal.Value.owners_ref _).symm.trans (Cert.DestIdeal.Value.host_owners m c).symm)
  have e4 : val_main_v39 (F := Ideal) (m' ((c.tc : Thread Cert.DestRefIdeal.nD Cert.DestRefIdeal.τ).loc Cert.DestRefIdeal.main_arg2)) = Cert.DestIdeal.Gen.V m c Cert.DestIdeal.main_v24 :=
    (congrArg (val_main_v39 (F := Ideal)) a2).trans (Cert.DestIdeal.Value.host_used m c).symm
  exact ⟨h0.trans ((val_main_v35_eq _ _).trans (dest_rows m c _ _ _ a0 a1 a2)),
    h1.trans ((val_main_v2_eq _).trans e1), h2.trans ((val_main_v11_eq _).trans e2), h3.trans ((val_main_v34_eq _).trans e3),
    h4.trans ((val_main_v39_eq _ _).trans e4), hrest⟩

/-- The reference runs to its end, keeps its arguments and has no semaphore. -/
theorem route_dest_reference_frame : Cert.quiescent_DestRefIdeal (hDestRefIdeal := Cert.DestRefIdeal.Gen.facts) := by
  intro m g _
  exact (θ_run _ _ _).mono (fun r h => ⟨fun c => (h c).2.2.2.2.2, Idealize.ShloMosaic.sem_eq_zero_of_no_sems (by decide) r.2⟩)
    (Cert.DestRefIdeal.Value.run m g)

end Cert.Proof

end
-- ==== Proof.ExpertsIdeal.Points.lean ====
module

public import proofs.«01_k».proof.Proof.Gen.ExpIdeal
public import Idealize.ShloMosaic.Lib.Pipeline.Kit

@[expose] public section

set_option maxRecDepth 16384

noncomputable section

namespace Cert.ExpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The output's block is written back at every point, whatever the tables hold. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- Each window's staging buffer at point `t`. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on its staging buffers. -/
abbrev bodyAt0 (a : (pcfg0 (F := F)).Adm) (t : Fin (cfg0 a).N) : Prog (TpuEff nD τ sig (Elt F) Λ₀ .tc) PUnit :=
  cc0_moe_experts (grid0.coords t) (Memref.whole main_v11) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

end Cert.ExpIdeal.Gen

end
-- ==== Proof.ExpertsIdeal.Region.lean ====
module

public import proofs.«01_k».proof.Proof.Gen.ExpIdeal.Launch
public import proofs.«01_k».proof.Proof.Gen.ExpIdeal.Skeleton
public import proofs.«01_k».proof.Proof.ExpertsIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host operations -/

/-- The buffers when the kernel starts: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two tables -/

/-- What the tables hold when the kernel starts. -/
def tbl : pre0.Contents (Elt F) := fun j => V m (0 : Dev nD) (pre0.ref j)
/-- There is one device. -/
theorem V_pre (c : Dev nD) (j : Fin 2) : V m c (pre0.ref j) = tbl m j := by
  obtain rfl : c = 0 := Subsingleton.elim _ _; rfl
/-- Every block a table's word picks lies inside its array. -/
abbrev Ok : Prop := ok0 (F := F) (tbl m)
/-- The tables under that condition, and the pipeline run with them. -/
abbrev adm (hO : Ok m) : (pcfg0 (F := F)).Adm := ⟨tbl m, hO⟩
abbrev cfgM (hO : Ok m) : Pipeline.Cfg sig Λ₀ := cfg0 (adm m hO)

/-- The tables as the body sees them. -/
abbrev tbM0_0 : Memref sig .tc .smem S544 .i32 := Memref.whole main_v11
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents, and the read-only half of it the body holds. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The two halves, written out. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block of its array at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Before the body, input 0's buffer holds its block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before the body, input 1's buffer holds its block. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before the body, input 2's buffer holds its block. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before the body, input 3's buffer holds its block. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments kept -/

/-- A run that ends with the arrays as the pipeline leaves them keeps the arguments. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The staging buffers -/

/-- A buffer of the output. -/
abbrev VO0_4 : View sig .tc .vmem S128x1024 .f32 := (Memref.whole cc0_stg4_0 : Memref sig .tc .vmem S128x1024 .f32).view
/-- Each window's buffer at point `t`; each is a whole buffer. -/
abbrev ms0_0 (hO : Ok m) (t : Fin (cfgM m hO).N) : Memref sig .tc .vmem S128x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x1024 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.ExpIdeal.Gen

end
-- ==== Proof.ExpertsIdeal.RunA.lean ====
module

public import proofs.«01_k».proof.Proof.ExpertsIdeal.Region

@[expose] public section

set_option maxRecDepth 16384

noncomputable section

namespace Cert.ExpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The one word of the table of used blocks, as the body loads it. -/
def word (c : Dev nD) (xt1 : TbBuf0 (F := F) c tbM0_1) : BitVec 32 :=
  View.readAt (Elt F) tbM0_1.view (Rect.unit (s := S1) ![0] S1.size inb_S1_S1_0).toLoadRect xt1 (Shape.Idx.first (numel1_S1.symm ▸ Nat.one_pos))

/-- The second condition is the negation of the first. -/
theorem cond2_iff (i : grid0.Coords) (v : BitVec 32) : k0_cond2 i v = 1#1 ↔ ¬ k0_cond1 i v = 1#1 := by
  unfold k0_cond1 k0_cond2
  dsimp only
  generalize Scalar.cmpi .slt (BitVec.ofNat 32 (i 0).val) v = b
  revert b
  decide

attribute [local irreducible] k0_cond1 k0_cond2

set_option maxHeartbeats 1000000 in
/-- The body at a point below the number of used blocks: on whole staging memrefs it runs to its end, keeps its inputs and
    leaves one store in the output's buffer. -/
noncomputable def kernelRun0_A (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : k0_cond1 i (word c xt1) = 1#1) :
    { L4 : List (View.Piece (Elt F) S128x1024 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | exact hl | exact fun h => (cond2_iff i _).mp h hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpIdeal.Gen

end
-- ==== Proof.ExpertsIdeal.RunB.lean ====
module

public import proofs.«01_k».proof.Proof.ExpertsIdeal.RunA

@[expose] public section

set_option maxRecDepth 16384

noncomputable section

namespace Cert.ExpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

attribute [local irreducible] k0_cond1 k0_cond2

set_option maxHeartbeats 1000000 in
/-- The body at a point past the used blocks: it stores zeros. -/
noncomputable def kernelRun0_B (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : ¬ k0_cond1 i (word c xt1) = 1#1) :
    { L4 : List (View.Piece (Elt F) S128x1024 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | exact hl | exact (cond2_iff i _).mpr hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.ExpIdeal.Gen

end
-- ==== Proof.ExpertsIdeal.Frame.lean ====
module

public import proofs.«01_k».proof.Proof.ExpertsIdeal.RunB
public import Idealize.ShloMosaic.Lib.Claim

@[expose] public section

set_option maxRecDepth 16384

noncomputable section

namespace Cert.ExpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The one store covers the output's block. -/
theorem cover0_A_4 (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : k0_cond1 i (word c xt1) = 1#1) (y : S128x1024.Idx) :
    ∃ pc ∈ (kernelRun0_A c i arg3 harg3 arg4 harg4 arg5 harg5 arg6 harg6 arg7 harg7 x0 x1 x2 x3 xt0 xt1 hl).1, y ∈ pc.1.set :=
  View.cover_of_tiledL (kernelRun0_A c i arg3 harg3 arg4 harg4 arg5 harg5 arg6 harg6 arg7 harg7 x0 x1 x2 x3 xt0 xt1 hl).1 S128x1024.size (by sl_kernel_rfl) y

/-- What the body leaves in the output's buffer. -/
def out0_A_4 (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : k0_cond1 i (word c xt1) = 1#1) : Vec F S128x1024 .f32 :=
  VO0_4.read (Elt F) (VO0_4.writes (Elt F) VO0_4.junk (kernelRun0_A c i arg3 harg3 arg4 harg4 arg5 harg5 arg6 harg6 arg7 harg7 x0 x1 x2 x3 xt0 xt1 hl).1)

/-- The one store covers the output's block. -/
theorem cover0_B_4 (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : ¬ k0_cond1 i (word c xt1) = 1#1) (y : S128x1024.Idx) :
    ∃ pc ∈ (kernelRun0_B c i arg3 harg3 arg4 harg4 arg5 harg5 arg6 harg6 arg7 harg7 x0 x1 x2 x3 xt0 xt1 hl).1, y ∈ pc.1.set :=
  View.cover_of_tiledL (kernelRun0_B c i arg3 harg3 arg4 harg4 arg5 harg5 arg6 harg6 arg7 harg7 x0 x1 x2 x3 xt0 xt1 hl).1 S128x1024.size (by sl_kernel_rfl) y

/-- What the body leaves in the output's buffer. -/
def out0_B_4 (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : ¬ k0_cond1 i (word c xt1) = 1#1) : Vec F S128x1024 .f32 :=
  VO0_4.read (Elt F) (VO0_4.writes (Elt F) VO0_4.junk (kernelRun0_B c i arg3 harg3 arg4 harg4 arg5 harg5 arg6 harg6 arg7 harg7 x0 x1 x2 x3 xt0 xt1 hl).1)

/-! ## The output after each point -/

/-- The output's buffer after point `t`: the product of a used block, else zeros. -/
def outsAt0 (hO : Ok m) (c : Dev nD) (t : Fin (cfgM m hO).N) : Vec F S128x1024 .f32 :=
  if h : k0_cond1 (grid0.coords t) (word c (tbl m 1)) = 1#1 then
    out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h
  else
    out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h

/-! ## The pipeline's contents -/

/-- What every window's buffer holds after each point: an input its block, the output `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The arrays are those the kernel starts with. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Before the body each input's buffer holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at any point -/

/-- What the body at point `t` is given. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- What it gives back. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point meets its two descriptions. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  by_cases h : k0_cond1 (grid0.coords t) (word c (tbl m 1)) = 1#1
  · rw [show outsAt0 m hO c t = _ from dif_pos h]
    unfold out0_A_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ (iblk m hO c 0 t) (iblk m hO c 1 t) (iblk m hO c 2 t) (iblk m hO c 3 t) (tbl m 0) (tbl m 1) h).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ h)
  · rw [show outsAt0 m hO c t = _ from dif_neg h]
    unfold out0_B_4
    iintro ⟨⟨HΦ, ⟨HT0, HT1⟩⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ (iblk m hO c 0 t) (iblk m hO c 1 t) (iblk m hO c 2 t) (iblk m hO c 3 t) (tbl m 0) (tbl m 1) h).2 Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, ⟨%e4, H4⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ h)

/-- The pipeline's body at point `t`. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- One of the two conditions holds. -/
theorem cond_or (i : grid0.Coords) (v : BitVec 32) : (!(k0_cond1 i v == 1#1) && !(k0_cond2 i v == 1#1)) = false := by
  by_cases h : k0_cond1 i v = 1#1
  · rw [h]; rfl
  · rw [(cond2_iff i _).mpr h]; simp

/-- The output is stored at every point. -/
theorem idle0_4 (hO : Ok m) (i : grid0.Coords) : (cfgM m hO).idle 4 i = false := by
  have e : (cfgM m hO).idle = idle0 (F := F) (tbl m) := rfl
  have e4 (v : BitVec 32) (hv : v = (tbl m).atD 1 ![0]) : idle0 (F := F) (tbl m) 4 i = (!(k0_cond1 i v == 1#1) && !(k0_cond2 i v == 1#1)) := by
    rw [hv]
  rw [e]
  exact (e4 _ rfl).trans (cond_or i _)

/-- The same, as the pipeline asks it. -/
theorem body_obligation (hO : Ok m) (c : Dev nD) : BodyObligation (dats (F := F) m hO 0 c) (defs₀ (F := F)) Variants.none () Set.univ := fun t => by
  rw [bigSep_W0, bigSep_W0, defs₀_row m hO]
  rw [idle0_4 m hO]
  exact triple_restated (sound_body m hO c t) rfl .rfl fun _ => .rfl

/-! ## The run and the frame -/

set_option backward.isDefEq.respectTransparency.types false in
/-- The run, with every semaphore at zero at its end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- Every run ends with the arrays as the pipeline leaves them. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- Every run keeps the arguments. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- Every run ends, keeps the arguments and leaves every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpIdeal.Gen

end
-- ==== Proof.ExpertsPre.lean ====
module

public import proofs.«01_k».proof.Proof.Gen.Pre_experts_pre
public import Idealize.ShloMosaic.Lib.ReduceAll
public import Idealize.ShloMosaic.Lib.Routing.OpsSearch
public import Idealize.ShloMosaic.Lib.Pointwise
public import Idealize.ShloMosaic.Lib.WordArith

@[expose] public section

set_option maxRecDepth 16384

noncomputable section

open Idealize.ShloMosaic Idealize.ShloMosaic.TcCoe

namespace Cert.Layer

/-- What the precondition says of the two tables: at least one block is used, and every used block names one of the 32 experts. -/
structure Tables (be : IVec ⟨1, ![544]⟩ 32) (nu : IVec ⟨1, ![1]⟩ 32) : Prop where
  pos : 1 ≤ (nu (ix1 0)).toInt
  low : ∀ j : Fin 544, (j.val : ℤ) < (nu (ix1 0)).toInt → (be (ix1 j)).toNat < 32

/-- The number of used blocks. -/
def used (nu : IVec ⟨1, ![1]⟩ 32) : ℕ := (nu (ix1 0)).toInt.toNat

/-- The block whose rows and expert point `i` fetches: its own while it is used, else the last used one. -/
def live (nu : IVec ⟨1, ![1]⟩ 32) (i : Fin 544) : Fin 544 := ⟨min i.val (used nu - 1), by have := i.isLt; omega⟩

/-- A word that reads signed as `n ≥ 1`. -/
theorem word_sub_one (x : BitVec 32) (h : 1 ≤ x.toInt) : (x - 1#32).toNat = x.toInt.toNat - 1 ∧ x.toInt.toNat < 2 ^ 31 := by
  have h2 := BitVec.toInt_eq_toNat_cond x
  have h3 := x.isLt
  split at h2
  · rw [h2]
    refine ⟨?_, by omega⟩
    rw [BitVec.toNat_sub]
    simp
    omega
  · omega

theorem live_word (nu : IVec ⟨1, ![1]⟩ 32) (h : 1 ≤ (nu (ix1 0)).toInt) (i : Fin 544) :
    IntOp.minsi (BitVec.ofNat 32 i.val) (nu (ix1 0) - 1#32) = BitVec.ofNat 32 (live nu i).val := by
  obtain ⟨e, hb⟩ := word_sub_one _ h
  have hi := i.isLt
  apply BitVec.eq_of_toNat_eq
  have h1 : (BitVec.ofNat 32 i.val).toNat = i.val := by rw [BitVec.toNat_ofNat]; omega
  rw [WordArith.toNat_minsi_of_lt _ _ (by rw [h1]; omega) (by rw [e]; omega), h1, e, BitVec.toNat_ofNat]
  show _ = min i.val ((nu (ix1 0)).toInt.toNat - 1) % 2 ^ 32
  omega

theorem live_lt (nu : IVec ⟨1, ![1]⟩ 32) (h : 1 ≤ (nu (ix1 0)).toInt) (i : Fin 544) : ((live nu i).val : ℤ) < (nu (ix1 0)).toInt := by
  have : (live nu i).val ≤ (nu (ix1 0)).toInt.toNat - 1 := min_le_right _ _
  omega

theorem live_self (nu : IVec ⟨1, ![1]⟩ 32) (i : Fin 544) (h : i.val < used nu) : live nu i = i :=
  Fin.ext (min_eq_left (by omega))

end Cert.Layer

namespace Cert.Pre_experts_pre.Gen

open Cert.Pre_experts_pre

theorem tables {F : FTy → Type} [FloatOps F] (x0 : FVec F S69632x1024 .f32) (x1 : IVec S544 32) (x2 : IVec S1 32) (x3 x4 : FVec F S32x1024x512 .f32)
    (x5 : FVec F S32x512x1024 .f32) (h : Cert.Pre_experts_pre.fn x0 x1 x2 x3 x4 x5 = fun _ => 1#1) : Cert.Layer.Tables x1 x2 := by
  have hs := congrFun h (Shape.Idx.first h_S_)
  dsimp only [Cert.Pre_experts_pre.fn] at hs
  obtain ⟨h1, h2⟩ := IntOp.andi_eq_one.1 hs
  refine ⟨?_, fun j hj => ?_⟩
  · have h3 := IntOp.cmpi_sge.1 h1
    have e : shapeCast S_ x2 shapeCasts_S1_S_ (Shape.Idx.first h_S_) = x2 (ix1 0) := by
      unfold shapeCast
      exact congrArg x2 (funext fun a => by fin_cases a; exact Subsingleton.elim (α := Fin 1) _ _)
    rw [e] at h3
    exact h3
  · haveI : Subsingleton S_.Idx := ⟨fun a b => funext fun k => k.elim0⟩
    have h3 := Host.reduce_andi_all _ _ _ _ _ h2 (ix1 j)
    have h4 : IntOp.ori (IntOp.cmpi .sge (BitVec.ofNat 32 j.val) (x2 (ix1 0))) (IntOp.andi (IntOp.cmpi .sge (x1 (ix1 j)) 0#32) (IntOp.cmpi .slt (x1 (ix1 j)) 32#32)) = 1#1 := by
      have eb : broadcastInDim S544 ![0] bcast_S1_S544_0 x2 (ix1 j) = x2 (ix1 0) := by
        unfold broadcastInDim
        exact congrArg x2 (funext fun a => by fin_cases a; exact Subsingleton.elim (α := Fin 1) _ _)
      rw [← eb]
      exact h3
    rcases IntOp.ori_eq_one.1 h4 with h5 | h5
    · have h6 := IntOp.cmpi_sge.1 h5
      have h7 : (BitVec.ofNat 32 j.val).toInt = j.val := WordCmp.toInt_ofNat_of_lt (by have := j.isLt; omega)
      omega
    · obtain ⟨h6, h7⟩ := IntOp.andi_eq_one.1 h5
      have h8 := IntOp.cmpi_sge.1 h6
      have h9 := IntOp.cmpi_slt.1 h7
      have e0 : (0#32 : BitVec 32).toInt = 0 := by decide
      have e1 : (32#32 : BitVec 32).toInt = 32 := by decide
      have h10 := BitVec.toInt_eq_toNat_cond (x1 (ix1 j))
      have h11 := (x1 (ix1 j)).isLt
      split at h10 <;> omega

end Cert.Pre_experts_pre.Gen

end
-- ==== Proof.ExpertsIdeal.Table.lean ====
module

public import proofs.«01_k».proof.Proof.ExpertsIdeal.Region
public import proofs.«01_k».proof.Proof.ExpertsPre
public import Idealize.ShloMosaic.Lib.Pipeline.ValueKit
public import Idealize.ShloMosaic.Lib.Pointwise
public import Idealize.ShloMosaic.Lib.Routing.OpsPair

@[expose] public section

set_option maxRecDepth 16384

noncomputable section

namespace Cert.ExpIdeal.Gen

open Idealize.ShloMosaic Idealize.ShloMosaic.TcCoe Idealize.SL.Sem
open Cert.Layer

variable {F : FTy → Type} [FloatOps F]
variable (m : (ℓ : Loc nD τ sig) → Buf (Elt F) ℓ)

/-- The blocks' experts and the number of used blocks, as launched. -/
def aBe : IVec S544 32 := m (((0 : Dev nD) : Thread nD τ).loc main_arg1)
def aNu : IVec S1 32 := m (((0 : Dev nD) : Thread nD τ).loc main_arg2)

theorem tbl_used : (tbl m 1 : IVec S1 32) = aNu m := V_main_arg2 m 0

/-- The host's looked-up table: at point `i` the expert of the live block. -/
theorem tbl_expert (h : 1 ≤ (aNu m (ix1 0)).toInt) (i : Fin 544) : (tbl m 0 : IVec S544 32) (ix1 i) = aBe m (ix1 (live (aNu m) i)) := by
  change (show IVec S544 32 from V m 0 main_v11) (ix1 i) = _
  simp only [V, hostOps0]
  entry_read
  refine Routing.take_ap _ rfl rfl rfl rfl _ _ i (live (aNu m) i).isLt (by have := (live (aNu m) i).isLt; omega) ?_
  have e1 : (fun i => shapeCast main_v1.ty.shape (m (0, Proc.tc.devRef main_arg2)) shapeCasts_S1_S_ i) = fun _ => aNu m (ix1 0) := by
    funext q
    unfold shapeCast
    exact congrArg (aNu m) (funext fun a => by fin_cases a; exact Subsingleton.elim (α := Fin 1) _ _)
  rw [e1]
  have e2 := live_word (aNu m) h i
  have hl := (live (aNu m) i).isLt
  change Scalar.select (IntOp.cmpi .slt (IntOp.minsi (BitVec.ofNat 32 i.val) (aNu m (ix1 0) - 1#32)) 0#32)
    (IntOp.addi (IntOp.minsi (BitVec.ofNat 32 i.val) (aNu m (ix1 0) - 1#32)) 544#32) (IntOp.minsi (BitVec.ofNat 32 i.val) (aNu m (ix1 0) - 1#32)) = _
  rw [e2]
  exact Routing.wrap_of_lt _ _ (by rw [BitVec.toNat_ofNat]; omega)

/-! ## The blocks fetched -/

theorem t0 (hN : 1 ≤ (aNu m (ix1 0)).toInt) (i : grid0.Coords) :
    cc0_transform_0 inb_S1_S1_0 numel1_S1 (tbl m) i = ![(live (aNu m) (i 0)).val, 0] := by
  have e : (tbl m).at 1 (Rect.unit (s := S1) ![0] S1.size inb_S1_S1_0) numel1_S1 = aNu m (ix1 0) := by
    refine (congrFun (tbl_used m) _).trans (congrArg (aNu m) (funext fun a => by fin_cases a; exact Subsingleton.elim (α := Fin 1) _ _))
  unfold cc0_transform_0
  dsimp only
  rw [e]
  have e2 := live_word (aNu m) hN (i 0)
  have hl := (live (aNu m) (i 0)).isLt
  change ![(IntOp.minsi (BitVec.ofNat 32 (i 0).val) (aNu m (ix1 0) - 1#32)).toNat, 0] = _
  rw [e2, BitVec.toNat_ofNat, Nat.mod_eq_of_lt (by omega)]

theorem t1 (hN : 1 ≤ (aNu m (ix1 0)).toInt) (i : grid0.Coords) :
    cc0_transform_1 k0_off1_inb numel1_S1 (tbl m) i = ![(aBe m (ix1 (live (aNu m) (i 0)))).toNat, 0, 0] := by
  have e : (tbl m).at 0 (Rect.unit (s := S544) ![(Scalar.indexCast (BitVec.ofNat 32 (i 0).val)).toNat] S1.size (k0_off1_inb i)) numel1_S1
      = aBe m (ix1 (live (aNu m) (i 0))) := by
    refine Eq.trans (congrArg (tbl m 0) ?_) (tbl_expert m hN (i 0))
    funext a
    fin_cases a
    apply Fin.ext
    have h0 := (i 0).isLt
    have h1 : (BitVec.ofNat 32 (i 0).val).toNat = (i 0).val := by
      rw [BitVec.toNat_ofNat]
      exact Nat.mod_eq_of_lt (lt_of_lt_of_le h0 (by decide))
    exact (congrArg₂ (· + ·) h1 rfl).trans (Nat.add_zero _)
  unfold cc0_transform_1
  dsimp only
  rw [e]
  rfl

theorem t2 (hN : 1 ≤ (aNu m (ix1 0)).toInt) (i : grid0.Coords) :
    cc0_transform_2 k0_off1_inb numel1_S1 (tbl m) i = ![(aBe m (ix1 (live (aNu m) (i 0)))).toNat, 0, 0] := t1 m hN i

theorem t3 (hN : 1 ≤ (aNu m (ix1 0)).toInt) (i : grid0.Coords) :
    cc0_transform_3 k0_off1_inb numel1_S1 (tbl m) i = ![(aBe m (ix1 (live (aNu m) (i 0)))).toNat, 0, 0] := t1 m hN i

/-- Under the precondition every block fetched lies inside its array. -/
theorem ok_of_tables (h : Tables (aBe m) (aNu m)) : Ok m := by
  have hb (i : grid0.Coords) := h.low _ (live_lt (aNu m) h.pos (i 0))
  refine ⟨fun i => ⟨fun a => ?_, .inl rfl⟩, fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · have hl := (live (aNu m) (i 0)).isLt
    rw [t0 m h.pos i]
    fin_cases a <;> simp <;> omega
  · have hl := hb i
    rw [t1 m h.pos i]
    fin_cases a <;> simp <;> omega
  · have hl := hb i
    rw [t2 m h.pos i]
    fin_cases a <;> simp <;> omega
  · have hl := hb i
    rw [t3 m h.pos i]
    fin_cases a <;> simp <;> omega

end Cert.ExpIdeal.Gen

end
-- ==== Proof.ExpertsReference.lean ====
module

public import proofs.«01_k».proof.Proof.Gen.ExpRefIdeal.Read
public import proofs.«01_k».proof.Proof.ExpertsPre
public import Idealize.ShloMosaic.Lib.Pipeline.ValueKit
public import Idealize.ShloMosaic.Lib.Routing.OpsPair

@[expose] public section

set_option maxRecDepth 16384

noncomputable section

open Idealize.ShloMosaic Idealize.ShloMosaic.TcCoe

namespace Cert.Layer

/-! ## A table of matrices looked up by a vector of words -/

/-- The lookup `table[idx]` of `n` matrices in a table of `N`. -/
abbrev matDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(p, a, b)` of the lookup is entry `(a, b)` of the matrix word `p` names. -/
theorem gather_mat {α : Type} {N A B n : ℕ} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (p : Fin n) (a : Fin A) (b : Fin B) (e : Fin N)
    (hN : N < 2 ^ 31) (he : idx (ix2 p 0) = BitVec.ofNat 32 e.val) :
    Host.gather (matDims N A B n wf) x idx (ix3 p a b) = x (ix3 e a b) := by
  unfold Host.gather
  refine congrArg x (funext fun k => Fin.ext ?_)
  show (matDims N A B n wf).start (ix3 p a b) idx k + (matDims N A B n wf).batchCoord (ix3 p a b) k + (matDims N A B n wf).offCoord (ix3 p a b) k = _
  rw [GatherDims.batchCoord_eq_zero _ _ _ List.not_mem_nil, Nat.add_zero]
  match k with
  | ⟨0, _⟩ =>
    rw [GatherDims.offCoord_eq_zero _ _ _ (fun h => ((GatherDims.mem_sKept _ _).mp h).1 (List.mem_singleton.mpr rfl)), Nat.add_zero]
    change (matDims N A B n wf).start (ix3 p a b) idx (0 : Fin 3) = e.val
    unfold GatherDims.start
    rw [dif_pos (show (0 : Fin 3) ∈ (matDims N A B n wf).startIndexMap from List.mem_singleton.mpr rfl)]
    have hsi : (matDims N A B n wf).siIdx (ix3 p a b) ⟨List.idxOf (0 : Fin 3) (matDims N A B n wf).startIndexMap,
        List.idxOf_lt_length_iff.2 (List.mem_singleton.mpr rfl)⟩ = ix2 p 0 := by
      funext c; refine Fin.ext ?_
      match c with
      | ⟨0, _⟩ => rfl
      | ⟨1, _⟩ => rfl
    have hel := e.isLt
    have h1 : (BitVec.ofNat 32 e.val).toInt = e.val := WordCmp.toInt_ofNat_of_lt (by omega)
    refine (congrArg (fun q => min (idx q).toInt.toNat (N - 1)) hsi).trans ?_
    show min (idx (ix2 p 0)).toInt.toNat (N - 1) = e.val
    rw [he, h1, Int.toNat_natCast]
    omega
  | ⟨1, _⟩ =>
    have hs : (matDims N A B n wf).start (ix3 p a b) idx (1 : Fin 3) = 0 := by
      unfold GatherDims.start
      rw [dif_neg (show ¬ (1 : Fin 3) ∈ (matDims N A B n wf).startIndexMap from by simp)]
    exact (congrArg (· + (matDims N A B n wf).offCoord (ix3 p a b) (1 : Fin 3)) hs).trans (Nat.zero_add _)
  | ⟨2, _⟩ =>
    have hs : (matDims N A B n wf).start (ix3 p a b) idx (2 : Fin 3) = 0 := by
      unfold GatherDims.start
      rw [dif_neg (show ¬ (2 : Fin 3) ∈ (matDims N A B n wf).startIndexMap from by simp)]
    exact (congrArg (· + (matDims N A B n wf).offCoord (ix3 p a b) (2 : Fin 3)) hs).trans (Nat.zero_add _)

/-! ## The experts -/

abbrev Rows := FVec Ideal ⟨2, ![69632, 1024]⟩ .f32
abbrev Ups := FVec Ideal ⟨3, ![32, 1024, 512]⟩ .f32
abbrev Downs := FVec Ideal ⟨3, ![32, 512, 1024]⟩ .f32

/-- The hidden unit `f` of expert `e` at row `r`: `silu(x · gate) * (x · up)`. -/
def hidden (X : Rows) (G U : Ups) (e : Fin 32) (r : Fin 69632) (f : Fin 512) : EReal :=
  (∑ d : Fin 1024, X (ix2 r d) * G (ix3 e d f)) * Ideal.logistic (∑ d : Fin 1024, X (ix2 r d) * G (ix3 e d f))
    * ∑ d : Fin 1024, X (ix2 r d) * U (ix3 e d f)

/-- Row `128 i + p`. -/
def row (i : Fin 544) (p : Fin 128) : Fin 69632 := ⟨i.val * 128 + p.val, by omega⟩

/-- The block's expert (a word that names none is read as the last). -/
def expertOf (be : IVec ⟨1, ![544]⟩ 32) (i : Fin 544) : Fin 32 := ⟨min (be (ix1 i)).toNat 31, by omega⟩

theorem expertOf_word (be : IVec ⟨1, ![544]⟩ 32) (i : Fin 544) (h : (be (ix1 i)).toNat < 32) : be (ix1 i) = BitVec.ofNat 32 (expertOf be i).val := by
  apply BitVec.eq_of_toNat_eq
  show _ = (BitVec.ofNat 32 (min (be (ix1 i)).toNat 31)).toNat
  rw [BitVec.toNat_ofNat]
  omega

/-- The grouped feed-forward: each used block's rows through the block's expert, the other blocks zero. -/
def grouped (X : Rows) (be : IVec ⟨1, ![544]⟩ 32) (nu : IVec ⟨1, ![1]⟩ 32) (G U : Ups) (D : Downs) (i : Fin 544) (p : Fin 128) (n : Fin 1024) : EReal :=
  if (i.val : ℤ) < (nu (ix1 0)).toInt then ∑ f : Fin 512, hidden X G U (expertOf be i) (row i p) f * D (ix3 (expertOf be i) f n) else 0

end Cert.Layer

namespace Cert.ExpRefIdeal.Value

open Cert.ExpRefIdeal Cert.ExpRefIdeal.Gen Cert.ExpRefIdeal.Read Cert.Layer

variable (x0 : FVec Ideal S69632x1024 .f32) (x1 : IVec S544 32) (x2 : IVec S1 32) (x3 x4 : FVec Ideal S32x1024x512 .f32) (x5 : FVec Ideal S32x512x1024 .f32)

theorem rows_ref (i : Fin 544) (p : Fin 128) (d : Fin 1024) : val_main_v0 (F := Ideal) x0 (ix3 i p d) = x0 (ix2 (row i p) d) := by
  pointwise [val_main_v0]
  refine congrArg x0 ?_
  funext a; fin_cases a <;> apply Fin.ext <;> simp [row] <;> omega

theorem word6 (i : Fin 544) (h : (x1 (ix1 i)).toNat < 32) : val_main_v6 (F := Ideal) x1 (ix2 i 0) = BitVec.ofNat 32 (expertOf x1 i).val := by
  pointwise [val_main_v6, val_main_v5, val_main_v4, val_main_v3, val_main_v2, val_main_v1, val_main_c, val_main_c_0]
  exact (Routing.wrap_of_lt _ _ (by omega)).trans (expertOf_word x1 i h)

theorem word14 (i : Fin 544) (h : (x1 (ix1 i)).toNat < 32) : val_main_v14 (F := Ideal) x1 (ix2 i 0) = BitVec.ofNat 32 (expertOf x1 i).val := word6 x1 i h
theorem word24 (i : Fin 544) (h : (x1 (ix1 i)).toNat < 32) : val_main_v24 (F := Ideal) x1 (ix2 i 0) = BitVec.ofNat 32 (expertOf x1 i).val := word6 x1 i h

theorem gate_ref (i : Fin 544) (h : (x1 (ix1 i)).toNat < 32) (d : Fin 1024) (f : Fin 512) :
    val_main_v7 (F := Ideal) x1 x3 (ix3 i d f) = x3 (ix3 (expertOf x1 i) d f) :=
  gather_mat _ x3 _ i d f _ (by decide) (word6 x1 i h)
theorem up_ref (i : Fin 544) (h : (x1 (ix1 i)).toNat < 32) (d : Fin 1024) (f : Fin 512) :
    val_main_v15 (F := Ideal) x1 x4 (ix3 i d f) = x4 (ix3 (expertOf x1 i) d f) :=
  gather_mat _ x4 _ i d f _ (by decide) (word14 x1 i h)
theorem down_ref (i : Fin 544) (h : (x1 (ix1 i)).toNat < 32) (f : Fin 512) (n : Fin 1024) :
    val_main_v25 (F := Ideal) x1 x5 (ix3 i f n) = x5 (ix3 (expertOf x1 i) f n) :=
  gather_mat _ x5 _ i f n _ (by decide) (word24 x1 i h)

theorem dot_gate (i : Fin 544) (h : (x1 (ix1 i)).toNat < 32) (p : Fin 128) (f : Fin 512) :
    val_main_v8 (F := Ideal) x0 x1 x3 (ix3 i p f) = ∑ d : Fin 1024, x0 (ix2 (row i p) d) * x3 (ix3 (expertOf x1 i) d f) := by
  pointwise [val_main_v8]
  refine Finset.sum_congr rfl fun d _ => ?_
  exact congrArg₂ (· * ·) (rows_ref x0 i p d) (gate_ref x1 x3 i h d f)

theorem dot_up (i : Fin 544) (h : (x1 (ix1 i)).toNat < 32) (p : Fin 128) (f : Fin 512) :
    val_main_v16 (F := Ideal) x0 x1 x4 (ix3 i p f) = ∑ d : Fin 1024, x0 (ix2 (row i p) d) * x4 (ix3 (expertOf x1 i) d f) := dot_gate x0 x1 x4 i h p f

theorem hidden_ref (i : Fin 544) (h : (x1 (ix1 i)).toNat < 32) (p : Fin 128) (f : Fin 512) :
    val_main_v18 (F := Ideal) x0 x1 x3 x4 (ix3 i p f) = hidden x0 x3 x4 (expertOf x1 i) (row i p) f := by
  pointwise [val_main_v18, val_main_v17, val_main_call0_v0, val_main_call0_v1, val_main_call0_cst, val_main_call0_v2, val_main_call0_v3, val_main_call0_cst_0, val_main_call0_v4, val_main_call0_v5]
  rw [dot_gate x0 x1 x3 i h p f, dot_up x0 x1 x4 i h p f]
  rfl

theorem dot_down (i : Fin 544) (h : (x1 (ix1 i)).toNat < 32) (p : Fin 128) (n : Fin 1024) :
    val_main_v26 (F := Ideal) x0 x1 x3 x4 x5 (ix3 i p n) = ∑ f : Fin 512, hidden x0 x3 x4 (expertOf x1 i) (row i p) f * x5 (ix3 (expertOf x1 i) f n) := by
  pointwise [val_main_v26]
  refine Finset.sum_congr rfl fun f _ => ?_
  exact congrArg₂ (· * ·) (hidden_ref x0 x1 x3 x4 i h p f) (down_ref x1 x5 i h f n)

theorem used_ref (i : Fin 544) (p : Fin 128) (n : Fin 1024) :
    val_main_call1_v1 (F := Ideal) x2 (ix3 i p n) = IntOp.cmpi .slt (BitVec.ofNat 32 i.val) (x2 (ix1 0)) := by
  pointwise [val_main_call1_v1, val_main_v30, val_main_v29, val_main_v28, val_main_v27]
  first | done | rfl

theorem grouped_ref (h : Tables x1 x2) (i : Fin 544) (p : Fin 128) (n : Fin 1024) :
    val_main_v32 (F := Ideal) x0 x1 x2 x3 x4 x5 (ix2 (row i p) n) = grouped x0 x1 x2 x3 x4 x5 i p n := by
  have e : val_main_v32 (F := Ideal) x0 x1 x2 x3 x4 x5 (ix2 (row i p) n) = val_main_v31 (F := Ideal) x0 x1 x2 x3 x4 x5 (ix3 i p n) := by
    pointwise [val_main_v32]
    refine congrArg _ ?_
    funext a; fin_cases a <;> apply Fin.ext <;> simp [row] <;> omega
  rw [e]
  change Scalar.select (val_main_call1_v1 (F := Ideal) x2 (ix3 i p n)) (val_main_v26 (F := Ideal) x0 x1 x3 x4 x5 (ix3 i p n)) (val_main_call1_v2 (F := Ideal) (ix3 i p n)) = _
  rw [used_ref]
  unfold grouped
  have hi : (BitVec.ofNat 32 i.val).toInt = i.val := WordCmp.toInt_ofNat_of_lt (by have := i.isLt; omega)
  by_cases hu : (i.val : ℤ) < (x2 (ix1 0)).toInt
  · rw [if_pos hu, IntOp.cmpi_slt.2 (by rw [hi]; exact hu)]
    exact dot_down x0 x1 x3 x4 x5 i (h.low i hu) p n
  · rw [if_neg hu]
    have h0 : IntOp.cmpi .slt (BitVec.ofNat 32 i.val) (x2 (ix1 0)) = 0#1 := by
      have h1 : ¬ IntOp.cmpi .slt (BitVec.ofNat 32 i.val) (x2 (ix1 0)) = 1#1 := fun q => hu (by rw [← hi]; exact IntOp.cmpi_slt.1 q)
      revert h1
      generalize IntOp.cmpi .slt (BitVec.ofNat 32 i.val) (x2 (ix1 0)) = b
      revert b; decide
    rw [h0]
    change val_main_call1_v2 (F := Ideal) (ix3 i p n) = 0
    pointwise [val_main_call1_v2, val_main_call1_v0, val_main_cst]
    exact Ideal.ofBits_zero_f32

end Cert.ExpRefIdeal.Value

end
-- ==== Proof.ExpertsIdeal.Value.lean ====
module

public import proofs.«01_k».proof.Proof.ExpertsIdeal.Frame
public import proofs.«01_k».proof.Proof.ExpertsIdeal.Table
public import proofs.«01_k».proof.Proof.ExpertsReference
public import Idealize.ShloMosaic.Lib.Pipeline.RowLoads
public import Idealize.ShloMosaic.Lib.VecWindow

@[expose] public section

set_option maxRecDepth 16384

noncomputable section

namespace Cert.ExpIdeal.Gen

open Idealize.ShloMosaic Idealize.ShloMosaic.TcCoe Idealize.SL.Sem
open Idealize.ShloMosaic.Pipeline (Dat)
open Cert.Layer

/-- One used block: its rows through the fetched expert. -/
theorem pay_live (v7 : Vec Ideal S128x1024 .f32) (v9 v14 : Vec Ideal S1x1024x512 .bf16) (v19 : Vec Ideal S1x512x1024 .bf16) (p : Fin 128) (n : Fin 1024) :
    k0_pay1 v7 v9 v14 v19 (ix2 p n) = ∑ f : Fin 512, (∑ d : Fin 1024, v7 (ix2 p d) * v9 (ix3 0 d f)) * Ideal.logistic (∑ d : Fin 1024, v7 (ix2 p d) * v9 (ix3 0 d f))
      * (∑ d : Fin 1024, v7 (ix2 p d) * v14 (ix3 0 d f)) * v19 (ix3 0 f n) := by
  pointwise [k0_pay1]
  first | done | rfl

theorem pay_dead (p : Fin 128) (n : Fin 1024) : k0_pay2 (F := Ideal) (ix2 p n) = 0 := by
  pointwise [k0_pay2]

section
variable {F : FTy → Type} [FloatOps F]

theorem out_live (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : k0_cond1 i (word c xt1) = 1#1) :
    out0_A_4 c i arg3 harg3 arg4 harg4 arg5 harg5 arg6 harg6 arg7 harg7 x0 x1 x2 x3 xt0 xt1 hl = k0_pay1 x0 x1 x2 x3 := by
  have h0 : View.readAt (Elt F) arg3.view (Rect.unit ![0, 0] ![128, 1024] inb_S128x1024_S128x1024_0_0).toLoadRect (harg3.unread x0) = x0 :=
    (View.readAt_full arg3.view (harg3.unread x0) inb_S128x1024_S128x1024_0_0).trans (harg3.read_unread x0)
  have h1 : View.readAt (Elt F) arg4.view (Rect.unit ![0, 0, 0] ![1, 1024, 512] inb_S1x1024x512_S1x1024x512_0_0_0).toLoadRect (harg4.unread x1) = x1 :=
    (View.readAt_full arg4.view (harg4.unread x1) inb_S1x1024x512_S1x1024x512_0_0_0).trans (harg4.read_unread x1)
  have h2 : View.readAt (Elt F) arg5.view (Rect.unit ![0, 0, 0] ![1, 1024, 512] inb_S1x1024x512_S1x1024x512_0_0_0).toLoadRect (harg5.unread x2) = x2 :=
    (View.readAt_full arg5.view (harg5.unread x2) inb_S1x1024x512_S1x1024x512_0_0_0).trans (harg5.read_unread x2)
  have h3 : View.readAt (Elt F) arg6.view (Rect.unit ![0, 0, 0] ![1, 512, 1024] inb_S1x512x1024_S1x512x1024_0_0_0).toLoadRect (harg6.unread x3) = x3 :=
    (View.readAt_full arg6.view (harg6.unread x3) inb_S1x512x1024_S1x512x1024_0_0_0).trans (harg6.read_unread x3)
  unfold out0_A_4
  refine (View.read_writes_eq_canon _ _ _ (cover0_A_4 c i arg3 harg3 arg4 harg4 arg5 harg5 arg6 harg6 arg7 harg7 x0 x1 x2 x3 xt0 xt1 hl)).trans ?_
  unfold kernelRun0_A
  dsimp only
  rw [h0, h1, h2, h3]
  exact View.canon_unit_zero (by funext a; fin_cases a <;> rfl) _ _

theorem out_dead (c : Dev nD) (i : grid0.Coords) (arg3 : Memref sig .tc .vmem S128x1024 .f32) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S128x1024 .f32) (harg7 : arg7.IsWhole)
    (x0 : Vec F S128x1024 .f32) (x1 : Vec F S1x1024x512 .bf16) (x2 : Vec F S1x1024x512 .bf16) (x3 : Vec F S1x512x1024 .bf16) (xt0 : TbBuf0 (F := F) c tbM0_0) (xt1 : TbBuf0 (F := F) c tbM0_1) (hl : ¬ k0_cond1 i (word c xt1) = 1#1) :
    out0_B_4 c i arg3 harg3 arg4 harg4 arg5 harg5 arg6 harg6 arg7 harg7 x0 x1 x2 x3 xt0 xt1 hl = k0_pay2 := by
  unfold out0_B_4
  refine (View.read_writes_eq_canon _ _ _ (cover0_B_4 c i arg3 harg3 arg4 harg4 arg5 harg5 arg6 harg6 arg7 harg7 x0 x1 x2 x3 xt0 xt1 hl)).trans ?_
  unfold kernelRun0_B
  dsimp only
  exact View.canon_unit_zero (by funext a; fin_cases a <;> rfl) _ _

/-- The body's condition: the point is below the number of used blocks. -/
theorem cond_iff (i : grid0.Coords) (v : BitVec 32) : k0_cond1 i v = 1#1 ↔ ((i 0).val : ℤ) < v.toInt := by
  have hi : (BitVec.ofNat 32 (i 0).val).toInt = (i 0).val :=
    WordCmp.toInt_ofNat_of_lt (lt_of_lt_of_le (i 0).isLt (by decide))
  rw [← hi, ← IntOp.cmpi_slt]
  unfold k0_cond1
  dsimp only
  change _ ↔ Scalar.cmpi .slt (BitVec.ofNat 32 (i 0).val) v = 1#1
  generalize Scalar.cmpi .slt (BitVec.ofNat 32 (i 0).val) v = b
  revert b
  decide

theorem word_eq (m : (ℓ : Loc nD τ sig) → Buf (Elt F) ℓ) (c : Dev nD) : word c (tbl m 1) = aNu m (ix1 0) := by
  refine (congrFun (tbl_used m) _).trans (congrArg (aNu m) (funext fun a => by fin_cases a; exact Subsingleton.elim (α := Fin 1) _ _))
end

/-! ## The blocks the points read -/

variable (m : (ℓ : Loc nD τ sig) → Buf (Elt Ideal) ℓ)

def aX (c : Dev nD) : FVec Ideal S69632x1024 .f32 := m ((c : Thread nD τ).loc main_arg0)
def aG (c : Dev nD) : FVec Ideal S32x1024x512 .f32 := m ((c : Thread nD τ).loc main_arg3)
def aU (c : Dev nD) : FVec Ideal S32x1024x512 .f32 := m ((c : Thread nD τ).loc main_arg4)
def aD (c : Dev nD) : FVec Ideal S32x512x1024 .f32 := m ((c : Thread nD τ).loc main_arg5)

theorem entryX (c : Dev nD) (r : Fin 69632) (d : Fin 1024) : (show FVec Ideal S69632x1024 .f32 from V m c main_arg0) (ix2 r d) = aX m c (ix2 r d) := by
  rw [V_main_arg0]
  rfl

theorem entryG (c : Dev nD) (e : Fin 32) (d : Fin 1024) (f : Fin 512) : (show FVec Ideal S32x1024x512 .bf16 from V m c main_v12) (ix3 e d f) = aG m c (ix3 e d f) := by
  simp only [V, hostOps0]
  entry_read
  change (truncf .bf16 (show FVec Ideal S32x1024x512 .f32 from m ((c : Thread nD τ).loc main_arg3)) bitsLt_bf16_f32) (ix3 e d f) = _
  pointwise
  rfl

theorem entryU (c : Dev nD) (e : Fin 32) (d : Fin 1024) (f : Fin 512) : (show FVec Ideal S32x1024x512 .bf16 from V m c main_v13) (ix3 e d f) = aU m c (ix3 e d f) := by
  simp only [V, hostOps0]
  entry_read
  change (truncf .bf16 (show FVec Ideal S32x1024x512 .f32 from m ((c : Thread nD τ).loc main_arg4)) bitsLt_bf16_f32) (ix3 e d f) = _
  pointwise
  rfl

theorem entryD (c : Dev nD) (e : Fin 32) (f : Fin 512) (n : Fin 1024) : (show FVec Ideal S32x512x1024 .bf16 from V m c main_v14) (ix3 e f n) = aD m c (ix3 e f n) := by
  simp only [V, hostOps0]
  entry_read
  change (truncf .bf16 (show FVec Ideal S32x512x1024 .f32 from m ((c : Thread nD τ).loc main_arg5)) bitsLt_bf16_f32) (ix3 e f n) = _
  pointwise
  rfl

/-- The grid's one coordinate is the point itself. -/
theorem coord (t : Fin grid0.N) : (grid0.coords t 0).val = t.val :=
  (by decide +kernel : ∀ t : Fin grid0.N, (grid0.coords t 0).val = t.val) t

theorem lt544 (t : Fin grid0.N) : t.val < 544 := lt_of_lt_of_eq t.isLt (by decide)

/-- The point as a block. -/
def blk (t : Fin grid0.N) : Fin 544 := ⟨t.val, lt544 t⟩

theorem coord_blk (t : Fin grid0.N) : (grid0.coords t 0 : Fin 544) = blk t := Fin.ext (coord t)

section
variable (h : Tables (aBe m) (aNu m)) (hO : Ok m)
include h

theorem idx0 (t : Fin (cfgM m hO).N) : ((cfgM m hO).win 0).index t = ![(live (aNu m) (blk t)).val, 0] :=
  (t0 m h.pos (grid0.coords t)).trans (by rw [coord_blk])
theorem idx1 (t : Fin (cfgM m hO).N) : ((cfgM m hO).win 1).index t = ![(aBe m (ix1 (live (aNu m) (blk t)))).toNat, 0, 0] :=
  (t1 m h.pos (grid0.coords t)).trans (by rw [coord_blk])
theorem idx2 (t : Fin (cfgM m hO).N) : ((cfgM m hO).win 2).index t = ![(aBe m (ix1 (live (aNu m) (blk t)))).toNat, 0, 0] :=
  (t2 m h.pos (grid0.coords t)).trans (by rw [coord_blk])
theorem idx3 (t : Fin (cfgM m hO).N) : ((cfgM m hO).win 3).index t = ![(aBe m (ix1 (live (aNu m) (blk t)))).toNat, 0, 0] :=
  (t3 m h.pos (grid0.coords t)).trans (by rw [coord_blk])
end

theorem idx4 (hO : Ok m) (t : Fin (cfgM m hO).N) : ((cfgM m hO).win 4).index t = ![t.val, 0] := by
  have e : ∀ t : Fin grid0.N, cc0_transform_4 (grid0.coords t) = ![t.val, 0] := by decide +kernel
  exact e t

section
variable (h : Tables (aBe m) (aNu m)) (hO : Ok m) (c : Dev nD) (t : Fin (cfgM m hO).N) (hu : (t.val : ℤ) < (aNu m (ix1 0)).toInt)
include h hu

theorem live_blk : live (aNu m) (blk t) = blk t := live_self _ _ (by
  have hp := h.pos
  show t.val < (aNu m (ix1 0)).toInt.toNat
  omega)

theorem expert_val : (expertOf (aBe m) (blk t)).val = (aBe m (ix1 (blk t))).toNat := by
  have := h.low (blk t) hu
  show min _ _ = _
  omega

theorem blkX (p : Fin 128) (d : Fin 1024) : (show FVec Ideal S128x1024 .f32 from iblk m hO c 0 t) (ix2 p d) = aX m c (ix2 (row (blk t) p) d) := by
  rw [← entryX]
  have e := idx0 m h hO t
  rw [live_blk m h hO t hu] at e
  blk_simp [iblk]
  refine congrArg _ ?_
  blk_ext [e]
  rfl

theorem blkG (d : Fin 1024) (f : Fin 512) : (show FVec Ideal S1x1024x512 .bf16 from iblk m hO c 1 t) (ix3 0 d f) = aG m c (ix3 (expertOf (aBe m) (blk t)) d f) := by
  rw [← entryG]
  have e := idx1 m h hO t
  have ev := expert_val m h hO t hu
  rw [live_blk m h hO t hu] at e
  blk_simp [iblk]
  refine congrArg _ ?_
  blk_ext [e]
  all_goals (simp only [ev]; try omega)

theorem blkU (d : Fin 1024) (f : Fin 512) : (show FVec Ideal S1x1024x512 .bf16 from iblk m hO c 2 t) (ix3 0 d f) = aU m c (ix3 (expertOf (aBe m) (blk t)) d f) := by
  rw [← entryU]
  have e := idx2 m h hO t
  have ev := expert_val m h hO t hu
  rw [live_blk m h hO t hu] at e
  blk_simp [iblk]
  refine congrArg _ ?_
  blk_ext [e]
  all_goals (simp only [ev]; try omega)

theorem blkD (f : Fin 512) (n : Fin 1024) : (show FVec Ideal S1x512x1024 .bf16 from iblk m hO c 3 t) (ix3 0 f n) = aD m c (ix3 (expertOf (aBe m) (blk t)) f n) := by
  rw [← entryD]
  have e := idx3 m h hO t
  have ev := expert_val m h hO t hu
  rw [live_blk m h hO t hu] at e
  blk_simp [iblk]
  refine congrArg _ ?_
  blk_ext [e]
  all_goals (simp only [ev]; try omega)

end

/-- What a point leaves in the output's block. -/
theorem point4 (h : Tables (aBe m) (aNu m)) (hO : Ok m) (c : Dev nD) (t : Fin (cfgM m hO).N) (p : Fin 128) (n : Fin 1024) :
    (outsAt0 m hO c t : FVec Ideal S128x1024 .f32) (ix2 p n) = grouped (aX m c) (aBe m) (aNu m) (aG m c) (aU m c) (aD m c) (blk t) p n := by
  have hc : k0_cond1 (grid0.coords t) (word c (tbl m 1)) = 1#1 ↔ (t.val : ℤ) < (aNu m (ix1 0)).toInt := by
    rw [cond_iff, word_eq, coord]
  unfold grouped
  by_cases hl : k0_cond1 (grid0.coords t) (word c (tbl m 1)) = 1#1
  · have hu := hc.1 hl
    rw [if_pos (show ((blk t).val : ℤ) < _ from hu)]
    refine (congrFun ((dif_pos hl : outsAt0 m hO c t = _).trans (out_live (F := Ideal) c _ _ _ _ _ _ _ _ _ _ _ _ _ _ _ _ _ hl)) _).trans ?_
    refine (pay_live _ _ _ _ p n).trans (Finset.sum_congr rfl fun f _ => ?_)
    have eg : (∑ d : Fin 1024, (show FVec Ideal S128x1024 .f32 from iblk m hO c 0 t) (ix2 p d) * (show FVec Ideal S1x1024x512 .bf16 from iblk m hO c 1 t) (ix3 0 d f))
        = ∑ d : Fin 1024, aX m c (ix2 (row (blk t) p) d) * aG m c (ix3 (expertOf (aBe m) (blk t)) d f) :=
      Finset.sum_congr rfl fun d _ => congrArg₂ (· * ·) (blkX m h hO c t hu p d) (blkG m h hO c t hu d f)
    have eu : (∑ d : Fin 1024, (show FVec Ideal S128x1024 .f32 from iblk m hO c 0 t) (ix2 p d) * (show FVec Ideal S1x1024x512 .bf16 from iblk m hO c 2 t) (ix3 0 d f))
        = ∑ d : Fin 1024, aX m c (ix2 (row (blk t) p) d) * aU m c (ix3 (expertOf (aBe m) (blk t)) d f) :=
      Finset.sum_congr rfl fun d _ => congrArg₂ (· * ·) (blkX m h hO c t hu p d) (blkU m h hO c t hu d f)
    exact congrArg₂ (· * ·) (congrArg₂ (· * ·) (congrArg (fun z => z * Ideal.logistic z) eg) eu) (blkD m h hO c t hu f n)
  · rw [if_neg (show ¬ ((blk t).val : ℤ) < _ from fun q => hl (hc.2 q))]
    refine (congrFun ((dif_neg hl : outsAt0 m hO c t = _).trans (out_dead (F := Ideal) c _ _ _ _ _ _ _ _ _ _ _ _ _ _ _ _ _ hl)) _).trans ?_
    exact pay_dead p n

/-- The block and the row inside it of a row of the array. -/
def blkOf (r : Fin 69632) : Fin 544 := ⟨r.val / 128, by have := r.isLt; omega⟩
def rowOf (r : Fin 69632) : Fin 128 := ⟨r.val % 128, Nat.mod_lt _ (by norm_num)⟩

theorem row_of (r : Fin 69632) : row (blkOf r) (rowOf r) = r := Fin.ext (Nat.div_add_mod' r.val 128)

theorem grouped_at (f : Fin 544 → Fin 128 → Fin 1024 → EReal) (t : Fin grid0.N) (p : Fin 128) (n : Fin 1024) (R : Fin 69632) (N : Fin 1024)
    (h : R.val = t.val * 128 + p.val) (hn : N.val = n.val) : f (blk t) p n = f (blkOf R) (rowOf R) N := by
  obtain rfl : N = n := Fin.ext hn
  have hp := p.isLt
  have e1 : blkOf R = blk t := Fin.ext (by show R.val / 128 = t.val; omega)
  have e2 : rowOf R = p := Fin.ext (by show R.val % 128 = p.val; omega)
  rw [e1, e2]

/-- Every block of the output is written back at one of the points. -/
theorem covers4 (hO : Ok m) : ((cfgM m hO).win 4).Covers := by
  refine ⟨fun a => ?_, fun β => ⟨⟨(β (0 : Fin 2)).val, ?_⟩, flush0_4 _ _, fun a => ⟨?_, .inl ?_⟩⟩⟩
  · revert a
    exact (by decide : ∀ a : Fin 2, 0 < S128x1024.size a)
  · exact lt_of_lt_of_eq (β (0 : Fin 2)).isLt (by decide +kernel : (69632 + 128 - 1) / 128 = grid0.N)
  · rw [idx4 m hO]
    fin_cases a
    · rfl
    · have h1 : (β (1 : Fin 2)).val < (1024 + 1024 - 1) / 1024 := (β (1 : Fin 2)).isLt
      show 0 = (β (1 : Fin 2)).val
      omega
  · rfl

/-- The whole output as the region leaves it. -/
def result (c : Dev nD) : FVec Ideal S69632x1024 .f32 := fun i =>
  grouped (aX m c) (aBe m) (aNu m) (aG m c) (aU m c) (aD m c) (blkOf (i 0)) (rowOf (i 0)) (i 1)

theorem final4 (h : Tables (aBe m) (aNu m)) (hO : Ok m) (c : Dev nD) : (dats m hO 0 c).arrAt 4 (cfgM m hO).N = result m c := by
  refine (dats m hO 0 c).arrAt_eq_of_covers 4 _ (covers4 m hO) fun t _ y => ?_
  have e4 := idx4 m hO t
  blk_simp
  rw [after0_4]
  obtain ⟨p, n, rfl⟩ : ∃ (p : Fin 128) (n : Fin 1024), y = (ix2 p n : S128x1024.Idx) := ⟨y (0 : Fin 2), y (1 : Fin 2), by funext a; fin_cases a <;> rfl⟩
  refine (point4 m h hO c t p n).trans (grouped_at _ t _ _ _ _ ?_ ?_)
  all_goals (blk_simp [e4]; try omega)

/-- Every run ends with the output array at `result` and the arguments as launched. -/
theorem run_result (ρ : Dev nD → PrngReg) (h : Tables (aBe m) (aNu m)) : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  have hO := ok_of_tables m h
  (θ_run defs _ _).mono (fun r hr c => ⟨((hr.1 c).1 4).trans (final4 m h hO c), hr.2 c⟩)
    (θ_run_and (run_main m ρ hO) (unchanged m ρ hO))

end Cert.ExpIdeal.Gen

end
-- ==== Proof.ExpertsAlgebra.lean ====
module

public import proofs.«01_k».proof.Defs
public import proofs.«01_k».proof.Proof.ExpertsIdeal.Value
public import proofs.«01_k».proof.Proof.Experts.Frame
public import proofs.«01_k».proof.Proof.Experts.Table
public import proofs.«01_k».proof.Proof.Gen.ExpRefIdeal.Run

@[expose] public section

set_option maxRecDepth 16384

noncomputable section

open Idealize.ShloMosaic Idealize.ShloMosaic.TcCoe Idealize.SL.Sem
open Cert.Layer

namespace Cert.Proof

/-- The kernel's output is the reference's, row by row. -/
theorem experts_rows (m : (ℓ : Loc Cert.ExpIdeal.nD Cert.ExpIdeal.τ Cert.ExpIdeal.sig) → Buf (Elt Ideal) ℓ) (c : Dev Cert.ExpIdeal.nD)
    (h : Tables (Cert.ExpIdeal.Gen.aBe m) (Cert.ExpIdeal.Gen.aNu m)) :
    Cert.ExpRefIdeal.Read.val_main_v32 (F := Ideal) (Cert.ExpIdeal.Gen.aX m c) (Cert.ExpIdeal.Gen.aBe m) (Cert.ExpIdeal.Gen.aNu m)
      (Cert.ExpIdeal.Gen.aG m c) (Cert.ExpIdeal.Gen.aU m c) (Cert.ExpIdeal.Gen.aD m c) = Cert.ExpIdeal.Gen.result m c := by
  funext i
  obtain ⟨r, n, rfl⟩ : ∃ (r : Fin 69632) (n : Fin 1024), i = ix2 r n := ⟨i 0, i 1, by funext a; fin_cases a <;> rfl⟩
  have e := Cert.ExpRefIdeal.Value.grouped_ref (Cert.ExpIdeal.Gen.aX m c) (Cert.ExpIdeal.Gen.aBe m) (Cert.ExpIdeal.Gen.aNu m)
    (Cert.ExpIdeal.Gen.aG m c) (Cert.ExpIdeal.Gen.aU m c) (Cert.ExpIdeal.Gen.aD m c) h (Cert.ExpIdeal.Gen.blkOf r) (Cert.ExpIdeal.Gen.rowOf r) n
  rw [Cert.ExpIdeal.Gen.row_of] at e
  exact e

/-- The precondition's tables. -/
theorem experts_tables (m : (ℓ : Loc Cert.Exp.nD Cert.Exp.τ Cert.Exp.sig) → Buf (Elt Bits) ℓ)
    (h : Cert.Pre_Exp (hPre_experts_pre := Cert.Pre_experts_pre.Gen.facts) m) : Tables (Cert.Exp.Gen.aBe m) (Cert.Exp.Gen.aNu m) :=
  Cert.Pre_experts_pre.Gen.tables _ _ _ _ _ _ (h 0)

theorem experts_ideal_tables (m : (ℓ : Loc Cert.ExpIdeal.nD Cert.ExpIdeal.τ Cert.ExpIdeal.sig) → Buf (Elt Ideal) ℓ)
    (h : Cert.Pre_ExpIdeal (hPre_experts_pre := Cert.Pre_experts_pre.Gen.facts) m) : Tables (Cert.ExpIdeal.Gen.aBe m) (Cert.ExpIdeal.Gen.aNu m) :=
  Cert.Pre_experts_pre.Gen.tables _ _ _ _ _ _ (h 0)

/-- The kernel runs to its end, keeps its arguments and leaves every semaphore at zero. -/
theorem experts_frame : Cert.quiescent_Exp (hExp := Cert.Exp.Gen.facts) (hPre_experts_pre := Cert.Pre_experts_pre.Gen.facts) :=
  fun m g h => Cert.Exp.Gen.frame m g (Cert.Exp.Gen.ok_of_tables m (experts_tables m h))

theorem experts_ideal_frame : Cert.quiescent_ExpIdeal (hExpIdeal := Cert.ExpIdeal.Gen.facts) (hPre_experts_pre := Cert.Pre_experts_pre.Gen.facts) :=
  fun m g h => Cert.ExpIdeal.Gen.frame m g (Cert.ExpIdeal.Gen.ok_of_tables m (experts_ideal_tables m h))

set_option maxHeartbeats 2000000 in
/-- The grouped feed-forward is the reference's. -/
theorem experts : Cert.algebraic_ExpIdeal_ExpRefIdeal (hExpIdeal := Cert.ExpIdeal.Gen.facts) (hExpRefIdeal := Cert.ExpRefIdeal.Gen.facts)
    (hPre_experts_pre := Cert.Pre_experts_pre.Gen.facts) := by
  intro m g m' g' hpre hagree
  have ht := experts_ideal_tables m hpre
  refine ⟨fun c => Cert.ExpIdeal.Gen.result m c, Cert.ExpIdeal.Gen.run_result m g ht, ?_⟩
  refine (θ_run _ _ _).mono (fun r h c => ?_) (Cert.ExpRefIdeal.Value.run m' g')
  obtain ⟨h0, hrest⟩ := h c
  obtain rfl : c = 0 := Subsingleton.elim _ _
  obtain ⟨a0, a1, a2, a3, a4, a5⟩ := hagree 0
  refine ⟨h0.trans ((Cert.ExpRefIdeal.Read.val_main_v32_eq _ _ _ _ _ _).trans ?_), hrest⟩
  rw [a0, a1, a2, a3, a4, a5]
  exact experts_rows m 0 ht

/-- The reference runs to its end, keeps its arguments and has no semaphore. -/
theorem experts_reference_frame : Cert.quiescent_ExpRefIdeal (hExpRefIdeal := Cert.ExpRefIdeal.Gen.facts) := by
  intro m g _
  exact (θ_run _ _ _).mono (fun r h => ⟨fun c => (h c).2, Idealize.ShloMosaic.sem_eq_zero_of_no_sems (by decide) r.2⟩)
    (Cert.ExpRefIdeal.Value.run m g)

theorem experts_reference_frame_pre : Cert.quiescent_ExpRefIdeal_pre_experts_pre (hExpRefIdeal := Cert.ExpRefIdeal.Gen.facts)
    (hPre_experts_pre := Cert.Pre_experts_pre.Gen.facts) :=
  fun m g _ => experts_reference_frame m g trivial

end Cert.Proof

end
-- ==== Proof.lean ====
module

public import proofs.«01_k».proof.Defs
public import proofs.«01_k».proof.Proof.Gen.Plan
public import proofs.«01_k».proof.Proof.Gen.Plan.Skeleton
public import proofs.«01_k».proof.Proof.Gen.Plan.Launch
public import proofs.«01_k».proof.Proof.Gen.Plan.Points
public import proofs.«01_k».proof.Proof.Gen.Plan.Frame
public import proofs.«01_k».proof.Proof.Gen.PlanIdeal
public import proofs.«01_k».proof.Proof.Gen.PlanIdeal.Skeleton
public import proofs.«01_k».proof.Proof.Gen.PlanIdeal.Launch
public import proofs.«01_k».proof.Proof.Gen.PlanIdeal.Points
public import proofs.«01_k».proof.Proof.Gen.PlanIdeal.Frame
public import proofs.«01_k».proof.Proof.Gen.PlanIdeal.Value
public import proofs.«01_k».proof.Proof.Gen.PlanRefIdeal
public import proofs.«01_k».proof.Proof.Gen.PlanRefIdeal.Run
public import proofs.«01_k».proof.Proof.Gen.PlanRefIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Algebra
public import proofs.«01_k».proof.Proof.InSampleAlgebra
public import proofs.«01_k».proof.Proof.InPromptAlgebra
public import proofs.«01_k».proof.Proof.PostAlgebra
public import proofs.«01_k».proof.Proof.ModulationAlgebra
public import proofs.«01_k».proof.Proof.PlanAlgebra
public import proofs.«01_k».proof.Proof.DestAlgebra
public import proofs.«01_k».proof.Proof.Gen.Dest
public import proofs.«01_k».proof.Proof.Gen.Dest.Skeleton
public import proofs.«01_k».proof.Proof.Gen.Dest.Launch
public import proofs.«01_k».proof.Proof.Gen.Dest.Points
public import proofs.«01_k».proof.Proof.Gen.Dest.Frame
public import proofs.«01_k».proof.Proof.Gen.DestIdeal
public import proofs.«01_k».proof.Proof.Gen.DestIdeal.Skeleton
public import proofs.«01_k».proof.Proof.Gen.DestIdeal.Launch
public import proofs.«01_k».proof.Proof.Gen.DestIdeal.Points
public import proofs.«01_k».proof.Proof.Gen.DestIdeal.Frame
public import proofs.«01_k».proof.Proof.Gen.DestIdeal.Value
public import proofs.«01_k».proof.Proof.Gen.DestRefIdeal
public import proofs.«01_k».proof.Proof.Gen.DestRefIdeal.Run
public import proofs.«01_k».proof.Proof.Gen.DestRefIdeal.Read
public import proofs.«01_k».proof.Proof.ExpertsAlgebra
public import proofs.«01_k».proof.Proof.Gen.ReferenceIdeal.Run
public import proofs.«01_k».proof.Proof.Gen.ReferenceIdeal.Read
public import proofs.«01_k».proof.Proof.Gen.InSampleIdeal.Value
public import proofs.«01_k».proof.Proof.Gen.InSampleRefIdeal.Run
public import proofs.«01_k».proof.Proof.Gen.InSampleRefIdeal.Read
public import proofs.«01_k».proof.Proof.Gen.InPromptIdeal.Value
public import proofs.«01_k».proof.Proof.Gen.InPromptRefIdeal.Run
public import proofs.«01_k».proof.Proof.Gen.InPromptRefIdeal.Read
public import proofs.«01_k».proof.Proof.Gen.PostIdeal.Value
public import proofs.«01_k».proof.Proof.Gen.PostRefIdeal.Run
public import proofs.«01_k».proof.Proof.Gen.PostRefIdeal.Read
public import proofs.«01_k».proof.Proof.Gen.InSample
public import proofs.«01_k».proof.Proof.Gen.InSample.Skeleton
public import proofs.«01_k».proof.Proof.Gen.InSample.Launch
public import proofs.«01_k».proof.Proof.Gen.InSample.Points
public import proofs.«01_k».proof.Proof.Gen.InSample.Frame
public import proofs.«01_k».proof.Proof.Gen.InSampleIdeal
public import proofs.«01_k».proof.Proof.Gen.InSampleIdeal.Skeleton
public import proofs.«01_k».proof.Proof.Gen.InSampleIdeal.Launch
public import proofs.«01_k».proof.Proof.Gen.InSampleIdeal.Points
public import proofs.«01_k».proof.Proof.Gen.InSampleIdeal.Frame
public import proofs.«01_k».proof.Proof.Gen.InPrompt
public import proofs.«01_k».proof.Proof.Gen.InPrompt.Skeleton
public import proofs.«01_k».proof.Proof.Gen.InPrompt.Launch
public import proofs.«01_k».proof.Proof.Gen.InPrompt.Points
public import proofs.«01_k».proof.Proof.Gen.InPrompt.Frame
public import proofs.«01_k».proof.Proof.Gen.InPromptIdeal
public import proofs.«01_k».proof.Proof.Gen.InPromptIdeal.Skeleton
public import proofs.«01_k».proof.Proof.Gen.InPromptIdeal.Launch
public import proofs.«01_k».proof.Proof.Gen.InPromptIdeal.Points
public import proofs.«01_k».proof.Proof.Gen.InPromptIdeal.Frame
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.InSampleRefIdeal
public import proofs.«01_k».proof.Proof.Gen.InPromptRefIdeal
public import proofs.«01_k».proof.Proof.Gen.PostRefIdeal
public import Idealize.ShloMosaic.Adequacy
public import Idealize.ShloMosaic.Init
public import proofs.«01_k».proof.Proof.Gen.ModIdeal.Value
public import proofs.«01_k».proof.Proof.Gen.ModRefIdeal.Run
public import proofs.«01_k».proof.Proof.Gen.ModRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModRefIdeal
public import proofs.«01_k».proof.Proof.Gen.Exp
public import proofs.«01_k».proof.Proof.Gen.Exp.Skeleton
public import proofs.«01_k».proof.Proof.Gen.Exp.Launch
public import proofs.«01_k».proof.Proof.Gen.ExpIdeal
public import proofs.«01_k».proof.Proof.Gen.ExpIdeal.Skeleton
public import proofs.«01_k».proof.Proof.Gen.ExpIdeal.Launch
public import proofs.«01_k».proof.Proof.Gen.ExpRefIdeal
public import proofs.«01_k».proof.Proof.Gen.ExpRefIdeal.Run
public import proofs.«01_k».proof.Proof.Gen.ExpRefIdeal.Read

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
    Cert.InSample.Gen.facts, Cert.InSampleIdeal.Gen.facts, Cert.InSampleRefIdeal.Gen.facts,
    Cert.InPrompt.Gen.facts, Cert.InPromptIdeal.Gen.facts, Cert.InPromptRefIdeal.Gen.facts,
    Cert.Post.Gen.facts, Cert.PostIdeal.Gen.facts, Cert.PostRefIdeal.Gen.facts,
    Cert.Mod.Gen.facts, Cert.ModIdeal.Gen.facts, Cert.ModRefIdeal.Gen.facts,
    Cert.Exp.Gen.facts, Cert.ExpIdeal.Gen.facts, Cert.ExpRefIdeal.Gen.facts, Cert.Plan.Gen.facts, Cert.PlanIdeal.Gen.facts, Cert.PlanRefIdeal.Gen.facts,
    Cert.Dest.Gen.facts, Cert.DestIdeal.Gen.facts, Cert.DestRefIdeal.Gen.facts, Cert.Pre_experts_pre.Gen.facts, by
  exact ⟨fun m ρ _ => Cert.Kernel.Gen.frame m ρ, fun m ρ _ => Cert.KernelIdeal.Gen.frame m ρ, gla_sample_reference_frame,
    fun m ρ _ => Cert.InSample.Gen.frame m ρ, fun m ρ _ => Cert.InSampleIdeal.Gen.frame m ρ, in_sample_reference_frame,
    fun m ρ _ => Cert.InPrompt.Gen.frame m ρ, fun m ρ _ => Cert.InPromptIdeal.Gen.frame m ρ, in_prompt_reference_frame,
    fun m ρ _ => Cert.Post.Gen.frame m ρ, fun m ρ _ => Cert.PostIdeal.Gen.frame m ρ, post_prompt_reference_frame,
    fun m ρ _ => Cert.Mod.Gen.frame m ρ, fun m ρ _ => Cert.ModIdeal.Gen.frame m ρ, modulation_reference_frame,
    experts_frame, experts_ideal_frame, experts_reference_frame, experts_reference_frame_pre,
    fun m ρ _ => Cert.Plan.Gen.frame m ρ, fun m ρ _ => Cert.PlanIdeal.Gen.frame m ρ, route_plan_reference_frame,
    fun m ρ _ => Cert.Dest.Gen.frame m ρ, fun m ρ _ => Cert.DestIdeal.Gen.frame m ρ, route_dest_reference_frame,
    trivial, gla_sample,
    trivial, in_sample,
    trivial, in_prompt,
    trivial, post_prompt,
    trivial, modulation,
    trivial, experts,
    trivial, route_plan,
    trivial, route_dest⟩⟩

end Cert.Proof

end
